-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite23 [hPre_finite23 : Cert.Pre_finite23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite23 [hPre_finite23 : Cert.Pre_finite23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite25 [hPre_finite25 : Cert.Pre_finite25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite25 [hPre_finite25 : Cert.Pre_finite25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Kernel23Ideal_pre_finite23 [hKernel23Ideal : Cert.Kernel23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite23 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Reference23Ideal_pre_finite23 [hReference23Ideal : Cert.Reference23Ideal.Facts] [hPre_finite23 : Cert.Pre_finite23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Kernel25Ideal_pre_finite25 [hKernel25Ideal : Cert.Kernel25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite25 m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Reference25Ideal_pre_finite25 [hReference25Ideal : Cert.Reference25Ideal.Facts] [hPre_finite25 : Cert.Pre_finite25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite25 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v111)) (v2 : (c : Dev Cert.KernelIdeal.nD) → Buf (Elt Ideal) ((c.tc : Thread Cert.KernelIdeal.nD Cert.KernelIdeal.τ).loc Cert.KernelIdeal.main_v109_2)) (v3 : (c : Dev Cert.KernelIdeal.nD) → Buf (Elt Ideal) ((c.tc : Thread Cert.KernelIdeal.nD Cert.KernelIdeal.τ).loc Cert.KernelIdeal.main_v113)) (v4 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v111) = v1 c
          ∧ r.2.mem ((c.tc : Thread Cert.KernelIdeal.nD Cert.KernelIdeal.τ).loc Cert.KernelIdeal.main_v109_2) = v2 c
          ∧ r.2.mem ((c.tc : Thread Cert.KernelIdeal.nD Cert.KernelIdeal.τ).loc Cert.KernelIdeal.main_v113) = v3 c
          ∧ r.2.mem ((c.tc : Thread Cert.KernelIdeal.nD Cert.KernelIdeal.τ).loc Cert.KernelIdeal.main_v115) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v75) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal_pre_finite23 [hKernel23Ideal : Cert.Kernel23Ideal.Facts] [hReference23Ideal : Cert.Reference23Ideal.Facts] [hPre_finite23 : Cert.Pre_finite23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite23 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v14)) (v1 : (c : Dev Cert.Kernel23Ideal.nD) → Buf (Elt Ideal) ((c.tc : Thread Cert.Kernel23Ideal.nD Cert.Kernel23Ideal.τ).loc Cert.Kernel23Ideal.main_v17)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v14) = v0 c
          ∧ r.2.mem ((c.tc : Thread Cert.Kernel23Ideal.nD Cert.Kernel23Ideal.τ).loc Cert.Kernel23Ideal.main_v17) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v7) = v0 c
          ∧ r.2.mem ((c.tc : Thread Cert.Reference23Ideal.nD Cert.Reference23Ideal.τ).loc Cert.Reference23Ideal.main_v8) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v13)) (v1 : (c : Dev Cert.Kernel24Ideal.nD) → Buf (Elt Ideal) ((c.tc : Thread Cert.Kernel24Ideal.nD Cert.Kernel24Ideal.τ).loc Cert.Kernel24Ideal.main_v16)) (v2 : (c : Dev Cert.Kernel24Ideal.nD) → Buf (Elt Ideal) ((c.tc : Thread Cert.Kernel24Ideal.nD Cert.Kernel24Ideal.τ).loc Cert.Kernel24Ideal.main_v9_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v13) = v0 c
          ∧ r.2.mem ((c.tc : Thread Cert.Kernel24Ideal.nD Cert.Kernel24Ideal.τ).loc Cert.Kernel24Ideal.main_v16) = v1 c
          ∧ r.2.mem ((c.tc : Thread Cert.Kernel24Ideal.nD Cert.Kernel24Ideal.τ).loc Cert.Kernel24Ideal.main_v9_1) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_v3) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  IdealRules.named_const.Statement Cert.Kernel25Ideal.κ "mask" .f32 0xF149F2CA#32 ⊥

def algebraic_Kernel25Ideal_Reference25Ideal_pre_finite25 [hKernel25Ideal : Cert.Kernel25Ideal.Facts] [hReference25Ideal : Cert.Reference25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite25 m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v37_0)) (v1 : (c : Dev Cert.Kernel25Ideal.nD) → Buf (Elt Ideal) ((c.tc : Thread Cert.Kernel25Ideal.nD Cert.Kernel25Ideal.τ).loc Cert.Kernel25Ideal.main_v37_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v37_0) = v0 c
          ∧ r.2.mem ((c.tc : Thread Cert.Kernel25Ideal.nD Cert.Kernel25Ideal.τ).loc Cert.Kernel25Ideal.main_v37_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v30) = v0 c
          ∧ r.2.mem ((c.tc : Thread Cert.Reference25Ideal.nD Cert.Reference25Ideal.τ).loc Cert.Reference25Ideal.main_v31) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite23 : Cert.Pre_finite23.Facts) (hPre_finite25 : Cert.Pre_finite25.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite23 (hKernel23Ideal := hKernel23Ideal) (hPre_finite23 := hPre_finite23)
    ∧ quiescent_Reference23Ideal (hReference23Ideal := hReference23Ideal)
    ∧ quiescent_Reference23Ideal_pre_finite23 (hReference23Ideal := hReference23Ideal) (hPre_finite23 := hPre_finite23)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Kernel25Ideal_pre_finite25 (hKernel25Ideal := hKernel25Ideal) (hPre_finite25 := hPre_finite25)
    ∧ quiescent_Reference25Ideal (hReference25Ideal := hReference25Ideal)
    ∧ quiescent_Reference25Ideal_pre_finite25 (hReference25Ideal := hReference25Ideal) (hPre_finite25 := hPre_finite25)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite23 (hKernel23Ideal := hKernel23Ideal) (hReference23Ideal := hReference23Ideal) (hPre_finite23 := hPre_finite23)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal_pre_finite25 (hKernel25Ideal := hKernel25Ideal) (hReference25Ideal := hReference25Ideal) (hPre_finite25 := hPre_finite25)
-- ==== Pre_finite.lean ====
abbrev S8x16384x64 : Shape := ⟨3, ![8, 16384, 64]⟩
abbrev S8x16384 : Shape := ⟨2, ![8, 16384]⟩
abbrev S_ : Shape := ⟨0, ![]⟩
abbrev S8x16384x1 : Shape := ⟨3, ![8, 16384, 1]⟩

class Facts : Prop where
  bcast_S_S8x16384x64 : S_.BroadcastsInDim S8x16384x64 (![] : Fin 0 → Fin S8x16384x64.rank)
  bcast_S_S8x16384 : S_.BroadcastsInDim S8x16384 (![] : Fin 0 → Fin S8x16384.rank)
  bcast_S8x16384_S8x16384x1_0_1 : S8x16384.BroadcastsInDim S8x16384x1 (![0, 1] : Fin 2 → Fin S8x16384x1.rank)
  bcast_S8x16384x1_S8x16384x64_0_1_2 : S8x16384x1.BroadcastsInDim S8x16384x64 (![0, 1, 2] : Fin 3 → Fin S8x16384x64.rank)

variable [Facts]

def fn_part1 {F : FTy → Type} [FloatOps F] (main_v14 : IVec S8x16384x64 1) (main_v18 : IVec S8x16384x1 1) : IVec S8x16384x64 1 :=
  let main_v19 : IVec S8x16384x64 1 := broadcastInDim S8x16384x64 ![0, 1, 2] bcast_S8x16384x1_S8x16384x64_0_1_2 main_v18
  let main_v20 : IVec S8x16384x64 1 := andi main_v14 main_v19
  main_v20

def fn {F : FTy → Type} [FloatOps F] (main_arg0 : FVec F S8x16384x64 .f32) (main_arg1 : FVec F S8x16384x64 .f32) (main_arg2 : FVec F S8x16384x64 .f32) (main_arg3 : FVec F S8x16384 .f32) (main_arg4 : FVec F S8x16384x64 .f32) : IVec S8x16384x64 1 :=
  let main_v0 : FVec F S8x16384x64 .f32 := Host.absf main_arg0
  let main_cst : FVec F S_ .f32 := constant S_ .f32 0x7F800000#32
  let main_v1 : FVec F S8x16384x64 .f32 := broadcastInDim S8x16384x64 ![] bcast_S_S8x16384x64 main_cst
  let main_v2 : IVec S8x16384x64 1 := cmpf .olt main_v0 main_v1
  let main_v3 : FVec F S8x16384x64 .f32 := Host.absf main_arg1
  let main_cst_0 : FVec F S_ .f32 := constant S_ .f32 0x7F800000#32
  let main_v4 : FVec F S8x16384x64 .f32 := broadcastInDim S8x16384x64 ![] bcast_S_S8x16384x64 main_cst_0
  let main_v5 : IVec S8x16384x64 1 := cmpf .olt main_v3 main_v4
  let main_v6 : IVec S8x16384x64 1 := andi main_v2 main_v5
  let main_v7 : FVec F S8x16384x64 .f32 := Host.absf main_arg2
  let main_cst_1 : FVec F S_ .f32 := constant S_ .f32 0x7F800000#32
  let main_v8 : FVec F S8x16384x64 .f32 := broadcastInDim S8x16384x64 ![] bcast_S_S8x16384x64 main_cst_1
  let main_v9 : IVec S8x16384x64 1 := cmpf .olt main_v7 main_v8
  let main_v10 : IVec S8x16384x64 1 := andi main_v6 main_v9
  let main_v11 : FVec F S8x16384x64 .f32 := Host.absf main_arg4
  let main_cst_2 : FVec F S_ .f32 := constant S_ .f32 0x7F800000#32
  let main_v12 : FVec F S8x16384x64 .f32 := broadcastInDim S8x16384x64 ![] bcast_S_S8x16384x64 main_cst_2
  let main_v13 : IVec S8x16384x64 1 := cmpf .olt main_v11 main_v12
  let main_v14 : IVec S8x16384x64 1 := andi main_v10 main_v13
  let main_v15 : FVec F S8x16384 .f32 := Host.absf main_arg3
  let main_cst_3 : FVec F S_ .f32 := constant S_ .f32 0x7F800000#32
  let main_v16 : FVec F S8x16384 .f32 := broadcastInDim S8x16384 ![] bcast_S_S8x16384 main_cst_3
  let main_v17 : IVec S8x16384 1 := cmpf .olt main_v15 main_v16
  let main_v18 : IVec S8x16384x1 1 := broadcastInDim S8x16384x1 ![0, 1] bcast_S8x16384_S8x16384x1_0_1 main_v17
  fn_part1 (F := F) main_v14 main_v18
-- ==== Pre_finite23.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

class Facts : Prop where
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S16384x2816 .f32) (main_arg1 : FVec F S16384x2816 .f32) (main_arg2 : FVec F S2816x1024 .f32) (main_arg3 : FVec F S16384x1024 .f32) : IVec S_ 1 :=
  let main_v0 : FVec F S16384x2816 .f32 := Host.absf main_arg1
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_c : IVec S_ 1 := constantI S_ 1 1#1
  let main_v3 : IVec S_ 1 := (fun x v => Host.reduce IntOp.andi x v reducesTo_S16384x2816_S_d0_1 h_S_) main_v2 main_c
  let main_v4 : FVec F S2816x1024 .f32 := Host.absf main_arg2
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Pre_finite25.lean ====
abbrev S8x16384x64 : Shape := ⟨3, ![8, 16384, 64]⟩
abbrev S8x16384 : Shape := ⟨2, ![8, 16384]⟩
abbrev S_ : Shape := ⟨0, ![]⟩
abbrev S8x16384x1 : Shape := ⟨3, ![8, 16384, 1]⟩

class Facts : Prop where
  bcast_S_S8x16384x64 : S_.BroadcastsInDim S8x16384x64 (![] : Fin 0 → Fin S8x16384x64.rank)
  bcast_S_S8x16384 : S_.BroadcastsInDim S8x16384 (![] : Fin 0 → Fin S8x16384.rank)
  bcast_S8x16384_S8x16384x1_0_1 : S8x16384.BroadcastsInDim S8x16384x1 (![0, 1] : Fin 2 → Fin S8x16384x1.rank)
  bcast_S8x16384x1_S8x16384x64_0_1_2 : S8x16384x1.BroadcastsInDim S8x16384x64 (![0, 1, 2] : Fin 3 → Fin S8x16384x64.rank)

variable [Facts]

def fn {F : FTy → Type} [FloatOps F] (main_arg0 : FVec F S8x16384x64 .f32) (main_arg1 : FVec F S8x16384x64 .f32) (main_arg2 : FVec F S8x16384x64 .f32) (main_arg3 : FVec F S8x16384 .f32) : IVec S8x16384x64 1 :=
  let main_v0 : FVec F S8x16384x64 .f32 := Host.absf main_arg0
  let main_cst : FVec F S_ .f32 := constant S_ .f32 0x7F800000#32
  let main_v1 : FVec F S8x16384x64 .f32 := broadcastInDim S8x16384x64 ![] bcast_S_S8x16384x64 main_cst
  let main_v2 : IVec S8x16384x64 1 := cmpf .olt main_v0 main_v1
  let main_v3 : FVec F S8x16384x64 .f32 := Host.absf main_arg1
  let main_cst_0 : FVec F S_ .f32 := constant S_ .f32 0x7F800000#32
  let main_v4 : FVec F S8x16384x64 .f32 := broadcastInDim S8x16384x64 ![] bcast_S_S8x16384x64 main_cst_0
  let main_v5 : IVec S8x16384x64 1 := cmpf .olt main_v3 main_v4
  let main_v6 : IVec S8x16384x64 1 := andi main_v2 main_v5
  let main_v7 : FVec F S8x16384x64 .f32 := Host.absf main_arg2
  let main_cst_1 : FVec F S_ .f32 := constant S_ .f32 0x7F800000#32
  let main_v8 : FVec F S8x16384x64 .f32 := broadcastInDim S8x16384x64 ![] bcast_S_S8x16384x64 main_cst_1
  let main_v9 : IVec S8x16384x64 1 := cmpf .olt main_v7 main_v8
  let main_v10 : IVec S8x16384x64 1 := andi main_v6 main_v9
  let main_v11 : FVec F S8x16384 .f32 := Host.absf main_arg3
  let main_cst_2 : FVec F S_ .f32 := constant S_ .f32 0x7F800000#32
  let main_v12 : FVec F S8x16384 .f32 := broadcastInDim S8x16384 ![] bcast_S_S8x16384 main_cst_2
  let main_v13 : IVec S8x16384 1 := cmpf .olt main_v11 main_v12
  let main_v14 : IVec S8x16384x1 1 := broadcastInDim S8x16384x1 ![0, 1] bcast_S8x16384_S8x16384x1_0_1 main_v13
  let main_v15 : IVec S8x16384x64 1 := broadcastInDim S8x16384x64 ![0, 1, 2] bcast_S8x16384x1_S8x16384x64_0_1_2 main_v14
  let main_v16 : IVec S8x16384x64 1 := andi main_v10 main_v15
  main_v16
-- ==== Kernel.lean ====
abbrev S8x16384x64 : Shape := ⟨3, ![8, 16384, 64]⟩
abbrev S8x16384 : Shape := ⟨2, ![8, 16384]⟩
abbrev S8x16384x16384 : Shape := ⟨3, ![8, 16384, 16384]⟩
abbrev S_ : Shape := ⟨0, ![]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384x1 : Shape := ⟨3, ![8, 16384, 1]⟩
abbrev S8x16384x6 : Shape := ⟨3, ![8, 16384, 6]⟩
abbrev S8x16384x128 : Shape := ⟨3, ![8, 16384, 128]⟩
abbrev S8x64x16384 : Shape := ⟨3, ![8, 64, 16384]⟩
abbrev S8x3x16384 : Shape := ⟨3, ![8, 3, 16384]⟩
abbrev S8x128x16384 : Shape := ⟨3, ![8, 128, 16384]⟩
abbrev S8x16384x3 : Shape := ⟨3, ![8, 16384, 3]⟩
abbrev S8x80x16384 : Shape := ⟨3, ![8, 80, 16384]⟩
abbrev S1x512x128 : Shape := ⟨3, ![1, 512, 128]⟩
abbrev S1x128x512 : Shape := ⟨3, ![1, 128, 512]⟩
abbrev S1x128x16384 : Shape := ⟨3, ![1, 128, 16384]⟩
abbrev S1x80x16384 : Shape := ⟨3, ![1, 80, 16384]⟩
abbrev S1x80x512 : Shape := ⟨3, ![1, 80, 512]⟩
abbrev S1x64x512 : Shape := ⟨3, ![1, 64, 512]⟩
abbrev S80x512 : Shape := ⟨2, ![80, 512]⟩
abbrev S64x512 : Shape := ⟨2, ![64, 512]⟩
abbrev S80x16384 : Shape := ⟨2, ![80, 16384]⟩
abbrev S512x128 : Shape := ⟨2, ![512, 128]⟩
abbrev S1x128x1024 : Shape := ⟨3, ![1, 128, 1024]⟩
abbrev S128x1024 : Shape := ⟨2, ![128, 1024]⟩
abbrev S512x1024 : Shape := ⟨2, ![512, 1024]⟩
abbrev S64x1024 : Shape := ⟨2, ![64, 1024]⟩
abbrev S80x1024 : Shape := ⟨2, ![80, 1024]⟩
abbrev S1x80x1024 : Shape := ⟨3, ![1, 80, 1024]⟩
abbrev S1x64x16384 : Shape := ⟨3, ![1, 64, 16384]⟩
abbrev S64x16384 : Shape := ⟨2, ![64, 16384]⟩

abbrev nBuf : Space → Nat
  | .hbm => 145
  | .vmem => 16
  | .smem => 0
  | _ => 0

abbrev hbmTy0_0 (i : Nat) : BufTy := match i % 128 with
  | 0 => ⟨S8x16384x64, .f32⟩
  | 1 => ⟨S8x16384x64, .f32⟩
  | 2 => ⟨S8x16384x64, .f32⟩
  | 3 => ⟨S8x16384, .f32⟩
  | 4 => ⟨S8x16384x64, .f32⟩
  | 5 => ⟨S8x16384x16384, .f32⟩
  | 6 => ⟨S_, .f32⟩
  | 7 => ⟨S8x16384x16384, .f32⟩
  | 8 => ⟨S8x16384x16384, .f32⟩
  | 9 => ⟨S8x1x16384, .f32⟩
  | 10 => ⟨S8x16384x16384, .f32⟩
  | 11 => ⟨S8x16384x16384, .f32⟩
  | 12 => ⟨S16384, .i32⟩
  | 13 => ⟨S1x16384, .i32⟩
  | 14 => ⟨S16384x1, .i32⟩
  | 15 => ⟨S16384x16384, .i32⟩
  | 16 => ⟨S16384x16384, .i32⟩
  | 17 => ⟨S16384x16384, .i1⟩
  | 18 => ⟨S_, .f32⟩
  | 19 => ⟨S_, .f32⟩
  | 20 => ⟨S8x16384x16384, .i1⟩
  | 21 => ⟨S8x16384x16384, .f32⟩
  | 22 => ⟨S8x16384x16384, .f32⟩
  | 23 => ⟨S_, .f32⟩
  | 24 => ⟨S8x16384, .f32⟩
  | 25 => ⟨S8x16384x1, .f32⟩
  | 26 => ⟨S8x16384x16384, .f32⟩
  | 27 => ⟨S8x16384x16384, .f32⟩
  | 28 => ⟨S8x16384x16384, .f32⟩
  | 29 => ⟨S_, .f32⟩
  | 30 => ⟨S8x16384, .f32⟩
  | 31 => ⟨S8x16384x1, .f32⟩
  | 32 => ⟨S8x16384x1, .f32⟩
  | 33 => ⟨S8x16384x1, .f32⟩
  | 34 => ⟨S8x16384, .f32⟩
  | 35 => ⟨S8x16384x16384, .f32⟩
  | 36 => ⟨S8x16384x16384, .f32⟩
  | 37 => ⟨S8x16384x64, .f32⟩
  | 38 => ⟨S8x16384x64, .f32⟩
  | 39 => ⟨S_, .f32⟩
  | 40 => ⟨S8x16384, .f32⟩
  | 41 => ⟨S_, .bf16⟩
  | 42 => ⟨S8x16384, .bf16⟩
  | 43 => ⟨S_, .bf16⟩
  | 44 => ⟨S8x16384, .bf16⟩
  | 45 => ⟨S8x16384x64, .bf16⟩
  | 46 => ⟨S8x16384, .f32⟩
  | 47 => ⟨S8x16384, .bf16⟩
  | 48 => ⟨S8x16384, .f32⟩
  | 49 => ⟨S8x16384, .f32⟩
  | 50 => ⟨S8x16384, .bf16⟩
  | 51 => ⟨S8x16384, .f32⟩
  | 52 => ⟨S8x16384, .f32⟩
  | 53 => ⟨S8x16384, .f32⟩
  | 54 => ⟨S8x16384, .bf16⟩
  | 55 => ⟨S8x16384, .f32⟩
  | 56 => ⟨S8x16384, .bf16⟩
  | 57 => ⟨S8x16384, .bf16⟩
  | 58 => ⟨S8x16384, .bf16⟩
  | 59 => ⟨S8x16384x1, .bf16⟩
  | 60 => ⟨S8x16384x1, .bf16⟩
  | 61 => ⟨S8x16384x1, .bf16⟩
  | 62 => ⟨S8x16384x1, .bf16⟩
  | 63 => ⟨S8x16384x1, .bf16⟩
  | 64 => ⟨S8x16384x1, .bf16⟩
  | 65 => ⟨S8x16384x6, .bf16⟩
  | 66 => ⟨S_, .i32⟩
  | 67 => ⟨S_, .bf16⟩
  | 68 => ⟨S8x16384x64, .bf16⟩
  | 69 => ⟨S8x16384x128, .bf16⟩
  | 70 => ⟨S8x16384x64, .bf16⟩
  | 71 => ⟨S8x64x16384, .bf16⟩
  | 72 => ⟨S8x1x16384, .bf16⟩
  | 73 => ⟨S8x1x16384, .bf16⟩
  | 74 => ⟨S8x1x16384, .bf16⟩
  | 75 => ⟨S8x3x16384, .bf16⟩
  | 76 => ⟨S_, .i32⟩
  | 77 => ⟨S_, .bf16⟩
  | 78 => ⟨S8x64x16384, .bf16⟩
  | 79 => ⟨S8x128x16384, .bf16⟩
  | 80 => ⟨S_, .f32⟩
  | 81 => ⟨S8x16384, .f32⟩
  | 82 => ⟨S8x16384, .f32⟩
  | 83 => ⟨S8x16384, .bf16⟩
  | 84 => ⟨S8x16384, .f32⟩
  | 85 => ⟨S8x16384, .f32⟩
  | 86 => ⟨S8x16384, .bf16⟩
  | 87 => ⟨S8x16384, .f32⟩
  | 88 => ⟨S8x16384, .f32⟩
  | 89 => ⟨S8x16384, .f32⟩
  | 90 => ⟨S8x16384, .bf16⟩
  | 91 => ⟨S8x16384, .f32⟩
  | 92 => ⟨S8x16384, .bf16⟩
  | 93 => ⟨S8x16384, .bf16⟩
  | 94 => ⟨S8x16384, .bf16⟩
  | 95 => ⟨S8x1x16384, .bf16⟩
  | 96 => ⟨S8x1x16384, .bf16⟩
  | 97 => ⟨S8x1x16384, .bf16⟩
  | 98 => ⟨S8x3x16384, .bf16⟩
  | 99 => ⟨S_, .i32⟩
  | 100 => ⟨S_, .i32⟩
  | 101 => ⟨S_, .i32⟩
  | 102 => ⟨S8x128x16384, .bf16⟩
  | 103 => ⟨S8x16384x64, .bf16⟩
  | 104 => ⟨S8x16384x1, .bf16⟩
  | 105 => ⟨S8x16384x1, .bf16⟩
  | 106 => ⟨S8x16384x1, .bf16⟩
  | 107 => ⟨S8x16384x3, .bf16⟩
  | 108 => ⟨S_, .i32⟩
  | 109 => ⟨S_, .bf16⟩
  | 110 => ⟨S8x16384x64, .bf16⟩
  | 111 => ⟨S8x16384x128, .bf16⟩
  | 112 => ⟨S8x16384x64, .bf16⟩
  | 113 => ⟨S8x64x16384, .bf16⟩
  | 114 => ⟨S8x16384, .f32⟩
  | 115 => ⟨S8x16384, .bf16⟩
  | 116 => ⟨S8x16384, .f32⟩
  | 117 => ⟨S8x16384, .f32⟩
  | 118 => ⟨S8x16384, .bf16⟩
  | 119 => ⟨S8x16384, .f32⟩
  | 120 => ⟨S8x16384, .f32⟩
  | 121 => ⟨S8x16384, .f32⟩
  | 122 => ⟨S8x16384, .bf16⟩
  | 123 => ⟨S8x16384, .f32⟩
  | 124 => ⟨S8x16384, .bf16⟩
  | 125 => ⟨S8x16384, .bf16⟩
  | 126 => ⟨S8x16384, .bf16⟩
  | 127 => ⟨S8x1x16384, .bf16⟩
  | _ => ⟨S8x16384x64, .f32⟩

abbrev hbmTy0_1 (i : Nat) : BufTy := match i % 128 with
  | 0 => ⟨S8x1x16384, .bf16⟩
  | 1 => ⟨S8x1x16384, .bf16⟩
  | 2 => ⟨S8x3x16384, .bf16⟩
  | 3 => ⟨S_, .i32⟩
  | 4 => ⟨S_, .bf16⟩
  | 5 => ⟨S8x64x16384, .bf16⟩
  | 6 => ⟨S8x128x16384, .bf16⟩
  | 7 => ⟨S8x128x16384, .bf16⟩
  | 8 => ⟨S8x80x16384, .f32⟩
  | 9 => ⟨S8x80x16384, .f32⟩
  | 10 => ⟨S8x64x16384, .f32⟩
  | 11 => ⟨S8x64x16384, .f32⟩
  | 12 => ⟨S8x64x16384, .f32⟩
  | 13 => ⟨S8x1x16384, .f32⟩
  | 14 => ⟨S8x16384, .f32⟩
  | 15 => ⟨S8x1x16384, .f32⟩
  | 16 => ⟨S8x16384, .f32⟩
  | _ => ⟨S8x16384x64, .f32⟩

abbrev hbmTy (i : Nat) : BufTy := match i / 128 with
  | 0 => hbmTy0_0 i
  | 1 => hbmTy0_1 i
  | _ => ⟨S8x16384x64, .f32⟩

abbrev bufTy : (tb : Table) → Fin (tcTables nBuf tb) → BufTy
  | .hbm, ⟨i, _⟩ => hbmTy i
  | .local _ .vmem, ⟨0, _⟩ => ⟨S1x512x128, .bf16⟩
  | .local _ .vmem, ⟨1, _⟩ => ⟨S1x512x128, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x128, .bf16⟩
  | .local _ .vmem, ⟨5, _⟩ => ⟨S1x512x128, .bf16⟩
  | .local _ .vmem, ⟨6, _⟩ => ⟨S1x128x16384, .bf16⟩
  | .local _ .vmem, ⟨7, _⟩ => ⟨S1x128x16384, .bf16⟩
  | .local _ .vmem, ⟨8, _⟩ => ⟨S1x80x16384, .f32⟩
  | .local _ .vmem, ⟨9, _⟩ => ⟨S1x80x16384, .f32⟩
  | .local _ .vmem, ⟨10, _⟩ => ⟨S1x80x512, .f32⟩
  | .local _ .vmem, ⟨11, _⟩ => ⟨S1x80x512, .f32⟩
  | .local _ .vmem, ⟨12, _⟩ => ⟨S1x64x512, .f32⟩
  | .local _ .vmem, ⟨13, _⟩ => ⟨S1x64x512, .f32⟩
  | .local _ .vmem, ⟨14, _⟩ => ⟨S80x512, .f32⟩
  | .local _ .vmem, ⟨15, _⟩ => ⟨S64x512, .f32⟩
  | _, _ => ⟨S8x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c : Ref sig .tc := ⟨.hbm, 66, rfl⟩
abbrev main_call1_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_6 : Ref sig .tc := ⟨.hbm, 76, rfl⟩
abbrev main_call2_v0 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_8 : Ref sig .tc := ⟨.hbm, 99, rfl⟩
abbrev main_c_9 : Ref sig .tc := ⟨.hbm, 100, rfl⟩
abbrev main_c_10 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_c_11 : Ref sig .tc := ⟨.hbm, 108, rfl⟩
abbrev main_call3_v0 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_c_12 : Ref sig .tc := ⟨.hbm, 131, rfl⟩
abbrev main_call4_v0 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109_0 : Ref sig .tc := ⟨.hbm, 136, rfl⟩
abbrev main_v109_1 : Ref sig .tc := ⟨.hbm, 137, rfl⟩
abbrev main_v109_2 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .slt arg1 c0_i32_15
  let v21 : BitVec 32 := Scalar.extui v20
  let v22 : BitVec 32 := Scalar.subi v19 v21
  let c2_i32 : BitVec 32 := 2#32
  let c0_i32_16 : BitVec 32 := 0#32
  let v23 : BitVec 1 := Scalar.cmpi .sgt c2_i32 c0_i32_16
  let v24 : BitVec 32 := Scalar.extui v23
  let c0_i32_17 : BitVec 32 := 0#32
  let v25 : BitVec 1 := Scalar.cmpi .slt c2_i32 c0_i32_17
  let v26 : BitVec 32 := Scalar.extui v25
  let v27 : BitVec 32 := Scalar.subi v24 v26
  let v28 : BitVec 1 := Scalar.cmpi .ne v22 v27
  let v29 : BitVec 32 := Scalar.remsi arg1 c2_i32
  let c0_i32_18 : BitVec 32 := 0#32
  let v30 : BitVec 1 := Scalar.cmpi .ne v29 c0_i32_18
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let c1024_i32 : BitVec 32 := 1024#32
  let v37 : BitVec 32 := Scalar.muli v33 c1024_i32
  v37
def k0_off1 (i : grid0.Coords) : Fin 3 → Nat :=
  let c0_20 : Index := 0#32
  let c0_21 : Index := 0#32
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .slt arg1 c0_i32_15
  let v21 : BitVec 32 := Scalar.extui v20
  let v22 : BitVec 32 := Scalar.subi v19 v21
  let c2_i32 : BitVec 32 := 2#32
  let c0_i32_16 : BitVec 32 := 0#32
  let v23 : BitVec 1 := Scalar.cmpi .sgt c2_i32 c0_i32_16
  let v24 : BitVec 32 := Scalar.extui v23
  let c0_i32_17 : BitVec 32 := 0#32
  let v25 : BitVec 1 := Scalar.cmpi .slt c2_i32 c0_i32_17
  let v26 : BitVec 32 := Scalar.extui v25
  let v27 : BitVec 32 := Scalar.subi v24 v26
  let v28 : BitVec 1 := Scalar.cmpi .ne v22 v27
  let v29 : BitVec 32 := Scalar.remsi arg1 c2_i32
  let c0_i32_18 : BitVec 32 := 0#32
  let v30 : BitVec 1 := Scalar.cmpi .ne v29 c0_i32_18
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let c1024_i32 : BitVec 32 := 1024#32
  let v37 : BitVec 32 := Scalar.muli v33 c1024_i32
  let v38 : BitVec 32 := v37
  let v39 : Index := Scalar.indexCast v38
  ![0, 0, v39.toNat]
def k0_off2 (i : grid0.Coords) : Fin 3 → Nat :=
  let c0_38 : Index := 0#32
  let c0_39 : Index := 0#32
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .slt arg1 c0_i32_15
  let v21 : BitVec 32 := Scalar.extui v20
  let v22 : BitVec 32 := Scalar.subi v19 v21
  let c2_i32 : BitVec 32 := 2#32
  let c0_i32_16 : BitVec 32 := 0#32
  let v23 : BitVec 1 := Scalar.cmpi .sgt c2_i32 c0_i32_16
  let v24 : BitVec 32 := Scalar.extui v23
  let c0_i32_17 : BitVec 32 := 0#32
  let v25 : BitVec 1 := Scalar.cmpi .slt c2_i32 c0_i32_17
  let v26 : BitVec 32 := Scalar.extui v25
  let v27 : BitVec 32 := Scalar.subi v24 v26
  let v28 : BitVec 1 := Scalar.cmpi .ne v22 v27
  let v29 : BitVec 32 := Scalar.remsi arg1 c2_i32
  let c0_i32_18 : BitVec 32 := 0#32
  let v30 : BitVec 1 := Scalar.cmpi .ne v29 c0_i32_18
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let c1024_i32 : BitVec 32 := 1024#32
  let v37 : BitVec 32 := Scalar.muli v33 c1024_i32
  let v38 : BitVec 32 := v37
  let v74 : Index := Scalar.indexCast v38
  ![0, 0, v74.toNat]
@[reducible] def k0_t1_loop (i : grid0.Coords) : Scf.Loop 32 :=
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .slt arg1 c0_i32_15
  let v21 : BitVec 32 := Scalar.extui v20
  let v22 : BitVec 32 := Scalar.subi v19 v21
  let c2_i32 : BitVec 32 := 2#32
  let c0_i32_16 : BitVec 32 := 0#32
  let v23 : BitVec 1 := Scalar.cmpi .sgt c2_i32 c0_i32_16
  let v24 : BitVec 32 := Scalar.extui v23
  let c0_i32_17 : BitVec 32 := 0#32
  let v25 : BitVec 1 := Scalar.cmpi .slt c2_i32 c0_i32_17
  let v26 : BitVec 32 := Scalar.extui v25
  let v27 : BitVec 32 := Scalar.subi v24 v26
  let v28 : BitVec 1 := Scalar.cmpi .ne v22 v27
  let v29 : BitVec 32 := Scalar.remsi arg1 c2_i32
  let c0_i32_18 : BitVec 32 := 0#32
  let v30 : BitVec 1 := Scalar.cmpi .ne v29 c0_i32_18
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let c1_i32_43 : BitVec 32 := 1#32
  let v83 : BitVec 32 := Scalar.addi v33 c1_i32_43
  let c16_i32 : BitVec 32 := 16#32
  let v84 : BitVec 32 := Scalar.subi c16_i32 v83
  let c1_i32_45 : BitVec 32 := 1#32
  let v86 : BitVec 32 := Scalar.divsi v84 c1_i32_45
  let v87 : BitVec 32 := Scalar.muli v86 c1_i32_45
  let v88 : BitVec 32 := Scalar.addi v83 v87
  let c1_i32_46 : BitVec 32 := 1#32
  ⟨v83, v88, c1_i32_46⟩
def k0_mult2 (i : grid0.Coords) (k0_t1 : Fin (k0_t1_loop i).trips) : BitVec 32 :=
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .slt arg1 c0_i32_15
  let v21 : BitVec 32 := Scalar.extui v20
  let v22 : BitVec 32 := Scalar.subi v19 v21
  let c2_i32 : BitVec 32 := 2#32
  let c0_i32_16 : BitVec 32 := 0#32
  let v23 : BitVec 1 := Scalar.cmpi .sgt c2_i32 c0_i32_16
  let v24 : BitVec 32 := Scalar.extui v23
  let c0_i32_17 : BitVec 32 := 0#32
  let v25 : BitVec 1 := Scalar.cmpi .slt c2_i32 c0_i32_17
  let v26 : BitVec 32 := Scalar.extui v25
  let v27 : BitVec 32 := Scalar.subi v24 v26
  let v28 : BitVec 1 := Scalar.cmpi .ne v22 v27
  let v29 : BitVec 32 := Scalar.remsi arg1 c2_i32
  let c0_i32_18 : BitVec 32 := 0#32
  let v30 : BitVec 1 := Scalar.cmpi .ne v29 c0_i32_18
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let c1_i32_43 : BitVec 32 := 1#32
  let v83 : BitVec 32 := Scalar.addi v33 c1_i32_43
  let c1_i32_46 : BitVec 32 := 1#32
  let arg12 : BitVec 32 := Scf.iv v83 c1_i32_46 k0_t1
  let c1024_i32_59 : BitVec 32 := 1024#32
  let v100 : BitVec 32 := Scalar.muli arg12 c1024_i32_59
  v100
def k0_off3 (i : grid0.Coords) (k0_t1 : Fin (k0_t1_loop i).trips) : Fin 3 → Nat :=
  let c0_60 : Index := 0#32
  let c0_61 : Index := 0#32
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .slt arg1 c0_i32_15
  let v21 : BitVec 32 := Scalar.extui v20
  let v22 : BitVec 32 := Scalar.subi v19 v21
  let c2_i32 : BitVec 32 := 2#32
  let c0_i32_16 : BitVec 32 := 0#32
  let v23 : BitVec 1 := Scalar.cmpi .sgt c2_i32 c0_i32_16
  let v24 : BitVec 32 := Scalar.extui v23
  let c0_i32_17 : BitVec 32 := 0#32
  let v25 : BitVec 1 := Scalar.cmpi .slt c2_i32 c0_i32_17
  let v26 : BitVec 32 := Scalar.extui v25
  let v27 : BitVec 32 := Scalar.subi v24 v26
  let v28 : BitVec 1 := Scalar.cmpi .ne v22 v27
  let v29 : BitVec 32 := Scalar.remsi arg1 c2_i32
  let c0_i32_18 : BitVec 32 := 0#32
  let v30 : BitVec 1 := Scalar.cmpi .ne v29 c0_i32_18
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let c1_i32_43 : BitVec 32 := 1#32
  let v83 : BitVec 32 := Scalar.addi v33 c1_i32_43
  let c1_i32_46 : BitVec 32 := 1#32
  let arg12 : BitVec 32 := Scf.iv v83 c1_i32_46 k0_t1
  let c1024_i32_59 : BitVec 32 := 1024#32
  let v100 : BitVec 32 := Scalar.muli arg12 c1024_i32_59
  let v101 : BitVec 32 := v100
  let v102 : Index := Scalar.indexCast v101
  ![0, 0, v102.toNat]
def k0_off4 (i : grid0.Coords) (k0_t1 : Fin (k0_t1_loop i).trips) : Fin 3 → Nat :=
  let c0_77 : Index := 0#32
  let c0_78 : Index := 0#32
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .slt arg1 c0_i32_15
  let v21 : BitVec 32 := Scalar.extui v20
  let v22 : BitVec 32 := Scalar.subi v19 v21
  let c2_i32 : BitVec 32 := 2#32
  let c0_i32_16 : BitVec 32 := 0#32
  let v23 : BitVec 1 := Scalar.cmpi .sgt c2_i32 c0_i32_16
  let v24 : BitVec 32 := Scalar.extui v23
  let c0_i32_17 : BitVec 32 := 0#32
  let v25 : BitVec 1 := Scalar.cmpi .slt c2_i32 c0_i32_17
  let v26 : BitVec 32 := Scalar.extui v25
  let v27 : BitVec 32 := Scalar.subi v24 v26
  let v28 : BitVec 1 := Scalar.cmpi .ne v22 v27
  let v29 : BitVec 32 := Scalar.remsi arg1 c2_i32
  let c0_i32_18 : BitVec 32 := 0#32
  let v30 : BitVec 1 := Scalar.cmpi .ne v29 c0_i32_18
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let c1_i32_43 : BitVec 32 := 1#32
  let v83 : BitVec 32 := Scalar.addi v33 c1_i32_43
  let c1_i32_46 : BitVec 32 := 1#32
  let arg12 : BitVec 32 := Scf.iv v83 c1_i32_46 k0_t1
  let c1024_i32_59 : BitVec 32 := 1024#32
  let v100 : BitVec 32 := Scalar.muli arg12 c1024_i32_59
  let v101 : BitVec 32 := v100
  let v130 : Index := Scalar.indexCast v101
  ![0, 0, v130.toNat]
@[reducible] def k0_t2_loop (i : grid0.Coords) : Scf.Loop 32 :=
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .slt arg1 c0_i32_15
  let v21 : BitVec 32 := Scalar.extui v20
  let v22 : BitVec 32 := Scalar.subi v19 v21
  let c2_i32 : BitVec 32 := 2#32
  let c0_i32_16 : BitVec 32 := 0#32
  let v23 : BitVec 1 := Scalar.cmpi .sgt c2_i32 c0_i32_16
  let v24 : BitVec 32 := Scalar.extui v23
  let c0_i32_17 : BitVec 32 := 0#32
  let v25 : BitVec 1 := Scalar.cmpi .slt c2_i32 c0_i32_17
  let v26 : BitVec 32 := Scalar.extui v25
  let v27 : BitVec 32 := Scalar.subi v24 v26
  let v28 : BitVec 1 := Scalar.cmpi .ne v22 v27
  let v29 : BitVec 32 := Scalar.remsi arg1 c2_i32
  let c0_i32_18 : BitVec 32 := 0#32
  let v30 : BitVec 1 := Scalar.cmpi .ne v29 c0_i32_18
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let c1_i32_43 : BitVec 32 := 1#32
  let v83 : BitVec 32 := Scalar.addi v33 c1_i32_43
  let c16_i32 : BitVec 32 := 16#32
  let v84 : BitVec 32 := Scalar.subi c16_i32 v83
  let c1_i32_45 : BitVec 32 := 1#32
  let v86 : BitVec 32 := Scalar.divsi v84 c1_i32_45
  let v87 : BitVec 32 := Scalar.muli v86 c1_i32_45
  let v88 : BitVec 32 := Scalar.addi v83 v87
  let v85 : BitVec 32 := Scalar.addi v83 v84
  let c1_i32_47 : BitVec 32 := 1#32
  ⟨v88, v85, c1_i32_47⟩
def k0_mult3 (i : grid0.Coords) (k0_t2 : Fin (k0_t2_loop i).trips) : BitVec 32 :=
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .slt arg1 c0_i32_15
  let v21 : BitVec 32 := Scalar.extui v20
  let v22 : BitVec 32 := Scalar.subi v19 v21
  let c2_i32 : BitVec 32 := 2#32
  let c0_i32_16 : BitVec 32 := 0#32
  let v23 : BitVec 1 := Scalar.cmpi .sgt c2_i32 c0_i32_16
  let v24 : BitVec 32 := Scalar.extui v23
  let c0_i32_17 : BitVec 32 := 0#32
  let v25 : BitVec 1 := Scalar.cmpi .slt c2_i32 c0_i32_17
  let v26 : BitVec 32 := Scalar.extui v25
  let v27 : BitVec 32 := Scalar.subi v24 v26
  let v28 : BitVec 1 := Scalar.cmpi .ne v22 v27
  let v29 : BitVec 32 := Scalar.remsi arg1 c2_i32
  let c0_i32_18 : BitVec 32 := 0#32
  let v30 : BitVec 1 := Scalar.cmpi .ne v29 c0_i32_18
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let c1_i32_43 : BitVec 32 := 1#32
  let v83 : BitVec 32 := Scalar.addi v33 c1_i32_43
  let c16_i32 : BitVec 32 := 16#32
  let v84 : BitVec 32 := Scalar.subi c16_i32 v83
  let c1_i32_45 : BitVec 32 := 1#32
  let v86 : BitVec 32 := Scalar.divsi v84 c1_i32_45
  let v87 : BitVec 32 := Scalar.muli v86 c1_i32_45
  let v88 : BitVec 32 := Scalar.addi v83 v87
  let c1_i32_47 : BitVec 32 := 1#32
  let arg12 : BitVec 32 := Scf.iv v88 c1_i32_47 k0_t2
  let c1024_i32_59 : BitVec 32 := 1024#32
  let v100 : BitVec 32 := Scalar.muli arg12 c1024_i32_59
  v100
def k0_off5 (i : grid0.Coords) (k0_t2 : Fin (k0_t2_loop i).trips) : Fin 3 → Nat :=
  let c0_60 : Index := 0#32
  let c0_61 : Index := 0#32
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .slt arg1 c0_i32_15
  let v21 : BitVec 32 := Scalar.extui v20
  let v22 : BitVec 32 := Scalar.subi v19 v21
  let c2_i32 : BitVec 32 := 2#32
  let c0_i32_16 : BitVec 32 := 0#32
  let v23 : BitVec 1 := Scalar.cmpi .sgt c2_i32 c0_i32_16
  let v24 : BitVec 32 := Scalar.extui v23
  let c0_i32_17 : BitVec 32 := 0#32
  let v25 : BitVec 1 := Scalar.cmpi .slt c2_i32 c0_i32_17
  let v26 : BitVec 32 := Scalar.extui v25
  let v27 : BitVec 32 := Scalar.subi v24 v26
  let v28 : BitVec 1 := Scalar.cmpi .ne v22 v27
  let v29 : BitVec 32 := Scalar.remsi arg1 c2_i32
  let c0_i32_18 : BitVec 32 := 0#32
  let v30 : BitVec 1 := Scalar.cmpi .ne v29 c0_i32_18
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let c1_i32_43 : BitVec 32 := 1#32
  let v83 : BitVec 32 := Scalar.addi v33 c1_i32_43
  let c16_i32 : BitVec 32 := 16#32
  let v84 : BitVec 32 := Scalar.subi c16_i32 v83
  let c1_i32_45 : BitVec 32 := 1#32
  let v86 : BitVec 32 := Scalar.divsi v84 c1_i32_45
  let v87 : BitVec 32 := Scalar.muli v86 c1_i32_45
  let v88 : BitVec 32 := Scalar.addi v83 v87
  let c1_i32_47 : BitVec 32 := 1#32
  let arg12 : BitVec 32 := Scf.iv v88 c1_i32_47 k0_t2
  let c1024_i32_59 : BitVec 32 := 1024#32
  let v100 : BitVec 32 := Scalar.muli arg12 c1024_i32_59
  let v101 : BitVec 32 := v100
  let v102 : Index := Scalar.indexCast v101
  ![0, 0, v102.toNat]
def k0_off6 (i : grid0.Coords) (k0_t2 : Fin (k0_t2_loop i).trips) : Fin 3 → Nat :=
  let c0_77 : Index := 0#32
  let c0_78 : Index := 0#32
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .slt arg1 c0_i32_15
  let v21 : BitVec 32 := Scalar.extui v20
  let v22 : BitVec 32 := Scalar.subi v19 v21
  let c2_i32 : BitVec 32 := 2#32
  let c0_i32_16 : BitVec 32 := 0#32
  let v23 : BitVec 1 := Scalar.cmpi .sgt c2_i32 c0_i32_16
  let v24 : BitVec 32 := Scalar.extui v23
  let c0_i32_17 : BitVec 32 := 0#32
  let v25 : BitVec 1 := Scalar.cmpi .slt c2_i32 c0_i32_17
  let v26 : BitVec 32 := Scalar.extui v25
  let v27 : BitVec 32 := Scalar.subi v24 v26
  let v28 : BitVec 1 := Scalar.cmpi .ne v22 v27
  let v29 : BitVec 32 := Scalar.remsi arg1 c2_i32
  let c0_i32_18 : BitVec 32 := 0#32
  let v30 : BitVec 1 := Scalar.cmpi .ne v29 c0_i32_18
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let c1_i32_43 : BitVec 32 := 1#32
  let v83 : BitVec 32 := Scalar.addi v33 c1_i32_43
  let c16_i32 : BitVec 32 := 16#32
  let v84 : BitVec 32 := Scalar.subi c16_i32 v83
  let c1_i32_45 : BitVec 32 := 1#32
  let v86 : BitVec 32 := Scalar.divsi v84 c1_i32_45
  let v87 : BitVec 32 := Scalar.muli v86 c1_i32_45
  let v88 : BitVec 32 := Scalar.addi v83 v87
  let c1_i32_47 : BitVec 32 := 1#32
  let arg12 : BitVec 32 := Scf.iv v88 c1_i32_47 k0_t2
  let c1024_i32_59 : BitVec 32 := 1024#32
  let v100 : BitVec 32 := Scalar.muli arg12 c1024_i32_59
  let v101 : BitVec 32 := v100
  let v130 : Index := Scalar.indexCast v101
  ![0, 0, v130.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x80x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x80x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x16384x64 : Shape := ⟨3, ![8, 16384, 64]⟩
abbrev S8x16384 : Shape := ⟨2, ![8, 16384]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩

abbrev nBuf : Space → Nat
  | .hbm => 107
  | .vmem => 0
  | .smem => 0
  | _ => 0

abbrev bufTy : (tb : Table) → Fin (tcTables nBuf tb) → BufTy
  | .hbm, ⟨0, _⟩ => ⟨S8x16384x64, .f32⟩
  | .hbm, ⟨1, _⟩ => ⟨S8x16384x64, .f32⟩
  | .hbm, ⟨2, _⟩ => ⟨S8x16384x64, .f32⟩
  | .hbm, ⟨3, _⟩ => ⟨S8x16384, .f32⟩
  | .hbm, ⟨4, _⟩ => ⟨S8x16384x64, .f32⟩
  | .hbm, ⟨5, _⟩ => ⟨S8x16384x16384, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S8x16384x1, .f32⟩
  | .hbm, ⟨10, _⟩ => ⟨S8x16384x16384, .f32⟩
  | .hbm, ⟨11, _⟩ => ⟨S8x16384x16384, .f32⟩
  | .hbm, ⟨12, _⟩ => ⟨S8x1x16384, .f32⟩
  | .hbm, ⟨13, _⟩ => ⟨S8x16384x16384, .f32⟩
  | .hbm, ⟨14, _⟩ => ⟨S8x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S_, .f32⟩
  | .hbm, ⟨22, _⟩ => ⟨S_, .f32⟩
  | .hbm, ⟨23, _⟩ => ⟨S8x16384x16384, .i1⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S8x16384x1, .f32⟩
  | .hbm, ⟨31, _⟩ => ⟨S8x16384x16384, .f32⟩
  | .hbm, ⟨32, _⟩ => ⟨S8x16384x16384, .i1⟩
  | .hbm, ⟨33, _⟩ => ⟨S8x16384x16384, .f32⟩
  | .hbm, ⟨34, _⟩ => ⟨S_, .f32⟩
  | .hbm, ⟨35, _⟩ => ⟨S8x16384, .f32⟩
  | .hbm, ⟨36, _⟩ => ⟨S_, .f32⟩
  | .hbm, ⟨37, _⟩ => ⟨S8x16384, .f32⟩
  | .hbm, ⟨38, _⟩ => ⟨S8x16384, .f32⟩
  | .hbm, ⟨39, _⟩ => ⟨S_, .f32⟩
  | .hbm, ⟨40, _⟩ => ⟨S8x16384, .f32⟩
  | .hbm, ⟨41, _⟩ => ⟨S8x16384, .i1⟩
  | .hbm, ⟨42, _⟩ => ⟨S_, .f32⟩
  | .hbm, ⟨43, _⟩ => ⟨S8x16384, .f32⟩
  | .hbm, ⟨44, _⟩ => ⟨S8x16384, .i1⟩
  | .hbm, ⟨45, _⟩ => ⟨S_, .f32⟩
  | .hbm, ⟨46, _⟩ => ⟨S8x16384, .f32⟩
  | .hbm, ⟨47, _⟩ => ⟨S_, .f32⟩
  | .hbm, ⟨48, _⟩ => ⟨S8x16384, .f32⟩
  | .hbm, ⟨49, _⟩ => ⟨S_, .f32⟩
  | .hbm, ⟨50, _⟩ => ⟨S8x16384, .f32⟩
  | .hbm, ⟨51, _⟩ => ⟨S8x16384, .f32⟩
  | .hbm, ⟨52, _⟩ => ⟨S8x16384, .f32⟩
  | .hbm, ⟨53, _⟩ => ⟨S8x16384x1, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S_, .f32⟩
  | .hbm, ⟨58, _⟩ => ⟨S8x16384, .f32⟩
  | .hbm, ⟨59, _⟩ => ⟨S8x16384x1, .f32⟩
  | .hbm, ⟨60, _⟩ => ⟨S8x16384x16384, .f32⟩
  | .hbm, ⟨61, _⟩ => ⟨S8x16384x16384, .f32⟩
  | .hbm, ⟨62, _⟩ => ⟨S8x16384x1, .f32⟩
  | .hbm, ⟨63, _⟩ => ⟨S_, .f32⟩
  | .hbm, ⟨64, _⟩ => ⟨S8x16384x1, .f32⟩
  | .hbm, ⟨65, _⟩ => ⟨S8x16384x1, .f32⟩
  | .hbm, ⟨66, _⟩ => ⟨S8x16384x64, .f32⟩
  | .hbm, ⟨67, _⟩ => ⟨S8x64x16384, .f32⟩
  | .hbm, ⟨68, _⟩ => ⟨S8x16384x64, .f32⟩
  | .hbm, ⟨69, _⟩ => ⟨S8x16384x16384, .f32⟩
  | .hbm, ⟨70, _⟩ => ⟨S8x16384x16384, .f32⟩
  | .hbm, ⟨71, _⟩ => ⟨S8x16384x16384, .f32⟩
  | .hbm, ⟨72, _⟩ => ⟨S8x16384x16384, .f32⟩
  | .hbm, ⟨73, _⟩ => ⟨S_, .f32⟩
  | .hbm, ⟨74, _⟩ => ⟨S8x16384, .f32⟩
  | .hbm, ⟨75, _⟩ => ⟨S8x16384x1, .f32⟩
  | .hbm, ⟨76, _⟩ => ⟨S8x16384x1, .f32⟩
  | .hbm, ⟨77, _⟩ => ⟨S8x16384x16384, .f32⟩
  | .hbm, ⟨78, _⟩ => ⟨S8x16384x16384, .f32⟩
  | .hbm, ⟨79, _⟩ => ⟨S_, .f32⟩
  | .hbm, ⟨80, _⟩ => ⟨S8x16384, .f32⟩
  | .hbm, ⟨81, _⟩ => ⟨S8x16384x16384, .f32⟩
  | .hbm, ⟨82, _⟩ => ⟨S8x16384x16384, .f32⟩
  | .hbm, ⟨83, _⟩ => ⟨S8x16384x16384, .f32⟩
  | .hbm, ⟨84, _⟩ => ⟨S_, .f32⟩
  | .hbm, ⟨85, _⟩ => ⟨S8x16384x16384, .f32⟩
  | .hbm, ⟨86, _⟩ => ⟨S8x16384x16384, .f32⟩
  | .hbm, ⟨87, _⟩ => ⟨S8x16384x16384, .f32⟩
  | .hbm, ⟨88, _⟩ => ⟨S_, .f32⟩
  | .hbm, ⟨89, _⟩ => ⟨S8x16384, .f32⟩
  | .hbm, ⟨90, _⟩ => ⟨S8x1x16384, .f32⟩
  | .hbm, ⟨91, _⟩ => ⟨S_, .f32⟩
  | .hbm, ⟨92, _⟩ => ⟨S8x16384, .f32⟩
  | .hbm, ⟨93, _⟩ => ⟨S_, .f32⟩
  | .hbm, ⟨94, _⟩ => ⟨S8x16384, .f32⟩
  | .hbm, ⟨95, _⟩ => ⟨S8x16384x1, .f32⟩
  | .hbm, ⟨96, _⟩ => ⟨S_, .f32⟩
  | .hbm, ⟨97, _⟩ => ⟨S8x16384, .f32⟩
  | .hbm, ⟨98, _⟩ => ⟨S_, .f32⟩
  | .hbm, ⟨99, _⟩ => ⟨S8x16384x16384, .f32⟩
  | .hbm, ⟨100, _⟩ => ⟨S8x16384x16384, .f32⟩
  | .hbm, ⟨101, _⟩ => ⟨S8x16384x64, .f32⟩
  | .hbm, ⟨102, _⟩ => ⟨S8x16384x64, .f32⟩
  | .hbm, ⟨103, _⟩ => ⟨S8x64x16384, .f32⟩
  | .hbm, ⟨104, _⟩ => ⟨S8x64x16384, .f32⟩
  | .hbm, ⟨105, _⟩ => ⟨S8x64x16384, .f32⟩
  | .hbm, ⟨106, _⟩ => ⟨S8x16384, .f32⟩
  | _, _ => ⟨S8x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_cst_17 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== Kernel3.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S16384x1024, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S16384x1024 : Shape := ⟨2, ![16384, 1024]⟩
abbrev S16384x5632 : Shape := ⟨2, ![16384, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S16384x1024, .bf16⟩
  | .hbm, ⟨3, _⟩ => ⟨S16384x5632, .bf16⟩
  | .hbm, ⟨4, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S_, .f32⟩
  | .hbm, ⟨3, _⟩ => ⟨S1024x5632, .f32⟩
  | .hbm, ⟨4, _⟩ => ⟨S16384x5632, .f32⟩
  | .hbm, ⟨5, _⟩ => ⟨S5632x1024, .f32⟩
  | .hbm, ⟨6, _⟩ => ⟨S1024x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x5632 : Shape := ⟨2, ![16384, 5632]⟩
abbrev S1024x5632 : Shape := ⟨2, ![1024, 5632]⟩
abbrev S16384x1024 : Shape := ⟨2, ![16384, 1024]⟩
abbrev S2048x1408 : Shape := ⟨2, ![2048, 1408]⟩
abbrev S1024x1408 : Shape := ⟨2, ![1024, 1408]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x5632, .f32⟩
  | .hbm, ⟨1, _⟩ => ⟨S1024x5632, .f32⟩
  | .hbm, ⟨2, _⟩ => ⟨S16384x5632, .bf16⟩
  | .hbm, ⟨3, _⟩ => ⟨S1024x5632, .bf16⟩
  | .hbm, ⟨4, _⟩ => ⟨S16384x1024, .f32⟩
  | .local _ .vmem, ⟨0, _⟩ => ⟨S2048x1408, .bf16⟩
  | .local _ .vmem, ⟨1, _⟩ => ⟨S2048x1408, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x5632 : Shape := ⟨2, ![16384, 5632]⟩
abbrev S1024x5632 : Shape := ⟨2, ![1024, 5632]⟩
abbrev S_ : Shape := ⟨0, ![]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S1024x5632, .f32⟩
  | .hbm, ⟨2, _⟩ => ⟨S_, .f32⟩
  | .hbm, ⟨3, _⟩ => ⟨S16384x1024, .f32⟩
  | .hbm, ⟨4, _⟩ => ⟨S16384x5632, .f32⟩
  | .hbm, ⟨5, _⟩ => ⟨S16384x1024, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S16384x1024 : Shape := ⟨2, ![16384, 1024]⟩
abbrev S16384x3200 : Shape := ⟨2, ![16384, 3200]⟩
abbrev S1024x3200 : Shape := ⟨2, ![1024, 3200]⟩
abbrev S1024x512 : Shape := ⟨2, ![1024, 512]⟩
abbrev S512x3200 : Shape := ⟨2, ![512, 3200]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x3200, .f32⟩
  | .hbm, ⟨2, _⟩ => ⟨S16384x1024, .bf16⟩
  | .hbm, ⟨3, _⟩ => ⟨S16384x3200, .bf16⟩
  | .hbm, ⟨4, _⟩ => ⟨S1024x3200, .f32⟩
  | .local _ .vmem, ⟨0, _⟩ => ⟨S1024x512, .bf16⟩
  | .local _ .vmem, ⟨1, _⟩ => ⟨S1024x512, .bf16⟩
  | .local _ .vmem, ⟨2, _⟩ => ⟨S1024x3200, .bf16⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | .local _ .vmem, ⟨6, _⟩ => ⟨S512x3200, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S16384x3200 : Shape := ⟨2, ![16384, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3200, .f32⟩
  | .hbm, ⟨2, _⟩ => ⟨S_, .f32⟩
  | .hbm, ⟨3, _⟩ => ⟨S1024x3200, .f32⟩
  | .hbm, ⟨4, _⟩ => ⟨S16384x3200, .f32⟩
  | .hbm, ⟨5, _⟩ => ⟨S3200x1024, .f32⟩
  | .hbm, ⟨6, _⟩ => ⟨S1024x3200, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S16384x3200 : Shape := ⟨2, ![16384, 3200]⟩
abbrev S1024x3200 : Shape := ⟨2, ![1024, 3200]⟩
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x3200, .f32⟩
  | .hbm, ⟨1, _⟩ => ⟨S1024x3200, .f32⟩
  | .hbm, ⟨2, _⟩ => ⟨S16384x3200, .bf16⟩
  | .hbm, ⟨3, _⟩ => ⟨S1024x3200, .bf16⟩
  | .hbm, ⟨4, _⟩ => ⟨S16384x1024, .f32⟩
  | .local _ .vmem, ⟨0, _⟩ => ⟨S1024x3200, .bf16⟩
  | .local _ .vmem, ⟨1, _⟩ => ⟨S1024x3200, .bf16⟩
  | .local _ .vmem, ⟨2, _⟩ => ⟨S1024x3200, .bf16⟩
  | .local _ .vmem, ⟨3, _⟩ => ⟨S1024x1024, .f32⟩
  | .local _ .vmem, ⟨4, _⟩ => ⟨S1024x1024, .f32⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x3200 : Shape := ⟨2, ![16384, 3200]⟩
abbrev S1024x3200 : Shape := ⟨2, ![1024, 3200]⟩
abbrev S_ : Shape := ⟨0, ![]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x3200, .f32⟩
  | .hbm, ⟨1, _⟩ => ⟨S1024x3200, .f32⟩
  | .hbm, ⟨2, _⟩ => ⟨S_, .f32⟩
  | .hbm, ⟨3, _⟩ => ⟨S16384x1024, .f32⟩
  | .hbm, ⟨4, _⟩ => ⟨S16384x3200, .f32⟩
  | .hbm, ⟨5, _⟩ => ⟨S16384x1024, .f32⟩
  | _, _ => ⟨S16384x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x2048, .bf16⟩
  | .hbm, ⟨3, _⟩ => ⟨S16384x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S_, .f32⟩
  | .hbm, ⟨3, _⟩ => ⟨S2048x1024, .f32⟩
  | .hbm, ⟨4, _⟩ => ⟨S16384x1024, .f32⟩
  | .hbm, ⟨5, _⟩ => ⟨S1024x2048, .f32⟩
  | .hbm, ⟨6, _⟩ => ⟨S2048x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S16384x256 : Shape := ⟨2, ![16384, 256]⟩
abbrev S16384x1024 : Shape := ⟨2, ![16384, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S16384x256, .bf16⟩
  | .hbm, ⟨3, _⟩ => ⟨S16384x1024, .bf16⟩
  | .hbm, ⟨4, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S_, .f32⟩
  | .hbm, ⟨3, _⟩ => ⟨S256x1024, .f32⟩
  | .hbm, ⟨4, _⟩ => ⟨S16384x1024, .f32⟩
  | .hbm, ⟨5, _⟩ => ⟨S1024x256, .f32⟩
  | .hbm, ⟨6, _⟩ => ⟨S256x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S16384x1024 : Shape := ⟨2, ![16384, 1024]⟩
abbrev S256x1024 : Shape := ⟨2, ![256, 1024]⟩
abbrev S16384x256 : Shape := ⟨2, ![16384, 256]⟩
abbrev S1024x1024 : Shape := ⟨2, ![1024, 1024]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S16384x1024, .bf16⟩
  | .hbm, ⟨3, _⟩ => ⟨S256x1024, .bf16⟩
  | .hbm, ⟨4, _⟩ => ⟨S16384x256, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .bf16⟩
  | .local _ .vmem, ⟨4, _⟩ => ⟨S1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S256x1024 : Shape := ⟨2, ![256, 1024]⟩
abbrev S_ : Shape := ⟨0, ![]⟩
abbrev S16384x256 : Shape := ⟨2, ![16384, 256]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S_, .f32⟩
  | .hbm, ⟨3, _⟩ => ⟨S16384x256, .f32⟩
  | .hbm, ⟨4, _⟩ => ⟨S16384x1024, .f32⟩
  | .hbm, ⟨5, _⟩ => ⟨S16384x256, .f32⟩
  | .hbm, ⟨6, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S16384x1024 : Shape := ⟨2, ![16384, 1024]⟩
abbrev S16384x256 : Shape := ⟨2, ![16384, 256]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x1024, .bf16⟩
  | .hbm, ⟨3, _⟩ => ⟨S16384x256, .bf16⟩
  | .hbm, ⟨4, _⟩ => ⟨S1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S16384x1024 : Shape := ⟨2, ![16384, 1024]⟩
abbrev S16384x256 : Shape := ⟨2, ![16384, 256]⟩
abbrev S_ : Shape := ⟨0, ![]⟩
abbrev S1024x256 : Shape := ⟨2, ![1024, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S_, .f32⟩
  | .hbm, ⟨3, _⟩ => ⟨S1024x256, .f32⟩
  | .hbm, ⟨4, _⟩ => ⟨S16384x256, .f32⟩
  | .hbm, ⟨5, _⟩ => ⟨S256x1024, .f32⟩
  | .hbm, ⟨6, _⟩ => ⟨S1024x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S16384x256 : Shape := ⟨2, ![16384, 256]⟩
abbrev S1024x256 : Shape := ⟨2, ![1024, 256]⟩
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x256, .bf16⟩
  | .hbm, ⟨3, _⟩ => ⟨S1024x256, .bf16⟩
  | .hbm, ⟨4, _⟩ => ⟨S16384x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S16384x256 : Shape := ⟨2, ![16384, 256]⟩
abbrev S1024x256 : Shape := ⟨2, ![1024, 256]⟩
abbrev S_ : Shape := ⟨0, ![]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S_, .f32⟩
  | .hbm, ⟨3, _⟩ => ⟨S16384x1024, .f32⟩
  | .hbm, ⟨4, _⟩ => ⟨S16384x256, .f32⟩
  | .hbm, ⟨5, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S256x1024 : Shape := ⟨2, ![256, 1024]⟩
abbrev S256x512 : Shape := ⟨2, ![256, 512]⟩
abbrev S1024x512 : Shape := ⟨2, ![1024, 512]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x1024, .bf16⟩
  | .hbm, ⟨3, _⟩ => ⟨S256x512, .bf16⟩
  | .hbm, ⟨4, _⟩ => ⟨S1024x512, .f32⟩
  | .local _ .vmem, ⟨0, _⟩ => ⟨S256x1024, .bf16⟩
  | .local _ .vmem, ⟨1, _⟩ => ⟨S256x512, .bf16⟩
  | .local _ .vmem, ⟨2, _⟩ => ⟨S1024x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S_, .f32⟩
  | .hbm, ⟨3, _⟩ => ⟨S1024x512, .f32⟩
  | .hbm, ⟨4, _⟩ => ⟨S256x512, .f32⟩
  | .hbm, ⟨5, _⟩ => ⟨S512x1024, .f32⟩
  | .hbm, ⟨6, _⟩ => ⟨S1024x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S256x512 : Shape := ⟨2, ![256, 512]⟩
abbrev S1024x512 : Shape := ⟨2, ![1024, 512]⟩
abbrev S256x1024 : Shape := ⟨2, ![256, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S1024x512, .f32⟩
  | .hbm, ⟨2, _⟩ => ⟨S256x512, .bf16⟩
  | .hbm, ⟨3, _⟩ => ⟨S1024x512, .bf16⟩
  | .hbm, ⟨4, _⟩ => ⟨S256x1024, .f32⟩
  | .local _ .vmem, ⟨0, _⟩ => ⟨S256x512, .bf16⟩
  | .local _ .vmem, ⟨1, _⟩ => ⟨S1024x512, .bf16⟩
  | .local _ .vmem, ⟨2, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S256x512 : Shape := ⟨2, ![256, 512]⟩
abbrev S1024x512 : Shape := ⟨2, ![1024, 512]⟩
abbrev S_ : Shape := ⟨0, ![]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S1024x512, .f32⟩
  | .hbm, ⟨2, _⟩ => ⟨S_, .f32⟩
  | .hbm, ⟨3, _⟩ => ⟨S256x1024, .f32⟩
  | .hbm, ⟨4, _⟩ => ⟨S256x512, .f32⟩
  | .hbm, ⟨5, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S16384x1024 : Shape := ⟨2, ![16384, 1024]⟩
abbrev S1024x3072 : Shape := ⟨2, ![1024, 3072]⟩
abbrev S16384x3072 : Shape := ⟨2, ![16384, 3072]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x1024, .bf16⟩
  | .hbm, ⟨3, _⟩ => ⟨S1024x3072, .bf16⟩
  | .hbm, ⟨4, _⟩ => ⟨S16384x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S16384x1024 : Shape := ⟨2, ![16384, 1024]⟩
abbrev S1024x128 : Shape := ⟨2, ![1024, 128]⟩
abbrev S16384x128 : Shape := ⟨2, ![16384, 128]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x128, .f32⟩
  | .hbm, ⟨2, _⟩ => ⟨S16384x1024, .bf16⟩
  | .hbm, ⟨3, _⟩ => ⟨S1024x128, .bf16⟩
  | .hbm, ⟨4, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S16384x1024 : Shape := ⟨2, ![16384, 1024]⟩
abbrev S1024x128 : Shape := ⟨2, ![1024, 128]⟩
abbrev S16384x128 : Shape := ⟨2, ![16384, 128]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x128, .f32⟩
  | .hbm, ⟨2, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S16384x2048 : Shape := ⟨2, ![16384, 2048]⟩
abbrev S2048x1024 : Shape := ⟨2, ![2048, 1024]⟩
abbrev S16384x1024 : Shape := ⟨2, ![16384, 1024]⟩
abbrev S2048x2048 : Shape := ⟨2, ![2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x2048, .bf16⟩
  | .hbm, ⟨3, _⟩ => ⟨S2048x1024, .bf16⟩
  | .hbm, ⟨4, _⟩ => ⟨S16384x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .f32⟩
  | .local _ .vmem, ⟨4, _⟩ => ⟨S2048x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S16384x1024 : Shape := ⟨2, ![16384, 1024]⟩
abbrev S1024x256 : Shape := ⟨2, ![1024, 256]⟩
abbrev S16384x256 : Shape := ⟨2, ![16384, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S16384x1024, .bf16⟩
  | .hbm, ⟨3, _⟩ => ⟨S1024x256, .bf16⟩
  | .hbm, ⟨4, _⟩ => ⟨S16384x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S16384x1024 : Shape := ⟨2, ![16384, 1024]⟩
abbrev S1024x256 : Shape := ⟨2, ![1024, 256]⟩
abbrev S16384x256 : Shape := ⟨2, ![16384, 256]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x256, .f32⟩
  | .hbm, ⟨2, _⟩ => ⟨S16384x256, .f32⟩
  | .hbm, ⟨3, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x512, .f32⟩
  | .hbm, ⟨2, _⟩ => ⟨S256x1024, .bf16⟩
  | .hbm, ⟨3, _⟩ => ⟨S1024x512, .bf16⟩
  | .hbm, ⟨4, _⟩ => ⟨S256x512, .bf16⟩
  | .local _ .vmem, ⟨0, _⟩ => ⟨S256x1024, .bf16⟩
  | .local _ .vmem, ⟨1, _⟩ => ⟨S1024x512, .bf16⟩
  | .local _ .vmem, ⟨2, _⟩ => ⟨S256x512, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x512, .f32⟩
  | .hbm, ⟨2, _⟩ => ⟨S256x512, .f32⟩
  | .hbm, ⟨3, _⟩ => ⟨S256x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S16384x256 : Shape := ⟨2, ![16384, 256]⟩
abbrev S256x1024 : Shape := ⟨2, ![256, 1024]⟩
abbrev S16384x1024 : Shape := ⟨2, ![16384, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x256, .bf16⟩
  | .hbm, ⟨3, _⟩ => ⟨S256x1024, .bf16⟩
  | .hbm, ⟨4, _⟩ => ⟨S16384x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x2816, .bf16⟩
  | .hbm, ⟨3, _⟩ => ⟨S2816x1024, .bf16⟩
  | .hbm, ⟨4, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel23.lean ====
abbrev S16384x2816 : Shape := ⟨2, ![16384, 2816]⟩
abbrev S2816x1024 : Shape := ⟨2, ![2816, 1024]⟩
abbrev S16384x1024 : Shape := ⟨2, ![16384, 1024]⟩
abbrev S16384x11x256 : Shape := ⟨3, ![16384, 11, 256]⟩
abbrev S16384x11x1x256 : Shape := ⟨4, ![16384, 11, 1, 256]⟩
abbrev S16384x11x2x256 : Shape := ⟨4, ![16384, 11, 2, 256]⟩
abbrev S16384x5632 : Shape := ⟨2, ![16384, 5632]⟩
abbrev S4096x1024 : Shape := ⟨2, ![4096, 1024]⟩
abbrev S256x1024 : Shape := ⟨2, ![256, 1024]⟩
abbrev S4096x512 : Shape := ⟨2, ![4096, 512]⟩
abbrev S4096x256 : Shape := ⟨2, ![4096, 256]⟩

abbrev nBuf : Space → Nat
  | .hbm => 22
  | .vmem => 8
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .bf16⟩
  | .hbm, ⟨5, _⟩ => ⟨S16384x2816, .bf16⟩
  | .hbm, ⟨6, _⟩ => ⟨S16384x11x256, .bf16⟩
  | .hbm, ⟨7, _⟩ => ⟨S16384x11x256, .bf16⟩
  | .hbm, ⟨8, _⟩ => ⟨S16384x11x1x256, .bf16⟩
  | .hbm, ⟨9, _⟩ => ⟨S16384x11x1x256, .bf16⟩
  | .hbm, ⟨10, _⟩ => ⟨S16384x11x2x256, .bf16⟩
  | .hbm, ⟨11, _⟩ => ⟨S16384x5632, .bf16⟩
  | .hbm, ⟨12, _⟩ => ⟨S16384x1024, .bf16⟩
  | .hbm, ⟨13, _⟩ => ⟨S2816x1024, .bf16⟩
  | .hbm, ⟨14, _⟩ => ⟨S16384x5632, .bf16⟩
  | .hbm, ⟨15, _⟩ => ⟨S16384x11x2x256, .bf16⟩
  | .hbm, ⟨16, _⟩ => ⟨S16384x11x1x256, .bf16⟩
  | .hbm, ⟨17, _⟩ => ⟨S16384x11x256, .bf16⟩
  | .hbm, ⟨18, _⟩ => ⟨S16384x2816, .bf16⟩
  | .hbm, ⟨19, _⟩ => ⟨S16384x11x1x256, .bf16⟩
  | .hbm, ⟨20, _⟩ => ⟨S16384x11x256, .bf16⟩
  | .hbm, ⟨21, _⟩ => ⟨S16384x2816, .bf16⟩
  | .local _ .vmem, ⟨0, _⟩ => ⟨S4096x1024, .bf16⟩
  | .local _ .vmem, ⟨1, _⟩ => ⟨S4096x1024, .bf16⟩
  | .local _ .vmem, ⟨2, _⟩ => ⟨S256x1024, .bf16⟩
  | .local _ .vmem, ⟨3, _⟩ => ⟨S256x1024, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference23Ideal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .bf16⟩
  | .hbm, ⟨27, _⟩ => ⟨S16384x2816, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel24.lean ====
abbrev S16384x1024 : Shape := ⟨2, ![16384, 1024]⟩
abbrev S1024x2816 : Shape := ⟨2, ![1024, 2816]⟩
abbrev S1024x11x256 : Shape := ⟨3, ![1024, 11, 256]⟩
abbrev S1024x11x1x256 : Shape := ⟨4, ![1024, 11, 1, 256]⟩
abbrev S1024x11x2x256 : Shape := ⟨4, ![1024, 11, 2, 256]⟩
abbrev S1024x5632 : Shape := ⟨2, ![1024, 5632]⟩
abbrev S16384x5632 : Shape := ⟨2, ![16384, 5632]⟩
abbrev S16384x2816 : Shape := ⟨2, ![16384, 2816]⟩
abbrev S4096x1024 : Shape := ⟨2, ![4096, 1024]⟩
abbrev S1024x512 : Shape := ⟨2, ![1024, 512]⟩
abbrev S4096x512 : Shape := ⟨2, ![4096, 512]⟩
abbrev S4096x256 : Shape := ⟨2, ![4096, 256]⟩
abbrev S16384x11x2x256 : Shape := ⟨4, ![16384, 11, 2, 256]⟩
abbrev S16384x11x1x256 : Shape := ⟨4, ![16384, 11, 1, 256]⟩
abbrev S16384x11x256 : Shape := ⟨3, ![16384, 11, 256]⟩

abbrev nBuf : Space → Nat
  | .hbm => 21
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S16384x1024, .bf16⟩
  | .hbm, ⟨4, _⟩ => ⟨S1024x2816, .bf16⟩
  | .hbm, ⟨5, _⟩ => ⟨S1024x2816, .bf16⟩
  | .hbm, ⟨6, _⟩ => ⟨S1024x11x256, .bf16⟩
  | .hbm, ⟨7, _⟩ => ⟨S1024x11x256, .bf16⟩
  | .hbm, ⟨8, _⟩ => ⟨S1024x11x1x256, .bf16⟩
  | .hbm, ⟨9, _⟩ => ⟨S1024x11x1x256, .bf16⟩
  | .hbm, ⟨10, _⟩ => ⟨S1024x11x2x256, .bf16⟩
  | .hbm, ⟨11, _⟩ => ⟨S1024x5632, .bf16⟩
  | .hbm, ⟨12, _⟩ => ⟨S16384x5632, .bf16⟩
  | .hbm, ⟨13, _⟩ => ⟨S16384x2816, .bf16⟩
  | .hbm, ⟨14, _⟩ => ⟨S16384x11x2x256, .bf16⟩
  | .hbm, ⟨15, _⟩ => ⟨S16384x11x1x256, .bf16⟩
  | .hbm, ⟨16, _⟩ => ⟨S16384x11x256, .bf16⟩
  | .hbm, ⟨17, _⟩ => ⟨S16384x2816, .bf16⟩
  | .hbm, ⟨18, _⟩ => ⟨S16384x11x1x256, .bf16⟩
  | .hbm, ⟨19, _⟩ => ⟨S16384x11x256, .bf16⟩
  | .hbm, ⟨20, _⟩ => ⟨S16384x2816, .bf16⟩
  | .local _ .vmem, ⟨0, _⟩ => ⟨S4096x1024, .bf16⟩
  | .local _ .vmem, ⟨1, _⟩ => ⟨S4096x1024, .bf16⟩
  | .local _ .vmem, ⟨2, _⟩ => ⟨S1024x512, .bf16⟩
  | .local _ .vmem, ⟨3, _⟩ => ⟨S1024x512, .bf16⟩
  | .local _ .vmem, ⟨4, _⟩ => ⟨S4096x512, .bf16⟩
  | .local _ .vmem, ⟨5, _⟩ => ⟨S4096x512, .bf16⟩
  | .local _ .vmem, ⟨6, _⟩ => ⟨S4096x256, .bf16⟩
  | .local _ .vmem, ⟨7, _⟩ => ⟨S4096x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference24Ideal.lean ====
abbrev S16384x1024 : Shape := ⟨2, ![16384, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S16384x2816, .f32⟩
  | .hbm, ⟨4, _⟩ => ⟨S16384x2816, .f32⟩
  | .hbm, ⟨5, _⟩ => ⟨S16384x2816, .bf16⟩
  | .hbm, ⟨6, _⟩ => ⟨S16384x2816, .bf16⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel25.lean ====
abbrev S8x16384x64 : Shape := ⟨3, ![8, 16384, 64]⟩
abbrev S8x16384 : Shape := ⟨2, ![8, 16384]⟩
abbrev S_ : Shape := ⟨0, ![]⟩
abbrev S8x16384x1 : Shape := ⟨3, ![8, 16384, 1]⟩
abbrev S8x16384x6 : Shape := ⟨3, ![8, 16384, 6]⟩
abbrev S8x16384x128 : Shape := ⟨3, ![8, 16384, 128]⟩
abbrev S8x64x16384 : Shape := ⟨3, ![8, 64, 16384]⟩
abbrev S8x1x16384 : Shape := ⟨3, ![8, 1, 16384]⟩
abbrev S8x3x16384 : Shape := ⟨3, ![8, 3, 16384]⟩
abbrev S8x128x16384 : Shape := ⟨3, ![8, 128, 16384]⟩
abbrev S8x16x16384 : Shape := ⟨3, ![8, 16, 16384]⟩
abbrev S8x80x16384 : Shape := ⟨3, ![8, 80, 16384]⟩
abbrev S1x128x512 : Shape := ⟨3, ![1, 128, 512]⟩
abbrev S1x16384x128 : Shape := ⟨3, ![1, 16384, 128]⟩
abbrev S1x80x16384 : Shape := ⟨3, ![1, 80, 16384]⟩
abbrev S1x64x512 : Shape := ⟨3, ![1, 64, 512]⟩
abbrev S1x1x512 : Shape := ⟨3, ![1, 1, 512]⟩
abbrev S1x512 : Shape := ⟨2, ![1, 512]⟩
abbrev S80x512 : Shape := ⟨2, ![80, 512]⟩
abbrev S1024x512 : Shape := ⟨2, ![1024, 512]⟩
abbrev S128x512 : Shape := ⟨2, ![128, 512]⟩
abbrev S1x1024x128 : Shape := ⟨3, ![1, 1024, 128]⟩
abbrev S1024x128 : Shape := ⟨2, ![1024, 128]⟩
abbrev S512 : Shape := ⟨1, ![512]⟩
abbrev S1x80x1024 : Shape := ⟨3, ![1, 80, 1024]⟩
abbrev S80x1024 : Shape := ⟨2, ![80, 1024]⟩
abbrev S64x512 : Shape := ⟨2, ![64, 512]⟩

abbrev nBuf : Space → Nat
  | .hbm => 50
  | .vmem => 14
  | .smem => 0
  | _ => 0

abbrev bufTy : (tb : Table) → Fin (tcTables nBuf tb) → BufTy
  | .hbm, ⟨0, _⟩ => ⟨S8x16384x64, .f32⟩
  | .hbm, ⟨1, _⟩ => ⟨S8x16384x64, .f32⟩
  | .hbm, ⟨2, _⟩ => ⟨S8x16384x64, .f32⟩
  | .hbm, ⟨3, _⟩ => ⟨S8x16384, .f32⟩
  | .hbm, ⟨4, _⟩ => ⟨S_, .bf16⟩
  | .hbm, ⟨5, _⟩ => ⟨S8x16384, .bf16⟩
  | .hbm, ⟨6, _⟩ => ⟨S_, .bf16⟩
  | .hbm, ⟨7, _⟩ => ⟨S8x16384, .bf16⟩
  | .hbm, ⟨8, _⟩ => ⟨S8x16384x64, .bf16⟩
  | .hbm, ⟨9, _⟩ => ⟨S8x16384, .f32⟩
  | .hbm, ⟨10, _⟩ => ⟨S8x16384, .bf16⟩
  | .hbm, ⟨11, _⟩ => ⟨S8x16384, .f32⟩
  | .hbm, ⟨12, _⟩ => ⟨S8x16384, .f32⟩
  | .hbm, ⟨13, _⟩ => ⟨S8x16384, .bf16⟩
  | .hbm, ⟨14, _⟩ => ⟨S8x16384, .f32⟩
  | .hbm, ⟨15, _⟩ => ⟨S8x16384, .f32⟩
  | .hbm, ⟨16, _⟩ => ⟨S8x16384, .f32⟩
  | .hbm, ⟨17, _⟩ => ⟨S8x16384, .bf16⟩
  | .hbm, ⟨18, _⟩ => ⟨S8x16384, .f32⟩
  | .hbm, ⟨19, _⟩ => ⟨S8x16384, .bf16⟩
  | .hbm, ⟨20, _⟩ => ⟨S8x16384, .bf16⟩
  | .hbm, ⟨21, _⟩ => ⟨S8x16384, .bf16⟩
  | .hbm, ⟨22, _⟩ => ⟨S8x16384x1, .bf16⟩
  | .hbm, ⟨23, _⟩ => ⟨S8x16384x1, .bf16⟩
  | .hbm, ⟨24, _⟩ => ⟨S8x16384x1, .bf16⟩
  | .hbm, ⟨25, _⟩ => ⟨S8x16384x1, .bf16⟩
  | .hbm, ⟨26, _⟩ => ⟨S8x16384x1, .bf16⟩
  | .hbm, ⟨27, _⟩ => ⟨S8x16384x1, .bf16⟩
  | .hbm, ⟨28, _⟩ => ⟨S8x16384x6, .bf16⟩
  | .hbm, ⟨29, _⟩ => ⟨S_, .i32⟩
  | .hbm, ⟨30, _⟩ => ⟨S_, .bf16⟩
  | .hbm, ⟨31, _⟩ => ⟨S8x16384x64, .bf16⟩
  | .hbm, ⟨32, _⟩ => ⟨S8x16384x128, .bf16⟩
  | .hbm, ⟨33, _⟩ => ⟨S8x16384x64, .bf16⟩
  | .hbm, ⟨34, _⟩ => ⟨S8x64x16384, .bf16⟩
  | .hbm, ⟨35, _⟩ => ⟨S8x1x16384, .bf16⟩
  | .hbm, ⟨36, _⟩ => ⟨S8x1x16384, .bf16⟩
  | .hbm, ⟨37, _⟩ => ⟨S8x1x16384, .bf16⟩
  | .hbm, ⟨38, _⟩ => ⟨S8x3x16384, .bf16⟩
  | .hbm, ⟨39, _⟩ => ⟨S_, .i32⟩
  | .hbm, ⟨40, _⟩ => ⟨S_, .bf16⟩
  | .hbm, ⟨41, _⟩ => ⟨S8x64x16384, .bf16⟩
  | .hbm, ⟨42, _⟩ => ⟨S8x128x16384, .bf16⟩
  | .hbm, ⟨43, _⟩ => ⟨S8x16384x64, .bf16⟩
  | .hbm, ⟨44, _⟩ => ⟨S8x64x16384, .bf16⟩
  | .hbm, ⟨45, _⟩ => ⟨S_, .bf16⟩
  | .hbm, ⟨46, _⟩ => ⟨S8x16x16384, .bf16⟩
  | .hbm, ⟨47, _⟩ => ⟨S8x80x16384, .bf16⟩
  | .hbm, ⟨48, _⟩ => ⟨S8x64x16384, .f32⟩
  | .hbm, ⟨49, _⟩ => ⟨S8x1x16384, .f32⟩
  | .local _ .vmem, ⟨0, _⟩ => ⟨S1x128x512, .bf16⟩
  | .local _ .vmem, ⟨1, _⟩ => ⟨S1x128x512, .bf16⟩
  | .local _ .vmem, ⟨2, _⟩ => ⟨S1x16384x128, .bf16⟩
  | .local _ .vmem, ⟨3, _⟩ => ⟨S1x80x16384, .bf16⟩
  | .local _ .vmem, ⟨4, _⟩ => ⟨S1x64x512, .f32⟩
  | .local _ .vmem, ⟨5, _⟩ => ⟨S1x64x512, .f32⟩
  | .local _ .vmem, ⟨6, _⟩ => ⟨S1x1x512, .f32⟩
  | .local _ .vmem, ⟨7, _⟩ => ⟨S1x1x512, .f32⟩
  | .local _ .vmem, ⟨8, _⟩ => ⟨S1x512, .f32⟩
  | .local _ .vmem, ⟨9, _⟩ => ⟨S80x512, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | _, _ => ⟨S8x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_call1_v0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c1024_i32 : BitVec 32 := 1024#32
  let v32 : BitVec 32 := Scalar.muli v28 c1024_i32
  v32
def k0_off1 (i : grid0.Coords) : Fin 3 → Nat :=
  let c0_13 : Index := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c1024_i32 : BitVec 32 := 1024#32
  let v32 : BitVec 32 := Scalar.muli v28 c1024_i32
  let v33 : BitVec 32 := v32
  let v34 : Index := Scalar.indexCast v33
  let c0_14 : Index := 0#32
  ![0, v34.toNat, 0]
@[reducible] def k0_t1_loop (i : grid0.Coords) : Scf.Loop 32 :=
  let c0_i32_30 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let v70 : BitVec 32 := Scalar.subi v69 c0_i32_30
  let c1_i32_31 : BitVec 32 := 1#32
  let v72 : BitVec 32 := Scalar.divsi v70 c1_i32_31
  let v73 : BitVec 32 := Scalar.muli v72 c1_i32_31
  let v74 : BitVec 32 := Scalar.addi c0_i32_30 v73
  let c1_i32_32 : BitVec 32 := 1#32
  ⟨c0_i32_30, v74, c1_i32_32⟩
def k0_mult2 (i : grid0.Coords) (k0_t1 : Fin (k0_t1_loop i).trips) : BitVec 32 :=
  let c2_i32_64 : BitVec 32 := 2#32
  let c0_i32_30 : BitVec 32 := 0#32
  let c1_i32_32 : BitVec 32 := 1#32
  let arg13 : BitVec 32 := Scf.iv c0_i32_30 c1_i32_32 k0_t1
  let v118 : BitVec 32 := Scalar.muli c2_i32_64 arg13
  let c1024_i32_65 : BitVec 32 := 1024#32
  let v119 : BitVec 32 := Scalar.muli v118 c1024_i32_65
  v119
def k0_off2 (i : grid0.Coords) (k0_t1 : Fin (k0_t1_loop i).trips) : Fin 3 → Nat :=
  let c0_66 : Index := 0#32
  let c2_i32_64 : BitVec 32 := 2#32
  let c0_i32_30 : BitVec 32 := 0#32
  let c1_i32_32 : BitVec 32 := 1#32
  let arg13 : BitVec 32 := Scf.iv c0_i32_30 c1_i32_32 k0_t1
  let v118 : BitVec 32 := Scalar.muli c2_i32_64 arg13
  let c1024_i32_65 : BitVec 32 := 1024#32
  let v119 : BitVec 32 := Scalar.muli v118 c1024_i32_65
  let v120 : BitVec 32 := v119
  let v121 : Index := Scalar.indexCast v120
  let c0_67 : Index := 0#32
  ![0, v121.toNat, 0]
def k0_mult3 (i : grid0.Coords) (k0_t1 : Fin (k0_t1_loop i).trips) : BitVec 32 :=
  let c0_i32_30 : BitVec 32 := 0#32
  let c1_i32_32 : BitVec 32 := 1#32
  let arg13 : BitVec 32 := Scf.iv c0_i32_30 c1_i32_32 k0_t1
  let c0_i32_74 : BitVec 32 := 0#32
  let v133 : BitVec 1 := Scalar.cmpi .eq arg13 c0_i32_74
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c2_i32_75 : BitVec 32 := 2#32
  let v134 : BitVec 32 := Scalar.muli c2_i32_75 arg13
  let c1_i32_76 : BitVec 32 := 1#32
  let v135 : BitVec 32 := Scalar.subi v134 c1_i32_76
  let v136 : BitVec 32 := Scalar.select v133 v28 v135
  let c1024_i32_77 : BitVec 32 := 1024#32
  let v137 : BitVec 32 := Scalar.muli v136 c1024_i32_77
  v137
def k0_off3 (i : grid0.Coords) (k0_t1 : Fin (k0_t1_loop i).trips) : Fin 3 → Nat :=
  let c0_86 : Index := 0#32
  let c0_87 : Index := 0#32
  let c0_i32_30 : BitVec 32 := 0#32
  let c1_i32_32 : BitVec 32 := 1#32
  let arg13 : BitVec 32 := Scf.iv c0_i32_30 c1_i32_32 k0_t1
  let c0_i32_74 : BitVec 32 := 0#32
  let v133 : BitVec 1 := Scalar.cmpi .eq arg13 c0_i32_74
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c2_i32_75 : BitVec 32 := 2#32
  let v134 : BitVec 32 := Scalar.muli c2_i32_75 arg13
  let c1_i32_76 : BitVec 32 := 1#32
  let v135 : BitVec 32 := Scalar.subi v134 c1_i32_76
  let v136 : BitVec 32 := Scalar.select v133 v28 v135
  let c1024_i32_77 : BitVec 32 := 1024#32
  let v137 : BitVec 32 := Scalar.muli v136 c1024_i32_77
  let v138 : BitVec 32 := v137
  let v151 : Index := Scalar.indexCast v138
  ![0, 0, v151.toNat]
def k0_mult4 (i : grid0.Coords) (k0_t1 : Fin (k0_t1_loop i).trips) : BitVec 32 :=
  let c2_i32_93 : BitVec 32 := 2#32
  let c0_i32_30 : BitVec 32 := 0#32
  let c1_i32_32 : BitVec 32 := 1#32
  let arg13 : BitVec 32 := Scf.iv c0_i32_30 c1_i32_32 k0_t1
  let v163 : BitVec 32 := Scalar.muli c2_i32_93 arg13
  let c1_i32_94 : BitVec 32 := 1#32
  let v164 : BitVec 32 := Scalar.addi v163 c1_i32_94
  let c1024_i32_95 : BitVec 32 := 1024#32
  let v165 : BitVec 32 := Scalar.muli v164 c1024_i32_95
  v165
def k0_off4 (i : grid0.Coords) (k0_t1 : Fin (k0_t1_loop i).trips) : Fin 3 → Nat :=
  let c0_96 : Index := 0#32
  let c2_i32_93 : BitVec 32 := 2#32
  let c0_i32_30 : BitVec 32 := 0#32
  let c1_i32_32 : BitVec 32 := 1#32
  let arg13 : BitVec 32 := Scf.iv c0_i32_30 c1_i32_32 k0_t1
  let v163 : BitVec 32 := Scalar.muli c2_i32_93 arg13
  let c1_i32_94 : BitVec 32 := 1#32
  let v164 : BitVec 32 := Scalar.addi v163 c1_i32_94
  let c1024_i32_95 : BitVec 32 := 1024#32
  let v165 : BitVec 32 := Scalar.muli v164 c1024_i32_95
  let v166 : BitVec 32 := v165
  let v167 : Index := Scalar.indexCast v166
  let c0_97 : Index := 0#32
  ![0, v167.toNat, 0]
def k0_mult5 (i : grid0.Coords) (k0_t1 : Fin (k0_t1_loop i).trips) : BitVec 32 :=
  let c2_i32_104 : BitVec 32 := 2#32
  let c0_i32_30 : BitVec 32 := 0#32
  let c1_i32_32 : BitVec 32 := 1#32
  let arg13 : BitVec 32 := Scf.iv c0_i32_30 c1_i32_32 k0_t1
  let v179 : BitVec 32 := Scalar.muli c2_i32_104 arg13
  let c1024_i32_105 : BitVec 32 := 1024#32
  let v180 : BitVec 32 := Scalar.muli v179 c1024_i32_105
  v180
def k0_off5 (i : grid0.Coords) (k0_t1 : Fin (k0_t1_loop i).trips) : Fin 3 → Nat :=
  let c0_114 : Index := 0#32
  let c0_115 : Index := 0#32
  let c2_i32_104 : BitVec 32 := 2#32
  let c0_i32_30 : BitVec 32 := 0#32
  let c1_i32_32 : BitVec 32 := 1#32
  let arg13 : BitVec 32 := Scf.iv c0_i32_30 c1_i32_32 k0_t1
  let v179 : BitVec 32 := Scalar.muli c2_i32_104 arg13
  let c1024_i32_105 : BitVec 32 := 1024#32
  let v180 : BitVec 32 := Scalar.muli v179 c1024_i32_105
  let v181 : BitVec 32 := v180
  let v194 : Index := Scalar.indexCast v181
  ![0, 0, v194.toNat]
@[reducible] def k0_t2_loop (i : grid0.Coords) : Scf.Loop 32 :=
  let c0_i32_30 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let v70 : BitVec 32 := Scalar.subi v69 c0_i32_30
  let c1_i32_31 : BitVec 32 := 1#32
  let v72 : BitVec 32 := Scalar.divsi v70 c1_i32_31
  let v73 : BitVec 32 := Scalar.muli v72 c1_i32_31
  let v74 : BitVec 32 := Scalar.addi c0_i32_30 v73
  let v71 : BitVec 32 := Scalar.addi c0_i32_30 v70
  let c1_i32_33 : BitVec 32 := 1#32
  ⟨v74, v71, c1_i32_33⟩
def k0_mult6 (i : grid0.Coords) (k0_t2 : Fin (k0_t2_loop i).trips) : BitVec 32 :=
  let c2_i32_64 : BitVec 32 := 2#32
  let c0_i32_30 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let v70 : BitVec 32 := Scalar.subi v69 c0_i32_30
  let c1_i32_31 : BitVec 32 := 1#32
  let v72 : BitVec 32 := Scalar.divsi v70 c1_i32_31
  let v73 : BitVec 32 := Scalar.muli v72 c1_i32_31
  let v74 : BitVec 32 := Scalar.addi c0_i32_30 v73
  let c1_i32_33 : BitVec 32 := 1#32
  let arg13 : BitVec 32 := Scf.iv v74 c1_i32_33 k0_t2
  let v118 : BitVec 32 := Scalar.muli c2_i32_64 arg13
  let c1024_i32_65 : BitVec 32 := 1024#32
  let v119 : BitVec 32 := Scalar.muli v118 c1024_i32_65
  v119
def k0_off6 (i : grid0.Coords) (k0_t2 : Fin (k0_t2_loop i).trips) : Fin 3 → Nat :=
  let c0_66 : Index := 0#32
  let c2_i32_64 : BitVec 32 := 2#32
  let c0_i32_30 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let v70 : BitVec 32 := Scalar.subi v69 c0_i32_30
  let c1_i32_31 : BitVec 32 := 1#32
  let v72 : BitVec 32 := Scalar.divsi v70 c1_i32_31
  let v73 : BitVec 32 := Scalar.muli v72 c1_i32_31
  let v74 : BitVec 32 := Scalar.addi c0_i32_30 v73
  let c1_i32_33 : BitVec 32 := 1#32
  let arg13 : BitVec 32 := Scf.iv v74 c1_i32_33 k0_t2
  let v118 : BitVec 32 := Scalar.muli c2_i32_64 arg13
  let c1024_i32_65 : BitVec 32 := 1024#32
  let v119 : BitVec 32 := Scalar.muli v118 c1024_i32_65
  let v120 : BitVec 32 := v119
  let v121 : Index := Scalar.indexCast v120
  let c0_67 : Index := 0#32
  ![0, v121.toNat, 0]
def k0_mult7 (i : grid0.Coords) (k0_t2 : Fin (k0_t2_loop i).trips) : BitVec 32 :=
  let c0_i32_30 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let v70 : BitVec 32 := Scalar.subi v69 c0_i32_30
  let c1_i32_31 : BitVec 32 := 1#32
  let v72 : BitVec 32 := Scalar.divsi v70 c1_i32_31
  let v73 : BitVec 32 := Scalar.muli v72 c1_i32_31
  let v74 : BitVec 32 := Scalar.addi c0_i32_30 v73
  let c1_i32_33 : BitVec 32 := 1#32
  let arg13 : BitVec 32 := Scf.iv v74 c1_i32_33 k0_t2
  let c0_i32_74 : BitVec 32 := 0#32
  let v133 : BitVec 1 := Scalar.cmpi .eq arg13 c0_i32_74
  let c2_i32_75 : BitVec 32 := 2#32
  let v134 : BitVec 32 := Scalar.muli c2_i32_75 arg13
  let c1_i32_76 : BitVec 32 := 1#32
  let v135 : BitVec 32 := Scalar.subi v134 c1_i32_76
  let v136 : BitVec 32 := Scalar.select v133 v28 v135
  let c1024_i32_77 : BitVec 32 := 1024#32
  let v137 : BitVec 32 := Scalar.muli v136 c1024_i32_77
  v137
def k0_off7 (i : grid0.Coords) (k0_t2 : Fin (k0_t2_loop i).trips) : Fin 3 → Nat :=
  let c0_86 : Index := 0#32
  let c0_87 : Index := 0#32
  let c0_i32_30 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let v70 : BitVec 32 := Scalar.subi v69 c0_i32_30
  let c1_i32_31 : BitVec 32 := 1#32
  let v72 : BitVec 32 := Scalar.divsi v70 c1_i32_31
  let v73 : BitVec 32 := Scalar.muli v72 c1_i32_31
  let v74 : BitVec 32 := Scalar.addi c0_i32_30 v73
  let c1_i32_33 : BitVec 32 := 1#32
  let arg13 : BitVec 32 := Scf.iv v74 c1_i32_33 k0_t2
  let c0_i32_74 : BitVec 32 := 0#32
  let v133 : BitVec 1 := Scalar.cmpi .eq arg13 c0_i32_74
  let c2_i32_75 : BitVec 32 := 2#32
  let v134 : BitVec 32 := Scalar.muli c2_i32_75 arg13
  let c1_i32_76 : BitVec 32 := 1#32
  let v135 : BitVec 32 := Scalar.subi v134 c1_i32_76
  let v136 : BitVec 32 := Scalar.select v133 v28 v135
  let c1024_i32_77 : BitVec 32 := 1024#32
  let v137 : BitVec 32 := Scalar.muli v136 c1024_i32_77
  let v138 : BitVec 32 := v137
  let v151 : Index := Scalar.indexCast v138
  ![0, 0, v151.toNat]
def k0_mult8 (i : grid0.Coords) (k0_t2 : Fin (k0_t2_loop i).trips) : BitVec 32 :=
  let c2_i32_93 : BitVec 32 := 2#32
  let c0_i32_30 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let v70 : BitVec 32 := Scalar.subi v69 c0_i32_30
  let c1_i32_31 : BitVec 32 := 1#32
  let v72 : BitVec 32 := Scalar.divsi v70 c1_i32_31
  let v73 : BitVec 32 := Scalar.muli v72 c1_i32_31
  let v74 : BitVec 32 := Scalar.addi c0_i32_30 v73
  let c1_i32_33 : BitVec 32 := 1#32
  let arg13 : BitVec 32 := Scf.iv v74 c1_i32_33 k0_t2
  let v163 : BitVec 32 := Scalar.muli c2_i32_93 arg13
  let c1_i32_94 : BitVec 32 := 1#32
  let v164 : BitVec 32 := Scalar.addi v163 c1_i32_94
  let c1024_i32_95 : BitVec 32 := 1024#32
  let v165 : BitVec 32 := Scalar.muli v164 c1024_i32_95
  v165
def k0_off8 (i : grid0.Coords) (k0_t2 : Fin (k0_t2_loop i).trips) : Fin 3 → Nat :=
  let c0_96 : Index := 0#32
  let c2_i32_93 : BitVec 32 := 2#32
  let c0_i32_30 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let v70 : BitVec 32 := Scalar.subi v69 c0_i32_30
  let c1_i32_31 : BitVec 32 := 1#32
  let v72 : BitVec 32 := Scalar.divsi v70 c1_i32_31
  let v73 : BitVec 32 := Scalar.muli v72 c1_i32_31
  let v74 : BitVec 32 := Scalar.addi c0_i32_30 v73
  let c1_i32_33 : BitVec 32 := 1#32
  let arg13 : BitVec 32 := Scf.iv v74 c1_i32_33 k0_t2
  let v163 : BitVec 32 := Scalar.muli c2_i32_93 arg13
  let c1_i32_94 : BitVec 32 := 1#32
  let v164 : BitVec 32 := Scalar.addi v163 c1_i32_94
  let c1024_i32_95 : BitVec 32 := 1024#32
  let v165 : BitVec 32 := Scalar.muli v164 c1024_i32_95
  let v166 : BitVec 32 := v165
  let v167 : Index := Scalar.indexCast v166
  let c0_97 : Index := 0#32
  ![0, v167.toNat, 0]
def k0_mult9 (i : grid0.Coords) (k0_t2 : Fin (k0_t2_loop i).trips) : BitVec 32 :=
  let c2_i32_104 : BitVec 32 := 2#32
  let c0_i32_30 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let v70 : BitVec 32 := Scalar.subi v69 c0_i32_30
  let c1_i32_31 : BitVec 32 := 1#32
  let v72 : BitVec 32 := Scalar.divsi v70 c1_i32_31
  let v73 : BitVec 32 := Scalar.muli v72 c1_i32_31
  let v74 : BitVec 32 := Scalar.addi c0_i32_30 v73
  let c1_i32_33 : BitVec 32 := 1#32
  let arg13 : BitVec 32 := Scf.iv v74 c1_i32_33 k0_t2
  let v179 : BitVec 32 := Scalar.muli c2_i32_104 arg13
  let c1024_i32_105 : BitVec 32 := 1024#32
  let v180 : BitVec 32 := Scalar.muli v179 c1024_i32_105
  v180
def k0_off9 (i : grid0.Coords) (k0_t2 : Fin (k0_t2_loop i).trips) : Fin 3 → Nat :=
  let c0_114 : Index := 0#32
  let c0_115 : Index := 0#32
  let c2_i32_104 : BitVec 32 := 2#32
  let c0_i32_30 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let v70 : BitVec 32 := Scalar.subi v69 c0_i32_30
  let c1_i32_31 : BitVec 32 := 1#32
  let v72 : BitVec 32 := Scalar.divsi v70 c1_i32_31
  let v73 : BitVec 32 := Scalar.muli v72 c1_i32_31
  let v74 : BitVec 32 := Scalar.addi c0_i32_30 v73
  let c1_i32_33 : BitVec 32 := 1#32
  let arg13 : BitVec 32 := Scf.iv v74 c1_i32_33 k0_t2
  let v179 : BitVec 32 := Scalar.muli c2_i32_104 arg13
  let c1024_i32_105 : BitVec 32 := 1024#32
  let v180 : BitVec 32 := Scalar.muli v179 c1024_i32_105
  let v181 : BitVec 32 := v180
  let v194 : Index := Scalar.indexCast v181
  ![0, 0, v194.toNat]
def k0_cond1 (i : grid0.Coords) : BitVec 1 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c2_i32_37 : BitVec 32 := 2#32
  let c0_i32_38 : BitVec 32 := 0#32
  let v79 : BitVec 1 := Scalar.cmpi .eq c2_i32_37 c0_i32_38
  let c1_i32_39 : BitVec 32 := 1#32
  let v80 : BitVec 32 := Scalar.select v79 c1_i32_39 c2_i32_37
  let v81 : BitVec 32 := Scalar.remsi v28 v80
  let c0_i32_41 : BitVec 32 := 0#32
  let v83 : BitVec 1 := Scalar.cmpi .slt v81 c0_i32_41
  let c0_i32_42 : BitVec 32 := 0#32
  let v84 : BitVec 1 := Scalar.cmpi .slt v80 c0_i32_42
  let v85 : BitVec 1 := Scalar.xori v83 v84
  let c0_i32_40 : BitVec 32 := 0#32
  let v82 : BitVec 1 := Scalar.cmpi .ne v81 c0_i32_40
  let v86 : BitVec 1 := Scalar.andi v85 v82
  let v87 : BitVec 32 := Scalar.addi v81 v80
  let v88 : BitVec 32 := Scalar.select v86 v87 v81
  let c1_i32_43 : BitVec 32 := 1#32
  let v89 : BitVec 1 := Scalar.cmpi .eq v88 c1_i32_43
  let v90 : BitVec 32 := Scalar.extui v89
  let c0_i32_44 : BitVec 32 := 0#32
  let v91 : BitVec 1 := Scalar.cmpi .ne v90 c0_i32_44
  v91

def k0_mult10 (i : grid0.Coords) : BitVec 32 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c1_i32_64 : BitVec 32 := 1#32
  let v118 : BitVec 32 := Scalar.subi v28 c1_i32_64
  let c1024_i32_65 : BitVec 32 := 1024#32
  let v119 : BitVec 32 := Scalar.muli v118 c1024_i32_65
  v119
def k0_off10 (i : grid0.Coords) : Fin 3 → Nat :=
  let c0_66 : Index := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c1_i32_64 : BitVec 32 := 1#32
  let v118 : BitVec 32 := Scalar.subi v28 c1_i32_64
  let c1024_i32_65 : BitVec 32 := 1024#32
  let v119 : BitVec 32 := Scalar.muli v118 c1024_i32_65
  let v120 : BitVec 32 := v119
  let v121 : Index := Scalar.indexCast v120
  let c0_67 : Index := 0#32
  ![0, v121.toNat, 0]
def k0_mult11 (i : grid0.Coords) : BitVec 32 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let c0_i32_34 : BitVec 32 := 0#32
  let v75 : BitVec 1 := Scalar.cmpi .eq v69 c0_i32_34
  let c2_i32_35 : BitVec 32 := 2#32
  let v76 : BitVec 32 := Scalar.muli c2_i32_35 v69
  let c1_i32_36 : BitVec 32 := 1#32
  let v77 : BitVec 32 := Scalar.subi v76 c1_i32_36
  let v78 : BitVec 32 := Scalar.select v75 v28 v77
  let c1024_i32_74 : BitVec 32 := 1024#32
  let v133 : BitVec 32 := Scalar.muli v78 c1024_i32_74
  v133
def k0_off11 (i : grid0.Coords) : Fin 3 → Nat :=
  let c0_83 : Index := 0#32
  let c0_84 : Index := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let c0_i32_34 : BitVec 32 := 0#32
  let v75 : BitVec 1 := Scalar.cmpi .eq v69 c0_i32_34
  let c2_i32_35 : BitVec 32 := 2#32
  let v76 : BitVec 32 := Scalar.muli c2_i32_35 v69
  let c1_i32_36 : BitVec 32 := 1#32
  let v77 : BitVec 32 := Scalar.subi v76 c1_i32_36
  let v78 : BitVec 32 := Scalar.select v75 v28 v77
  let c1024_i32_74 : BitVec 32 := 1024#32
  let v133 : BitVec 32 := Scalar.muli v78 c1024_i32_74
  let v134 : BitVec 32 := v133
  let v147 : Index := Scalar.indexCast v134
  ![0, 0, v147.toNat]
def k0_mult12 (i : grid0.Coords) : BitVec 32 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c1_i32_90 : BitVec 32 := 1#32
  let v159 : BitVec 32 := Scalar.subi v28 c1_i32_90
  let c1024_i32_91 : BitVec 32 := 1024#32
  let v160 : BitVec 32 := Scalar.muli v159 c1024_i32_91
  v160
def k0_off12 (i : grid0.Coords) : Fin 3 → Nat :=
  let c0_100 : Index := 0#32
  let c0_101 : Index := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c1_i32_90 : BitVec 32 := 1#32
  let v159 : BitVec 32 := Scalar.subi v28 c1_i32_90
  let c1024_i32_91 : BitVec 32 := 1024#32
  let v160 : BitVec 32 := Scalar.muli v159 c1024_i32_91
  let v161 : BitVec 32 := v160
  let v174 : Index := Scalar.indexCast v161
  ![0, 0, v174.toNat]
def k0_cond2 (i : grid0.Coords) : BitVec 1 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c2_i32_45 : BitVec 32 := 2#32
  let c0_i32_46 : BitVec 32 := 0#32
  let v92 : BitVec 1 := Scalar.cmpi .eq c2_i32_45 c0_i32_46
  let c1_i32_47 : BitVec 32 := 1#32
  let v93 : BitVec 32 := Scalar.select v92 c1_i32_47 c2_i32_45
  let v94 : BitVec 32 := Scalar.remsi v28 v93
  let c0_i32_49 : BitVec 32 := 0#32
  let v96 : BitVec 1 := Scalar.cmpi .slt v94 c0_i32_49
  let c0_i32_50 : BitVec 32 := 0#32
  let v97 : BitVec 1 := Scalar.cmpi .slt v93 c0_i32_50
  let v98 : BitVec 1 := Scalar.xori v96 v97
  let c0_i32_48 : BitVec 32 := 0#32
  let v95 : BitVec 1 := Scalar.cmpi .ne v94 c0_i32_48
  let v99 : BitVec 1 := Scalar.andi v98 v95
  let v100 : BitVec 32 := Scalar.addi v94 v93
  let v101 : BitVec 32 := Scalar.select v99 v100 v94
  let c0_i32_51 : BitVec 32 := 0#32
  let v102 : BitVec 1 := Scalar.cmpi .eq v101 c0_i32_51
  let v103 : BitVec 32 := Scalar.extui v102
  let c0_i32_52 : BitVec 32 := 0#32
  let v104 : BitVec 1 := Scalar.cmpi .ne v103 c0_i32_52
  v104

def k0_mult13 (i : grid0.Coords) : BitVec 32 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let c0_i32_34 : BitVec 32 := 0#32
  let v75 : BitVec 1 := Scalar.cmpi .eq v69 c0_i32_34
  let c2_i32_35 : BitVec 32 := 2#32
  let v76 : BitVec 32 := Scalar.muli c2_i32_35 v69
  let c1_i32_36 : BitVec 32 := 1#32
  let v77 : BitVec 32 := Scalar.subi v76 c1_i32_36
  let v78 : BitVec 32 := Scalar.select v75 v28 v77
  let c1024_i32_64 : BitVec 32 := 1024#32
  let v118 : BitVec 32 := Scalar.muli v78 c1024_i32_64
  v118
def k0_off13 (i : grid0.Coords) : Fin 3 → Nat :=
  let c0_73 : Index := 0#32
  let c0_74 : Index := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_8 : BitVec 32 := 0#32
  let v15 : BitVec 1 := Scalar.cmpi .slt arg1 c0_i32_8
  let v16 : BitVec 32 := Scalar.extui v15
  let v17 : BitVec 32 := Scalar.subi v14 v16
  let c2_i32 : BitVec 32 := 2#32
  let c0_i32_9 : BitVec 32 := 0#32
  let v18 : BitVec 1 := Scalar.cmpi .sgt c2_i32 c0_i32_9
  let v19 : BitVec 32 := Scalar.extui v18
  let c0_i32_10 : BitVec 32 := 0#32
  let v20 : BitVec 1 := Scalar.cmpi .slt c2_i32 c0_i32_10
  let v21 : BitVec 32 := Scalar.extui v20
  let v22 : BitVec 32 := Scalar.subi v19 v21
  let v23 : BitVec 1 := Scalar.cmpi .ne v17 v22
  let v24 : BitVec 32 := Scalar.remsi arg1 c2_i32
  let c0_i32_11 : BitVec 32 := 0#32
  let v25 : BitVec 1 := Scalar.cmpi .ne v24 c0_i32_11
  let v26 : BitVec 1 := Scalar.andi v23 v25
  let v12 : BitVec 32 := Scalar.divsi arg1 c2_i32
  let c1_i32 : BitVec 32 := 1#32
  let v27 : BitVec 32 := Scalar.subi v12 c1_i32
  let v28 : BitVec 32 := Scalar.select v26 v27 v12
  let c0_i32_23 : BitVec 32 := 0#32
  let v54 : BitVec 1 := Scalar.cmpi .sgt v28 c0_i32_23
  let v55 : BitVec 32 := Scalar.extui v54
  let c0_i32_24 : BitVec 32 := 0#32
  let v56 : BitVec 1 := Scalar.cmpi .slt v28 c0_i32_24
  let v57 : BitVec 32 := Scalar.extui v56
  let v58 : BitVec 32 := Scalar.subi v55 v57
  let c2_i32_22 : BitVec 32 := 2#32
  let c0_i32_25 : BitVec 32 := 0#32
  let v59 : BitVec 1 := Scalar.cmpi .sgt c2_i32_22 c0_i32_25
  let v60 : BitVec 32 := Scalar.extui v59
  let c0_i32_26 : BitVec 32 := 0#32
  let v61 : BitVec 1 := Scalar.cmpi .slt c2_i32_22 c0_i32_26
  let v62 : BitVec 32 := Scalar.extui v61
  let v63 : BitVec 32 := Scalar.subi v60 v62
  let v64 : BitVec 1 := Scalar.cmpi .ne v58 v63
  let v65 : BitVec 32 := Scalar.remsi v28 c2_i32_22
  let c0_i32_27 : BitVec 32 := 0#32
  let v66 : BitVec 1 := Scalar.cmpi .ne v65 c0_i32_27
  let v67 : BitVec 1 := Scalar.andi v64 v66
  let v53 : BitVec 32 := Scalar.divsi v28 c2_i32_22
  let c1_i32_28 : BitVec 32 := 1#32
  let v68 : BitVec 32 := Scalar.subi v53 c1_i32_28
  let v69 : BitVec 32 := Scalar.select v67 v68 v53
  let c0_i32_34 : BitVec 32 := 0#32
  let v75 : BitVec 1 := Scalar.cmpi .eq v69 c0_i32_34
  let c2_i32_35 : BitVec 32 := 2#32
  let v76 : BitVec 32 := Scalar.muli c2_i32_35 v69
  let c1_i32_36 : BitVec 32 := 1#32
  let v77 : BitVec 32 := Scalar.subi v76 c1_i32_36
  let v78 : BitVec 32 := Scalar.select v75 v28 v77
  let c1024_i32_64 : BitVec 32 := 1024#32
  let v118 : BitVec 32 := Scalar.muli v78 c1024_i32_64
  let v119 : BitVec 32 := v118
  let v132 : Index := Scalar.indexCast v119
  ![0, 0, v132.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x80x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel25Ideal.lean ====
variable {F : FTy → Type} [FloatOps F] [Named F]
def κ : String → Option EReal := fun
  | "mask" => some ⊥
  | _ => none
-- ==== Reference25Ideal.lean ====
abbrev S8x16384x64 : Shape := ⟨3, ![8, 16384, 64]⟩
abbrev S8x16384 : Shape := ⟨2, ![8, 16384]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩

abbrev nBuf : Space → Nat
  | .hbm => 43
  | .vmem => 0
  | .smem => 0
  | _ => 0

abbrev bufTy : (tb : Table) → Fin (tcTables nBuf tb) → BufTy
  | .hbm, ⟨0, _⟩ => ⟨S8x16384x64, .f32⟩
  | .hbm, ⟨1, _⟩ => ⟨S8x16384x64, .f32⟩
  | .hbm, ⟨2, _⟩ => ⟨S8x16384x64, .f32⟩
  | .hbm, ⟨3, _⟩ => ⟨S8x16384, .f32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S8x16384x1, .f32⟩
  | .hbm, ⟨9, _⟩ => ⟨S8x16384x16384, .f32⟩
  | .hbm, ⟨10, _⟩ => ⟨S8x16384x16384, .f32⟩
  | .hbm, ⟨11, _⟩ => ⟨S8x1x16384, .f32⟩
  | .hbm, ⟨12, _⟩ => ⟨S8x16384x16384, .f32⟩
  | .hbm, ⟨13, _⟩ => ⟨S8x16384x16384, .f32⟩
  | .hbm, ⟨14, _⟩ => ⟨S16384, .i32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S_, .f32⟩
  | .hbm, ⟨21, _⟩ => ⟨S_, .f32⟩
  | .hbm, ⟨22, _⟩ => ⟨S8x16384x16384, .i1⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384, .f32⟩
  | .hbm, ⟨27, _⟩ => ⟨S8x16384x1, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S_, .f32⟩
  | .hbm, ⟨32, _⟩ => ⟨S8x16384, .f32⟩
  | .hbm, ⟨33, _⟩ => ⟨S8x16384x1, .f32⟩
  | .hbm, ⟨34, _⟩ => ⟨S8x16384x1, .f32⟩
  | .hbm, ⟨35, _⟩ => ⟨S8x16384x1, .f32⟩
  | .hbm, ⟨36, _⟩ => ⟨S8x16384, .f32⟩
  | .hbm, ⟨37, _⟩ => ⟨S8x16384, .f32⟩
  | .hbm, ⟨38, _⟩ => ⟨S8x16384x16384, .f32⟩
  | .hbm, ⟨39, _⟩ => ⟨S8x16384x16384, .f32⟩
  | .hbm, ⟨40, _⟩ => ⟨S8x16384x64, .f32⟩
  | .hbm, ⟨41, _⟩ => ⟨S8x64x16384, .f32⟩
  | .hbm, ⟨42, _⟩ => ⟨S8x1x16384, .f32⟩
  | _, _ => ⟨S8x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Loop.lean ====
/-
  One trip of the gradient kernel's loop over the query tiles, and the loop itself.

  At grid point `i = (head, key tile)` the body keeps three accumulators: the head's whole `dqᵀ` block (80 × 16384, the
  resident output window), and the key tile's `dkᵀ` (80 × 512) and `dvᵀ` (64 × 512) in scratch. A trip of the loop reads
  one tile of 1024 queries and adds its part to all three. `trip` states what one trip makes of the three accumulators
  as a function of what they hold, `state` iterates it, and the loop is gone through by the invariant that the three
  buffers read `state … k` before trip `k`. The printed remainder loop makes no trip.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.Pipeline.Value

@[expose] public section

set_option maxRecDepth 8192

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Writing one rectangle -/

/-- `X` with the rectangle of extent `size` at `off` replaced by `w`. -/
def putR {s : Shape} {α : Type} (off size : Fin s.rank → ℕ) (w : (⟨s.rank, size⟩ : Shape).Idx → α) (X : s.Idx → α) : s.Idx → α :=
  fun y => if h : ∀ a, off a ≤ (y a).val ∧ (y a).val < off a + size a then
    w (Rect.unitLocal (s := s) (off := off) (size := size) y h) else X y

/-- One write through a unit-stride rectangle, read back. -/
theorem read_put {κ : Kind} {sp : Space} {s : Shape} {e : EltTy} (v : View sig κ sp s e) (f : v.ty.Contents (Elt F))
    (off size : Fin s.rank → ℕ) (inb : ∀ a, off a + size a ≤ s.size a) (w : (Rect.unit off size inb).shape.Idx → Elt F e) :
    v.read (Elt F) (v.writes (Elt F) f [⟨Rect.unit off size inb, w⟩]) = putR off size w (v.read (Elt F) f) :=
  funext fun y => View.read_writes_cons_unit v f inb w [] y rfl

theorem z2 : (![0, 0] : Fin 2 → Nat) = fun _ => 0 := funext fun a => by fin_cases a <;> rfl
theorem z3 : (![0, 0, 0] : Fin 3 → Nat) = fun _ => 0 := funext fun a => by fin_cases a <;> rfl

/-- A write over the whole of the shape leaves what was written. -/
theorem putR_whole {s : Shape} {α : Type} {off : Fin s.rank → ℕ} (h0 : off = fun _ => 0) (w X : s.Idx → α) : putR (s := s) off s.size w X = w := by
  subst h0
  funext y
  unfold putR
  rw [dif_pos fun a => ⟨Nat.zero_le _, by rw [Nat.zero_add]; exact (y a).isLt⟩]
  congr 1

/-! ## One trip -/

/-- The three accumulators: `dqᵀ` of the head, `dkᵀ` and `dvᵀ` of the key tile. -/
structure Acc (F : FTy → Type) where
  dq : Vec F S1x80x16384 .f32
  dk : Vec F S80x512 .f32
  dv : Vec F S64x512 .f32

/-- The tile of 1024 queries at `off` of a 128-row operand. -/
abbrev qTile (off : Fin 3 → ℕ) (inb : ∀ a, off a + S1x128x1024.size a ≤ S1x128x16384.size a) (X : Vec F S1x128x16384 .bf16) : Vec F S1x128x1024 .bf16 :=
  View.ld X (Rect.unit (s := S1x128x16384) off S1x128x1024.size inb)
/-- The tile of 1024 queries at `off` of the accumulator `dqᵀ`. -/
abbrev dTile (off : Fin 3 → ℕ) (inb : ∀ a, off a + S1x80x1024.size a ≤ S1x80x16384.size a) (X : Vec F S1x80x16384 .f32) : Vec F S1x80x1024 .f32 :=
  View.ld X (Rect.unit (s := S1x80x16384) off S1x80x1024.size inb)

/-- What a trip makes of the accumulators: the operands `v4`, `v6`, `v8` are the key tile's, `X5` and `X6` the head's. -/
def trip (i : grid0.Coords) (v4 : FVec F S512x128 .bf16) (v6 : FVec F S80x512 .bf16) (v8 : FVec F S512x128 .bf16)
    (X5 X6 : Vec F S1x128x16384 .bf16) (k : Fin (k0_t1_loop i).trips) (A : Acc F) : Acc F where
  dq := putR (s := S1x80x16384) (k0_off4 i k) S1x80x1024.size
    (k0_pay30 (k0_pay8 v4 v6 v8 (qTile (k0_off3 i k) (k0_off3_inb i k) X5) (qTile (k0_off3 i k) (k0_off3_inb i k) X6)
      (dTile (k0_off4 i k) (k0_off4_inb i k) A.dq))) A.dq
  dk := k0_pay7 v4 v8 (qTile (k0_off3 i k) (k0_off3_inb i k) X5) (qTile (k0_off3 i k) (k0_off3_inb i k) X6) A.dk
  dv := k0_pay5 v4 (qTile (k0_off3 i k) (k0_off3_inb i k) X5) (qTile (k0_off3 i k) (k0_off3_inb i k) X6) A.dv

/-- The accumulators before trip `k`. -/
def state (i : grid0.Coords) (v4 : FVec F S512x128 .bf16) (v6 : FVec F S80x512 .bf16) (v8 : FVec F S512x128 .bf16)
    (X5 X6 : Vec F S1x128x16384 .bf16) (A : Acc F) : ℕ → Acc F
  | 0 => A
  | k + 1 => if h : k < (k0_t1_loop i).trips then trip i v4 v6 v8 X5 X6 ⟨k, h⟩ (state i v4 v6 v8 X5 X6 A k) else state i v4 v6 v8 X5 X6 A k

theorem state_succ (i : grid0.Coords) (v4 : FVec F S512x128 .bf16) (v6 : FVec F S80x512 .bf16) (v8 : FVec F S512x128 .bf16)
    (X5 X6 : Vec F S1x128x16384 .bf16) (A : Acc F) (k : Fin (k0_t1_loop i).trips) :
    state i v4 v6 v8 X5 X6 A (k.val + 1) = trip i v4 v6 v8 X5 X6 k (state i v4 v6 v8 X5 X6 A k.val) := by
  rw [state, dif_pos k.isLt]

section Loop

variable (c : Dev nD) (i : grid0.Coords) (arg2 : Memref sig .tc .vmem S1x512x128 .bf16) (harg2 : arg2.IsWhole) (arg3 : Memref sig .tc .vmem S1x128x512 .bf16) (harg3 : arg3.IsWhole) (arg4 : Memref sig .tc .vmem S1x512x128 .bf16) (harg4 : arg4.IsWhole) (arg5 : Memref sig .tc .vmem S1x128x16384 .bf16) (harg5 : arg5.IsWhole) (arg6 : Memref sig .tc .vmem S1x128x16384 .bf16) (harg6 : arg6.IsWhole) (arg7 : Memref sig .tc .vmem S1x80x16384 .f32) (harg7 : arg7.IsWhole) (arg8 : Memref sig .tc .vmem S1x80x512 .f32) (harg8 : arg8.IsWhole) (arg9 : Memref sig .tc .vmem S1x64x512 .f32) (harg9 : arg9.IsWhole) (arg10 : Memref sig .tc .vmem S80x512 .f32) (harg10 : arg10.IsWhole) (arg11 : Memref sig .tc .vmem S64x512 .f32) (harg11 : arg11.IsWhole)
  (arg1 : BitVec 32) (v4 : FVec F S512x128 .bf16) (v6 : FVec F S80x512 .bf16) (v8 : FVec F S512x128 .bf16) (v33 : BitVec 32) (v38 : BitVec 32) (v66 : FVec F S512x1024 .bf16) (v70 : FVec F S80x512 .f32)

/-- The five buffers a trip touches, each held whole, the accumulators reading `A`. -/
abbrev Held (X5 : BufTy.Contents (Elt F) arg5.view.ty) (X6 : BufTy.Contents (Elt F) arg6.view.ty) (A : Acc F) : sProp 𝕄 :=
  iprop((arg5.view.loc (c : Thread nD τ) ↦[arg5.view.set]{fullShare} X5) ∗ (arg6.view.loc (c : Thread nD τ) ↦[arg6.view.set]{fullShare} X6)
    ∗ (∃ f, (arg7.view.loc (c : Thread nD τ) ↦[arg7.view.set]{fullShare} f) ∗ ⌜arg7.view.read (Elt F) f = A.dq⌝)
    ∗ (∃ f, (arg10.view.loc (c : Thread nD τ) ↦[arg10.view.set]{fullShare} f) ∗ ⌜arg10.view.read (Elt F) f = A.dk⌝)
    ∗ (∃ f, (arg11.view.loc (c : Thread nD τ) ↦[arg11.view.set]{fullShare} f) ∗ ⌜arg11.view.read (Elt F) f = A.dv⌝))

/-- One trip, run: from the accumulators at `A` to the accumulators at `trip … A`. -/
theorem trip_run (𝒱 : Variants) (bd : Option 𝒱.V) (E : Set ℕ) (v83 : BitVec 32)
    (X5 : BufTy.Contents (Elt F) arg5.view.ty) (X6 : BufTy.Contents (Elt F) arg6.view.ty) (k : Fin (k0_t1_loop i).trips) (A : Acc F) :
    Held (F := F) c arg5 arg6 arg7 arg10 arg11 X5 X6 A
    ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg1 v4 v6 v8 v33 v38 v66 v70 v83 k PUnit.unit)
        (fun _ => Held (F := F) c arg5 arg6 arg7 arg10 arg11 X5 X6
          (trip i v4 v6 v8 (arg5.view.read (Elt F) X5) (arg6.view.read (Elt F) X6) k A)) := by
  unfold k0_t1_body
  iintro ⟨H5, H6, ⟨%f7, H7, %h7⟩, ⟨%f10, H10, %h10⟩, ⟨%f11, H11, %h11⟩⟩
  sl_exec
  sl_step
  isplitl [H5]; · iexact H5
  isplitl [H6]; · iexact H6
  isplitl [H7]
  · iexists _; isplitl [H7]; · iexact H7
    ipureintro
    rw [read_put, h7]; unfold trip; dsimp only
    rw [← h7]; rfl
  isplitl [H10]
  · iexists _; isplitl [H10]; · iexact H10
    ipureintro
    rw [read_put, putR_whole z2]; unfold trip; dsimp only
    rw [← h10]
    exact congrArg (k0_pay7 v4 v8 (qTile (k0_off3 i k) (k0_off3_inb i k) (arg5.view.read (Elt F) X5))
      (qTile (k0_off3 i k) (k0_off3_inb i k) (arg6.view.read (Elt F) X6))) (View.ld_unit_zero (S := S80x512) z2 _ _)
  · iexists _; isplitl [H11]; · iexact H11
    ipureintro
    rw [read_put, putR_whole z2]; unfold trip; dsimp only
    rw [← h11]
    exact congrArg (k0_pay5 v4 (qTile (k0_off3 i k) (k0_off3_inb i k) (arg5.view.read (Elt F) X5))
      (qTile (k0_off3 i k) (k0_off3_inb i k) (arg6.view.read (Elt F) X6))) (View.ld_unit_zero (S := S64x512) z2 _ _)

end Loop

end Cert.KernelIdeal.Fox

end
-- ==== Proof.Words.lean ====
/-
  The integer words of the gradient kernel in closed form: at key tile `j` the query tile that meets the diagonal is
  `j / 2`, the loop over the later ones makes `15 - j / 2` trips, and trip `k` reads tile `j / 2 + 1 + k`.
-/
module

public import proofs.«01_k».proof.Proof.Loop

@[expose] public section

set_option maxRecDepth 8192

namespace Cert.KernelIdeal.Fox

open Cert.KernelIdeal Cert.KernelIdeal.Gen
open Idealize.ShloMosaic Idealize.ShloMosaic.TcCoe Idealize.ShloMosaic.Tactic

/-- The key tile's number as a word. -/
abbrev keyTile (i : grid0.Coords) : BitVec 32 := BitVec.ofNat 32 (i 1).val
/-- The quotient of a word by two, rounded to zero. -/
abbrev halfW (w : BitVec 32) : BitVec 32 := Scalar.divsi w 2#32
/-- Whether rounding the quotient down takes one more off. -/
abbrev downW (w : BitVec 32) : BitVec 1 :=
  Scalar.andi (Scalar.cmpi .ne (Scalar.subi (Scalar.extui (Scalar.cmpi .sgt w 0#32)) (Scalar.extui (Scalar.cmpi .slt w 0#32)) : BitVec 32)
      (Scalar.subi (Scalar.extui (Scalar.cmpi .sgt (2#32 : BitVec 32) 0#32)) (Scalar.extui (Scalar.cmpi .slt (2#32 : BitVec 32) 0#32))))
    (Scalar.cmpi .ne (Scalar.remsi w 2#32) 0#32)
/-- The query tile that meets the diagonal, as a word. -/
abbrev diagW (w : BitVec 32) : BitVec 32 := Scalar.select (downW w) (Scalar.subi (halfW w) 1#32) (halfW w)

theorem diagW_eq : ∀ n : Fin 32, diagW (BitVec.ofNat 32 n.val) = BitVec.ofNat 32 (n.val / 2) := by decide

theorem key_lt (i : grid0.Coords) : (i 1).val < 32 := (i 1).isLt

theorem off_diag : ∀ n : Fin 32, (Scalar.indexCast (Scalar.muli (BitVec.ofNat 32 (n.val / 2)) 1024#32) : BitVec 32).toNat = 1024 * (n.val / 2) := by decide
theorem off_later : ∀ n : Fin 32, ∀ k : Fin 16, (Scalar.indexCast (Scalar.muli (Scf.iv (Scalar.addi (BitVec.ofNat 32 (n.val / 2)) 1#32) 1#32 k.val) 1024#32) : BitVec 32).toNat
    = 1024 * (n.val / 2 + 1 + k.val) := by decide

theorem off1_eq (i : grid0.Coords) : k0_off1 i = ![0, 0, 1024 * ((i 1).val / 2)] := by
  have e : k0_off1 i = ![0, 0, (Scalar.indexCast (Scalar.muli (diagW (keyTile i)) 1024#32) : BitVec 32).toNat] := rfl
  rw [e, diagW_eq ⟨(i 1).val, key_lt i⟩, off_diag ⟨(i 1).val, key_lt i⟩]
theorem off2_eq (i : grid0.Coords) : k0_off2 i = ![0, 0, 1024 * ((i 1).val / 2)] := off1_eq i

theorem trips_le (i : grid0.Coords) : (k0_t1_loop i).trips ≤ 16 := (k0_t1_abs i).2.1

theorem off3_eq (i : grid0.Coords) (k : Fin (k0_t1_loop i).trips) : k0_off3 i k = ![0, 0, 1024 * ((i 1).val / 2 + 1 + k.val)] := by
  have e : k0_off3 i k = ![0, 0, (Scalar.indexCast (Scalar.muli (Scf.iv (Scalar.addi (diagW (keyTile i)) 1#32) 1#32 k.val) 1024#32) : BitVec 32).toNat] := rfl
  rw [e, diagW_eq ⟨(i 1).val, key_lt i⟩, off_later ⟨(i 1).val, key_lt i⟩ ⟨k.val, Nat.lt_of_lt_of_le k.isLt (trips_le i)⟩]
theorem off4_eq (i : grid0.Coords) (k : Fin (k0_t1_loop i).trips) : k0_off4 i k = ![0, 0, 1024 * ((i 1).val / 2 + 1 + k.val)] := off3_eq i k

instance (i : grid0.Coords) : ClosedOff (k0_off1 i) := ⟨_, off1_eq i⟩
instance (i : grid0.Coords) : ClosedOff (k0_off2 i) := ⟨_, off2_eq i⟩
instance (i : grid0.Coords) (k : Fin (k0_t1_loop i).trips) : ClosedOff (k0_off3 i k) := ⟨_, off3_eq i k⟩
instance (i : grid0.Coords) (k : Fin (k0_t1_loop i).trips) : ClosedOff (k0_off4 i k) := ⟨_, off4_eq i k⟩

/-- The loop's trips, by its word. -/
def loopAt (w : BitVec 32) : Scf.Loop 32 :=
  { lb := Scalar.addi (diagW w) 1#32,
    ub := Scalar.addi (Scalar.addi (diagW w) 1#32) (Scalar.muli (Scalar.divsi (Scalar.subi 16#32 (Scalar.addi (diagW w) 1#32)) 1#32) 1#32), st := 1#32 }
theorem loopAt_trips : ∀ n : Fin 32, (loopAt (BitVec.ofNat 32 n.val)).trips = 15 - n.val / 2 := by decide
theorem trips_eq (i : grid0.Coords) : (k0_t1_loop i).trips = 15 - (i 1).val / 2 := loopAt_trips ⟨(i 1).val, key_lt i⟩

/-- The head's first key tile. -/
abbrev isFirst (i : grid0.Coords) : BitVec 1 := Scalar.cmpi .ne (Scalar.extui (Scalar.cmpi .eq (keyTile i) 0#32) : BitVec 32) 0#32
/-- The head's last key tile. -/
abbrev isLast (i : grid0.Coords) : BitVec 1 := Scalar.cmpi .ne (Scalar.extui (Scalar.cmpi .eq (keyTile i) 31#32) : BitVec 32) 0#32

theorem first_word : ∀ n : Fin 32, (Scalar.cmpi .ne (Scalar.extui (Scalar.cmpi .eq (BitVec.ofNat 32 n.val) 0#32) : BitVec 32) 0#32 = 1#1) ↔ n.val = 0 := by decide
theorem last_word : ∀ n : Fin 32, (Scalar.cmpi .ne (Scalar.extui (Scalar.cmpi .eq (BitVec.ofNat 32 n.val) 31#32) : BitVec 32) 0#32 = 1#1) ↔ n.val = 31 := by decide
theorem isFirst_iff (i : grid0.Coords) : isFirst i = 1#1 ↔ (i 1).val = 0 := first_word ⟨(i 1).val, key_lt i⟩
theorem isLast_iff (i : grid0.Coords) : isLast i = 1#1 ↔ (i 1).val = 31 := last_word ⟨(i 1).val, key_lt i⟩

end Cert.KernelIdeal.Fox
-- ==== Proof.Body.lean ====
/-
  The gradient kernel's body at one grid point, run once, as a statement about what the five operand windows and the
  accumulators read.

  The body clears the head's `dqᵀ` block at the head's first key tile, clears the two scratch accumulators, adds the
  query tile that meets the diagonal (with the causal mask), goes through the later query tiles (`Loop`), copies the
  scratch accumulators to the two windows of the key tile, and scales the first 64 rows of `dqᵀ` at the head's last key
  tile. The three results are functions (`outDq`, `outDk`, `outDv`) of the operands and of what the `dqᵀ` window held.
-/
module

public import proofs.«01_k».proof.Proof.Words
public import proofs.«01_k».proof.Proof.Gen.KernelIdeal.Points

@[expose] public section

set_option maxRecDepth 8192

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What the body makes of its windows -/

/-- The key tile's rows (512 × 128), from the window. -/
abbrev keyRows (X2 : Vec F S1x512x128 .bf16) : FVec F S512x128 .bf16 :=
  k0_pay17 (View.ld X2 (Rect.unit (s := S1x512x128) ![0, 0, 0] S1x512x128.size inb_S1x512x128_S1x512x128_0_0_0))
/-- The key tile's columns' first 80 rows, from the window. -/
abbrev keyCols (X3 : Vec F S1x128x512 .bf16) : FVec F S80x512 .bf16 :=
  k0_pay18 (View.ld X3 (Rect.unit (s := S1x128x512) ![0, 0, 0] S1x80x512.size inb_S1x128x512_S1x80x512_0_0_0))
/-- The value tile's rows, from the window. -/
abbrev valRows (X4 : Vec F S1x512x128 .bf16) : FVec F S512x128 .bf16 :=
  k0_pay19 (View.ld X4 (Rect.unit (s := S1x512x128) ![0, 0, 0] S1x512x128.size inb_S1x512x128_S1x512x128_0_0_0))

/-- The accumulators when the body has cleared what it clears. -/
def start (i : grid0.Coords) (D : Vec F S1x80x16384 .f32) : Acc F := ⟨if isFirst i = 1#1 then k0_pay16 else D, k0_pay20, k0_pay21⟩

/-- The query tile that meets the diagonal. -/
def diag (i : grid0.Coords) (v4 : FVec F S512x128 .bf16) (v6 : FVec F S80x512 .bf16) (v8 : FVec F S512x128 .bf16)
    (X5 X6 : Vec F S1x128x16384 .bf16) (A : Acc F) : Acc F where
  dq := putR (s := S1x80x16384) (k0_off2 i) S1x80x1024.size
    (k0_pay29 v6 (k0_pay26 (keyTile i) v4 v8 (halfW (keyTile i)) (downW (keyTile i)) (qTile (k0_off1 i) (k0_off1_inb i) X5) (qTile (k0_off1 i) (k0_off1_inb i) X6))
      (dTile (k0_off2 i) (k0_off2_inb i) A.dq)) A.dq
  dk := k0_pay28 (k0_pay27 (keyTile i) v4 v8 (halfW (keyTile i)) (downW (keyTile i)) (qTile (k0_off1 i) (k0_off1_inb i) X5) (qTile (k0_off1 i) (k0_off1_inb i) X6) A.dk)
  dv := k0_pay25 (keyTile i) v4 (halfW (keyTile i)) (downW (keyTile i)) (qTile (k0_off1 i) (k0_off1_inb i) X5) (qTile (k0_off1 i) (k0_off1_inb i) X6) A.dv

/-- The accumulators after all the query tiles. -/
def total (i : grid0.Coords) (X2 : Vec F S1x512x128 .bf16) (X3 : Vec F S1x128x512 .bf16) (X4 : Vec F S1x512x128 .bf16)
    (X5 X6 : Vec F S1x128x16384 .bf16) (D : Vec F S1x80x16384 .f32) : Acc F :=
  state i (keyRows X2) (keyCols X3) (valRows X4) X5 X6 (diag i (keyRows X2) (keyCols X3) (valRows X4) X5 X6 (start i D)) (k0_t1_loop i).trips

/-- The scaling of the first 64 rows at the head's last key tile. -/
def scaled (i : grid0.Coords) (D : Vec F S1x80x16384 .f32) : Vec F S1x80x16384 .f32 :=
  if isLast i = 1#1 then putR (s := S1x80x16384) ![0, 0, 0] S1x64x16384.size
    (k0_pay1 (View.ld D (Rect.unit (s := S1x80x16384) ![0, 0, 0] S1x64x16384.size inb_S1x80x16384_S1x64x16384_0_0_0))) D else D

/-- One write through a unit-stride rectangle on top of others, read back. -/
theorem read_put_cons {κ : Kind} {sp : Space} {s : Shape} {e : EltTy} (v : View sig κ sp s e) (f : v.ty.Contents (Elt F))
    (off size : Fin s.rank → ℕ) (inb : ∀ a, off a + size a ≤ s.size a) (w : (Rect.unit off size inb).shape.Idx → Elt F e)
    (L : List (View.Piece (Elt F) s e)) :
    v.read (Elt F) (v.writes (Elt F) f (⟨Rect.unit off size inb, w⟩ :: L)) = putR off size w (v.read (Elt F) (v.writes (Elt F) f L)) :=
  funext fun y => View.read_writes_cons_unit v f inb w L y rfl

section Run

variable (c : Dev nD) (i : grid0.Coords) (arg2 : Memref sig .tc .vmem S1x512x128 .bf16) (harg2 : arg2.IsWhole) (arg3 : Memref sig .tc .vmem S1x128x512 .bf16) (harg3 : arg3.IsWhole) (arg4 : Memref sig .tc .vmem S1x512x128 .bf16) (harg4 : arg4.IsWhole) (arg5 : Memref sig .tc .vmem S1x128x16384 .bf16) (harg5 : arg5.IsWhole) (arg6 : Memref sig .tc .vmem S1x128x16384 .bf16) (harg6 : arg6.IsWhole) (arg7 : Memref sig .tc .vmem S1x80x16384 .f32) (harg7 : arg7.IsWhole) (arg8 : Memref sig .tc .vmem S1x80x512 .f32) (harg8 : arg8.IsWhole) (arg9 : Memref sig .tc .vmem S1x64x512 .f32) (harg9 : arg9.IsWhole) (arg10 : Memref sig .tc .vmem S80x512 .f32) (harg10 : arg10.IsWhole) (arg11 : Memref sig .tc .vmem S64x512 .f32) (harg11 : arg11.IsWhole)

set_option maxHeartbeats 1000000 in
/-- THE BODY: the operands stay, the three output windows read the functions above of what was read before. -/
theorem body_run (𝒱 : Variants) (bd : Option 𝒱.V) (E : Set ℕ)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X8 : BufTy.Contents (Elt F) arg8.view.ty) (X9 : BufTy.Contents (Elt F) arg9.view.ty) (X10 : BufTy.Contents (Elt F) arg10.view.ty)
    (X11 : BufTy.Contents (Elt F) arg11.view.ty) (A T : Acc F)
    (hA : A = diag i (keyRows (arg2.view.read (Elt F) X2)) (keyCols (arg3.view.read (Elt F) X3)) (valRows (arg4.view.read (Elt F) X4))
      (arg5.view.read (Elt F) X5) (arg6.view.read (Elt F) X6) (start i (arg7.view.read (Elt F) X7)))
    (hT : T = state i (keyRows (arg2.view.read (Elt F) X2)) (keyCols (arg3.view.read (Elt F) X3)) (valRows (arg4.view.read (Elt F) X4))
      (arg5.view.read (Elt F) X5) (arg6.view.read (Elt F) X6) A (k0_t1_loop i).trips) :
    (iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg5.view.loc (c : Thread nD τ) ↦[arg5.view.set]{fullShare} X5)
      ∗ (arg6.view.loc (c : Thread nD τ) ↦[arg6.view.set]{fullShare} X6) ∗ (arg7.view.loc (c : Thread nD τ) ↦[arg7.view.set]{fullShare} X7)
      ∗ (arg8.view.loc (c : Thread nD τ) ↦[arg8.view.set]{fullShare} X8) ∗ (arg9.view.loc (c : Thread nD τ) ↦[arg9.view.set]{fullShare} X9)
      ∗ (arg10.view.loc (c : Thread nD τ) ↦[arg10.view.set]{fullShare} X10) ∗ (arg11.view.loc (c : Thread nD τ) ↦[arg11.view.set]{fullShare} X11)) : sProp 𝕄)
    ⊢ wp frame (wpE (defs₀ (F := F)) 𝒱 (c : Thread nD τ) bd) E (cc0_fox_bwd (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{fullShare} X2) ∗ (arg3.view.loc (c : Thread nD τ) ↦[arg3.view.set]{fullShare} X3)
          ∗ (arg4.view.loc (c : Thread nD τ) ↦[arg4.view.set]{fullShare} X4) ∗ (arg5.view.loc (c : Thread nD τ) ↦[arg5.view.set]{fullShare} X5)
          ∗ (arg6.view.loc (c : Thread nD τ) ↦[arg6.view.set]{fullShare} X6)
          ∗ (∃ f, (arg7.view.loc (c : Thread nD τ) ↦[arg7.view.set]{fullShare} f) ∗ ⌜arg7.view.read (Elt F) f = scaled i T.dq⌝)
          ∗ (∃ f, (arg8.view.loc (c : Thread nD τ) ↦[arg8.view.set]{fullShare} f) ∗ ⌜arg8.view.read (Elt F) f = k0_pay32 T.dk⌝)
          ∗ (∃ f, (arg9.view.loc (c : Thread nD τ) ↦[arg9.view.set]{fullShare} f) ∗ ⌜arg9.view.read (Elt F) f = k0_pay33 T.dv⌝)
          ∗ (∃ f, (arg10.view.loc (c : Thread nD τ) ↦[arg10.view.set]{fullShare} f))
          ∗ (∃ f, (arg11.view.loc (c : Thread nD τ) ↦[arg11.view.set]{fullShare} f)))) := by
  iintro ⟨H2, H3, H4, H5, H6, H7, H8, H9, H10, H11⟩
  have htr : (k0_t2_loop i).trips = 0 := Nat.le_zero.1 (k0_t2_abs i).2.1
  by_cases h1 : isFirst i = 1#1
  · have h2 : ¬ isLast i = 1#1 := fun h => by have := (isFirst_iff i).1 h1; have := (isLast_iff i).1 h; omega
    sl_exec (disch := first | sl_exact h1 | sl_exact h2)
    sl_for (fun k _ => Held (F := F) c arg5 arg6 arg7 arg10 arg11 X5 X6 (state i (keyRows (arg2.view.read (Elt F) X2)) (keyCols (arg3.view.read (Elt F) X3))
      (valRows (arg4.view.read (Elt F) X4)) (arg5.view.read (Elt F) X5) (arg6.view.read (Elt F) X6) A k)) $$ [H5 H6 H7 H10 H11]
    case region =>
      intro k acc
      rw [state_succ]
      exact trip_run c i arg2 harg2 arg3 harg3 arg4 harg4 arg5 harg5 arg6 harg6 arg7 harg7 arg8 harg8 arg9 harg9 arg10 harg10 arg11 harg11 (keyTile i) (keyRows (arg2.view.read (Elt F) X2)) (keyCols (arg3.view.read (Elt F) X3)) (valRows (arg4.view.read (Elt F) X4)) 0#32 0#32
        (k0_pay26 0#32 (keyRows (arg2.view.read (Elt F) X2)) (valRows (arg4.view.read (Elt F) X4)) 0#32 0#1 (qTile (k0_off1 i) (k0_off1_inb i) (arg5.view.read (Elt F) X5))
          (qTile (k0_off1 i) (k0_off1_inb i) (arg6.view.read (Elt F) X6))) k0_pay20 𝒱 bd E _ X5 X6 k _
    · rw [state, hA]
      isplitl [H5]; · iexact H5
      isplitl [H6]; · iexact H6
      isplitl [H7]
      · iexists _; isplitl [H7]; · iexact H7
        ipureintro
        have e : arg7.view.read (Elt F) (arg7.view.writes (Elt F) arg7.view.junk [⟨Rect.unit ![0, 0, 0] S1x80x16384.size inb_S1x80x16384_S1x80x16384_0_0_0, k0_pay16 (F := F)⟩])
            = (start i (arg7.view.read (Elt F) X7)).dq := ((read_put _ _ _ _ _ _).trans (putR_whole z3 _ _)).trans (if_pos h1).symm
        refine (read_put_cons _ _ _ _ _ _ _).trans ?_
        unfold diag; dsimp only; rw [← e]; rfl
      isplitl [H10]
      · iexists _; isplitl [H10]; · iexact H10
        ipureintro
        have e : arg10.view.read (Elt F) (arg10.view.writes (Elt F) arg10.view.junk [⟨Rect.unit ![0, 0] S80x512.size inb_S80x512_S80x512_0_0, k0_pay20 (F := F)⟩])
            = (start i (arg7.view.read (Elt F) X7)).dk := (read_put _ _ _ _ _ _).trans (putR_whole z2 _ _)
        refine ((read_put_cons _ _ _ _ _ _ _).trans (putR_whole z2 _ _)).trans ?_
        unfold diag; dsimp only; rw [← e]
        exact congrArg (fun z => k0_pay28 (k0_pay27 (keyTile i) (keyRows (arg2.view.read (Elt F) X2)) (valRows (arg4.view.read (Elt F) X4)) (halfW (keyTile i)) (downW (keyTile i))
          (qTile (k0_off1 i) (k0_off1_inb i) (arg5.view.read (Elt F) X5)) (qTile (k0_off1 i) (k0_off1_inb i) (arg6.view.read (Elt F) X6)) z)) (View.ld_unit_zero (S := S80x512) z2 _ _)
      · iexists _; isplitl [H11]; · iexact H11
        ipureintro
        have e : arg11.view.read (Elt F) (arg11.view.writes (Elt F) arg11.view.junk [⟨Rect.unit ![0, 0] S64x512.size inb_S64x512_S64x512_0_0, k0_pay21 (F := F)⟩])
            = (start i (arg7.view.read (Elt F) X7)).dv := (read_put _ _ _ _ _ _).trans (putR_whole z2 _ _)
        refine ((read_put_cons _ _ _ _ _ _ _).trans (putR_whole z2 _ _)).trans ?_
        unfold diag; dsimp only; rw [← e]
        exact congrArg (k0_pay25 (keyTile i) (keyRows (arg2.view.read (Elt F) X2)) (halfW (keyTile i)) (downW (keyTile i))
          (qTile (k0_off1 i) (k0_off1_inb i) (arg5.view.read (Elt F) X5)) (qTile (k0_off1 i) (k0_off1_inb i) (arg6.view.read (Elt F) X6))) (View.ld_unit_zero (S := S64x512) z2 _ _)
    iintro %acc ⟨H5, H6, ⟨%f7, H7, %h7⟩, ⟨%f10, H10, %h10⟩, ⟨%f11, H11, %h11⟩⟩
    replace h7 := h7.trans (congrArg Acc.dq hT.symm)
    replace h10 := h10.trans (congrArg Acc.dk hT.symm)
    replace h11 := h11.trans (congrArg Acc.dv hT.symm)
    sl_exec (disch := first | sl_exact h1 | sl_exact h2)
    sl_step
    isplitl [H2]; · iexact H2
    isplitl [H3]; · iexact H3
    isplitl [H4]; · iexact H4
    isplitl [H5]; · iexact H5
    isplitl [H6]; · iexact H6
    isplitl [H7]
    · iexists _; isplitl [H7]; · iexact H7
      ipureintro
      rw [scaled, if_neg h2, h7]
    isplitl [H8]
    · iexists _; isplitl [H8]; · iexact H8
      ipureintro
      refine ((read_put _ _ _ _ _ _).trans (putR_whole z3 _ _)).trans ?_
      rw [← h10]
      exact congrArg k0_pay32 (View.ld_unit_zero (S := S80x512) z2 _ _)
    isplitl [H9]
    · iexists _; isplitl [H9]; · iexact H9
      ipureintro
      refine ((read_put _ _ _ _ _ _).trans (putR_whole z3 _ _)).trans ?_
      rw [← h11]
      exact congrArg k0_pay33 (View.ld_unit_zero (S := S64x512) z2 _ _)
    isplitl [H10]; · iexists _; iexact H10
    · iexists _; iexact H11
  · by_cases h2 : isLast i = 1#1
    · sl_exec (disch := first | sl_exact h1 | sl_exact h2)
      sl_for (fun k _ => Held (F := F) c arg5 arg6 arg7 arg10 arg11 X5 X6 (state i (keyRows (arg2.view.read (Elt F) X2)) (keyCols (arg3.view.read (Elt F) X3))
        (valRows (arg4.view.read (Elt F) X4)) (arg5.view.read (Elt F) X5) (arg6.view.read (Elt F) X6) A k)) $$ [H5 H6 H7 H10 H11]
      case region =>
        intro k acc
        rw [state_succ]
        exact trip_run c i arg2 harg2 arg3 harg3 arg4 harg4 arg5 harg5 arg6 harg6 arg7 harg7 arg8 harg8 arg9 harg9 arg10 harg10 arg11 harg11 (keyTile i) (keyRows (arg2.view.read (Elt F) X2)) (keyCols (arg3.view.read (Elt F) X3)) (valRows (arg4.view.read (Elt F) X4)) 0#32 0#32
          (k0_pay26 0#32 (keyRows (arg2.view.read (Elt F) X2)) (valRows (arg4.view.read (Elt F) X4)) 0#32 0#1 (qTile (k0_off1 i) (k0_off1_inb i) (arg5.view.read (Elt F) X5))
            (qTile (k0_off1 i) (k0_off1_inb i) (arg6.view.read (Elt F) X6))) k0_pay20 𝒱 bd E _ X5 X6 k _
      · rw [state, hA]
        isplitl [H5]; · iexact H5
        isplitl [H6]; · iexact H6
        isplitl [H7]
        · iexists _; isplitl [H7]; · iexact H7
          ipureintro
          have e : arg7.view.read (Elt F) X7 = (start i (arg7.view.read (Elt F) X7)).dq := (if_neg h1).symm
          refine (read_put _ _ _ _ _ _).trans ?_
          unfold diag; dsimp only; rw [← e]; rfl
        isplitl [H10]
        · iexists _; isplitl [H10]; · iexact H10
          ipureintro
          have e : arg10.view.read (Elt F) (arg10.view.writes (Elt F) arg10.view.junk [⟨Rect.unit ![0, 0] S80x512.size inb_S80x512_S80x512_0_0, k0_pay20 (F := F)⟩])
              = (start i (arg7.view.read (Elt F) X7)).dk := (read_put _ _ _ _ _ _).trans (putR_whole z2 _ _)
          refine ((read_put_cons _ _ _ _ _ _ _).trans (putR_whole z2 _ _)).trans ?_
          unfold diag; dsimp only; rw [← e]
          exact congrArg (fun z => k0_pay28 (k0_pay27 (keyTile i) (keyRows (arg2.view.read (Elt F) X2)) (valRows (arg4.view.read (Elt F) X4)) (halfW (keyTile i)) (downW (keyTile i))
            (qTile (k0_off1 i) (k0_off1_inb i) (arg5.view.read (Elt F) X5)) (qTile (k0_off1 i) (k0_off1_inb i) (arg6.view.read (Elt F) X6)) z)) (View.ld_unit_zero (S := S80x512) z2 _ _)
        · iexists _; isplitl [H11]; · iexact H11
          ipureintro
          have e : arg11.view.read (Elt F) (arg11.view.writes (Elt F) arg11.view.junk [⟨Rect.unit ![0, 0] S64x512.size inb_S64x512_S64x512_0_0, k0_pay21 (F := F)⟩])
              = (start i (arg7.view.read (Elt F) X7)).dv := (read_put _ _ _ _ _ _).trans (putR_whole z2 _ _)
          refine ((read_put_cons _ _ _ _ _ _ _).trans (putR_whole z2 _ _)).trans ?_
          unfold diag; dsimp only; rw [← e]
          exact congrArg (k0_pay25 (keyTile i) (keyRows (arg2.view.read (Elt F) X2)) (halfW (keyTile i)) (downW (keyTile i))
            (qTile (k0_off1 i) (k0_off1_inb i) (arg5.view.read (Elt F) X5)) (qTile (k0_off1 i) (k0_off1_inb i) (arg6.view.read (Elt F) X6))) (View.ld_unit_zero (S := S64x512) z2 _ _)
      iintro %acc ⟨H5, H6, ⟨%f7, H7, %h7⟩, ⟨%f10, H10, %h10⟩, ⟨%f11, H11, %h11⟩⟩
      replace h7 := h7.trans (congrArg Acc.dq hT.symm)
      replace h10 := h10.trans (congrArg Acc.dk hT.symm)
      replace h11 := h11.trans (congrArg Acc.dv hT.symm)
      sl_exec (disch := first | sl_exact h1 | sl_exact h2)
      sl_step
      isplitl [H2]; · iexact H2
      isplitl [H3]; · iexact H3
      isplitl [H4]; · iexact H4
      isplitl [H5]; · iexact H5
      isplitl [H6]; · iexact H6
      isplitl [H7]
      · iexists _; isplitl [H7]; · iexact H7
        ipureintro
        refine (read_put _ _ _ _ _ _).trans ?_
        rw [scaled, if_pos h2, ← h7]; rfl
      isplitl [H8]
      · iexists _; isplitl [H8]; · iexact H8
        ipureintro
        refine ((read_put _ _ _ _ _ _).trans (putR_whole z3 _ _)).trans ?_
        rw [← h10]
        exact congrArg k0_pay32 (View.ld_unit_zero (S := S80x512) z2 _ _)
      isplitl [H9]
      · iexists _; isplitl [H9]; · iexact H9
        ipureintro
        refine ((read_put _ _ _ _ _ _).trans (putR_whole z3 _ _)).trans ?_
        rw [← h11]
        exact congrArg k0_pay33 (View.ld_unit_zero (S := S64x512) z2 _ _)
      isplitl [H10]; · iexists _; iexact H10
      · iexists _; iexact H11
    · sl_exec (disch := first | sl_exact h1 | sl_exact h2)
      sl_for (fun k _ => Held (F := F) c arg5 arg6 arg7 arg10 arg11 X5 X6 (state i (keyRows (arg2.view.read (Elt F) X2)) (keyCols (arg3.view.read (Elt F) X3))
        (valRows (arg4.view.read (Elt F) X4)) (arg5.view.read (Elt F) X5) (arg6.view.read (Elt F) X6) A k)) $$ [H5 H6 H7 H10 H11]
      case region =>
        intro k acc
        rw [state_succ]
        exact trip_run c i arg2 harg2 arg3 harg3 arg4 harg4 arg5 harg5 arg6 harg6 arg7 harg7 arg8 harg8 arg9 harg9 arg10 harg10 arg11 harg11 (keyTile i) (keyRows (arg2.view.read (Elt F) X2)) (keyCols (arg3.view.read (Elt F) X3)) (valRows (arg4.view.read (Elt F) X4)) 0#32 0#32
          (k0_pay26 0#32 (keyRows (arg2.view.read (Elt F) X2)) (valRows (arg4.view.read (Elt F) X4)) 0#32 0#1 (qTile (k0_off1 i) (k0_off1_inb i) (arg5.view.read (Elt F) X5))
            (qTile (k0_off1 i) (k0_off1_inb i) (arg6.view.read (Elt F) X6))) k0_pay20 𝒱 bd E _ X5 X6 k _
      · rw [state, hA]
        isplitl [H5]; · iexact H5
        isplitl [H6]; · iexact H6
        isplitl [H7]
        · iexists _; isplitl [H7]; · iexact H7
          ipureintro
          have e : arg7.view.read (Elt F) X7 = (start i (arg7.view.read (Elt F) X7)).dq := (if_neg h1).symm
          refine (read_put _ _ _ _ _ _).trans ?_
          unfold diag; dsimp only; rw [← e]; rfl
        isplitl [H10]
        · iexists _; isplitl [H10]; · iexact H10
          ipureintro
          have e : arg10.view.read (Elt F) (arg10.view.writes (Elt F) arg10.view.junk [⟨Rect.unit ![0, 0] S80x512.size inb_S80x512_S80x512_0_0, k0_pay20 (F := F)⟩])
              = (start i (arg7.view.read (Elt F) X7)).dk := (read_put _ _ _ _ _ _).trans (putR_whole z2 _ _)
          refine ((read_put_cons _ _ _ _ _ _ _).trans (putR_whole z2 _ _)).trans ?_
          unfold diag; dsimp only; rw [← e]
          exact congrArg (fun z => k0_pay28 (k0_pay27 (keyTile i) (keyRows (arg2.view.read (Elt F) X2)) (valRows (arg4.view.read (Elt F) X4)) (halfW (keyTile i)) (downW (keyTile i))
            (qTile (k0_off1 i) (k0_off1_inb i) (arg5.view.read (Elt F) X5)) (qTile (k0_off1 i) (k0_off1_inb i) (arg6.view.read (Elt F) X6)) z)) (View.ld_unit_zero (S := S80x512) z2 _ _)
        · iexists _; isplitl [H11]; · iexact H11
          ipureintro
          have e : arg11.view.read (Elt F) (arg11.view.writes (Elt F) arg11.view.junk [⟨Rect.unit ![0, 0] S64x512.size inb_S64x512_S64x512_0_0, k0_pay21 (F := F)⟩])
              = (start i (arg7.view.read (Elt F) X7)).dv := (read_put _ _ _ _ _ _).trans (putR_whole z2 _ _)
          refine ((read_put_cons _ _ _ _ _ _ _).trans (putR_whole z2 _ _)).trans ?_
          unfold diag; dsimp only; rw [← e]
          exact congrArg (k0_pay25 (keyTile i) (keyRows (arg2.view.read (Elt F) X2)) (halfW (keyTile i)) (downW (keyTile i))
            (qTile (k0_off1 i) (k0_off1_inb i) (arg5.view.read (Elt F) X5)) (qTile (k0_off1 i) (k0_off1_inb i) (arg6.view.read (Elt F) X6))) (View.ld_unit_zero (S := S64x512) z2 _ _)
      iintro %acc ⟨H5, H6, ⟨%f7, H7, %h7⟩, ⟨%f10, H10, %h10⟩, ⟨%f11, H11, %h11⟩⟩
      replace h7 := h7.trans (congrArg Acc.dq hT.symm)
      replace h10 := h10.trans (congrArg Acc.dk hT.symm)
      replace h11 := h11.trans (congrArg Acc.dv hT.symm)
      sl_exec (disch := first | sl_exact h1 | sl_exact h2)
      sl_step
      isplitl [H2]; · iexact H2
      isplitl [H3]; · iexact H3
      isplitl [H4]; · iexact H4
      isplitl [H5]; · iexact H5
      isplitl [H6]; · iexact H6
      isplitl [H7]
      · iexists _; isplitl [H7]; · iexact H7
        ipureintro
        rw [scaled, if_neg h2, h7]
      isplitl [H8]
      · iexists _; isplitl [H8]; · iexact H8
        ipureintro
        refine ((read_put _ _ _ _ _ _).trans (putR_whole z3 _ _)).trans ?_
        rw [← h10]
        exact congrArg k0_pay32 (View.ld_unit_zero (S := S80x512) z2 _ _)
      isplitl [H9]
      · iexists _; isplitl [H9]; · iexact H9
        ipureintro
        refine ((read_put _ _ _ _ _ _).trans (putR_whole z3 _ _)).trans ?_
        rw [← h11]
        exact congrArg k0_pay33 (View.ld_unit_zero (S := S64x512) z2 _ _)
      isplitl [H10]; · iexists _; iexact H10
      · iexists _; iexact H11

end Run

end Cert.KernelIdeal.Fox

end
-- ==== Proof.Run.lean ====
/-
  The run of the whole gradient kernel: what the pipeline's staging buffers hold at every grid point, the body's
  obligation from `Body.body_run`, and the run of the host lines and the region together.

  The `dqᵀ` window stays resident over a head's 32 key tiles; `dqIn` is what it holds before each point (at a head's first
  point anything, since the body clears it there), `accAt` the accumulators after the point's query tiles.
-/
module

public import proofs.«01_k».proof.Proof.Body
public import proofs.«01_k».proof.Proof.Gen.KernelIdeal.Frame

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- A point's key tile is its number modulo 32, -/
theorem coords_key : ∀ t : Fin cfg0.N, ((grid0.coords t) 1).val = t.val % 32 := (by decide : ∀ t : Fin grid0.N, ((grid0.coords t) 1).val = t.val % 32)
/-- its head the quotient. -/
theorem coords_head : ∀ t : Fin cfg0.N, ((grid0.coords t) 0).val = t.val / 32 := (by decide : ∀ t : Fin grid0.N, ((grid0.coords t) 0).val = t.val / 32)

/-- At a head's first key tile what the `dqᵀ` window held does not matter. -/
theorem total_first (i : grid0.Coords) (h : isFirst i = 1#1) (X2 : Vec F S1x512x128 .bf16) (X3 : Vec F S1x128x512 .bf16) (X4 : Vec F S1x512x128 .bf16)
    (X5 X6 : Vec F S1x128x16384 .bf16) (D D' : Vec F S1x80x16384 .f32) : total i X2 X3 X4 X5 X6 D = total i X2 X3 X4 X5 X6 D' := by
  unfold total start; rw [if_pos h, if_pos h]

variable (m : (ℓ : Loc nD τ sig) → Buf (Elt F) ℓ) (ρ : Dev nD → PrngReg)

/-- The accumulators after point `t`, the `dqᵀ` window holding `D` before. -/
abbrev tot (c : Dev nD) (t : Fin cfg0.N) (D : Vec F S1x80x16384 .f32) : Acc F :=
  total (grid0.coords t) (iblk m c 0 t) (iblk m c 1 t) (iblk m c 2 t) (iblk m c 3 t) (iblk m c 4 t) D

/-- What the `dqᵀ` window holds before point `n`. -/
def dqIn (c : Dev nD) : ℕ → Vec F S1x80x16384 .f32
  | 0 => k0_pay16
  | n + 1 => if h : n < cfg0.N then scaled (grid0.coords ⟨n, h⟩) (tot m c ⟨n, h⟩ (dqIn c n)).dq else dqIn c n

/-- The accumulators after point `t`. -/
def accAt (c : Dev nD) (t : Fin cfg0.N) : Acc F := tot m c t (dqIn m c t.val)

theorem dqIn_succ (c : Dev nD) (t : Fin cfg0.N) : dqIn m c (t.val + 1) = scaled (grid0.coords t) (accAt m c t).dq := by
  rw [dqIn, dif_pos t.isLt]; rfl

/-- The proof data of the one pipeline: the arrays as the region finds them; after a point the operands' buffers hold
    their blocks, the results' the accumulators. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => scaled (grid0.coords t) (accAt m c t).dq
    | ⟨6, _⟩ => k0_pay32 (accAt m c t).dk
    | ⟨7, _⟩ => k0_pay33 (accAt m c t).dv
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = scaled (grid0.coords t) (accAt m c t).dq := by dsimp only [dats]
theorem after_6 (c : Dev nD) (t : Fin cfg0.N) : (dats m 0 c).after 6 t = k0_pay32 (accAt m c t).dk := by dsimp only [dats]
theorem after_7 (c : Dev nD) (t : Fin cfg0.N) : (dats m 0 c).after 7 t = k0_pay33 (accAt m c t).dv := by dsimp only [dats]

/-- Whatever the `dqᵀ` window holds before a point, the point's accumulators are `accAt`. -/
theorem tot_before (c : Dev nD) (t : Fin cfg0.N) (d) : tot m c t ((dats m 0 c).before 5 t d) = accAt m c t := by
  by_cases h : t.val % 32 = 0
  · exact total_first _ ((isFirst_iff _).2 ((coords_key t).trans h)) _ _ _ _ _ _ _
  · have ht : t.val ≠ 0 := fun e => h (by rw [e])
    have hlt : t.val - 1 < cfg0.N := Nat.lt_of_le_of_lt (Nat.sub_le _ _) t.isLt
    have hfl : (cfg0.win 5).flush ⟨t.val - 1, hlt⟩ = false := by
      by_contra hne
      have h31 := (flush0_5 ⟨t.val - 1, hlt⟩).1 (by simpa using hne)
      dsimp only at h31
      omega
    have hb : (dats m 0 c).before 5 t d = dqIn m c t.val := by
      rw [(dats m 0 c).before_out_kept 5 rfl t ht hfl (fun _ => rfl) (fun _ _ => rfl) d, after_5]
      refine (dqIn_succ m c ⟨t.val - 1, hlt⟩).symm.trans ?_
      congr 1
      exact Nat.sub_add_cancel (Nat.pos_of_ne_zero ht)
    rw [hb]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t))

theorem scratch_whole0 (c : Dev nD) (f : Buf (Elt F) (c.tc.loc cc0_scratch0)) :
    ((Memref.whole cc0_scratch0).view.loc (c : Thread nD τ) ↦[(Memref.whole cc0_scratch0).view.set]{fullShare} f : sProp 𝕄) = ((c.tc.loc cc0_scratch0) ↦{fullShare} f) :=
  congrArg (fun S => (((c.tc.loc cc0_scratch0) ↦[S]{fullShare} f) : sProp 𝕄)) (View.set_whole cc0_scratch0)
theorem scratch_whole1 (c : Dev nD) (f : Buf (Elt F) (c.tc.loc cc0_scratch1)) :
    ((Memref.whole cc0_scratch1).view.loc (c : Thread nD τ) ↦[(Memref.whole cc0_scratch1).view.set]{fullShare} f : sProp 𝕄) = ((c.tc.loc cc0_scratch1) ↦{fullShare} f) :=
  congrArg (fun S => (((c.tc.loc cc0_scratch1) ↦[S]{fullShare} f) : sProp 𝕄)) (View.set_whole cc0_scratch1)

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Pipeline.ΦA spec0 c from rfl, show (dats m 0 c).Φ t.castSucc = Pipeline.ΦA spec0 c from rfl,
    after_0, after_1, after_2, after_3, after_4, after_5, after_6, after_7]
  unfold Pipeline.ΦA
  rw [scopedRest0_eq]
  unfold Dat.owesAt Pipeline.owesWithin
  rw [show (dats m 0 c).owed t.castSucc = 0 from rfl, show (dats m 0 c).owed t.succ = 0 from rfl]
  unfold owns
  iintro ⟨⟨⟨⟨%s0, HS0⟩, ⟨%s1, HS1⟩⟩, Hg⟩, ⟨%W, -, HW⟩, ⟨%d0, %f0, %e0, H0⟩, ⟨%d1, %f1, %e1, H1⟩, ⟨%d2, %f2, %e2, H2⟩, ⟨%d3, %f3, %e3, H3⟩,
    ⟨%d4, %f4, %e4, H4⟩, ⟨%d5, %f5, %e5, H5⟩, ⟨%d6, %f6, %e6, H6⟩, ⟨%d7, %f7, %e7, H7⟩⟩
  have e0' := e0.trans (before0_0_of m (dats m 0 c) (A_eq m c 0) (after_0 m c) t d0)
  have e1' := e1.trans (before0_1_of m (dats m 0 c) (A_eq m c 1) (after_1 m c) t d1)
  have e2' := e2.trans (before0_2_of m (dats m 0 c) (A_eq m c 2) (after_2 m c) t d2)
  have e3' := e3.trans (before0_3_of m (dats m 0 c) (A_eq m c 3) (after_3 m c) t d3)
  have e4' := e4.trans (before0_4_of m (dats m 0 c) (A_eq m c 4) (after_4 m c) t d4)
  have hT : accAt m c t = total (grid0.coords t) ((st0_0 t).view.read (Elt F) f0) ((st0_1 t).view.read (Elt F) f1) ((st0_2 t).view.read (Elt F) f2)
      ((st0_3 t).view.read (Elt F) f3) ((st0_4 t).view.read (Elt F) f4) ((st0_5 t).view.read (Elt F) f5) := by
    rw [e0', e1', e2', e3', e4', e5]; exact (tot_before m c t d5).symm
  iapply (wp_wand_r Idealize.ShloMosaic.frame (wpE (defs₀ (F := F)) Variants.none (c : Thread nD τ) none) Set.univ)
  isplitl [H0 H1 H2 H3 H4 H5 H6 H7 HS0 HS1]
  · iapply (body_run c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6)) (st0_7 t) (hstage0_7 ((cfg0.slots t 7).cast nbuf0_7))
      (Memref.whole cc0_scratch0) (Memref.isWhole_whole _) (Memref.whole cc0_scratch1) (Memref.isWhole_whole _)
      Variants.none none Set.univ f0 f1 f2 f3 f4 f5 f6 f7 s0 s1 _ (accAt m c t) rfl hT)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iapply (Entails.of_eq (scratch_whole0 c s0).symm); iexact HS0
    iapply (Entails.of_eq (scratch_whole1 c s1).symm); iexact HS1
  · iintro %_ ⟨H0, H1, H2, H3, H4, ⟨%g5, H5, %h5⟩, ⟨%g6, H6, %h6⟩, ⟨%g7, H7, %h7⟩, ⟨%g10, HS0⟩, ⟨%g11, HS1⟩⟩
    isplitl [HS0 HS1 Hg]
    · isplitl [HS0 HS1]
      · isplitl [HS0]
        · iexists g10; iapply (Entails.of_eq (scratch_whole0 c g10)); iexact HS0
        · iexists g11; iapply (Entails.of_eq (scratch_whole1 c g11)); iexact HS1
      · iexact Hg
    isplitl [HW]
    · iexists W; isplitr; · ipureintro; exact fun _ _ => Or.inl trivial
      iexact HW
    isplitl [H0]; · iexists f0; isplitr; swap; · iexact H0
                    ipureintro; exact e0'
    isplitl [H1]; · iexists f1; isplitr; swap; · iexact H1
                    ipureintro; exact e1'
    isplitl [H2]; · iexists f2; isplitr; swap; · iexact H2
                    ipureintro; exact e2'
    isplitl [H3]; · iexists f3; isplitr; swap; · iexact H3
                    ipureintro; exact e3'
    isplitl [H4]; · iexists f4; isplitr; swap; · iexact H4
                    ipureintro; exact e4'
    isplitl [H5]; · iexists g5; isplitr; swap; · iexact H5
                    ipureintro; exact h5
    isplitl [H6]; · iexists g6; isplitr; swap; · iexact H6
                    ipureintro; exact h6
    iexists g7; isplitr; swap; · iexact H7
    ipureintro; exact h7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE RUN, at any float instance: every schedule ends, the windows' arrays hold what the pipeline wrote to them, every
    other buffer what the host lines leave, and no semaphore is up. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _) (hQ' := fun _ h => h)

end Cert.KernelIdeal.Fox

end
-- ==== Proof.Frames.lean ====
/-
  The frame of the idealized kernel, from `Run.run_main`.
-/
module

public import proofs.«01_k».proof.Defs
public import proofs.«01_k».proof.Proof.Run

@[expose] public section

set_option maxRecDepth 16384

noncomputable section

namespace Cert.KernelIdeal.Fox

open Cert.KernelIdeal Cert.KernelIdeal.Gen
open Idealize.ShloMosaic Idealize.ShloMosaic.TcCoe
open Idealize.SL.Sem

section
variable {F : FTy → Type} [FloatOps F] [Named F]
variable (m : (ℓ : Loc nD τ sig) → Buf (Elt F) ℓ) (ρ : Dev nD → PrngReg)

/-- The arguments end as they began, and no semaphore is up. -/
theorem frame_sem : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩, h.2⟩) (run_main m ρ)
end

theorem frame_ideal : Cert.quiescent_KernelIdeal := fun m ρ _ => frame_sem (F := Ideal) m ρ
theorem frame_ideal_finite [Cert.Pre_finite.Facts] : Cert.quiescent_KernelIdeal_pre_finite := fun m ρ _ => frame_sem (F := Ideal) m ρ

end Cert.KernelIdeal.Fox

end
-- ==== Proof.Printed.Frames.lean ====
/-
  The frame of the kernel as printed, from `Printed.Run.run_main`.
-/
module

public import proofs.«01_k».proof.Defs
public import proofs.«01_k».proof.Proof.Printed.Run

@[expose] public section

set_option maxRecDepth 16384

noncomputable section

namespace Cert.Kernel.Fox

open Cert.Kernel Cert.Kernel.Gen
open Idealize.ShloMosaic Idealize.ShloMosaic.TcCoe
open Idealize.SL.Sem

section
variable {F : FTy → Type} [FloatOps F]
variable (m : (ℓ : Loc nD τ sig) → Buf (Elt F) ℓ) (ρ : Dev nD → PrngReg)

/-- The arguments end as they began, and no semaphore is up. -/
theorem frame_sem : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩, h.2⟩) (run_main m ρ)
end

theorem frame_printed : Cert.quiescent_Kernel := fun m ρ _ => frame_sem (F := Bits) m ρ

end Cert.Kernel.Fox

end
-- ==== Proof.Tile.lean ====
/-
  The gradient kernel's tile operations, read at one element over the extended reals.

  Every payload of the body is here a scalar expression: the exponential of a score tile, with and without the causal
  mask, and what one query tile adds to the three accumulators.
-/
module

public import proofs.«01_k».proof.Proof.Words
public import Idealize.ShloMosaic.Lib.Pointwise

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

/-- The scale `1 / √64` as the body's constant denotes it. -/
def scale : EReal := Ideal.ofBits .bf16 0x3E00#16

theorem pay4_at (v4 : FVec Ideal S512x128 .bf16) (q : Vec Ideal S1x128x1024 .bf16) (s : Fin 512) (u : Fin 1024) :
    k0_pay4 v4 q (ix2 s u) = Ideal.exp (∑ d : Fin 128, v4 (ix2 s d) * (q (ix3 0 d u) * scale)) := by
  unfold scale
  pointwise [k0_pay4, k0_pay2]

theorem pay5_at (v4 : FVec Ideal S512x128 .bf16) (q o : Vec Ideal S1x128x1024 .bf16) (a : Vec Ideal S64x512 .f32) (r : Fin 64) (s : Fin 512) :
    k0_pay5 v4 q o a (ix2 r s) = a (ix2 r s) + ∑ u : Fin 1024, o (ix3 0 ⟨r.val, by omega⟩ u) * k0_pay4 v4 q (ix2 s u) := by
  pointwise [k0_pay5, k0_pay3]

theorem pay6_at (v4 v8 : FVec Ideal S512x128 .bf16) (q o : Vec Ideal S1x128x1024 .bf16) (s : Fin 512) (u : Fin 1024) :
    k0_pay6 v4 v8 q o (ix2 s u) = k0_pay4 v4 q (ix2 s u) * ∑ d : Fin 128, v8 (ix2 s d) * o (ix3 0 d u) := by
  pointwise [k0_pay6, k0_pay3]

theorem pay7_at (v4 v8 : FVec Ideal S512x128 .bf16) (q o : Vec Ideal S1x128x1024 .bf16) (a : Vec Ideal S80x512 .f32) (r : Fin 80) (s : Fin 512) :
    k0_pay7 v4 v8 q o a (ix2 r s) = a (ix2 r s) + ∑ u : Fin 1024, (q (ix3 0 ⟨r.val, by omega⟩ u) * scale) * k0_pay6 v4 v8 q o (ix2 s u) := by
  unfold scale
  pointwise [k0_pay7, k0_pay2]

theorem pay8_at (v4 : FVec Ideal S512x128 .bf16) (v6 : FVec Ideal S80x512 .bf16) (v8 : FVec Ideal S512x128 .bf16) (q o : Vec Ideal S1x128x1024 .bf16)
    (a : Vec Ideal S1x80x1024 .f32) (r : Fin 80) (u : Fin 1024) :
    k0_pay30 (k0_pay8 v4 v6 v8 q o a) (ix3 0 r u) = a (ix3 0 r u) + ∑ s : Fin 512, v6 (ix2 r s) * k0_pay6 v4 v8 q o (ix2 s u) := by
  pointwise [k0_pay8, k0_pay30]

/-! ## The tile that meets the diagonal -/

/-- The mask's offset as a word: 512 for the second key tile of a query tile. -/
theorem off_word : ∀ n : Fin 32, Scalar.muli (Scalar.subi (BitVec.ofNat 32 n.val) (Scalar.muli (diagW (BitVec.ofNat 32 n.val)) 2#32)) 512#32
    = BitVec.ofNat 32 (512 * (n.val % 2)) := by decide

theorem toInt_small (a : ℕ) (ha : a < 65536) : (BitVec.ofNat 32 a).toInt = (a : Int) := by
  have e : (BitVec.ofNat 32 a).toNat = a := by rw [BitVec.toNat_ofNat]; exact Nat.mod_eq_of_lt (by omega)
  rw [BitVec.toInt_eq_toNat_of_lt (by omega), e]

/-- Two small numbers compared as signed words. -/
theorem le_word (a b : ℕ) (ha : a < 65536) (hb : b < 65536) : IntOp.cmpi .sle (BitVec.ofNat 32 a) (BitVec.ofNat 32 b) = BitVec.ofBool (decide (a ≤ b)) := by
  unfold IntOp.cmpi
  simp only [BitVec.sle_eq_decide, toInt_small a ha, toInt_small b hb, Int.ofNat_le]

theorem mask_named : (Named.named κ "mask" 0xF149F2CA#32 : Ideal .f32) = (⊥ : EReal) := rfl

theorem word_add (a b : ℕ) : IntOp.addi (BitVec.ofNat 32 a) (BitVec.ofNat 32 b) = BitVec.ofNat 32 (a + b) := by
  unfold IntOp.addi
  exact (BitVec.ofNat_add a b).symm

theorem pay24_at (i : grid0.Coords) (v4 : FVec Ideal S512x128 .bf16) (q : Vec Ideal S1x128x1024 .bf16) (s : Fin 512) (u : Fin 1024) :
    k0_pay24 (keyTile i) v4 (halfW (keyTile i)) (downW (keyTile i)) q (ix2 s u)
      = if s.val + 512 * ((i 1).val % 2) ≤ u.val then k0_pay4 v4 q (ix2 s u) else 0 := by
  have hw : Scalar.muli (Scalar.subi (keyTile i) (Scalar.muli (Scalar.select (downW (keyTile i)) (Scalar.subi (halfW (keyTile i)) 1#32) (halfW (keyTile i))) 2#32)) 512#32
      = BitVec.ofNat 32 (512 * ((i 1).val % 2)) := off_word ⟨(i 1).val, key_lt i⟩
  rw [pay4_at]
  unfold k0_pay24
  rw [hw]
  unfold scale
  pointwise [k0_pay22]
  rw [mask_named, word_add, le_word _ _ (by omega) (by omega)]
  by_cases h : s.val + 512 * ((i 1).val % 2) ≤ u.val
  · rw [if_pos h, decide_eq_true h]; rfl
  · rw [if_neg h, decide_eq_false h]; rfl

theorem pay25_at (v4 : FVec Ideal S512x128 .bf16) (q o : Vec Ideal S1x128x1024 .bf16) (a : Vec Ideal S64x512 .f32) (w1 : BitVec 32) (w2 : BitVec 32) (w3 : BitVec 1) (r : Fin 64) (s : Fin 512) :
    k0_pay25 w1 v4 w2 w3 q o a (ix2 r s) = a (ix2 r s) + ∑ u : Fin 1024, o (ix3 0 ⟨r.val, by omega⟩ u) * k0_pay24 w1 v4 w2 w3 q (ix2 s u) := by
  pointwise [k0_pay25, k0_pay23]

theorem pay26_at (v4 v8 : FVec Ideal S512x128 .bf16) (q o : Vec Ideal S1x128x1024 .bf16) (w1 : BitVec 32) (w2 : BitVec 32) (w3 : BitVec 1) (s : Fin 512) (u : Fin 1024) :
    k0_pay26 w1 v4 v8 w2 w3 q o (ix2 s u) = k0_pay24 w1 v4 w2 w3 q (ix2 s u) * ∑ d : Fin 128, v8 (ix2 s d) * o (ix3 0 d u) := by
  pointwise [k0_pay26, k0_pay23]

theorem pay27_at (v4 v8 : FVec Ideal S512x128 .bf16) (q o : Vec Ideal S1x128x1024 .bf16) (a : Vec Ideal S80x512 .f32) (w1 : BitVec 32) (w2 : BitVec 32) (w3 : BitVec 1) (r : Fin 80) (s : Fin 512) :
    k0_pay28 (k0_pay27 w1 v4 v8 w2 w3 q o a) (ix2 r s)
      = a (ix2 r s) + ∑ u : Fin 1024, (q (ix3 0 ⟨r.val, by omega⟩ u) * scale) * k0_pay26 w1 v4 v8 w2 w3 q o (ix2 s u) := by
  unfold scale
  pointwise [k0_pay28, k0_pay27, k0_pay22]

theorem pay29_at (v6 : FVec Ideal S80x512 .bf16) (g : FVec Ideal S512x1024 .bf16) (a : Vec Ideal S1x80x1024 .f32) (r : Fin 80) (u : Fin 1024) :
    k0_pay29 v6 g a (ix3 0 r u) = a (ix3 0 r u) + ∑ s : Fin 512, v6 (ix2 r s) * g (ix2 s u) := by
  pointwise [k0_pay29]

/-! ## The copies, the zeros and the closing scale -/

theorem pay16_at (y : S1x80x16384.Idx) : k0_pay16 (F := Ideal) y = 0 := by pointwise [k0_pay16]
theorem pay20_at (y : S80x512.Idx) : k0_pay20 (F := Ideal) y = 0 := by pointwise [k0_pay20]
theorem pay21_at (y : S64x512.Idx) : k0_pay21 (F := Ideal) y = 0 := by pointwise [k0_pay21]
theorem pay32_at (a : Vec Ideal S80x512 .f32) (r : Fin 80) (s : Fin 512) : k0_pay32 a (ix3 0 r s) = a (ix2 r s) := by pointwise [k0_pay32]
theorem pay33_at (a : Vec Ideal S64x512 .f32) (r : Fin 64) (s : Fin 512) : k0_pay33 a (ix3 0 r s) = a (ix2 r s) := by pointwise [k0_pay33]
theorem pay1_at (a : Vec Ideal S1x64x16384 .f32) (r : Fin 64) (t : Fin 16384) : k0_pay1 a (ix3 0 r t) = a (ix3 0 r t) * Ideal.ofBits .f32 0x3E000000#32 := by
  pointwise [k0_pay1]

theorem ofBits_scale : scale = (((1 : ℝ) / 8 : ℝ) : EReal) := by
  unfold scale
  simp [Ideal.ofBits, Ideal.ieee, -EReal.coe_mul]; norm_num
theorem ofBits_scale32 : Ideal.ofBits .f32 0x3E000000#32 = (((1 : ℝ) / 8 : ℝ) : EReal) := by
  simp [Ideal.ofBits, Ideal.ieee, -EReal.coe_mul]; norm_num
theorem ofBits_eight : Ideal.ofBits .bf16 0x4100#16 = ((8 : ℝ) : EReal) := by
  simp [Ideal.ofBits, Ideal.ieee, -EReal.coe_mul]; norm_num
theorem ofBits_neg_eight : Ideal.ofBits .f32 0xC1000000#32 = ((-8 : ℝ) : EReal) := by
  simp [Ideal.ofBits, Ideal.ieee, -EReal.coe_mul, -EReal.coe_neg]; norm_num
theorem ofBits_neg_inf : Ideal.ofBits .f32 0xFF800000#32 = (⊥ : EReal) := by
  simp [Ideal.ofBits, Ideal.ieee]
theorem ofBits_inf : Ideal.ofBits .f32 0x7F800000#32 = (⊤ : EReal) := by
  simp [Ideal.ofBits, Ideal.ieee]

end Cert.KernelIdeal.Fox

end
-- ==== Proof.Sums.lean ====
/-
  What the body leaves at one grid point, as sums over all the queries.

  The body goes through the query tiles from the one that meets the diagonal on. A query before that tile sees none of
  the key tile's keys, so its probability is zero and each accumulator is the sum over all 16384 queries. The invariant
  over the tiles (`Upto`) states the three accumulators as sums over the queries below a multiple of 1024.
-/
module

public import proofs.«01_k».proof.Proof.Tile
public import proofs.«01_k».proof.Proof.Body

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

/-! ## The windows at an element -/

theorem keyRows_at (X : Vec Ideal S1x512x128 .bf16) (s : Fin 512) (d : Fin 128) : keyRows X (ix2 s d) = X (ix3 0 s d) := by
  pointwise [keyRows, k0_pay17]
theorem valRows_at (X : Vec Ideal S1x512x128 .bf16) (s : Fin 512) (d : Fin 128) : valRows X (ix2 s d) = X (ix3 0 s d) := by
  pointwise [valRows, k0_pay19]
theorem keyCols_at (X : Vec Ideal S1x128x512 .bf16) (r : Fin 80) (s : Fin 512) : keyCols X (ix2 r s) = X (ix3 0 ⟨r.val, by omega⟩ s) := by
  pointwise [keyCols, k0_pay18]

theorem qTile_at {off : Fin 3 → ℕ} {n : ℕ} (h : off = ![0, 0, n]) (inb : ∀ a, off a + S1x128x1024.size a ≤ S1x128x16384.size a)
    (X : Vec Ideal S1x128x16384 .bf16) (d : Fin 128) (u : Fin 1024) (hb : n + u.val < 16384) :
    qTile off inb X (ix3 0 d u) = X (ix3 0 d ⟨n + u.val, hb⟩) := by
  subst h
  pointwise [qTile]
theorem dTile_at {off : Fin 3 → ℕ} {n : ℕ} (h : off = ![0, 0, n]) (inb : ∀ a, off a + S1x80x1024.size a ≤ S1x80x16384.size a)
    (X : Vec Ideal S1x80x16384 .f32) (d : Fin 80) (u : Fin 1024) (hb : n + u.val < 16384) :
    dTile off inb X (ix3 0 d u) = X (ix3 0 d ⟨n + u.val, hb⟩) := by
  subst h
  pointwise [dTile]

theorem putR_in {off : Fin 3 → ℕ} {n : ℕ} (h : off = ![0, 0, n]) (w : S1x80x1024.Idx → EReal) (X : S1x80x16384.Idx → EReal)
    (r : Fin 80) (t : Fin 16384) (h1 : n ≤ t.val) (h2 : t.val < n + 1024) :
    putR (s := S1x80x16384) off S1x80x1024.size w X (ix3 0 r t) = w (ix3 0 r ⟨t.val - n, by omega⟩) := by
  subst h
  unfold putR
  rw [dif_pos]
  · refine congrArg w (funext fun a => Fin.ext ?_)
    fin_cases a <;> rfl
  · intro a
    fin_cases a
    · exact ⟨Nat.zero_le _, Nat.zero_lt_one⟩
    · exact ⟨Nat.zero_le _, by show r.val < 0 + 80; omega⟩
    · exact ⟨h1, h2⟩
theorem putR_out {off : Fin 3 → ℕ} {n : ℕ} (h : off = ![0, 0, n]) (w : S1x80x1024.Idx → EReal) (X : S1x80x16384.Idx → EReal)
    (r : Fin 80) (t : Fin 16384) (h1 : ¬ (n ≤ t.val ∧ t.val < n + 1024)) :
    putR (s := S1x80x16384) off S1x80x1024.size w X (ix3 0 r t) = X (ix3 0 r t) := by
  subst h
  unfold putR
  rw [dif_neg]
  intro hh
  exact h1 (hh 2)

/-! ## One key tile against all the queries -/

/-- Row `d` of a head's operand at query `t`. -/
def qat (X : Vec Ideal S1x128x16384 .bf16) (d : Fin 128) (t : ℕ) : EReal := if h : t < 16384 then X (ix3 0 d ⟨t, h⟩) else 0

theorem qat_of {X : Vec Ideal S1x128x16384 .bf16} {d : Fin 128} {t : ℕ} (h : t < 16384) : qat X d t = X (ix3 0 d ⟨t, h⟩) := dif_pos h

/-- The exponential of the score of key `s` of the tile at query `t`, zero where the key lies after the query. -/
def prob (j : ℕ) (v4 : FVec Ideal S512x128 .bf16) (X5 : Vec Ideal S1x128x16384 .bf16) (s : Fin 512) (t : ℕ) : EReal :=
  if 512 * j + s.val ≤ t then Ideal.exp (∑ d : Fin 128, v4 (ix2 s d) * (qat X5 d t * scale)) else 0

/-- The gradient of that score. -/
def dsig (j : ℕ) (v4 v8 : FVec Ideal S512x128 .bf16) (X5 X6 : Vec Ideal S1x128x16384 .bf16) (s : Fin 512) (t : ℕ) : EReal :=
  prob j v4 X5 s t * ∑ d : Fin 128, v8 (ix2 s d) * qat X6 d t

/-- The accumulators hold the queries below `N`, the head's `dqᵀ` on top of `D`. -/
structure Upto (j : ℕ) (v4 : FVec Ideal S512x128 .bf16) (v6 : FVec Ideal S80x512 .bf16) (v8 : FVec Ideal S512x128 .bf16)
    (X5 X6 : Vec Ideal S1x128x16384 .bf16) (D : Vec Ideal S1x80x16384 .f32) (N : ℕ) (A : Acc Ideal) : Prop where
  dk : ∀ (r : Fin 80) (s : Fin 512), A.dk (ix2 r s) = ∑ t ∈ Finset.range N, qat X5 ⟨r.val, by omega⟩ t * scale * dsig j v4 v8 X5 X6 s t
  dv : ∀ (r : Fin 64) (s : Fin 512), A.dv (ix2 r s) = ∑ t ∈ Finset.range N, qat X6 ⟨r.val, by omega⟩ t * prob j v4 X5 s t
  dq : ∀ (r : Fin 80) (t : Fin 16384), A.dq (ix3 0 r t)
    = if t.val < N then D (ix3 0 r t) + ∑ s : Fin 512, v6 (ix2 r s) * dsig j v4 v8 X5 X6 s t.val else D (ix3 0 r t)

section Tiles

variable {j : ℕ} {v4 : FVec Ideal S512x128 .bf16} {v6 : FVec Ideal S80x512 .bf16} {v8 : FVec Ideal S512x128 .bf16}
  {X5 X6 : Vec Ideal S1x128x16384 .bf16} {D : Vec Ideal S1x80x16384 .f32}

/-- One tile more. -/
theorem Upto.next {N : ℕ} {A B : Acc Ideal} (h : Upto j v4 v6 v8 X5 X6 D N A) (hN : N + 1024 ≤ 16384)
    (hk : ∀ (r : Fin 80) (s : Fin 512), B.dk (ix2 r s)
      = A.dk (ix2 r s) + ∑ u : Fin 1024, qat X5 ⟨r.val, by omega⟩ (N + u.val) * scale * dsig j v4 v8 X5 X6 s (N + u.val))
    (hv : ∀ (r : Fin 64) (s : Fin 512), B.dv (ix2 r s)
      = A.dv (ix2 r s) + ∑ u : Fin 1024, qat X6 ⟨r.val, by omega⟩ (N + u.val) * prob j v4 X5 s (N + u.val))
    (hq : ∀ (r : Fin 80) (t : Fin 16384), N ≤ t.val → t.val < N + 1024 → B.dq (ix3 0 r t)
      = A.dq (ix3 0 r t) + ∑ s : Fin 512, v6 (ix2 r s) * dsig j v4 v8 X5 X6 s t.val)
    (hq' : ∀ (r : Fin 80) (t : Fin 16384), ¬ (N ≤ t.val ∧ t.val < N + 1024) → B.dq (ix3 0 r t) = A.dq (ix3 0 r t)) :
    Upto j v4 v6 v8 X5 X6 D (N + 1024) B where
  dk r s := by
    rw [hk, h.dk, Finset.sum_range_add, ← Fin.sum_univ_eq_sum_range (fun u => qat X5 ⟨r.val, by omega⟩ (N + u) * scale * dsig j v4 v8 X5 X6 s (N + u)) 1024]
  dv r s := by
    rw [hv, h.dv, Finset.sum_range_add, ← Fin.sum_univ_eq_sum_range (fun u => qat X6 ⟨r.val, by omega⟩ (N + u) * prob j v4 X5 s (N + u)) 1024]
  dq r t := by
    by_cases h1 : N ≤ t.val ∧ t.val < N + 1024
    · rw [hq r t h1.1 h1.2, h.dq, if_neg (by omega), if_pos h1.2]
    · rw [hq' r t h1, h.dq]
      by_cases h2 : t.val < N
      · rw [if_pos h2, if_pos (by omega)]
      · rw [if_neg h2, if_neg (by omega)]

/-- Before the diagonal's tile no query sees a key of the tile. -/
theorem Upto.zero (A : Acc Ideal) (hk : ∀ y, A.dk y = 0) (hv : ∀ y, A.dv y = 0) (hq : A.dq = D) :
    Upto j v4 v6 v8 X5 X6 D (1024 * (j / 2)) A where
  dk r s := by
    rw [hk]; symm
    refine Finset.sum_eq_zero fun t ht => ?_
    have := Finset.mem_range.1 ht
    rw [dsig, prob, if_neg (by omega), zero_mul, mul_zero]
  dv r s := by
    rw [hv]; symm
    refine Finset.sum_eq_zero fun t ht => ?_
    have := Finset.mem_range.1 ht
    rw [prob, if_neg (by omega), mul_zero]
  dq r t := by
    rw [hq]
    split
    · rw [Finset.sum_eq_zero, add_zero]
      intro s _
      rw [dsig, prob, if_neg (by omega), zero_mul, mul_zero]
    · rfl

/-- A tile's exponentials, past the diagonal. -/
theorem pay4_prob {off : Fin 3 → ℕ} {N : ℕ} (ho : off = ![0, 0, N]) (inb : ∀ a, off a + S1x128x1024.size a ≤ S1x128x16384.size a)
    (hN : N + 1024 ≤ 16384) (s : Fin 512) (u : Fin 1024) (hd : 512 * j + s.val ≤ N + u.val) :
    k0_pay4 v4 (qTile off inb X5) (ix2 s u) = prob j v4 X5 s (N + u.val) := by
  rw [pay4_at, prob, if_pos hd]
  refine congrArg Ideal.exp (Finset.sum_congr rfl fun d _ => ?_)
  rw [qTile_at ho inb X5 d u (by omega), qat_of (by omega)]

/-- The sum against the value tile. -/
theorem val_sum {off : Fin 3 → ℕ} {N : ℕ} (ho : off = ![0, 0, N]) (inb : ∀ a, off a + S1x128x1024.size a ≤ S1x128x16384.size a)
    (hN : N + 1024 ≤ 16384) (s : Fin 512) (u : Fin 1024) :
    (∑ d : Fin 128, v8 (ix2 s d) * qTile off inb X6 (ix3 0 d u)) = ∑ d : Fin 128, v8 (ix2 s d) * qat X6 d (N + u.val) :=
  Finset.sum_congr rfl fun d _ => by rw [qTile_at ho inb X6 d u (by omega), qat_of (by omega)]

end Tiles

section Point

variable (i : grid0.Coords) (v4 : FVec Ideal S512x128 .bf16) (v6 : FVec Ideal S80x512 .bf16) (v8 : FVec Ideal S512x128 .bf16)
  (X5 X6 : Vec Ideal S1x128x16384 .bf16) (D : Vec Ideal S1x80x16384 .f32)

theorem trip_upto (k : Fin (k0_t1_loop i).trips) (A : Acc Ideal)
    (h : Upto (i 1).val v4 v6 v8 X5 X6 D (1024 * ((i 1).val / 2 + 1 + k.val)) A) :
    Upto (i 1).val v4 v6 v8 X5 X6 D (1024 * ((i 1).val / 2 + 1 + (k.val + 1))) (trip i v4 v6 v8 X5 X6 k A) := by
  have hk := k.isLt
  have ht := trips_eq i
  have hj := key_lt i
  have hN : 1024 * ((i 1).val / 2 + 1 + k.val) + 1024 ≤ 16384 := by omega
  have o3 := off3_eq i k
  have o4 := off4_eq i k
  have e : 1024 * ((i 1).val / 2 + 1 + (k.val + 1)) = 1024 * ((i 1).val / 2 + 1 + k.val) + 1024 := by omega
  rw [e]
  have hp : ∀ (s : Fin 512) (u : Fin 1024), k0_pay4 v4 (qTile (k0_off3 i k) (k0_off3_inb i k) X5) (ix2 s u)
      = prob (i 1).val v4 X5 s (1024 * ((i 1).val / 2 + 1 + k.val) + u.val) := fun s u => pay4_prob o3 _ hN s u (by omega)
  have hg : ∀ (s : Fin 512) (u : Fin 1024), k0_pay6 v4 v8 (qTile (k0_off3 i k) (k0_off3_inb i k) X5) (qTile (k0_off3 i k) (k0_off3_inb i k) X6) (ix2 s u)
      = dsig (i 1).val v4 v8 X5 X6 s (1024 * ((i 1).val / 2 + 1 + k.val) + u.val) := fun s u => by
    rw [pay6_at, hp, val_sum o3 _ hN, dsig]
  refine h.next hN ?_ ?_ ?_ ?_
  · intro r s
    show k0_pay7 v4 v8 _ _ A.dk (ix2 r s) = _
    rw [pay7_at]
    refine congrArg _ (Finset.sum_congr rfl fun u _ => ?_)
    rw [hg, qTile_at o3 _ X5 _ u (by omega), qat_of (by omega)]
  · intro r s
    show k0_pay5 v4 _ _ A.dv (ix2 r s) = _
    rw [pay5_at]
    refine congrArg _ (Finset.sum_congr rfl fun u _ => ?_)
    rw [hp, qTile_at o3 _ X6 _ u (by omega), qat_of (by omega)]
  · intro r t h1 h2
    refine (putR_in o4 _ _ r t h1 h2).trans ?_
    rw [pay8_at, dTile_at o4 _ _ _ _ (by show _ + (t.val - _) < _; omega)]
    have et : (⟨1024 * ((i 1).val / 2 + 1 + k.val) + (t.val - 1024 * ((i 1).val / 2 + 1 + k.val)), by omega⟩ : Fin 16384) = t := Fin.ext (by show _ + (_ - _) = _; omega)
    refine congrArg₂ (· + ·) (congrArg (fun z => A.dq (ix3 0 r z)) et) (Finset.sum_congr rfl fun s _ => ?_)
    rw [hg]
    exact congrArg (fun z : Fin 16384 => v6 (ix2 r s) * dsig (i 1).val v4 v8 X5 X6 s z.val) et
  · intro r t h1
    exact putR_out o4 _ _ r t h1

theorem diag_upto (A : Acc Ideal) (h : Upto (i 1).val v4 v6 v8 X5 X6 D (1024 * ((i 1).val / 2)) A) :
    Upto (i 1).val v4 v6 v8 X5 X6 D (1024 * ((i 1).val / 2 + 1)) (diag i v4 v6 v8 X5 X6 A) := by
  have hj := key_lt i
  have hN : 1024 * ((i 1).val / 2) + 1024 ≤ 16384 := by omega
  have o1 := off1_eq i
  have o2 := off2_eq i
  have e : 1024 * ((i 1).val / 2 + 1) = 1024 * ((i 1).val / 2) + 1024 := by omega
  rw [e]
  have hp : ∀ (s : Fin 512) (u : Fin 1024), k0_pay24 (keyTile i) v4 (halfW (keyTile i)) (downW (keyTile i)) (qTile (k0_off1 i) (k0_off1_inb i) X5) (ix2 s u)
      = prob (i 1).val v4 X5 s (1024 * ((i 1).val / 2) + u.val) := fun s u => by
    rw [pay24_at]
    by_cases hc : s.val + 512 * ((i 1).val % 2) ≤ u.val
    · rw [if_pos hc]; exact pay4_prob o1 _ hN s u (by omega)
    · rw [if_neg hc, prob, if_neg (by omega)]
  have hg : ∀ (s : Fin 512) (u : Fin 1024), k0_pay26 (keyTile i) v4 v8 (halfW (keyTile i)) (downW (keyTile i)) (qTile (k0_off1 i) (k0_off1_inb i) X5) (qTile (k0_off1 i) (k0_off1_inb i) X6) (ix2 s u)
      = dsig (i 1).val v4 v8 X5 X6 s (1024 * ((i 1).val / 2) + u.val) := fun s u => by
    rw [pay26_at, hp, val_sum o1 _ hN, dsig]
  refine h.next hN ?_ ?_ ?_ ?_
  · intro r s
    show k0_pay28 (k0_pay27 _ v4 v8 _ _ _ _ A.dk) (ix2 r s) = _
    rw [pay27_at]
    refine congrArg _ (Finset.sum_congr rfl fun u _ => ?_)
    rw [hg, qTile_at o1 _ X5 _ u (by omega), qat_of (by omega)]
  · intro r s
    show k0_pay25 (keyTile i) v4 (halfW (keyTile i)) (downW (keyTile i)) _ _ A.dv (ix2 r s) = _
    rw [pay25_at]
    refine congrArg _ (Finset.sum_congr rfl fun u _ => ?_)
    rw [hp, qTile_at o1 _ X6 _ u (by omega), qat_of (by omega)]
  · intro r t h1 h2
    refine (putR_in o2 _ _ r t h1 h2).trans ?_
    rw [pay29_at, dTile_at o2 _ _ _ _ (by show _ + (t.val - _) < _; omega)]
    have et : (⟨1024 * ((i 1).val / 2) + (t.val - 1024 * ((i 1).val / 2)), by omega⟩ : Fin 16384) = t := Fin.ext (by show _ + (_ - _) = _; omega)
    refine congrArg₂ (· + ·) (congrArg (fun z => A.dq (ix3 0 r z)) et) (Finset.sum_congr rfl fun s _ => ?_)
    rw [hg]
    exact congrArg (fun z : Fin 16384 => v6 (ix2 r s) * dsig (i 1).val v4 v8 X5 X6 s z.val) et
  · intro r t h1
    exact putR_out o2 _ _ r t h1

theorem state_upto (A : Acc Ideal) (h : Upto (i 1).val v4 v6 v8 X5 X6 D (1024 * ((i 1).val / 2 + 1)) A) :
    ∀ k, k ≤ (k0_t1_loop i).trips → Upto (i 1).val v4 v6 v8 X5 X6 D (1024 * ((i 1).val / 2 + 1 + k)) (state i v4 v6 v8 X5 X6 A k)
  | 0, _ => h
  | k + 1, hk => by
    rw [state_succ i v4 v6 v8 X5 X6 A ⟨k, hk⟩]
    exact trip_upto i v4 v6 v8 X5 X6 D ⟨k, hk⟩ _ (state_upto A h k (Nat.le_of_succ_le hk))

end Point

/-- THE POINT'S ACCUMULATORS, as sums over all the queries. -/
theorem total_upto (i : grid0.Coords) (X2 : Vec Ideal S1x512x128 .bf16) (X3 : Vec Ideal S1x128x512 .bf16) (X4 : Vec Ideal S1x512x128 .bf16)
    (X5 X6 : Vec Ideal S1x128x16384 .bf16) (D : Vec Ideal S1x80x16384 .f32) :
    Upto (i 1).val (keyRows X2) (keyCols X3) (valRows X4) X5 X6 (if (i 1).val = 0 then fun _ => 0 else D) 16384 (total i X2 X3 X4 X5 X6 D) := by
  have hj := key_lt i
  have e : 1024 * ((i 1).val / 2 + 1 + (k0_t1_loop i).trips) = 16384 := by rw [trips_eq]; omega
  rw [← e]
  unfold total
  refine state_upto i _ _ _ X5 X6 _ _ (diag_upto i _ _ _ X5 X6 _ _ (Upto.zero _ pay20_at pay21_at ?_)) _ (Nat.le_refl _)
  unfold start; dsimp only
  by_cases h : (i 1).val = 0
  · rw [if_pos ((isFirst_iff i).2 h), if_pos h]; exact funext pay16_at
  · rw [if_neg (fun h' => h ((isFirst_iff i).1 h')), if_neg h]

end Cert.KernelIdeal.Fox

end
-- ==== Proof.Blocks.lean ====
/-
  The three arrays the kernel writes, as sums over its five operands.

  Stated over the operands as arrays: `KA` the keys' score rows, `KT` their transpose, `VA` the keys' value rows, `QA` the
  queries' score columns, `DO` their value columns. Each grid point reads its head's blocks of them (`iblk0_at` …); the
  `dqᵀ` window gathers a head's 32 key tiles (`dqIn_at`), and the blocks written back make up the arrays (`final_5` …).
-/
module

public import proofs.«01_k».proof.Proof.Sums
public import proofs.«01_k».proof.Proof.Run
public import Idealize.ShloMosaic.Lib.Pipeline.ValueKit.Geometry

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.ShloMosaic.Pipeline (Dat BodyObligation)

/-! ## The sums over whole heads -/

/-- The probability (up to what the operands hold) of key `s` at query `t`. -/
def probA (KA : Vec Ideal S8x16384x128 .bf16) (QA : Vec Ideal S8x128x16384 .bf16) (h : Fin 8) (s t : Fin 16384) : EReal :=
  if s.val ≤ t.val then Ideal.exp (∑ d : Fin 128, KA (ix3 h s d) * (QA (ix3 h d t) * scale)) else 0

/-- The score's gradient there. -/
def dsigA (KA : Vec Ideal S8x16384x128 .bf16) (VA : Vec Ideal S8x16384x128 .bf16) (QA DO : Vec Ideal S8x128x16384 .bf16)
    (h : Fin 8) (s t : Fin 16384) : EReal :=
  probA KA QA h s t * ∑ d : Fin 128, VA (ix3 h s d) * DO (ix3 h d t)

variable (m : (ℓ : Loc nD τ sig) → Buf (Elt Ideal) ℓ) (c : Dev nD)

abbrev opKA : Vec Ideal S8x16384x128 .bf16 := V m c main_v52
abbrev opKT : Vec Ideal S8x128x16384 .bf16 := V m c main_v108
abbrev opVA : Vec Ideal S8x16384x128 .bf16 := V m c main_v86
abbrev opQA : Vec Ideal S8x128x16384 .bf16 := V m c main_v79
abbrev opDO : Vec Ideal S8x128x16384 .bf16 := V m c main_v107

/-- The head of a grid point, -/
def headOf (t : Fin cfg0.N) : Fin 8 := ⟨t.val / 32, by have := t.isLt; have : cfg0.N = 256 := N_0; omega⟩
/-- and the key its tile's row `s` is. -/
def keyOf (t : Fin cfg0.N) (s : Fin 512) : Fin 16384 := ⟨512 * (t.val % 32) + s.val, by omega⟩

theorem index_0 : ∀ t : Fin cfg0.N, win0_0.index t = ![t.val / 32, t.val % 32, 0] := (by decide +kernel : ∀ t : Fin grid0.N, win0_0.index t = ![t.val / 32, t.val % 32, 0])
theorem index_1 : ∀ t : Fin cfg0.N, win0_1.index t = ![t.val / 32, 0, t.val % 32] := (by decide +kernel : ∀ t : Fin grid0.N, win0_1.index t = ![t.val / 32, 0, t.val % 32])
theorem index_2 : ∀ t : Fin cfg0.N, win0_2.index t = ![t.val / 32, t.val % 32, 0] := (by decide +kernel : ∀ t : Fin grid0.N, win0_2.index t = ![t.val / 32, t.val % 32, 0])
theorem index_3 : ∀ t : Fin cfg0.N, win0_3.index t = ![t.val / 32, 0, 0] := (by decide +kernel : ∀ t : Fin grid0.N, win0_3.index t = ![t.val / 32, 0, 0])
theorem index_4 : ∀ t : Fin cfg0.N, win0_4.index t = ![t.val / 32, 0, 0] := (by decide +kernel : ∀ t : Fin grid0.N, win0_4.index t = ![t.val / 32, 0, 0])
theorem index_5 : ∀ t : Fin cfg0.N, win0_5.index t = ![t.val / 32, 0, 0] := (by decide +kernel : ∀ t : Fin grid0.N, win0_5.index t = ![t.val / 32, 0, 0])
theorem index_6 : ∀ t : Fin cfg0.N, win0_6.index t = ![t.val / 32, 0, t.val % 32] := (by decide +kernel : ∀ t : Fin grid0.N, win0_6.index t = ![t.val / 32, 0, t.val % 32])
theorem index_7 : ∀ t : Fin cfg0.N, win0_7.index t = ![t.val / 32, 0, t.val % 32] := (by decide +kernel : ∀ t : Fin grid0.N, win0_7.index t = ![t.val / 32, 0, t.val % 32])

/-! ## The blocks at an element -/

theorem iblk0_at (t : Fin cfg0.N) (s : Fin 512) (d : Fin 128) : iblk m c 0 t (ix3 0 s d) = opKA m c (ix3 (headOf t) (keyOf t s) d) := by
  blk_simp [iblk, index_0]; blk_ext [index_0, headOf, keyOf]
theorem iblk1_at (t : Fin cfg0.N) (d : Fin 128) (s : Fin 512) : iblk m c 1 t (ix3 0 d s) = opKT m c (ix3 (headOf t) d (keyOf t s)) := by
  blk_simp [iblk, index_1]; blk_ext [index_1, headOf, keyOf]
theorem iblk2_at (t : Fin cfg0.N) (s : Fin 512) (d : Fin 128) : iblk m c 2 t (ix3 0 s d) = opVA m c (ix3 (headOf t) (keyOf t s) d) := by
  blk_simp [iblk, index_2]; blk_ext [index_2, headOf, keyOf]
theorem iblk3_at (t : Fin cfg0.N) (d : Fin 128) (u : Fin 16384) : iblk m c 3 t (ix3 0 d u) = opQA m c (ix3 (headOf t) d u) := by
  blk_simp [iblk, index_3]; blk_ext [index_3, headOf, keyOf]
theorem iblk4_at (t : Fin cfg0.N) (d : Fin 128) (u : Fin 16384) : iblk m c 4 t (ix3 0 d u) = opDO m c (ix3 (headOf t) d u) := by
  blk_simp [iblk, index_4]; blk_ext [index_4, headOf, keyOf]

theorem prob_at (t : Fin cfg0.N) (s : Fin 512) (u : Fin 16384) :
    prob ((grid0.coords t) 1).val (keyRows (iblk m c 0 t)) (iblk m c 3 t) s u.val = probA (opKA m c) (opQA m c) (headOf t) (keyOf t s) u := by
  rw [prob, probA, coords_key]
  refine if_congr Iff.rfl (congrArg Ideal.exp (Finset.sum_congr rfl fun d _ => ?_)) rfl
  rw [keyRows_at, qat_of u.isLt, iblk0_at, iblk3_at]

theorem dsig_at (t : Fin cfg0.N) (s : Fin 512) (u : Fin 16384) :
    dsig ((grid0.coords t) 1).val (keyRows (iblk m c 0 t)) (valRows (iblk m c 2 t)) (iblk m c 3 t) (iblk m c 4 t) s u.val
      = dsigA (opKA m c) (opVA m c) (opQA m c) (opDO m c) (headOf t) (keyOf t s) u := by
  rw [dsig, dsigA, prob_at]
  refine congrArg _ (Finset.sum_congr rfl fun d _ => ?_)
  rw [valRows_at, qat_of u.isLt, iblk2_at, iblk4_at]

/-! ## The key gradient's and the value gradient's blocks -/

theorem upto_at (t : Fin cfg0.N) : Upto ((grid0.coords t) 1).val (keyRows (iblk m c 0 t)) (keyCols (iblk m c 1 t)) (valRows (iblk m c 2 t))
    (iblk m c 3 t) (iblk m c 4 t) (if ((grid0.coords t) 1).val = 0 then fun _ => 0 else dqIn m c t.val) 16384 (accAt m c t) := by
  unfold accAt
  exact total_upto (grid0.coords t) _ _ _ _ _ _

theorem dk_at (t : Fin cfg0.N) (r : Fin 80) (s : Fin 512) : (accAt m c t).dk (ix2 r s)
    = ∑ u : Fin 16384, opQA m c (ix3 (headOf t) ⟨r.val, by omega⟩ u) * scale
        * dsigA (opKA m c) (opVA m c) (opQA m c) (opDO m c) (headOf t) (keyOf t s) u := by
  refine ((upto_at m c t).dk r s).trans ?_
  rw [Finset.sum_range]
  refine Finset.sum_congr rfl fun u _ => ?_
  rw [dsig_at, qat_of u.isLt, iblk3_at]

theorem dv_at (t : Fin cfg0.N) (r : Fin 64) (s : Fin 512) : (accAt m c t).dv (ix2 r s)
    = ∑ u : Fin 16384, opDO m c (ix3 (headOf t) ⟨r.val, by omega⟩ u) * probA (opKA m c) (opQA m c) (headOf t) (keyOf t s) u := by
  refine ((upto_at m c t).dv r s).trans ?_
  rw [Finset.sum_range]
  refine Finset.sum_congr rfl fun u _ => ?_
  rw [prob_at, qat_of u.isLt, iblk4_at]

/-! ## The query gradient over a head's key tiles -/

/-- Key `n`'s share of row `r` of the query gradient (zero past the keys). -/
def share (h : Fin 8) (r : Fin 80) (u : Fin 16384) (n : ℕ) : EReal :=
  if hn : n < 16384 then opKT m c (ix3 h ⟨r.val, by omega⟩ ⟨n, hn⟩) * dsigA (opKA m c) (opVA m c) (opQA m c) (opDO m c) h ⟨n, hn⟩ u else 0

theorem dq_step (t : Fin cfg0.N) (r : Fin 80) (u : Fin 16384) : (accAt m c t).dq (ix3 0 r u)
    = (if t.val % 32 = 0 then 0 else dqIn m c t.val (ix3 0 r u)) + ∑ s : Fin 512, share m c (headOf t) r u (512 * (t.val % 32) + s.val) := by
  refine ((upto_at m c t).dq r u).trans ?_
  rw [if_pos u.isLt]
  refine congrArg₂ (· + ·) ?_ (Finset.sum_congr rfl fun s _ => ?_)
  · rw [coords_key]; split <;> rfl
  · rw [dsig_at, keyCols_at, iblk1_at, share, dif_pos (by omega : 512 * (t.val % 32) + s.val < 16384)]; rfl

theorem scaled_not {i : grid0.Coords} (h : (i 1).val ≠ 31) (D : Vec Ideal S1x80x16384 .f32) : scaled i D = D := by
  rw [scaled, if_neg fun e => h ((isLast_iff i).1 e)]

theorem scaled_last {i : grid0.Coords} (h : (i 1).val = 31) (D : Vec Ideal S1x80x16384 .f32) (r : Fin 80) (u : Fin 16384) :
    scaled i D (ix3 0 r u) = if r.val < 64 then D (ix3 0 r u) * Ideal.ofBits .f32 0x3E000000#32 else D (ix3 0 r u) := by
  rw [scaled, if_pos ((isLast_iff i).2 h)]
  unfold putR
  by_cases hr : r.val < 64
  · rw [dif_pos (fun a => by fin_cases a <;> simp <;> omega), if_pos hr]
    refine Eq.trans (congrArg _ (?_ : _ = ix3 0 ⟨r.val, hr⟩ u)) ((pay1_at _ _ _).trans (congrArg (· * _) ?_))
    · funext a; apply Fin.ext; fin_cases a <;> simp [Rect.unitLocal]
    · refine congrArg D ?_
      funext a; apply Fin.ext; fin_cases a <;> simp [Rect.unit]
  · rw [dif_neg (fun h => hr (by have := (h 1).2; simpa using this)), if_neg hr]

theorem acc_dq (t : Fin cfg0.N) (r : Fin 80) (u : Fin 16384) :
    (accAt m c t).dq (ix3 0 r u) = ∑ n ∈ Finset.range (512 * (t.val % 32 + 1)), share m c (headOf t) r u n := by
  have hN : cfg0.N = 256 := N_0
  obtain ⟨n, hn⟩ := t
  induction n with
  | zero =>
    rw [dq_step]; simp [Finset.sum_range]
  | succ n ih =>
    rw [dq_step]
    have ih := ih (by omega)
    simp only at ih ⊢
    rw [show 512 * ((n + 1) % 32 + 1) = 512 * ((n + 1) % 32) + 512 by ring, Finset.sum_range_add, Finset.sum_range (n := 512)]
    refine congrArg (· + _) ?_
    by_cases h0 : (n + 1) % 32 = 0
    · rw [if_pos h0, h0]; simp
    · rw [if_neg h0]
      refine (congrFun (dqIn_succ m c ⟨n, by omega⟩) _).trans ?_
      rw [scaled_not (by rw [coords_key]; simp only; omega), ih]
      have e1 : headOf ⟨n, by omega⟩ = headOf ⟨n + 1, hn⟩ := Fin.ext (by simp only [headOf]; omega)
      rw [e1, show n % 32 + 1 = (n + 1) % 32 by omega]

/-- Row `r` of the query gradient before its scaling. -/
def dqSum (h : Fin 8) (r : Fin 80) (u : Fin 16384) : EReal :=
  ∑ s : Fin 16384, opKT m c (ix3 h ⟨r.val, by omega⟩ s) * dsigA (opKA m c) (opVA m c) (opQA m c) (opDO m c) h s u

theorem acc_dq_last (t : Fin cfg0.N) (ht : t.val % 32 = 31) (r : Fin 80) (u : Fin 16384) :
    (accAt m c t).dq (ix3 0 r u) = dqSum m c (headOf t) r u := by
  rw [acc_dq, ht, dqSum, Finset.sum_range]
  refine Finset.sum_congr rfl fun s _ => ?_
  rw [share, dif_pos s.isLt]

/-! ## The arrays -/

def outDQ (y : S8x80x16384.Idx) : EReal :=
  if (y 1).val < 64 then dqSum m c (y 0) (y 1) (y 2) * Ideal.ofBits .f32 0x3E000000#32 else dqSum m c (y 0) (y 1) (y 2)
def outDK (y : S8x80x16384.Idx) : EReal :=
  ∑ u : Fin 16384, opQA m c (ix3 (y 0) ⟨(y 1).val, Nat.lt_of_lt_of_le (y 1).isLt (by decide)⟩ u) * scale * dsigA (opKA m c) (opVA m c) (opQA m c) (opDO m c) (y 0) (y 2) u
def outDV (y : S8x64x16384.Idx) : EReal :=
  ∑ u : Fin 16384, opDO m c (ix3 (y 0) ⟨(y 1).val, Nat.lt_of_lt_of_le (y 1).isLt (by decide)⟩ u) * probA (opKA m c) (opQA m c) (y 0) (y 2) u

theorem final_5 : (dats m 0 c).arrAt 5 cfg0.N = outDQ m c := by
  refine (dats m 0 c).arrAt_eq_of_covers 5 _ (by decide +kernel) fun t hf y => ?_
  blk_simp
  rw [after_5]
  have ht : t.val % 32 = 31 := (flush0_5 t).1 hf
  obtain ⟨a, r, u, rfl⟩ : ∃ (a : Fin 1) (r : Fin 80) (u : Fin 16384), y = ix3 a r u := ⟨y 0, y 1, y 2, by funext k; fin_cases k <;> rfl⟩
  obtain rfl : a = 0 := Subsingleton.elim _ _
  refine (scaled_last ((coords_key t).trans ht) _ r u).trans ?_
  rw [acc_dq_last m c t ht]
  have e : ((win0_5.blk t).view.emb (ix3 0 r u) : S8x80x16384.Idx) = ix3 (headOf t) r u := by blk_ext [index_5, headOf]
  exact (congrArg (outDQ m c) e).symm

theorem final_6 : (dats m 0 c).arrAt 6 cfg0.N = outDK m c := by
  refine (dats m 0 c).arrAt_eq_of_covers 6 _ (by decide +kernel) fun t hf y => ?_
  blk_simp
  rw [after_6]
  obtain ⟨a, r, s, rfl⟩ : ∃ (a : Fin 1) (r : Fin 80) (s : Fin 512), y = ix3 a r s := ⟨y 0, y 1, y 2, by funext k; fin_cases k <;> rfl⟩
  obtain rfl : a = 0 := Subsingleton.elim _ _
  refine (pay32_at _ r s).trans ((dk_at m c t r s).trans ?_)
  have e : ((win0_6.blk t).view.emb (ix3 0 r s) : S8x80x16384.Idx) = ix3 (headOf t) r (keyOf t s) := by blk_ext [index_6, headOf, keyOf]
  exact (congrArg (outDK m c) e).symm

theorem final_7 : (dats m 0 c).arrAt 7 cfg0.N = outDV m c := by
  refine (dats m 0 c).arrAt_eq_of_covers 7 _ (by decide +kernel) fun t hf y => ?_
  blk_simp
  rw [after_7]
  obtain ⟨a, r, s, rfl⟩ : ∃ (a : Fin 1) (r : Fin 64) (s : Fin 512), y = ix3 a r s := ⟨y 0, y 1, y 2, by funext k; fin_cases k <;> rfl⟩
  obtain rfl : a = 0 := Subsingleton.elim _ _
  refine (pay33_at _ r s).trans ((dv_at m c t r s).trans ?_)
  have e : ((win0_7.blk t).view.emb (ix3 0 r s) : S8x64x16384.Idx) = ix3 (headOf t) r (keyOf t s) := by blk_ext [index_7, headOf, keyOf]
  exact (congrArg (outDV m c) e).symm

end Cert.KernelIdeal.Fox

end
-- ==== Proof.Host.lean ====
/-
  The five operands the kernel is called on, as the lines before the call make them from the arguments.

  `scoreV`, `lseV` and `delV` are what the forward pass saves: the masked scores, each row's log-sum of exponentials and
  its `do · o`. `kaV`, `qaV`, `vaV` and `doV` append to the arguments the rows that let one product give a score less its
  row's log-sum, and another `v · do` less the row's `do · o`: a number split in three parts, ones, and eights.
-/
module

public import proofs.«01_k».proof.Proof.Blocks
public import Idealize.ShloMosaic.Lib.StableHlo.ReadAt
public import Idealize.ShloMosaic.Lib.StableHlo.RunClose

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

abbrev A3 := FVec Ideal S8x16384x64 .f32
abbrev A2 := FVec Ideal S8x16384 .f32

/-! ## The operands as functions of the arguments -/

def maskV : IVec S16384x16384 1 :=
  cmpi .sle (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))

/-- The masked scores. -/
def scoreV (q k : A3) (cc : A2) : FVec Ideal S8x16384x16384 .f32 :=
  select (broadcastInDim S8x16384x16384 ![1, 2] bcast_S16384x16384_S8x16384x16384_1_2 maskV)
    (subf (mulf (Host.dotGeneral dot_S8x16384x64_S8x16384x64_S8x16384x16384_2_2_1_1_0_0 none q k)
        (broadcastInDim S8x16384x16384 ![] bcast_S_S8x16384x16384 (constant S_ .f32 0x3E000000#32)))
      (broadcastInDim S8x16384x16384 ![0, 1, 2] bcast_S8x1x16384_S8x16384x16384_0_1_2 (broadcastInDim S8x1x16384 ![0, 2] bcast_S8x16384_S8x1x16384_0_2 cc)))
    (broadcastInDim S8x16384x16384 ![] bcast_S_S8x16384x16384 (constant S_ .f32 0xFF800000#32))

/-- Each row's maximum, -/
def maxV (q k : A3) (cc : A2) : FVec Ideal S8x16384x1 .f32 :=
  broadcastInDim S8x16384x1 ![0, 1] bcast_S8x16384_S8x16384x1_0_1
    (Host.reduce FloatOps.maximumf (scoreV q k cc) (constant S_ .f32 0xFF800000#32) reducesTo_S8x16384x16384_S8x16384_d2 h_S_)
/-- the exponentials, -/
def expV (q k : A3) (cc : A2) : FVec Ideal S8x16384x16384 .f32 :=
  Host.exp (subf (scoreV q k cc) (broadcastInDim S8x16384x16384 ![0, 1, 2] bcast_S8x16384x1_S8x16384x16384_0_1_2 (maxV q k cc)))
/-- their sums, -/
def sumV (q k : A3) (cc : A2) : FVec Ideal S8x16384x1 .f32 :=
  broadcastInDim S8x16384x1 ![0, 1] bcast_S8x16384_S8x16384x1_0_1
    (Host.reduceAdd (expV q k cc) (constant S_ .f32 0x00000000#32) reducesTo_S8x16384x16384_S8x16384_d2 h_S_)
/-- the log-sums -/
def lseV (q k : A3) (cc : A2) : A2 :=
  shapeCast S8x16384 (addf (maxV q k cc) (Host.log (sumV q k cc))) shapeCasts_S8x16384x1_S8x16384
/-- the probabilities, the attention's output -/
def probV (q k : A3) (cc : A2) : FVec Ideal S8x16384x16384 .f32 :=
  Host.divf (expV q k cc) (broadcastInDim S8x16384x16384 ![0, 1, 2] bcast_S8x16384x1_S8x16384x16384_0_1_2 (sumV q k cc))
def attV (q k v : A3) (cc : A2) : A3 :=
  Host.dotGeneral dot_S8x16384x16384_S8x16384x64_S8x16384x64_2_1_1_2_0_0 none (probV q k cc) v
/-- and `do · o`. -/
def delV (q k v : A3) (cc : A2) (dO : A3) : A2 :=
  Host.reduceAdd (mulf dO (attV q k v cc))
    (constant S_ .f32 0x00000000#32) reducesTo_S8x16384x64_S8x16384_d2 h_S_

/-- A number's leading part, what that leaves, and what both leave. -/
def hiV (x : A2) : A2 := extf .f32 (truncf .bf16 x bitsLt_bf16_f32) bitsLt_bf16_f32
def midV (x : A2) : A2 := extf .f32 (truncf .bf16 (subf x (hiV x)) bitsLt_bf16_f32) bitsLt_bf16_f32
def loV (x : A2) : A2 := extf .f32 (truncf .bf16 (subf (subf x (hiV x)) (midV x)) bitsLt_bf16_f32) bitsLt_bf16_f32

def laneV (x : FVec Ideal S8x16384 .bf16) : FVec Ideal S8x16384x1 .bf16 := broadcastInDim S8x16384x1 ![0, 1] bcast_S8x16384_S8x16384x1_0_1 x
def rowV (x : FVec Ideal S8x16384 .bf16) : FVec Ideal S8x1x16384 .bf16 := broadcastInDim S8x1x16384 ![0, 2] bcast_S8x16384_S8x1x16384_0_2 x
def oneV : FVec Ideal S8x16384 .bf16 := broadcastInDim S8x16384 ![] bcast_S_S8x16384 (constant S_ .bf16 0x3F80#16)
def eightV : FVec Ideal S8x16384 .bf16 := broadcastInDim S8x16384 ![] bcast_S_S8x16384 (constant S_ .bf16 0x4100#16)
def zeroV : FVec Ideal S_ .bf16 := sitofp .bf16 (constantI S_ 32 0#32)
def lowV (x : A2) : FVec Ideal S8x16384 .bf16 := truncf .bf16 x bitsLt_bf16_f32

/-- Three rows on top of one another. -/
def rows3V (a b e : FVec Ideal S8x16384 .bf16) : FVec Ideal S8x3x16384 .bf16 :=
  concatenate S8x3x16384 1 [⟨S8x1x16384, rowV a⟩, ⟨S8x1x16384, rowV b⟩, ⟨S8x1x16384, rowV e⟩] concatenates_S8x1x16384_S8x1x16384_S8x1x16384_S8x3x16384_d1
/-- Rows under an argument's. -/
def underV (x : A3) (r : FVec Ideal S8x3x16384 .bf16) : FVec Ideal S8x128x16384 .bf16 :=
  concatenate S8x128x16384 1 [⟨S8x64x16384, transpose S8x64x16384 [0, 2, 1] (truncf .bf16 x bitsLt_bf16_f32) transposes_S8x16384x64_S8x64x16384_0_2_1⟩,
    ⟨S8x64x16384, pad S8x64x16384 ![0, 0, 0] ![0, 61, 0] ![0, 0, 0] r zeroV pads_S8x3x16384_S8x64x16384_000_0610_000 h_S_⟩] concatenates_S8x64x16384_S8x64x16384_S8x128x16384_d1

def kaV (k : A3) (cc : A2) : FVec Ideal S8x16384x128 .bf16 :=
  concatenate S8x16384x128 2 [⟨S8x16384x64, truncf .bf16 k bitsLt_bf16_f32⟩,
    ⟨S8x16384x64, pad S8x16384x64 ![0, 0, 0] ![0, 0, 58] ![0, 0, 0]
      (concatenate S8x16384x6 2 [⟨S8x16384x1, laneV (lowV (hiV (Host.negf cc)))⟩, ⟨S8x16384x1, laneV (lowV (midV (Host.negf cc)))⟩,
        ⟨S8x16384x1, laneV (lowV (loV (Host.negf cc)))⟩, ⟨S8x16384x1, laneV oneV⟩, ⟨S8x16384x1, laneV oneV⟩, ⟨S8x16384x1, laneV oneV⟩]
        concatenates_S8x16384x1_S8x16384x1_S8x16384x1_S8x16384x1_S8x16384x1_S8x16384x1_S8x16384x6_d2)
      zeroV pads_S8x16384x6_S8x16384x64_000_000_0580 h_S_⟩] concatenates_S8x16384x64_S8x16384x64_S8x16384x128_d2

def vaV (v : A3) : FVec Ideal S8x16384x128 .bf16 :=
  concatenate S8x16384x128 2 [⟨S8x16384x64, truncf .bf16 v bitsLt_bf16_f32⟩,
    ⟨S8x16384x64, pad S8x16384x64 ![0, 0, 0] ![0, 0, 61] ![0, 0, 0]
      (concatenate S8x16384x3 2 [⟨S8x16384x1, laneV oneV⟩, ⟨S8x16384x1, laneV oneV⟩, ⟨S8x16384x1, laneV oneV⟩]
        concatenates_S8x16384x1_S8x16384x1_S8x16384x1_S8x16384x3_d2)
      zeroV pads_S8x16384x3_S8x16384x64_000_000_0610 h_S_⟩] concatenates_S8x16384x64_S8x16384x64_S8x16384x128_d2

def split3V (x : A2) : FVec Ideal S8x3x16384 .bf16 := rows3V (lowV (hiV x)) (lowV (midV x)) (lowV (loV x))

def qaV (q : A3) (lse : A2) : FVec Ideal S8x128x16384 .bf16 :=
  Host.dynamicUpdateSlice (underV q (rows3V eightV eightV eightV))
    (split3V (mulf lse (broadcastInDim S8x16384 ![] bcast_S_S8x16384 (constant S_ .f32 0xC1000000#32))))
    (fun k => ((![constantI S_ 32 0#32, constantI S_ 32 67#32, constantI S_ 32 0#32] : Fin 3 → IVec S_ 32) k (Shape.Idx.first h_S_)).toInt) updateFits_S8x128x16384_S8x3x16384

def doV (dO : A3) (del : A2) : FVec Ideal S8x128x16384 .bf16 := underV dO (split3V (Host.negf del))

/-! ## The buffers hold them -/

variable (m : (ℓ : Loc nD τ sig) → Buf (Elt Ideal) ℓ) (c : Dev nD)

abbrev a0 : A3 := m ((c.tc : Thread nD τ).loc main_arg0)
abbrev a1 : A3 := m ((c.tc : Thread nD τ).loc main_arg1)
abbrev a2 : A3 := m ((c.tc : Thread nD τ).loc main_arg2)
abbrev a3 : A2 := m ((c.tc : Thread nD τ).loc main_arg3)
abbrev a4 : A3 := m ((c.tc : Thread nD τ).loc main_arg4)

theorem V_va : opVA m c = vaV (a2 m c) := by
  show StableHlo.after (List.flatten _) _ _ = _
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl
theorem V_ka : opKA m c = kaV (a1 m c) (a3 m c) := by
  show StableHlo.after (List.flatten _) _ _ = _
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl
theorem V_kt : opKT m c = transpose S8x128x16384 [0, 2, 1] (kaV (a1 m c) (a3 m c)) transposes_S8x16384x128_S8x128x16384_0_2_1 := by
  show StableHlo.after (List.flatten _) _ _ = _
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl
/-- The buffers after the lines that compute what the forward pass saves. -/
def saved : Valuation τ sig (Elt Ideal) := StableHlo.after (List.flatten [hostOps0, hostOps0_1, hostOps0_2]) (fun b => m (c, b))

theorem V_saved : V0 m c = StableHlo.after (List.flatten [hostOps0_7, hostOps0_8, hostOps0_9, hostOps0_10])
    (StableHlo.after (List.flatten [hostOps0_3, hostOps0_4, hostOps0_5, hostOps0_6]) (saved m c)) := by
  unfold saved
  rw [← StableHlo.after_append, ← StableHlo.after_append]
  rfl

theorem saved_lse : saved m c (Proc.devRef .tc main_v22) = lseV (a0 m c) (a1 m c) (a3 m c) := by
  unfold saved
  simp only [hostOps0, hostOps0_1, hostOps0_2,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl
theorem saved_del : saved m c (Proc.devRef .tc main_v27) = delV (a0 m c) (a1 m c) (a2 m c) (a3 m c) (a4 m c) := by
  unfold saved
  simp only [hostOps0, hostOps0_1, hostOps0_2,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl
theorem saved_eight : saved m c (Proc.devRef .tc main_v29) = eightV := by
  unfold saved
  simp only [hostOps0, hostOps0_1, hostOps0_2,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl
theorem saved_arg0 : saved m c (Proc.devRef .tc main_arg0) = a0 m c := by
  unfold saved
  simp only [hostOps0, hostOps0_1, hostOps0_2,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl
theorem saved_arg4 : saved m c (Proc.devRef .tc main_arg4) = a4 m c := by
  unfold saved
  simp only [hostOps0, hostOps0_1, hostOps0_2,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl

theorem qa_of (W : Valuation τ sig (Elt Ideal)) : StableHlo.after (List.flatten [hostOps0_3, hostOps0_4, hostOps0_5, hostOps0_6]) W (Proc.devRef .tc main_v79)
    = Host.dynamicUpdateSlice (underV (W (Proc.devRef .tc main_arg0)) (rows3V (W (Proc.devRef .tc main_v29)) (W (Proc.devRef .tc main_v29)) (W (Proc.devRef .tc main_v29))))
        (split3V (mulf (F := Ideal) (φ := .f32) (W (Proc.devRef .tc main_v22)) (broadcastInDim S8x16384 ![] bcast_S_S8x16384 (constant S_ .f32 0xC1000000#32))))
        (fun k => ((![constantI S_ 32 0#32, constantI S_ 32 67#32, constantI S_ 32 0#32] : Fin 3 → IVec S_ 32) k (Shape.Idx.first h_S_)).toInt) updateFits_S8x128x16384_S8x3x16384 := by
  simp only [hostOps0_3, hostOps0_4, hostOps0_5, hostOps0_6,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp_entrywise
  rfl

theorem do_of (W : Valuation τ sig (Elt Ideal)) : StableHlo.after (List.flatten [hostOps0_7, hostOps0_8, hostOps0_9, hostOps0_10]) W (Proc.devRef .tc main_v107)
    = doV (W (Proc.devRef .tc main_arg4)) (W (Proc.devRef .tc main_v27)) := by
  simp only [hostOps0_7, hostOps0_8, hostOps0_9, hostOps0_10,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl
theorem keep_qa (W : Valuation τ sig (Elt Ideal)) : StableHlo.after (List.flatten [hostOps0_7, hostOps0_8, hostOps0_9, hostOps0_10]) W (Proc.devRef .tc main_v79) = W (Proc.devRef .tc main_v79) := by
  simp only [hostOps0_7, hostOps0_8, hostOps0_9, hostOps0_10,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp
theorem keep_arg4 (W : Valuation τ sig (Elt Ideal)) : StableHlo.after (List.flatten [hostOps0_3, hostOps0_4, hostOps0_5, hostOps0_6]) W (Proc.devRef .tc main_arg4) = W (Proc.devRef .tc main_arg4) := by
  simp only [hostOps0_3, hostOps0_4, hostOps0_5, hostOps0_6,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp
theorem keep_del (W : Valuation τ sig (Elt Ideal)) : StableHlo.after (List.flatten [hostOps0_3, hostOps0_4, hostOps0_5, hostOps0_6]) W (Proc.devRef .tc main_v27) = W (Proc.devRef .tc main_v27) := by
  simp only [hostOps0_3, hostOps0_4, hostOps0_5, hostOps0_6,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp

theorem V_qa : opQA m c = qaV (a0 m c) (lseV (a0 m c) (a1 m c) (a3 m c)) := by
  show V0 m c (Proc.devRef .tc main_v79) = _
  rw [V_saved, keep_qa, qa_of, saved_lse, saved_eight, saved_arg0]; rfl
theorem V_do : opDO m c = doV (a4 m c) (delV (a0 m c) (a1 m c) (a2 m c) (a3 m c) (a4 m c)) := by
  show V0 m c (Proc.devRef .tc main_v107) = _
  rw [V_saved, do_of, keep_arg4, keep_del, saved_del, saved_arg4]

end Cert.KernelIdeal.Fox

end
-- ==== Proof.Real.lean ====
/-
  The gradient of causal attention with forget gates, over the real numbers, and the steps from the extended reals to it.

  `score` is a query's score at a key up to what depends on the query alone; `prob` the softmax over the keys not after the
  query; `dsc` the score's gradient. A row's maximum drops out of the softmax, whatever real number it is.
-/
module

public import Idealize.ShloMosaic.Lib.Pointwise

@[expose] public section

noncomputable section

namespace Cert.Grad

open Idealize.ShloMosaic

theorem ofBits_eighth : Ideal.ofBits .f32 0x3E000000#32 = (((1 : ℝ) / 8 : ℝ) : EReal) := by
  simp [Ideal.ofBits, Ideal.ieee, -EReal.coe_mul]; norm_num
theorem ofBits_bot : Ideal.ofBits .f32 0xFF800000#32 = (⊥ : EReal) := by
  simp [Ideal.ofBits, Ideal.ieee]

theorem toInt_small (a : ℕ) (ha : a < 65536) : (BitVec.ofNat 32 a).toInt = (a : Int) := by
  have e : (BitVec.ofNat 32 a).toNat = a := by rw [BitVec.toNat_ofNat]; exact Nat.mod_eq_of_lt (by omega)
  rw [BitVec.toInt_eq_toNat_of_lt (by omega), e]
/-- Two small numbers compared as signed words. -/
theorem le_word (a b : ℕ) (ha : a < 65536) (hb : b < 65536) : IntOp.cmpi .sle (BitVec.ofNat 32 a) (BitVec.ofNat 32 b) = BitVec.ofBool (decide (a ≤ b)) := by
  unfold IntOp.cmpi
  simp only [BitVec.sle_eq_decide, toInt_small a ha, toInt_small b hb, Int.ofNat_le]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (x y : ℝ) : ((if p then x else y : ℝ) : EReal) = if p then (x : EReal) else (y : EReal) := by
  split <;> rfl

theorem coe_sub_self (x : ℝ) : (x : EReal) - (x : EReal) = 0 := by rw [← EReal.coe_sub, sub_self, EReal.coe_zero]

theorem div_real {y : ℝ} (h : y ≠ 0) (x : ℝ) : Ideal.div (x : EReal) (y : EReal) = ((x / y : ℝ) : EReal) := by
  rw [Ideal.div_coe h, ← EReal.coe_mul, mul_one_div]

theorem log_real {x : ℝ} (h : 0 < x) : Ideal.log (x : EReal) = ((Real.log x : ℝ) : EReal) := by
  rw [Ideal.log_coe, if_neg (not_le.2 h)]

/-- A row's maximum over its unmasked entries is a real number, where one entry is unmasked. -/
theorem max_real {n : ℕ} (p : Fin n → Prop) [DecidablePred p] (f : Fin n → ℝ) (F : Fin n → EReal) (hF : ∀ s, F s = if p s then (f s : EReal) else ⊥)
    (t : Fin n) (ht : p t) : ∃ M : ℝ, Finset.univ.fold max (⊥ : EReal) F = (M : EReal) := by
  have e : Finset.univ.fold max (⊥ : EReal) F = Finset.univ.sup F := rfl
  obtain ⟨i, -, hi⟩ := Finset.exists_mem_eq_sup Finset.univ ⟨t, Finset.mem_univ t⟩ F
  rw [e, hi]
  by_cases hp : p i
  · exact ⟨f i, by rw [hF, if_pos hp]⟩
  · exfalso
    have hle : F t ≤ F i := hi ▸ Finset.le_sup (f := F) (Finset.mem_univ t)
    rw [hF i, if_neg hp, hF t, if_pos ht] at hle
    exact EReal.coe_ne_bot _ (le_bot_iff.1 hle)

/-- The exponential of a masked score less a real number. -/
theorem exp_masked (p : Prop) [Decidable p] (x M : ℝ) :
    Ideal.exp ((if p then (x : EReal) else ⊥) - (M : EReal)) = ((if p then Real.exp (x - M) else 0 : ℝ) : EReal) := by
  split
  · rw [← EReal.coe_sub, Ideal.exp_coe]
  · rw [EReal.bot_sub, Ideal.exp_bot, EReal.coe_zero]

/-! ## The gradients -/

abbrev R3 := Fin 8 → Fin 16384 → Fin 64 → ℝ
abbrev R2 := Fin 8 → Fin 16384 → ℝ

variable (q k v : R3) (g : R2) (dO : R3)

def score (h : Fin 8) (t s : Fin 16384) : ℝ := (∑ d, q h t d * k h s d) * (1 / 8) - g h s
def total (h : Fin 8) (t : Fin 16384) : ℝ := ∑ s : Fin 16384, if s.val ≤ t.val then Real.exp (score q k g h t s) else 0
def prob (h : Fin 8) (t s : Fin 16384) : ℝ := if s.val ≤ t.val then Real.exp (score q k g h t s) / total q k g h t else 0
def dprob (h : Fin 8) (t s : Fin 16384) : ℝ := ∑ d, dO h t d * v h s d
def delta (h : Fin 8) (t : Fin 16384) : ℝ := ∑ s, prob q k g h t s * dprob v dO h t s
def dsc (h : Fin 8) (t s : Fin 16384) : ℝ := prob q k g h t s * (dprob v dO h t s - delta q k v g dO h t)

def gq (h : Fin 8) (d : Fin 64) (t : Fin 16384) : ℝ := ∑ s, dsc q k v g dO h t s * (1 / 8) * k h s d
def gk (h : Fin 8) (d : Fin 64) (s : Fin 16384) : ℝ := ∑ t, dsc q k v g dO h t s * (1 / 8) * q h t d
def gv (h : Fin 8) (d : Fin 64) (s : Fin 16384) : ℝ := ∑ t, dO h t d * prob q k g h t s
def gt (h : Fin 8) (t : Fin 16384) : ℝ := ∑ s, dsc q k v g dO h t s
def gs (h : Fin 8) (s : Fin 16384) : ℝ := ∑ t, dsc q k v g dO h t s

theorem total_pos (h : Fin 8) (t : Fin 16384) : 0 < total q k g h t := by
  refine Finset.sum_pos' (fun s _ => by split <;> positivity) ⟨t, Finset.mem_univ t, ?_⟩
  rw [if_pos le_rfl]; positivity

/-- The row's sum, its scores shifted by a real number. -/
theorem total_shift (M : ℝ) (h : Fin 8) (t : Fin 16384) :
    (∑ s : Fin 16384, if s.val ≤ t.val then Real.exp (score q k g h t s - M) else 0) = total q k g h t * Real.exp (-M) := by
  rw [total, Finset.sum_mul]
  refine Finset.sum_congr rfl fun s _ => ?_
  split
  · rw [← Real.exp_add, sub_eq_add_neg]
  · rw [zero_mul]

theorem prob_shift (M : ℝ) (h : Fin 8) (t s : Fin 16384) :
    (if s.val ≤ t.val then Real.exp (score q k g h t s - M) else 0) / (total q k g h t * Real.exp (-M)) = prob q k g h t s := by
  have hZ := (total_pos q k g h t).ne'
  unfold prob
  split
  · rw [sub_eq_add_neg, Real.exp_add, mul_div_mul_right _ _ (Real.exp_pos _).ne']
  · rw [zero_div]

/-- The maximum and the log of the shifted sum make up the log of the sum. -/
theorem log_shift (M : ℝ) (h : Fin 8) (t : Fin 16384) : M + Real.log (total q k g h t * Real.exp (-M)) = Real.log (total q k g h t) := by
  rw [Real.log_mul (total_pos q k g h t).ne' (Real.exp_pos _).ne', Real.log_exp]; ring

theorem prob_log (h : Fin 8) (t s : Fin 16384) :
    (if s.val ≤ t.val then Real.exp (score q k g h t s - Real.log (total q k g h t)) else 0) = prob q k g h t s := by
  unfold prob
  split
  · rw [Real.exp_sub, Real.exp_log (total_pos q k g h t)]
  · rfl

/-- `do · o` row by row is the sum over the keys. -/
theorem delta_eq (h : Fin 8) (t : Fin 16384) : (∑ d, dO h t d * ∑ s, prob q k g h t s * v h s d) = delta q k v g dO h t := by
  unfold delta dprob
  simp only [Finset.mul_sum]
  rw [Finset.sum_comm]
  exact Finset.sum_congr rfl fun s _ => Finset.sum_congr rfl fun d _ => by ring

/-- The softmax's gradient as it is written from the shifted exponentials and their sum. -/
theorem dsc_shift (M : ℝ) (h : Fin 8) (t s : Fin 16384) (e : Fin 16384 → ℝ) (L : ℝ)
    (he : ∀ s, e s = if s.val ≤ t.val then Real.exp (score q k g h t s - M) else 0) (hL : L = total q k g h t * Real.exp (-M)) :
    (dprob v dO h t s / L + -(∑ j, dprob v dO h t j * (1 / (L * L)) * e j)) * e s = dsc q k v g dO h t s := by
  have hL0 : L ≠ 0 := by rw [hL]; exact (mul_pos (total_pos q k g h t) (Real.exp_pos _)).ne'
  have hp : ∀ j, e j / L = prob q k g h t j := fun j => by rw [he, hL]; exact prob_shift q k g M h t j
  have hs : (∑ j, dprob v dO h t j * (1 / (L * L)) * e j) = delta q k v g dO h t / L := by
    rw [delta, Finset.sum_div]
    refine Finset.sum_congr rfl fun j _ => ?_
    rw [← hp]; field_simp
  rw [hs, dsc, ← hp]; field_simp; ring

end Cert.Grad

end
-- ==== Proof.HostAt.lean ====
/-
  The entries of the kernel's operands where the arguments are real numbers.
-/
module

public import proofs.«01_k».proof.Proof.Host
public import proofs.«01_k».proof.Proof.Real

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

theorem word_zero : FloatOps.sitofp (F := Ideal) FTy.bf16 0#32 = ((0 : ℝ) : EReal) := by
  show ((_ : ℝ) : EReal) = _
  norm_num

variable (q k v dO : A3) (cc : A2) (qr kr vr dr : Grad.R3) (g : Grad.R2)

/-- A key's row: the key, less its gate, and the ones that meet the row's log-sum. -/
theorem kaV_at (hk : ∀ h t d, k (ix3 h t d) = ((kr h t d : ℝ) : EReal)) (hc : ∀ h t, cc (ix2 h t) = ((g h t : ℝ) : EReal))
    (h : Fin 8) (s : Fin 16384) (d : Fin 128) :
    kaV k cc (ix3 h s d) = ((if hd : d.val < 64 then kr h s ⟨d.val, hd⟩ else if d.val = 64 then -(g h s) else if d.val < 67 then 0 else if d.val < 70 then 1 else 0 : ℝ) : EReal) := by
  pointwise [kaV, laneV, lowV, hiV, midV, loV, oneV, zeroV]
  simp only [hk, hc, word_zero, ← EReal.coe_neg, ← EReal.coe_sub, ← EReal.coe_one, sub_self]
  split_ifs <;> first | rfl | (exfalso; omega)

/-- A value's row: the value and the ones that meet the row's `do · o`. -/
theorem vaV_at (hv : ∀ h t d, v (ix3 h t d) = ((vr h t d : ℝ) : EReal)) (h : Fin 8) (s : Fin 16384) (d : Fin 128) :
    vaV v (ix3 h s d) = ((if hd : d.val < 64 then vr h s ⟨d.val, hd⟩ else if d.val < 67 then 1 else 0 : ℝ) : EReal) := by
  pointwise [vaV, laneV, oneV, zeroV]
  simp only [hv, word_zero, ← EReal.coe_one]
  split_ifs <;> first | rfl | (exfalso; omega)

theorem split3V_at (x : A2) (xr : Grad.R2) (hx : ∀ h t, x (ix2 h t) = ((xr h t : ℝ) : EReal)) (h : Fin 8) (r : Fin 3) (t : Fin 16384) :
    split3V x (ix3 h r t) = ((if r.val = 0 then xr h t else 0 : ℝ) : EReal) := by
  pointwise [split3V, rows3V, rowV, lowV, hiV, midV, loV]
  simp only [hx, ← EReal.coe_sub, sub_self]
  split_ifs <;> first | rfl | (exfalso; omega)

theorem eights_at (h : Fin 8) (r : Fin 3) (t : Fin 16384) : rows3V eightV eightV eightV (ix3 h r t) = ((8 : ℝ) : EReal) := by
  pointwise [rows3V, eightV, rowV]
  simp only [ofBits_eight]
  split_ifs <;> rfl

theorem underV_at (x : A3) (z : FVec Ideal S8x3x16384 .bf16) (h : Fin 8) (d : Fin 128) (t : Fin 16384) :
    underV x z (ix3 h d t) = if hd : d.val < 64 then x (ix3 h t ⟨d.val, hd⟩) else if he : d.val - 64 < 3 then z (ix3 h ⟨d.val - 64, he⟩ t) else ((0 : ℝ) : EReal) := by
  pointwise [underV, zeroV]
  simp only [word_zero]

theorem starts (e : S8x3x16384.rank = S8x128x16384.rank) : ∀ a, Host.clampedStart S8x128x16384 S8x3x16384 e
    (fun k => ((![constantI S_ 32 0#32, constantI S_ 32 67#32, constantI S_ 32 0#32] : Fin 3 → IVec S_ 32) k (Shape.Idx.first h_S_)).toInt) a = (![0, 67, 0] : Fin 3 → ℕ) a := by
  intro a; fin_cases a <;> rfl

/-- Three rows written at row 67. -/
theorem dus_at (x : FVec Ideal S8x128x16384 .bf16) (u : FVec Ideal S8x3x16384 .bf16) (h : Fin 8) (d : Fin 128) (t : Fin 16384) :
    Host.dynamicUpdateSlice x u (fun k => ((![constantI S_ 32 0#32, constantI S_ 32 67#32, constantI S_ 32 0#32] : Fin 3 → IVec S_ 32) k (Shape.Idx.first h_S_)).toInt)
      updateFits_S8x128x16384_S8x3x16384 (ix3 h d t) = if hd : 67 ≤ d.val ∧ d.val < 70 then u (ix3 h ⟨d.val - 67, by omega⟩ t) else x (ix3 h d t) := by
  rw [Host.dynamicUpdateSlice_apply]; simp only [starts]
  by_cases hd : 67 ≤ d.val ∧ d.val < 70
  · rw [dif_pos hd, dif_pos (fun a => by fin_cases a <;> simp <;> omega)]
    refine congrArg u ?_
    funext a; apply Fin.ext; fin_cases a <;> rfl
  · rw [dif_neg hd, dif_neg (fun h => hd (by have := h 1; simp at this; omega))]

/-- A query's column: the query, eights over the gate's three parts, less eight times the row's log-sum. -/
theorem qaV_at (l : A2) (lr : Grad.R2) (hq : ∀ h t d, q (ix3 h t d) = ((qr h t d : ℝ) : EReal)) (hl : ∀ h t, l (ix2 h t) = ((lr h t : ℝ) : EReal))
    (h : Fin 8) (d : Fin 128) (t : Fin 16384) :
    qaV q l (ix3 h d t) = ((if hd : d.val < 64 then qr h t ⟨d.val, hd⟩ else if d.val < 67 then 8 else if d.val = 67 then lr h t * -8 else 0 : ℝ) : EReal) := by
  have hm : ∀ h t, mulf l (broadcastInDim S8x16384 ![] bcast_S_S8x16384 (constant S_ .f32 0xC1000000#32)) (ix2 h t) = ((lr h t * -8 : ℝ) : EReal) := by
    intro h t
    pointwise
    rw [hl, ofBits_neg_eight, ← EReal.coe_mul]
  rw [qaV, dus_at]
  simp only [split3V_at _ _ hm, underV_at, eights_at, hq]
  split_ifs <;> first | rfl | (exfalso; omega)

/-- An output gradient's column: the gradient, and less its `do · o` over the ones. -/
theorem doV_at (e : A2) (er : Grad.R2) (hd : ∀ h t d, dO (ix3 h t d) = ((dr h t d : ℝ) : EReal)) (he : ∀ h t, e (ix2 h t) = ((er h t : ℝ) : EReal))
    (h : Fin 8) (d : Fin 128) (t : Fin 16384) :
    doV dO e (ix3 h d t) = ((if hd : d.val < 64 then dr h t ⟨d.val, hd⟩ else if d.val = 64 then -(er h t) else 0 : ℝ) : EReal) := by
  have hm : ∀ h t, Host.negf (F := Ideal) e (ix2 h t) = ((-(er h t) : ℝ) : EReal) := by
    intro h t
    pointwise
    rw [he, ← EReal.coe_neg]
  rw [doV, underV_at]
  simp only [split3V_at _ _ hm, hd]
  split_ifs <;> first | rfl | (exfalso; omega)

/-! ## What the forward pass saves -/

theorem scoreV_at (hq : ∀ h t d, q (ix3 h t d) = ((qr h t d : ℝ) : EReal)) (hk : ∀ h t d, k (ix3 h t d) = ((kr h t d : ℝ) : EReal)) (hc : ∀ h t, cc (ix2 h t) = ((g h t : ℝ) : EReal))
    (h : Fin 8) (t s : Fin 16384) : scoreV q k cc (ix3 h t s) = if s.val ≤ t.val then ((Grad.score qr kr g h t s : ℝ) : EReal) else ⊥ := by
  pointwise [scoreV, maskV]
  simp only [hq, hk, hc, ofBits_scale32, ofBits_neg_inf, ← EReal.coe_mul, ← Grad.coe_sum, ← EReal.coe_sub]
  rw [le_word _ _ (by omega) (by omega)]
  by_cases hs : s.val ≤ t.val
  · rw [if_pos hs, decide_eq_true hs]; rfl
  · rw [if_neg hs, decide_eq_false hs]; rfl

theorem maxV_at (hq : ∀ h t d, q (ix3 h t d) = ((qr h t d : ℝ) : EReal)) (hk : ∀ h t d, k (ix3 h t d) = ((kr h t d : ℝ) : EReal)) (hc : ∀ h t, cc (ix2 h t) = ((g h t : ℝ) : EReal))
    (h : Fin 8) (t : Fin 16384) : ∃ M : ℝ, maxV q k cc (ix3 h t 0) = (M : EReal) := by
  obtain ⟨M, hM⟩ := Grad.max_real (fun s : Fin 16384 => s.val ≤ t.val) (fun s => Grad.score qr kr g h t s) (fun s => scoreV q k cc (ix3 h t s))
    (fun s => scoreV_at q k cc qr kr g hq hk hc h t s) t le_rfl
  refine ⟨M, Eq.trans ?_ hM⟩
  pointwise [maxV]
  rw [ofBits_neg_inf]

theorem expV_at (hq : ∀ h t d, q (ix3 h t d) = ((qr h t d : ℝ) : EReal)) (hk : ∀ h t d, k (ix3 h t d) = ((kr h t d : ℝ) : EReal)) (hc : ∀ h t, cc (ix2 h t) = ((g h t : ℝ) : EReal))
    (h : Fin 8) (t : Fin 16384) (M : ℝ) (hM : maxV q k cc (ix3 h t 0) = (M : EReal)) (s : Fin 16384) :
    expV q k cc (ix3 h t s) = ((if s.val ≤ t.val then Real.exp (Grad.score qr kr g h t s - M) else 0 : ℝ) : EReal) := by
  pointwise [expV]
  rw [hM, scoreV_at q k cc qr kr g hq hk hc, Grad.exp_masked]

theorem sumV_at (hq : ∀ h t d, q (ix3 h t d) = ((qr h t d : ℝ) : EReal)) (hk : ∀ h t d, k (ix3 h t d) = ((kr h t d : ℝ) : EReal)) (hc : ∀ h t, cc (ix2 h t) = ((g h t : ℝ) : EReal))
    (h : Fin 8) (t : Fin 16384) (M : ℝ) (hM : maxV q k cc (ix3 h t 0) = (M : EReal)) :
    sumV q k cc (ix3 h t 0) = ((Grad.total qr kr g h t * Real.exp (-M) : ℝ) : EReal) := by
  pointwise [sumV]
  simp only [expV_at q k cc qr kr g hq hk hc h t M hM, ← Grad.coe_sum, Grad.total_shift]

/-- A row's log-sum from its maximum and its sum. -/
theorem log_sum_at (a b : FVec Ideal S8x16384x1 .f32) (h : Fin 8) (t : Fin 16384) :
    shapeCast S8x16384 (addf a (Host.log b)) shapeCasts_S8x16384x1_S8x16384 (ix2 h t) = a (ix3 h t 0) + Ideal.log (b (ix3 h t 0)) := by
  pointwise

theorem lseV_at (hq : ∀ h t d, q (ix3 h t d) = ((qr h t d : ℝ) : EReal)) (hk : ∀ h t d, k (ix3 h t d) = ((kr h t d : ℝ) : EReal)) (hc : ∀ h t, cc (ix2 h t) = ((g h t : ℝ) : EReal))
    (h : Fin 8) (t : Fin 16384) : lseV q k cc (ix2 h t) = ((Real.log (Grad.total qr kr g h t) : ℝ) : EReal) := by
  obtain ⟨M, hM⟩ := maxV_at q k cc qr kr g hq hk hc h t
  rw [lseV, log_sum_at, hM, sumV_at q k cc qr kr g hq hk hc h t M hM, Grad.log_real (mul_pos (Grad.total_pos qr kr g h t) (Real.exp_pos _)), ← EReal.coe_add, Grad.log_shift]

theorem probV_at (hq : ∀ h t d, q (ix3 h t d) = ((qr h t d : ℝ) : EReal)) (hk : ∀ h t d, k (ix3 h t d) = ((kr h t d : ℝ) : EReal)) (hc : ∀ h t, cc (ix2 h t) = ((g h t : ℝ) : EReal))
    (h : Fin 8) (t s : Fin 16384) : probV q k cc (ix3 h t s) = ((Grad.prob qr kr g h t s : ℝ) : EReal) := by
  obtain ⟨M, hM⟩ := maxV_at q k cc qr kr g hq hk hc h t
  pointwise [probV]
  rw [expV_at q k cc qr kr g hq hk hc h t M hM, sumV_at q k cc qr kr g hq hk hc h t M hM,
    Grad.div_real (mul_pos (Grad.total_pos qr kr g h t) (Real.exp_pos _)).ne', Grad.prob_shift]

theorem attV_at (hq : ∀ h t d, q (ix3 h t d) = ((qr h t d : ℝ) : EReal)) (hk : ∀ h t d, k (ix3 h t d) = ((kr h t d : ℝ) : EReal)) (hc : ∀ h t, cc (ix2 h t) = ((g h t : ℝ) : EReal))
    (hv : ∀ h t d, v (ix3 h t d) = ((vr h t d : ℝ) : EReal))
    (h : Fin 8) (t : Fin 16384) (d : Fin 64) : attV q k v cc (ix3 h t d) = ((∑ s, Grad.prob qr kr g h t s * vr h s d : ℝ) : EReal) := by
  pointwise [attV]
  simp only [probV_at q k cc qr kr g hq hk hc, hv, ← EReal.coe_mul, ← Grad.coe_sum]

theorem delV_at (hq : ∀ h t d, q (ix3 h t d) = ((qr h t d : ℝ) : EReal)) (hk : ∀ h t d, k (ix3 h t d) = ((kr h t d : ℝ) : EReal)) (hc : ∀ h t, cc (ix2 h t) = ((g h t : ℝ) : EReal))
    (hv : ∀ h t d, v (ix3 h t d) = ((vr h t d : ℝ) : EReal)) (hd : ∀ h t d, dO (ix3 h t d) = ((dr h t d : ℝ) : EReal))
    (h : Fin 8) (t : Fin 16384) : delV q k v cc dO (ix2 h t) = ((Grad.delta qr kr vr g dr h t : ℝ) : EReal) := by
  pointwise [delV]
  simp only [attV_at q k v cc qr kr vr g hq hk hc hv, hd, ← EReal.coe_mul, ← Grad.coe_sum, Grad.delta_eq]

end Cert.KernelIdeal.Fox
end
-- ==== Proof.Outputs.lean ====
/-
  What the kernel leaves where the arguments are real numbers: the gradients.
-/
module

public import proofs.«01_k».proof.Proof.HostAt

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

/-- A sum over 128 rows by halves. -/
theorem sum_halves (f : Fin 128 → ℝ) : ∑ d, f d = (∑ d : Fin 64, f ⟨d.val, by omega⟩) + ∑ e : Fin 64, f ⟨64 + e.val, by omega⟩ :=
  Fin.sum_univ_add (a := 64) (b := 64) f

/-- The arguments are real numbers. -/
structure Reals (q k v dO : A3) (cc : A2) (qr kr vr dr : Grad.R3) (g : Grad.R2) : Prop where
  q : ∀ h t d, q (ix3 h t d) = ((qr h t d : ℝ) : EReal)
  k : ∀ h t d, k (ix3 h t d) = ((kr h t d : ℝ) : EReal)
  v : ∀ h t d, v (ix3 h t d) = ((vr h t d : ℝ) : EReal)
  dO : ∀ h t d, dO (ix3 h t d) = ((dr h t d : ℝ) : EReal)
  g : ∀ h t, cc (ix2 h t) = ((g h t : ℝ) : EReal)

variable {q k v dO : A3} {cc : A2} {qr kr vr dr : Grad.R3} {g : Grad.R2} (H : Reals q k v dO cc qr kr vr dr g)
include H

theorem Reals.ka (h : Fin 8) (s : Fin 16384) (d : Fin 128) :
    kaV k cc (ix3 h s d) = ((if hd : d.val < 64 then kr h s ⟨d.val, hd⟩ else if d.val = 64 then -(g h s) else if d.val < 67 then 0 else if d.val < 70 then 1 else 0 : ℝ) : EReal) :=
  kaV_at k cc kr g H.k H.g h s d
theorem Reals.qa (h : Fin 8) (d : Fin 128) (t : Fin 16384) : qaV q (lseV q k cc) (ix3 h d t)
    = ((if hd : d.val < 64 then qr h t ⟨d.val, hd⟩ else if d.val < 67 then 8 else if d.val = 67 then Real.log (Grad.total qr kr g h t) * -8 else 0 : ℝ) : EReal) :=
  qaV_at q qr _ (fun h t => Real.log (Grad.total qr kr g h t)) H.q (lseV_at q k cc qr kr g H.q H.k H.g) h d t
theorem Reals.doo (h : Fin 8) (d : Fin 128) (t : Fin 16384) : doV dO (delV q k v cc dO) (ix3 h d t)
    = ((if hd : d.val < 64 then dr h t ⟨d.val, hd⟩ else if d.val = 64 then -(Grad.delta qr kr vr g dr h t) else 0 : ℝ) : EReal) :=
  doV_at dO dr _ (Grad.delta qr kr vr g dr) H.dO (delV_at q k v dO cc qr kr vr dr g H.q H.k H.g H.v H.dO) h d t

/-- The product of a key's row and a query's column: the score less the row's log-sum. -/
theorem Reals.exponent (h : Fin 8) (s t : Fin 16384) :
    (∑ d : Fin 128, kaV k cc (ix3 h s d) * (qaV q (lseV q k cc) (ix3 h d t) * scale)) = ((Grad.score qr kr g h t s - Real.log (Grad.total qr kr g h t) : ℝ) : EReal) := by
  simp only [H.ka, H.qa, ofBits_scale, ← EReal.coe_mul, ← Grad.coe_sum]
  refine congrArg Real.toEReal ?_
  rw [sum_halves]
  have e1 : ∀ e : Fin 64, ((if hd : 64 + e.val < 64 then kr h s ⟨64 + e.val, hd⟩ else if 64 + e.val = 64 then -(g h s) else if 64 + e.val < 67 then 0 else if 64 + e.val < 70 then 1 else 0 : ℝ)
      * ((if hd : 64 + e.val < 64 then qr h t ⟨64 + e.val, hd⟩ else if 64 + e.val < 67 then 8 else if 64 + e.val = 67 then Real.log (Grad.total qr kr g h t) * -8 else 0 : ℝ) * (1 / 8)))
      = (if e = 0 then -(g h s) else 0) + (if e = 3 then -Real.log (Grad.total qr kr g h t) else 0) := by
    intro e
    simp only [Fin.ext_iff]
    have h3 : ((3 : Fin 64) : ℕ) = 3 := rfl
    have h0 : ((0 : Fin 64) : ℕ) = 0 := rfl
    rw [h3, h0]
    split_ifs <;> first | (exfalso; omega) | ring
  simp only [e1, Finset.sum_add_distrib, Finset.sum_ite_eq', Finset.mem_univ, if_true]
  have e2 : ∀ d : Fin 64, ((if hd : d.val < 64 then kr h s ⟨d.val, hd⟩ else if d.val = 64 then -(g h s) else if d.val < 67 then 0 else if d.val < 70 then 1 else 0 : ℝ)
      * ((if hd : d.val < 64 then qr h t ⟨d.val, hd⟩ else if d.val < 67 then 8 else if d.val = 67 then Real.log (Grad.total qr kr g h t) * -8 else 0 : ℝ) * (1 / 8)))
      = qr h t d * kr h s d * (1 / 8) := by
    intro d
    rw [dif_pos d.isLt, dif_pos d.isLt]; ring
  simp only [e2, ← Finset.sum_mul]
  unfold Grad.score; ring

theorem Reals.prob (h : Fin 8) (s t : Fin 16384) : probA (kaV k cc) (qaV q (lseV q k cc)) h s t = ((Grad.prob qr kr g h t s : ℝ) : EReal) := by
  unfold probA
  rw [H.exponent, Ideal.exp_coe, ← EReal.coe_zero, ← Grad.coe_ite, Grad.prob_log]

/-- The product of a value's row and an output gradient's column: `do · v` less the row's `do · o`. -/
theorem Reals.inner (h : Fin 8) (s t : Fin 16384) :
    (∑ d : Fin 128, vaV v (ix3 h s d) * doV dO (delV q k v cc dO) (ix3 h d t)) = ((Grad.dprob vr dr h t s - Grad.delta qr kr vr g dr h t : ℝ) : EReal) := by
  simp only [vaV_at v vr H.v, H.doo, ← EReal.coe_mul, ← Grad.coe_sum]
  refine congrArg Real.toEReal ?_
  rw [sum_halves]
  have e1 : ∀ e : Fin 64, ((if hd : 64 + e.val < 64 then vr h s ⟨64 + e.val, hd⟩ else if 64 + e.val < 67 then 1 else 0 : ℝ)
      * (if hd : 64 + e.val < 64 then dr h t ⟨64 + e.val, hd⟩ else if 64 + e.val = 64 then -(Grad.delta qr kr vr g dr h t) else 0 : ℝ))
      = if e = 0 then -(Grad.delta qr kr vr g dr h t) else 0 := by
    intro e
    simp only [Fin.ext_iff]
    have h0 : ((0 : Fin 64) : ℕ) = 0 := rfl
    rw [h0]
    split_ifs <;> first | (exfalso; omega) | ring
  simp only [e1, Finset.sum_ite_eq', Finset.mem_univ, if_true]
  have e2 : ∀ d : Fin 64, ((if hd : d.val < 64 then vr h s ⟨d.val, hd⟩ else if d.val < 67 then 1 else 0 : ℝ)
      * (if hd : d.val < 64 then dr h t ⟨d.val, hd⟩ else if d.val = 64 then -(Grad.delta qr kr vr g dr h t) else 0 : ℝ)) = dr h t d * vr h s d := by
    intro d
    rw [dif_pos d.isLt, dif_pos d.isLt]; ring
  simp only [e2]
  unfold Grad.dprob; ring

theorem Reals.dsig (h : Fin 8) (s t : Fin 16384) : dsigA (kaV k cc) (vaV v) (qaV q (lseV q k cc)) (doV dO (delV q k v cc dO)) h s t
    = ((Grad.dsc qr kr vr g dr h t s : ℝ) : EReal) := by
  unfold dsigA
  rw [H.prob, H.inner, ← EReal.coe_mul]; rfl

omit H

/-! ## The three outputs -/

variable (m : (ℓ : Loc nD τ sig) → Buf (Elt Ideal) ℓ) (c : Dev nD)
variable (Hm : Reals (a0 m c) (a1 m c) (a2 m c) (a4 m c) (a3 m c) qr kr vr dr g)
include Hm

theorem kt_at (h : Fin 8) (d : Fin 128) (s : Fin 16384) : opKT m c (ix3 h d s) = kaV (a1 m c) (a3 m c) (ix3 h s d) := by
  rw [V_kt]
  pointwise

theorem dscore_at (h : Fin 8) (s t : Fin 16384) : dsigA (opKA m c) (opVA m c) (opQA m c) (opDO m c) h s t = ((Grad.dsc qr kr vr g dr h t s : ℝ) : EReal) := by
  rw [V_ka, V_va, V_qa, V_do]; exact Hm.dsig h s t

theorem softmax_at (h : Fin 8) (s t : Fin 16384) : probA (opKA m c) (opQA m c) h s t = ((Grad.prob qr kr g h t s : ℝ) : EReal) := by
  rw [V_ka, V_qa]; exact Hm.prob h s t

theorem qa_at (h : Fin 8) (d : Fin 128) (t : Fin 16384) : opQA m c (ix3 h d t)
    = ((if hd : d.val < 64 then qr h t ⟨d.val, hd⟩ else if d.val < 67 then 8 else if d.val = 67 then Real.log (Grad.total qr kr g h t) * -8 else 0 : ℝ) : EReal) := by
  rw [V_qa]; exact Hm.qa h d t

theorem do_at (h : Fin 8) (d : Fin 128) (t : Fin 16384) : opDO m c (ix3 h d t)
    = ((if hd : d.val < 64 then dr h t ⟨d.val, hd⟩ else if d.val = 64 then -(Grad.delta qr kr vr g dr h t) else 0 : ℝ) : EReal) := by
  rw [V_do]; exact Hm.doo h d t

/-- A query's gradient, -/
theorem outDQ_low (h : Fin 8) (r : Fin 80) (hr : r.val < 64) (u : Fin 16384) : outDQ m c (ix3 h r u) = ((Grad.gq qr kr vr g dr h ⟨r.val, hr⟩ u : ℝ) : EReal) := by
  show (if r.val < 64 then dqSum m c h r u * Ideal.ofBits .f32 0x3E000000#32 else dqSum m c h r u) = _
  rw [if_pos hr, dqSum]
  simp only [kt_at m c Hm, dscore_at m c Hm, Hm.ka, ofBits_scale32, ← EReal.coe_mul, ← Grad.coe_sum]
  refine congrArg Real.toEReal ?_
  rw [Grad.gq, Finset.sum_mul]
  refine Finset.sum_congr rfl fun s _ => ?_
  rw [dif_pos (show (⟨r.val, by omega⟩ : Fin 128).val < 64 from hr)]; ring
/-- its gate's from the query's side, -/
theorem outDQ_gate (h : Fin 8) (r : Fin 80) (hr : r.val = 67) (u : Fin 16384) : outDQ m c (ix3 h r u) = ((Grad.gt qr kr vr g dr h u : ℝ) : EReal) := by
  show (if r.val < 64 then dqSum m c h r u * Ideal.ofBits .f32 0x3E000000#32 else dqSum m c h r u) = _
  rw [if_neg (by omega), dqSum]
  simp only [kt_at m c Hm, dscore_at m c Hm, Hm.ka, ← EReal.coe_mul, ← Grad.coe_sum]
  refine congrArg Real.toEReal ?_
  rw [Grad.gt]
  refine Finset.sum_congr rfl fun s _ => ?_
  rw [dif_neg (by omega), if_neg (by omega), if_neg (by omega), if_pos (by omega), one_mul]
/-- a key's, -/
theorem outDK_low (h : Fin 8) (r : Fin 80) (hr : r.val < 64) (s : Fin 16384) : outDK m c (ix3 h r s) = ((Grad.gk qr kr vr g dr h ⟨r.val, hr⟩ s : ℝ) : EReal) := by
  show (∑ u : Fin 16384, opQA m c (ix3 h ⟨r.val, _⟩ u) * scale * dsigA (opKA m c) (opVA m c) (opQA m c) (opDO m c) h s u) = _
  simp only [dscore_at m c Hm, qa_at m c Hm, ofBits_scale, ← EReal.coe_mul, ← Grad.coe_sum]
  refine congrArg Real.toEReal ?_
  rw [Grad.gk]
  refine Finset.sum_congr rfl fun u _ => ?_
  rw [dif_pos (show (⟨r.val, by omega⟩ : Fin 128).val < 64 from hr)]; ring
/-- the gate's from the key's side, -/
theorem outDK_gate (h : Fin 8) (r : Fin 80) (hr : r.val = 64) (s : Fin 16384) : outDK m c (ix3 h r s) = ((Grad.gs qr kr vr g dr h s : ℝ) : EReal) := by
  show (∑ u : Fin 16384, opQA m c (ix3 h ⟨r.val, _⟩ u) * scale * dsigA (opKA m c) (opVA m c) (opQA m c) (opDO m c) h s u) = _
  simp only [dscore_at m c Hm, qa_at m c Hm, ofBits_scale, ← EReal.coe_mul, ← Grad.coe_sum]
  refine congrArg Real.toEReal ?_
  rw [Grad.gs]
  refine Finset.sum_congr rfl fun u _ => ?_
  rw [dif_neg (by omega), if_pos (by omega)]; ring
/-- and a value's. -/
theorem outDV_at (h : Fin 8) (r : Fin 64) (s : Fin 16384) : outDV m c (ix3 h r s) = ((Grad.gv qr kr g dr h r s : ℝ) : EReal) := by
  show (∑ u : Fin 16384, opDO m c (ix3 h ⟨r.val, _⟩ u) * probA (opKA m c) (opQA m c) h s u) = _
  simp only [softmax_at m c Hm, do_at m c Hm, ← EReal.coe_mul, ← Grad.coe_sum]
  refine congrArg Real.toEReal ?_
  rw [Grad.gv]
  refine Finset.sum_congr rfl fun u _ => ?_
  rw [dif_pos (show (⟨r.val, by omega⟩ : Fin 128).val < 64 from r.isLt)]

end Cert.KernelIdeal.Fox

end
-- ==== Proof.Ref.lean ====
/-
  The reference's results from named pieces, and the pieces' entries.
-/
module

public import proofs.«01_k».proof.Proof.Real
public import proofs.«01_k».proof.Proof.Gen.ReferenceIdeal.Run

@[expose] public section

set_option maxRecDepth 16384

noncomputable section

namespace Cert.ReferenceIdeal.Fox

open Cert.ReferenceIdeal Cert.ReferenceIdeal.Gen
open Idealize.ShloMosaic Idealize.ShloMosaic.TcCoe Idealize.ShloMosaic.Tactic

abbrev A3 := FVec Ideal S8x16384x64 .f32
abbrev A2 := FVec Ideal S8x16384 .f32
abbrev AS := FVec Ideal S8x16384x16384 .f32
abbrev A1 := FVec Ideal S8x16384x1 .f32

def maskR : IVec S8x16384x16384 1 :=
  broadcastInDim S8x16384x16384 ![1, 2] bcast_S16384x16384_S8x16384x16384_1_2
    (cmpi .sle (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))
/-- A number per row at every entry of the row. -/
def spread (x : A1) : AS := broadcastInDim S8x16384x16384 ![0, 1, 2] bcast_S8x16384x1_S8x16384x16384_0_1_2 x
def keep (x : A2) : A1 := broadcastInDim S8x16384x1 ![0, 1] bcast_S8x16384_S8x16384x1_0_1 x
def rowSum (x : AS) : A2 := Host.reduceAdd x (constant S_ .f32 0x00000000#32) reducesTo_S8x16384x16384_S8x16384_d2 h_S_
/-- The masked scores, each row's maximum, the exponentials, their sums. -/
def scoreR (q k : A3) (cc : A2) : AS :=
  select maskR
    (subf (addf (mulf (Host.dotGeneral dot_S8x16384x64_S8x16384x64_S8x16384x16384_2_2_1_1_0_0 none q k)
        (broadcastInDim S8x16384x16384 ![] bcast_S_S8x16384x16384 (constant S_ .f32 0x3E000000#32)))
        (spread (keep cc)))
      (broadcastInDim S8x16384x16384 ![0, 1, 2] bcast_S8x1x16384_S8x16384x16384_0_1_2 (broadcastInDim S8x1x16384 ![0, 2] bcast_S8x16384_S8x1x16384_0_2 cc)))
    (broadcastInDim S8x16384x16384 ![] bcast_S_S8x16384x16384 (id (constant S_ .f32 0xFF800000#32)))
def foldR (x : AS) : A2 := Host.reduce FloatOps.maximumf x (constant S_ .f32 0xFF800000#32) reducesTo_S8x16384x16384_S8x16384_d2 h_S_
def topR (x : A2) : A2 := maximumf (broadcastInDim S8x16384 ![] bcast_S_S8x16384 (constant S_ .f32 0xFF800000#32)) x
def maxR (q k : A3) (cc : A2) : A1 := keep (topR (foldR (scoreR q k cc)))
def expR (q k : A3) (cc : A2) : AS := Host.exp (subf (scoreR q k cc) (spread (maxR q k cc)))
def sumR (q k : A3) (cc : A2) : A1 := keep (rowSum (expR q k cc))
def probR (q k : A3) (cc : A2) : AS := Host.divf (expR q k cc) (spread (sumR q k cc))
/-- `do · v`. -/
def innerR (dO v : A3) : AS := Host.dotGeneral dot_S8x16384x64_S8x16384x64_S8x16384x16384_2_2_1_1_0_0 none dO v
def invR (l : A1) : A1 := Host.divf (broadcastInDim S8x16384x1 ![] bcast_S_S8x16384x1 (constant S_ .f32 0x3F800000#32)) (mulf l l)
def meanR (p e : AS) (l : A1) : A2 := rowSum (mulf (mulf p (spread (invR l))) e)
def lessR (x : A2) : A2 :=
  Host.reduceAdd (Host.negf (shapeCast S8x16384x1 x shapeCasts_S8x16384_S8x16384x1)) (constant S_ .f32 0x00000000#32) reducesTo_S8x16384x1_S8x16384_d2 h_S_
def rawR (p e : AS) (l : A1) : AS :=
  mulf (addf (Host.divf p (spread l)) (broadcastInDim S8x16384x16384 ![0, 1] bcast_S8x16384_S8x16384x16384_0_1 (lessR (meanR p e l)))) e
/-- The scores' gradient. -/
def dscR (q k v : A3) (cc : A2) (dO : A3) : AS :=
  select maskR (rawR (innerR dO v) (expR q k cc) (sumR q k cc)) (broadcastInDim S8x16384x16384 ![] bcast_S_S8x16384x16384 (constant S_ .f32 0x00000000#32))
def scaledR (x : AS) : AS := mulf x (broadcastInDim S8x16384x16384 ![] bcast_S_S8x16384x16384 (constant S_ .f32 0x3E000000#32))
def turn (x : A3) : FVec Ideal S8x64x16384 .f32 := transpose S8x64x16384 [0, 2, 1] x transposes_S8x16384x64_S8x64x16384_0_2_1
def gqR (x : AS) (k : A3) : FVec Ideal S8x64x16384 .f32 := turn (Host.dotGeneral dot_S8x16384x16384_S8x16384x64_S8x16384x64_2_1_1_2_0_0 none (scaledR x) k)
def gkR (x : AS) (q : A3) : FVec Ideal S8x64x16384 .f32 := turn (Host.dotGeneral dot_S8x16384x16384_S8x16384x64_S8x16384x64_1_1_2_2_0_0 none (scaledR x) q)
def gvR (p : AS) (dO : A3) : FVec Ideal S8x64x16384 .f32 :=
  turn (transpose S8x16384x64 [0, 2, 1] (Host.dotGeneral dot_S8x16384x64_S8x16384x16384_S8x64x16384_1_1_2_2_0_0 none dO p) transposes_S8x64x16384_S8x16384x64_0_2_1)
def gtR (x : AS) : A2 :=
  Host.reduceAdd (shapeCast S8x16384x1 (rowSum x) shapeCasts_S8x16384_S8x16384x1) (constant S_ .f32 0x00000000#32) reducesTo_S8x16384x1_S8x16384_d2 h_S_
def gsR (x : AS) : A2 :=
  Host.negf (Host.reduceAdd (shapeCast S8x1x16384 (Host.reduceAdd (Host.negf x) (constant S_ .f32 0x00000000#32) reducesTo_S8x16384x16384_S8x16384_d1 h_S_) shapeCasts_S8x16384_S8x1x16384)
    (constant S_ .f32 0x00000000#32) reducesTo_S8x1x16384_S8x16384_d1 h_S_)

variable (m : (ℓ : Loc nD τ sig) → Buf (Elt Ideal) ℓ) (c : Dev nD)

abbrev b0 : A3 := m ((c.tc : Thread nD τ).loc main_arg0)
abbrev b1 : A3 := m ((c.tc : Thread nD τ).loc main_arg1)
abbrev b2 : A3 := m ((c.tc : Thread nD τ).loc main_arg2)
abbrev b3 : A2 := m ((c.tc : Thread nD τ).loc main_arg3)
abbrev b4 : A3 := m ((c.tc : Thread nD τ).loc main_arg4)
def dscM : AS := dscR (b0 m c) (b1 m c) (b2 m c) (b3 m c) (b4 m c)

theorem res_gq : Value.res_main_v72 m c = gqR (dscM m c) (b1 m c) := rfl
theorem res_gk : Value.res_main_v73 m c = gkR (dscM m c) (b0 m c) := rfl
theorem res_gv : Value.res_main_v74 m c = gvR (probR (b0 m c) (b1 m c) (b3 m c)) (b4 m c) := rfl
theorem res_gt : Value.res_main_v67 m c = gtR (dscM m c) := rfl
theorem res_gs : Value.res_main_v75 m c = gsR (dscM m c) := rfl

/-! ## Their entries -/

variable (q k v dO : A3) (cc : A2) (qr kr vr dr : Grad.R3) (g : Grad.R2)

theorem spread_at (x : A1) (h : Fin 8) (t s : Fin 16384) : spread x (ix3 h t s) = x (ix3 h t 0) := by pointwise [spread]
theorem keep_at (x : A2) (h : Fin 8) (t : Fin 16384) (z : Fin 1) : keep x (ix3 h t z) = x (ix2 h t) := by pointwise [keep]
theorem rowSum_at (x : AS) (h : Fin 8) (t : Fin 16384) : rowSum x (ix2 h t) = ∑ s : Fin 16384, x (ix3 h t s) := by pointwise [rowSum]
theorem foldR_at (x : AS) (h : Fin 8) (t : Fin 16384) : foldR x (ix2 h t) = Finset.univ.fold max (Ideal.ofBits .f32 0xFF800000#32) fun s : Fin 16384 => x (ix3 h t s) := by
  pointwise [foldR]
theorem topR_at (x : A2) (h : Fin 8) (t : Fin 16384) : topR x (ix2 h t) = x (ix2 h t) := by
  pointwise [topR]
  rw [Grad.ofBits_bot, max_eq_right bot_le]
theorem mask_at {α : Type} (a b : S8x16384x16384.Idx → α) (h : Fin 8) (t s : Fin 16384) : select maskR a b (ix3 h t s) = if s.val ≤ t.val then a (ix3 h t s) else b (ix3 h t s) := by
  pointwise [maskR]
  by_cases hs : s.val ≤ t.val
  · rw [if_pos hs, Grad.le_word _ _ (by omega) (by omega), decide_eq_true hs]; rfl
  · rw [if_neg hs, Grad.le_word _ _ (by omega) (by omega), decide_eq_false hs]; rfl
theorem innerR_at (h : Fin 8) (t s : Fin 16384) : innerR dO v (ix3 h t s) = ∑ d : Fin 64, dO (ix3 h t d) * v (ix3 h s d) := by pointwise [innerR]
theorem invR_at (l : A1) (h : Fin 8) (t : Fin 16384) : invR l (ix3 h t 0) = Ideal.div 1 (l (ix3 h t 0) * l (ix3 h t 0)) := by pointwise [invR]
theorem lessR_at (x : A2) (h : Fin 8) (t : Fin 16384) : lessR x (ix2 h t) = -x (ix2 h t) := by
  pointwise [lessR]
  exact Fin.sum_univ_one _
theorem rawR_at (p e : AS) (l : A1) (h : Fin 8) (t s : Fin 16384) :
    rawR p e l (ix3 h t s) = (Ideal.div (p (ix3 h t s)) (l (ix3 h t 0)) + -(meanR p e l (ix2 h t))) * e (ix3 h t s) := by
  rw [← lessR_at]
  pointwise [rawR, spread]
theorem scaledR_at (x : AS) (h : Fin 8) (t s : Fin 16384) : scaledR x (ix3 h t s) = x (ix3 h t s) * Ideal.ofBits .f32 0x3E000000#32 := by pointwise [scaledR]
theorem gqR_at (x : AS) (h : Fin 8) (d : Fin 64) (t : Fin 16384) : gqR x k (ix3 h d t) = ∑ s : Fin 16384, scaledR x (ix3 h t s) * k (ix3 h s d) := by pointwise [gqR, turn]
theorem gkR_at (x : AS) (h : Fin 8) (d : Fin 64) (s : Fin 16384) : gkR x q (ix3 h d s) = ∑ t : Fin 16384, scaledR x (ix3 h t s) * q (ix3 h t d) := by pointwise [gkR, turn]
theorem gvR_at (p : AS) (h : Fin 8) (d : Fin 64) (s : Fin 16384) : gvR p dO (ix3 h d s) = ∑ t : Fin 16384, dO (ix3 h t d) * p (ix3 h t s) := by pointwise [gvR, turn]
theorem gtR_at (x : AS) (h : Fin 8) (t : Fin 16384) : gtR x (ix2 h t) = ∑ s : Fin 16384, x (ix3 h t s) := by
  pointwise [gtR]
  exact (Fin.sum_univ_one _).trans (rowSum_at x h t)
theorem gsR_at (x : AS) (h : Fin 8) (s : Fin 16384) : gsR x (ix2 h s) = -∑ t : Fin 16384, -x (ix3 h t s) := by
  pointwise [gsR]
  exact congrArg (fun z : EReal => -z) (Fin.sum_univ_one _)

end Cert.ReferenceIdeal.Fox

end
-- ==== Proof.RefAt.lean ====
/-
  The reference's gradients where the arguments are real numbers.

  The reference writes the gradient of the softmax from the exponentials shifted by the row's maximum and their sums; the
  maximum drops out, and with it the query's gate, which every score of a row has in common.
-/
module

public import proofs.«01_k».proof.Proof.Ref

@[expose] public section

set_option maxRecDepth 16384

noncomputable section

namespace Cert.ReferenceIdeal.Fox

open Cert.ReferenceIdeal Cert.ReferenceIdeal.Gen
open Idealize.ShloMosaic Idealize.ShloMosaic.TcCoe Idealize.ShloMosaic.Tactic

/-! ## At real arguments -/

theorem divf_at (a b : AS) (i : S8x16384x16384.Idx) : Host.divf a b i = Ideal.div (a i) (b i) := rfl
theorem mulf_at (a b : AS) (i : S8x16384x16384.Idx) : mulf a b i = (a i * b i : EReal) := rfl

/-- The arguments are real numbers. -/
structure Reals (q k v dO : A3) (cc : A2) (qr kr vr dr : Grad.R3) (g : Grad.R2) : Prop where
  q : ∀ h t d, q (ix3 h t d) = ((qr h t d : ℝ) : EReal)
  k : ∀ h t d, k (ix3 h t d) = ((kr h t d : ℝ) : EReal)
  v : ∀ h t d, v (ix3 h t d) = ((vr h t d : ℝ) : EReal)
  dO : ∀ h t d, dO (ix3 h t d) = ((dr h t d : ℝ) : EReal)
  g : ∀ h t, cc (ix2 h t) = ((g h t : ℝ) : EReal)

section
variable {q k v dO : A3} {cc : A2} {qr kr vr dr : Grad.R3} {g : Grad.R2} (H : Reals q k v dO cc qr kr vr dr g)
include H

/-- A score has its query's gate besides. -/
theorem Reals.score (h : Fin 8) (t s : Fin 16384) : scoreR q k cc (ix3 h t s) = if s.val ≤ t.val then ((Grad.score qr kr g h t s + g h t : ℝ) : EReal) else ⊥ := by
  rw [scoreR, mask_at]
  pointwise
  have hb : id (constant (F := Ideal) S_ FTy.f32 0xFF800000#32) ix0 = (⊥ : EReal) := Grad.ofBits_bot
  simp only [hb, spread_at, keep_at, H.q, H.k, H.g, Grad.ofBits_eighth, Grad.ofBits_bot, ← EReal.coe_mul, ← Grad.coe_sum, ← EReal.coe_add, ← EReal.coe_sub]
  rw [Grad.score, sub_add_eq_add_sub]

theorem Reals.max (h : Fin 8) (t : Fin 16384) : ∃ M : ℝ, maxR q k cc (ix3 h t 0) = (M : EReal) := by
  obtain ⟨M, hM⟩ := Grad.max_real (fun s : Fin 16384 => s.val ≤ t.val) (fun s => Grad.score qr kr g h t s + g h t) (fun s => scoreR q k cc (ix3 h t s))
    (fun s => H.score h t s) t le_rfl
  refine ⟨M, Eq.trans ?_ hM⟩
  rw [maxR, keep_at, topR_at, foldR_at, Grad.ofBits_bot]

theorem Reals.exp (h : Fin 8) (t : Fin 16384) : ∃ M : ℝ, ∀ s, expR q k cc (ix3 h t s) = ((if s.val ≤ t.val then Real.exp (Grad.score qr kr g h t s - M) else 0 : ℝ) : EReal) := by
  obtain ⟨M, hM⟩ := H.max h t
  refine ⟨M - g h t, fun s => ?_⟩
  rw [expR]
  pointwise
  rw [spread_at, hM, H.score, Grad.exp_masked, show Grad.score qr kr g h t s + g h t - M = Grad.score qr kr g h t s - (M - g h t) by ring]

theorem Reals.sum (h : Fin 8) (t : Fin 16384) (M : ℝ)
    (hM : ∀ s, expR q k cc (ix3 h t s) = ((if s.val ≤ t.val then Real.exp (Grad.score qr kr g h t s - M) else 0 : ℝ) : EReal)) :
    sumR q k cc (ix3 h t 0) = ((Grad.total qr kr g h t * Real.exp (-M) : ℝ) : EReal) := by
  rw [sumR, keep_at, rowSum_at]
  simp only [hM, ← Grad.coe_sum, Grad.total_shift]

theorem Reals.prob (h : Fin 8) (t s : Fin 16384) : probR q k cc (ix3 h t s) = ((Grad.prob qr kr g h t s : ℝ) : EReal) := by
  obtain ⟨M, hM⟩ := H.exp h t
  rw [probR, divf_at, spread_at, hM, H.sum h t M hM, Grad.div_real (mul_pos (Grad.total_pos qr kr g h t) (Real.exp_pos _)).ne', Grad.prob_shift]

theorem Reals.inner (h : Fin 8) (t s : Fin 16384) : innerR dO v (ix3 h t s) = ((Grad.dprob vr dr h t s : ℝ) : EReal) := by
  rw [innerR_at]
  simp only [H.dO, H.v, ← EReal.coe_mul, ← Grad.coe_sum]
  rfl

theorem Reals.dsc (h : Fin 8) (t s : Fin 16384) : dscR q k v cc dO (ix3 h t s) = ((Grad.dsc qr kr vr g dr h t s : ℝ) : EReal) := by
  obtain ⟨M, hM⟩ := H.exp h t
  have hL := H.sum h t M hM
  have hL0 : Grad.total qr kr g h t * Real.exp (-M) ≠ 0 := (mul_pos (Grad.total_pos qr kr g h t) (Real.exp_pos _)).ne'
  have hmean : meanR (innerR dO v) (expR q k cc) (sumR q k cc) (ix2 h t) = ((∑ j, Grad.dprob vr dr h t j
      * (1 / ((Grad.total qr kr g h t * Real.exp (-M)) * (Grad.total qr kr g h t * Real.exp (-M))))
      * (if j.val ≤ t.val then Real.exp (Grad.score qr kr g h t j - M) else 0) : ℝ) : EReal) := by
    rw [meanR, rowSum_at, Grad.coe_sum]
    refine Finset.sum_congr rfl fun j _ => ?_
    rw [mulf_at, mulf_at, H.inner, spread_at, invR_at, hL, hM, ← EReal.coe_mul, ← EReal.coe_one, Grad.div_real (mul_ne_zero hL0 hL0), ← EReal.coe_mul, ← EReal.coe_mul]
  have hraw : rawR (innerR dO v) (expR q k cc) (sumR q k cc) (ix3 h t s) = ((Grad.dsc qr kr vr g dr h t s : ℝ) : EReal) := by
    rw [← Grad.dsc_shift qr kr vr g dr M h t s (fun s => if s.val ≤ t.val then Real.exp (Grad.score qr kr g h t s - M) else 0) _ (fun _ => rfl) rfl,
      rawR_at, hM, hmean, H.inner, hL, Grad.div_real hL0, ← EReal.coe_neg, ← EReal.coe_add, ← EReal.coe_mul]
  rw [dscR, mask_at, hraw]
  split
  · rfl
  · next hs =>
    pointwise
    rw [Grad.dsc, Grad.prob, if_neg hs, zero_mul, EReal.coe_zero]

theorem Reals.scaled (h : Fin 8) (t s : Fin 16384) : scaledR (dscR q k v cc dO) (ix3 h t s) = ((Grad.dsc qr kr vr g dr h t s * (1 / 8) : ℝ) : EReal) := by
  rw [scaledR_at, H.dsc, Grad.ofBits_eighth, ← EReal.coe_mul]

theorem Reals.gq (h : Fin 8) (d : Fin 64) (t : Fin 16384) : gqR (dscR q k v cc dO) k (ix3 h d t) = ((Grad.gq qr kr vr g dr h d t : ℝ) : EReal) := by
  rw [gqR_at]
  simp only [H.scaled, H.k, ← EReal.coe_mul, ← Grad.coe_sum]
  rfl
theorem Reals.gk (h : Fin 8) (d : Fin 64) (s : Fin 16384) : gkR (dscR q k v cc dO) q (ix3 h d s) = ((Grad.gk qr kr vr g dr h d s : ℝ) : EReal) := by
  rw [gkR_at]
  simp only [H.scaled, H.q, ← EReal.coe_mul, ← Grad.coe_sum]
  rfl
theorem Reals.gv (h : Fin 8) (d : Fin 64) (s : Fin 16384) : gvR (probR q k cc) dO (ix3 h d s) = ((Grad.gv qr kr g dr h d s : ℝ) : EReal) := by
  rw [gvR_at]
  simp only [H.prob, H.dO, ← EReal.coe_mul, ← Grad.coe_sum]
  rfl
theorem Reals.gt (h : Fin 8) (t : Fin 16384) : gtR (dscR q k v cc dO) (ix2 h t) = ((Grad.gt qr kr vr g dr h t : ℝ) : EReal) := by
  rw [gtR_at]
  simp only [H.dsc, ← Grad.coe_sum]
  rfl
theorem Reals.gs (h : Fin 8) (s : Fin 16384) : gsR (dscR q k v cc dO) (ix2 h s) = ((Grad.gs qr kr vr g dr h s : ℝ) : EReal) := by
  rw [gsR_at]
  simp only [H.dsc, ← EReal.coe_neg, ← Grad.coe_sum]
  refine congrArg Real.toEReal ?_
  rw [Finset.sum_neg_distrib, neg_neg, Grad.gs]

end

end Cert.ReferenceIdeal.Fox

end
-- ==== Proof.Finite.lean ====
/-
  Where the precondition holds, every argument is a real number.
-/
module

public import proofs.«01_k».proof.Pre_finite
public import Idealize.ShloMosaic.Lib.Pointwise

@[expose] public section

set_option maxRecDepth 16384

noncomputable section

namespace Cert.Pre_finite.Fox

open Cert.Pre_finite
open Idealize.ShloMosaic Idealize.ShloMosaic.Tactic

instance facts : Cert.Pre_finite.Facts where
  bcast_S_S8x16384x64 := by decide
  bcast_S_S8x16384 := by decide
  bcast_S8x16384_S8x16384x1_0_1 := by decide
  bcast_S8x16384x1_S8x16384x64_0_1_2 := by decide

theorem bit_and (a b : BitVec 1) (h : IntOp.andi a b = 1#1) : a = 1#1 ∧ b = 1#1 := by
  revert h; revert a b; decide

theorem ofBits_inf : Ideal.ofBits .f32 0x7F800000#32 = (⊤ : EReal) := by
  simp [Ideal.ofBits, Ideal.ieee]

theorem real_of (x : Ideal .f32) (h : BitVec.ofBool (decide ((FloatOps.absf x : EReal) < Ideal.ofBits .f32 0x7F800000#32)) = 1#1) :
    x = (((x : EReal).toReal : ℝ) : EReal) := by
  rw [ofBits_inf] at h
  have hlt : max (x : EReal) (-x) < ⊤ := by
    by_contra hn
    have e : decide ((FloatOps.absf x : EReal) < ⊤) = false := decide_eq_false hn
    rw [e] at h
    exact absurd h (by decide)
  refine (EReal.coe_toReal ?_ ?_).symm
  · intro e; rw [e] at hlt; simp at hlt
  · intro e; rw [e] at hlt; simp at hlt

theorem finite_at (q k v dO : FVec Ideal S8x16384x64 .f32) (cc : FVec Ideal S8x16384 .f32) (H : fn (F := Ideal) q k v cc dO = fun _ => 1#1) (h : Fin 8) (t : Fin 16384) (d : Fin 64) :
    q (ix3 h t d) = (((q (ix3 h t d) : EReal).toReal : ℝ) : EReal) ∧ k (ix3 h t d) = (((k (ix3 h t d) : EReal).toReal : ℝ) : EReal)
    ∧ v (ix3 h t d) = (((v (ix3 h t d) : EReal).toReal : ℝ) : EReal) ∧ dO (ix3 h t d) = (((dO (ix3 h t d) : EReal).toReal : ℝ) : EReal)
    ∧ cc (ix2 h t) = (((cc (ix2 h t) : EReal).toReal : ℝ) : EReal) := by
  have e := congrFun H (ix3 h t d)
  revert e
  pointwise [fn, fn_part1]
  intro e
  obtain ⟨e, e4⟩ := bit_and _ _ e
  obtain ⟨e, e3⟩ := bit_and _ _ e
  obtain ⟨e, e2⟩ := bit_and _ _ e
  obtain ⟨e0, e1⟩ := bit_and _ _ e
  exact ⟨real_of _ e0, real_of _ e1, real_of _ e2, real_of _ e3, real_of _ e4⟩

end Cert.Pre_finite.Fox

end
-- ==== Proof.Value.lean ====
/-
  The kernel's results: the gradients, cut out of what it leaves, and their equality with the reference's.
-/
module

public import proofs.«01_k».proof.Defs
public import proofs.«01_k».proof.Proof.Frames
public import proofs.«01_k».proof.Proof.Outputs
public import proofs.«01_k».proof.Proof.RefAt
public import proofs.«01_k».proof.Proof.Finite

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (c : Dev nD)

/-! ## The results as cuts of the kernel's outputs -/

def upper (x : FVec Ideal S8x80x16384 .f32) : FVec Ideal S8x64x16384 .f32 := extractStridedSlice S8x64x16384 ![0, 0, 0] x slices_S8x80x16384_S8x64x16384_0_0_0
def row67 (x : FVec Ideal S8x80x16384 .f32) : A2 :=
  shapeCast S8x16384 (extractStridedSlice S8x1x16384 ![0, 67, 0] x slices_S8x80x16384_S8x1x16384_0_67_0) shapeCasts_S8x1x16384_S8x16384
def row64 (x : FVec Ideal S8x80x16384 .f32) : A2 :=
  shapeCast S8x16384 (extractStridedSlice S8x1x16384 ![0, 64, 0] x slices_S8x80x16384_S8x1x16384_0_64_0) shapeCasts_S8x1x16384_S8x16384

theorem upper_at (x : FVec Ideal S8x80x16384 .f32) (h : Fin 8) (d : Fin 64) (t : Fin 16384) : upper x (ix3 h d t) = x (ix3 h ⟨d.val, by omega⟩ t) := by
  pointwise [upper]
theorem row67_at (x : FVec Ideal S8x80x16384 .f32) (h : Fin 8) (t : Fin 16384) : row67 x (ix2 h t) = x (ix3 h 67 t) := by
  pointwise [row67]
theorem row64_at (x : FVec Ideal S8x80x16384 .f32) (h : Fin 8) (t : Fin 16384) : row64 x (ix2 h t) = x (ix3 h 64 t) := by
  pointwise [row64]

/-- The buffers when the kernel returns. -/
def left : Valuation τ sig (Elt Ideal) := Pipeline.withArrays (cfgs 0).spec c (V0 m c) fun w => (dats m 0 c).arrAt w (cfgs 0).N

theorem arrays_inj : Function.Injective (Pipeline.arrRef (cfgs 0).spec) := by
  show Function.Injective (Pipeline.arrRef spec0)
  decide

theorem left_dq : left m c (Proc.devRef .tc main_v109_0) = outDQ m c :=
  (Pipeline.withArrays_arr (cfgs 0).spec arrays_inj c (V0 m c) _ (5 : Fin cfg0.W)).trans (final_5 m c)
theorem left_dk : left m c (Proc.devRef .tc main_v109_1) = outDK m c :=
  (Pipeline.withArrays_arr (cfgs 0).spec arrays_inj c (V0 m c) _ (6 : Fin cfg0.W)).trans (final_6 m c)

theorem tail_dq : Pipeline.afterTail₀ cfgs (dats m) 0 (V0 m) [hostOps1] c main_v110 = upper (outDQ m c) := by
  rw [← left_dq]
  show StableHlo.after (List.flatten [hostOps1]) (left m c) (Proc.devRef .tc main_v110) = _
  simp only [hostOps1, List.flatten_cons, List.flatten_nil, List.append_nil, List.cons_append, List.nil_append]
  after_results_simp <;> rfl
theorem tail_dk : Pipeline.afterTail₀ cfgs (dats m) 0 (V0 m) [hostOps1] c main_v111 = upper (outDK m c) := by
  rw [← left_dk]
  show StableHlo.after (List.flatten [hostOps1]) (left m c) (Proc.devRef .tc main_v111) = _
  simp only [hostOps1, List.flatten_cons, List.flatten_nil, List.append_nil, List.cons_append, List.nil_append]
  after_results_simp <;> rfl
theorem tail_dct : Pipeline.afterTail₀ cfgs (dats m) 0 (V0 m) [hostOps1] c main_v113 = row67 (outDQ m c) := by
  rw [← left_dq]
  show StableHlo.after (List.flatten [hostOps1]) (left m c) (Proc.devRef .tc main_v113) = _
  simp only [hostOps1, List.flatten_cons, List.flatten_nil, List.append_nil, List.cons_append, List.nil_append]
  after_results_simp <;> rfl
theorem tail_dcs : Pipeline.afterTail₀ cfgs (dats m) 0 (V0 m) [hostOps1] c main_v115 = row64 (outDK m c) := by
  rw [← left_dk]
  show StableHlo.after (List.flatten [hostOps1]) (left m c) (Proc.devRef .tc main_v115) = _
  simp only [hostOps1, List.flatten_cons, List.flatten_nil, List.append_nil, List.cons_append, List.nil_append]
  after_results_simp <;> rfl

/-- The kernel's run: its five results and the arguments. -/
theorem run_value (ρ : Dev nD → PrngReg) : θ_run defs (onTc (τ := τ) (main (F := Ideal))) ⟨m, fun _ => 0, ρ⟩ (fun r => ∀ c : Dev nD,
      r.2.mem ((c.tc : Thread nD τ).loc main_v110) = upper (outDQ m c)
      ∧ r.2.mem ((c.tc : Thread nD τ).loc main_v111) = upper (outDK m c)
      ∧ r.2.mem ((c.tc : Thread nD τ).loc main_v109_2) = outDV m c
      ∧ r.2.mem ((c.tc : Thread nD τ).loc main_v113) = row67 (outDQ m c)
      ∧ r.2.mem ((c.tc : Thread nD τ).loc main_v115) = row64 (outDK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h.1 c).2 main_v110 (Pipeline.mem_restRefs_of main_v110 (by decide) (by decide))).trans (tail_dq m c),
      ((h.1 c).2 main_v111 (Pipeline.mem_restRefs_of main_v111 (by decide) (by decide))).trans (tail_dk m c),
      ((h.1 c).1 7).trans (final_7 m c),
      ((h.1 c).2 main_v113 (Pipeline.mem_restRefs_of main_v113 (by decide) (by decide))).trans (tail_dct m c),
      ((h.1 c).2 main_v115 (Pipeline.mem_restRefs_of main_v115 (by decide) (by decide))).trans (tail_dcs m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩) (run_main m ρ)

/-! ## The two programs agree -/

section
variable {q k v dO : A3} {cc : A2} {qr kr vr dr : Grad.R3} {g : Grad.R2}

theorem ext3 {n₀ n₁ n₂ : ℕ} {α : Type} (x y : (⟨3, ![n₀, n₁, n₂]⟩ : Shape).Idx → α) (h : ∀ a b c, x (ix3 a b c) = y (ix3 a b c)) : x = y := by
  funext i
  have e : i = ix3 (i 0) (i 1) (i 2) := by funext k; fin_cases k <;> rfl
  rw [e]; exact h _ _ _
theorem ext2 {n₀ n₁ : ℕ} {α : Type} (x y : (⟨2, ![n₀, n₁]⟩ : Shape).Idx → α) (h : ∀ a b, x (ix2 a b) = y (ix2 a b)) : x = y := by
  funext i
  have e : i = ix2 (i 0) (i 1) := by funext k; fin_cases k <;> rfl
  rw [e]; exact h _ _
end

theorem algebraic : Cert.algebraic_KernelIdeal_ReferenceIdeal_pre_finite := by
  intro m ρ m' ρ' hp hm
  refine ⟨fun c => upper (outDQ m c), fun c => upper (outDK m c), fun c => outDV m c, fun c => row67 (outDQ m c), fun c => row64 (outDK m c), run_value m ρ, ?_⟩
  refine (θ_run Cert.ReferenceIdeal.defs _ _).mono (fun r h c => ?_) (Cert.ReferenceIdeal.Value.run (F := Ideal) m' ρ')
  obtain ⟨h0, h1, h2, h3, h4, hargs⟩ := h c
  obtain ⟨e0, e1, e2, e3, e4⟩ := hm c
  have hf := Cert.Pre_finite.Fox.finite_at (a0 m c) (a1 m c) (a2 m c) (a4 m c) (a3 m c) (hp c)
  have Hk : Reals (a0 m c) (a1 m c) (a2 m c) (a4 m c) (a3 m c) (fun h t d => (a0 m c (ix3 h t d) : EReal).toReal) (fun h t d => (a1 m c (ix3 h t d) : EReal).toReal)
      (fun h t d => (a2 m c (ix3 h t d) : EReal).toReal) (fun h t d => (a4 m c (ix3 h t d) : EReal).toReal) (fun h t => (a3 m c (ix2 h t) : EReal).toReal) :=
    ⟨fun h t d => (hf h t d).1, fun h t d => (hf h t d).2.1, fun h t d => (hf h t d).2.2.1, fun h t d => (hf h t d).2.2.2.1, fun h t => (hf h t 0).2.2.2.2⟩
  have Hr := (Cert.ReferenceIdeal.Fox.Reals.mk Hk.q Hk.k Hk.v Hk.dO Hk.g :
    Cert.ReferenceIdeal.Fox.Reals (a0 m c) (a1 m c) (a2 m c) (a4 m c) (a3 m c) _ _ _ _ _)
  have b0 : Cert.ReferenceIdeal.Fox.b0 m' c = a0 m c := e0
  have b1 : Cert.ReferenceIdeal.Fox.b1 m' c = a1 m c := e1
  have b2 : Cert.ReferenceIdeal.Fox.b2 m' c = a2 m c := e2
  have b3 : Cert.ReferenceIdeal.Fox.b3 m' c = a3 m c := e3
  have b4 : Cert.ReferenceIdeal.Fox.b4 m' c = a4 m c := e4
  refine ⟨h0.trans ?_, h1.trans ?_, h2.trans ?_, h3.trans ?_, h4.trans ?_, hargs⟩
  · rw [Cert.ReferenceIdeal.Fox.res_gq, Cert.ReferenceIdeal.Fox.dscM, b0, b1, b2, b3, b4]
    refine ext3 _ _ fun h d t => ?_
    exact (Hr.gq h d t).trans ((upper_at _ h d t).trans (outDQ_low m c Hk h ⟨d.val, by omega⟩ d.isLt t)).symm
  · rw [Cert.ReferenceIdeal.Fox.res_gk, Cert.ReferenceIdeal.Fox.dscM, b0, b1, b2, b3, b4]
    refine ext3 _ _ fun h d t => ?_
    exact (Hr.gk h d t).trans ((upper_at _ h d t).trans (outDK_low m c Hk h ⟨d.val, by omega⟩ d.isLt t)).symm
  · rw [Cert.ReferenceIdeal.Fox.res_gv, b0, b1, b3, b4]
    refine ext3 _ _ fun h d t => ?_
    exact (Hr.gv h d t).trans (outDV_at m c Hk h d t).symm
  · rw [Cert.ReferenceIdeal.Fox.res_gt, Cert.ReferenceIdeal.Fox.dscM, b0, b1, b2, b3, b4]
    refine ext2 _ _ fun h t => ?_
    exact (Hr.gt h t).trans ((row67_at _ h t).trans (outDQ_gate m c Hk h 67 rfl t)).symm
  · rw [Cert.ReferenceIdeal.Fox.res_gs, Cert.ReferenceIdeal.Fox.dscM, b0, b1, b2, b3, b4]
    refine ext2 _ _ fun h t => ?_
    exact (Hr.gs h t).trans ((row64_at _ h t).trans (outDK_gate m c Hk h 64 rfl t)).symm

end Cert.KernelIdeal.Fox

end
-- ==== Proof.GradDown.lean ====
/-
  The gradient of the feed-forward's second matrix: the product's tiles make up the whole product.

  Point `t` adds the share of 1024 terms to the tile it holds, and the last point of a tile writes it.
  The tiles cover the result, so the array is the sum over all 16384 terms, which is what the reference computes.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel3Ideal.GradDown

open Cert.Kernel3Ideal Cert.Kernel3Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x1408 .bf16) (b : Vec Ideal S1024x1024 .bf16) (r : Fin 1408) (s : Fin 1024) :
    k0_pay1 a b (ix2 r s) = ∑ k : Fin 1024, a (ix2 k r) * b (ix2 k s) := by
  pointwise [k0_pay1]
theorem first_at (a : Vec Ideal S1024x1408 .bf16) (b : Vec Ideal S1024x1024 .bf16) (r : Fin 1408) (s : Fin 1024) :
    k0_pay2 a b (ix2 r s) = k0_pay1 a b (ix2 r s) := by
  pointwise [k0_pay2]
theorem next_at (a : Vec Ideal S1024x1408 .bf16) (b : Vec Ideal S1024x1024 .bf16) (x : Vec Ideal S1408x1024 .f32) (r : Fin 1408) (s : Fin 1024) :
    k0_pay3 a b x (ix2 r s) = x (ix2 r s) + k0_pay1 a b (ix2 r s) := by
  pointwise [k0_pay3]

variable (m : (ℓ : Loc nD τ sig) → Buf (Elt Ideal) ℓ) (c : Dev nD)

/-- What the scratch holds after point `n`. -/
abbrev held (n : ℕ) (hn : n < cfg0.N) : Vec Ideal S1408x1024 .f32 := (outsAt0 m c n hn).2

theorem held_first (t : Fin cfg0.N) (h0 : t.val % 16 = 0) : held m c t.val t.isLt = k0_pay2 (iblk m c 0 t) (iblk m c 1 t) := by
  unfold held
  rw [outsAt0_A m c t h0 (by omega) (by omega)]
  frame_out
theorem held_next (t : Fin cfg0.N) (h0 : ¬t.val % 16 = 0) :
    held m c t.val t.isLt = k0_pay3 (iblk m c 0 t) (iblk m c 1 t) (held m c (t.val - 1) (Nat.lt_of_le_of_lt (Nat.sub_le _ _) t.isLt)) := by
  unfold held
  by_cases h2 : t.val % 16 = 15
  · rw [outsAt0_C m c t h0 (by omega) h2]
    frame_out
    exact congrArg _ ((Memref.isWhole_whole _).read_unread _)
  · rw [outsAt0_B m c t h0 (by omega) h2]
    frame_out
    exact congrArg _ ((Memref.isWhole_whole _).read_unread _)
theorem written (t : Fin cfg0.N) (h2 : t.val % 16 = 15) : (outsAt0 m c t.val t.isLt).1 = held m c t.val t.isLt := by
  unfold held
  rw [outsAt0_C m c t (by omega) (by omega) h2]
  frame_out

/-! ## The operands and their blocks -/

abbrev opA : Vec Ideal S16384x2816 .bf16 := V m c main_v0
abbrev opB : Vec Ideal S16384x1024 .bf16 := V m c main_v1

/-- The result's row a tile's row `r` is, and its column. -/
def rowOf (t : Fin cfg0.N) (r : Fin 1408) : Fin 2816 := ⟨1408 * (t.val / 16) + r.val, by have := t.isLt; have : cfg0.N = 32 := N_0; omega⟩
def colOf (t : Fin cfg0.N) (s : Fin 1024) : Fin 1024 := ⟨s.val, by have := t.isLt; have : cfg0.N = 32 := N_0; omega⟩
theorem index_0 : ∀ t : Fin cfg0.N, win0_0.index t = ![t.val % 16, t.val / 16] := (by decide +kernel : ∀ t : Fin grid0.N, win0_0.index t = ![t.val % 16, t.val / 16])
theorem index_1 : ∀ t : Fin cfg0.N, win0_1.index t = ![t.val % 16, 0] := (by decide +kernel : ∀ t : Fin grid0.N, win0_1.index t = ![t.val % 16, 0])
theorem index_2 : ∀ t : Fin cfg0.N, win0_2.index t = ![t.val / 16, 0] := (by decide +kernel : ∀ t : Fin grid0.N, win0_2.index t = ![t.val / 16, 0])

theorem iblk0_at (t : Fin cfg0.N) (r : Fin 1408) (k : Fin 1024) :
    iblk m c 0 t (ix2 k r) = opA m c (ix2 ⟨1024 * (t.val % 16) + k.val, by omega⟩ (rowOf t r)) := by
  blk_simp [iblk, index_0]; blk_ext [index_0, rowOf]
theorem iblk1_at (t : Fin cfg0.N) (s : Fin 1024) (k : Fin 1024) :
    iblk m c 1 t (ix2 k s) = opB m c (ix2 ⟨1024 * (t.val % 16) + k.val, by omega⟩ (colOf t s)) := by
  blk_simp [iblk, index_1]; blk_ext [index_1, colOf]

/-! ## The sum -/

/-- The whole product. -/
def total (y : S2816x1024.Idx) : EReal := ∑ u : Fin 16384, opA m c (ix2 u (y 0)) * opB m c (ix2 u (y 1))

/-- Term `n` of an element of the product (zero past the terms). -/
def share (r : Fin 2816) (s : Fin 1024) (n : ℕ) : EReal :=
  if hn : n < 16384 then opA m c (ix2 ⟨n, hn⟩ r) * opB m c (ix2 ⟨n, hn⟩ s) else 0

theorem tile_at (t : Fin cfg0.N) (r : Fin 1408) (s : Fin 1024) :
    k0_pay1 (iblk m c 0 t) (iblk m c 1 t) (ix2 r s) = ∑ k : Fin 1024, share m c (rowOf t r) (colOf t s) (1024 * (t.val % 16) + k.val) := by
  refine (mul_at _ _ r s).trans (Finset.sum_congr rfl fun k _ => ?_)
  rw [iblk0_at, iblk1_at, share, dif_pos (by omega : 1024 * (t.val % 16) + k.val < 16384)]

theorem held_at (t : Fin cfg0.N) (r : Fin 1408) (s : Fin 1024) :
    held m c t.val t.isLt (ix2 r s) = ∑ n ∈ Finset.range (1024 * (t.val % 16 + 1)), share m c (rowOf t r) (colOf t s) n := by
  obtain ⟨n, hn⟩ := t
  induction n with
  | zero =>
    rw [held_first m c ⟨0, hn⟩ rfl, first_at, tile_at]; simp [Finset.sum_range]
  | succ n ih =>
    have ih := ih (by omega)
    rw [show 1024 * ((⟨n + 1, hn⟩ : Fin cfg0.N).val % 16 + 1) = 1024 * ((n + 1) % 16) + 1024 by simp only; ring, Finset.sum_range_add, Finset.sum_range (n := 1024)]
    by_cases h0 : (n + 1) % 16 = 0
    · rw [held_first m c ⟨n + 1, hn⟩ h0, first_at, tile_at]
      simp [h0]
    · rw [held_next m c ⟨n + 1, hn⟩ h0, next_at, tile_at]
      refine congrArg (· + _) ?_
      refine ih.trans ?_
      have e1 : rowOf ⟨n, by omega⟩ r = rowOf ⟨n + 1, hn⟩ r := Fin.ext (by simp only [rowOf]; omega)
      have e2 : colOf ⟨n, by omega⟩ s = colOf ⟨n + 1, hn⟩ s := Fin.ext (by simp only [colOf])
      rw [e1, e2]
      simp only
      rw [show n % 16 + 1 = (n + 1) % 16 by omega]

theorem held_last (t : Fin cfg0.N) (ht : t.val % 16 = 15) (r : Fin 1408) (s : Fin 1024) :
    held m c t.val t.isLt (ix2 r s) = total m c (ix2 (rowOf t r) (colOf t s)) := by
  rw [held_at, ht, total, Finset.sum_range]
  refine Finset.sum_congr rfl fun u _ => ?_
  rw [share, dif_pos u.isLt]; rfl

theorem final : (dats m 0 c).arrAt 2 cfg0.N = total m c := by
  refine (dats m 0 c).arrAt_eq_of_covers 2 _ (by decide +kernel) fun t hf y => ?_
  blk_simp
  rw [after0_2]
  have ht : t.val % 16 = 15 := (flush0_2 t).1 hf
  obtain ⟨r, s, rfl⟩ : ∃ (r : Fin 1408) (s : Fin 1024), y = ix2 r s := ⟨y 0, y 1, by funext k; fin_cases k <;> rfl⟩
  refine (congrFun (written m c t ht) _).trans ((held_last m c t ht r s).trans ?_)
  have e : ((win0_2.blk t).view.emb (ix2 r s) : S2816x1024.Idx) = ix2 (rowOf t r) (colOf t s) := by blk_ext [index_2, rowOf, colOf]
  exact (congrArg (total m c) e).symm

/-! ## The operands are the arguments -/

abbrev x0 : FVec Ideal S16384x2816 .f32 := m ((c.tc : Thread nD τ).loc main_arg0)
abbrev x1 : FVec Ideal S16384x1024 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x2816 .f32) (y : FVec Ideal S16384x1024 .f32) : FVec Ideal S2816x1024 .f32 :=
  transpose S2816x1024 [1, 0] (Host.dotGeneral Cert.Reference3Ideal.dot_S16384x1024_S16384x2816_S1024x2816_0_0_1_1_n_n none y x) Cert.Reference3Ideal.Gen.transposes_S1024x2816_S2816x1024_1_0

/-- at an element. -/
theorem refV_at (x : FVec Ideal S16384x2816 .f32) (y : FVec Ideal S16384x1024 .f32) (r : Fin 2816) (s : Fin 1024) :
    refV x y (ix2 r s) = ∑ u : Fin 16384, y (ix2 u s) * x (ix2 u r) := by
  pointwise [refV]

theorem ref_total : refV (x0 m c) (x1 m c) = total m c := by
  funext y
  obtain ⟨r, s, rfl⟩ : ∃ (r : Fin 2816) (s : Fin 1024), y = ix2 r s := ⟨y 0, y 1, by funext k; fin_cases k <;> rfl⟩
  refine (refV_at _ _ r s).trans (Finset.sum_congr rfl fun u _ => ?_)
  rw [opA_eq, opB_eq, mul_comm]; rfl

/-! ## The claims -/

theorem frame_printed : Cert.quiescent_Kernel3 := fun m ρ _ => Cert.Kernel3.Gen.frame (F := Bits) m ρ
theorem frame_ideal : Cert.quiescent_Kernel3Ideal := fun m ρ _ => Cert.Kernel3Ideal.Gen.frame (F := Ideal) m ρ
theorem frame_reference : Cert.quiescent_Reference3Ideal := fun m ρ _ =>
  (θ_run Cert.Reference3Ideal.defs _ _).mono (fun r h => ⟨fun c => (h c).2, Idealize.ShloMosaic.sem_eq_zero_of_no_sems rfl r.2⟩)
    (Cert.Reference3Ideal.Value.run (F := Ideal) m ρ)

theorem algebraic : Cert.algebraic_Kernel3Ideal_Reference3Ideal := by
  intro m ρ m' ρ' _ hm
  refine ⟨fun c => total m c, (θ_run defs _ _).mono (fun r h c => ?_) (Cert.Kernel3Ideal.Value.run_blocks (F := Ideal) m ρ),
    (θ_run Cert.Reference3Ideal.defs _ _).mono (fun r h c => ?_) (Cert.Reference3Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel3Ideal.GradDown

end
-- ==== Proof.GradGateUp.lean ====
/-
  The gradient of the feed-forward's two first matrices, laid side by side: the product's tiles make up the whole product.

  Point `t` adds the share of 1024 terms to the tile it holds, and the last point of a tile writes it.
  The tiles cover the result, so the array is the sum over all 16384 terms, which is what the reference computes.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel4Ideal.GradGateUp

open Cert.Kernel4Ideal Cert.Kernel4Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x1024 .bf16) (b : Vec Ideal S1024x1408 .bf16) (r : Fin 1024) (s : Fin 1408) :
    k0_pay1 a b (ix2 r s) = ∑ k : Fin 1024, a (ix2 k r) * b (ix2 k s) := by
  pointwise [k0_pay1]
theorem first_at (a : Vec Ideal S1024x1024 .bf16) (b : Vec Ideal S1024x1408 .bf16) (r : Fin 1024) (s : Fin 1408) :
    k0_pay2 a b (ix2 r s) = k0_pay1 a b (ix2 r s) := by
  pointwise [k0_pay2]
theorem next_at (a : Vec Ideal S1024x1024 .bf16) (b : Vec Ideal S1024x1408 .bf16) (x : Vec Ideal S1024x1408 .f32) (r : Fin 1024) (s : Fin 1408) :
    k0_pay3 a b x (ix2 r s) = x (ix2 r s) + k0_pay1 a b (ix2 r s) := by
  pointwise [k0_pay3]

variable (m : (ℓ : Loc nD τ sig) → Buf (Elt Ideal) ℓ) (c : Dev nD)

/-- What the scratch holds after point `n`. -/
abbrev held (n : ℕ) (hn : n < cfg0.N) : Vec Ideal S1024x1408 .f32 := (outsAt0 m c n hn).2

theorem held_first (t : Fin cfg0.N) (h0 : t.val % 16 = 0) : held m c t.val t.isLt = k0_pay2 (iblk m c 0 t) (iblk m c 1 t) := by
  unfold held
  rw [outsAt0_A m c t h0 (by omega) (by omega)]
  frame_out
theorem held_next (t : Fin cfg0.N) (h0 : ¬t.val % 16 = 0) :
    held m c t.val t.isLt = k0_pay3 (iblk m c 0 t) (iblk m c 1 t) (held m c (t.val - 1) (Nat.lt_of_le_of_lt (Nat.sub_le _ _) t.isLt)) := by
  unfold held
  by_cases h2 : t.val % 16 = 15
  · rw [outsAt0_C m c t h0 (by omega) h2]
    frame_out
    exact congrArg _ ((Memref.isWhole_whole _).read_unread _)
  · rw [outsAt0_B m c t h0 (by omega) h2]
    frame_out
    exact congrArg _ ((Memref.isWhole_whole _).read_unread _)
theorem written (t : Fin cfg0.N) (h2 : t.val % 16 = 15) : (outsAt0 m c t.val t.isLt).1 = held m c t.val t.isLt := by
  unfold held
  rw [outsAt0_C m c t (by omega) (by omega) h2]
  frame_out

/-! ## The operands and their blocks -/

abbrev opA : Vec Ideal S16384x1024 .bf16 := V m c main_v0
abbrev opB : Vec Ideal S16384x5632 .bf16 := V m c main_v1

/-- The result's row a tile's row `r` is, and its column. -/
def rowOf (t : Fin cfg0.N) (r : Fin 1024) : Fin 1024 := ⟨r.val, by have := t.isLt; have : cfg0.N = 64 := N_0; omega⟩
def colOf (t : Fin cfg0.N) (s : Fin 1408) : Fin 5632 := ⟨1408 * (t.val / 16) + s.val, by have := t.isLt; have : cfg0.N = 64 := N_0; omega⟩
theorem index_0 : ∀ t : Fin cfg0.N, win0_0.index t = ![t.val % 16, 0] := (by decide +kernel : ∀ t : Fin grid0.N, win0_0.index t = ![t.val % 16, 0])
theorem index_1 : ∀ t : Fin cfg0.N, win0_1.index t = ![t.val % 16, t.val / 16] := (by decide +kernel : ∀ t : Fin grid0.N, win0_1.index t = ![t.val % 16, t.val / 16])
theorem index_2 : ∀ t : Fin cfg0.N, win0_2.index t = ![0, t.val / 16] := (by decide +kernel : ∀ t : Fin grid0.N, win0_2.index t = ![0, t.val / 16])

theorem iblk0_at (t : Fin cfg0.N) (r : Fin 1024) (k : Fin 1024) :
    iblk m c 0 t (ix2 k r) = opA m c (ix2 ⟨1024 * (t.val % 16) + k.val, by omega⟩ (rowOf t r)) := by
  blk_simp [iblk, index_0]; blk_ext [index_0, rowOf]
theorem iblk1_at (t : Fin cfg0.N) (s : Fin 1408) (k : Fin 1024) :
    iblk m c 1 t (ix2 k s) = opB m c (ix2 ⟨1024 * (t.val % 16) + k.val, by omega⟩ (colOf t s)) := by
  blk_simp [iblk, index_1]; blk_ext [index_1, colOf]

/-! ## The sum -/

/-- The whole product. -/
def total (y : S1024x5632.Idx) : EReal := ∑ u : Fin 16384, opA m c (ix2 u (y 0)) * opB m c (ix2 u (y 1))

/-- Term `n` of an element of the product (zero past the terms). -/
def share (r : Fin 1024) (s : Fin 5632) (n : ℕ) : EReal :=
  if hn : n < 16384 then opA m c (ix2 ⟨n, hn⟩ r) * opB m c (ix2 ⟨n, hn⟩ s) else 0

theorem tile_at (t : Fin cfg0.N) (r : Fin 1024) (s : Fin 1408) :
    k0_pay1 (iblk m c 0 t) (iblk m c 1 t) (ix2 r s) = ∑ k : Fin 1024, share m c (rowOf t r) (colOf t s) (1024 * (t.val % 16) + k.val) := by
  refine (mul_at _ _ r s).trans (Finset.sum_congr rfl fun k _ => ?_)
  rw [iblk0_at, iblk1_at, share, dif_pos (by omega : 1024 * (t.val % 16) + k.val < 16384)]

theorem held_at (t : Fin cfg0.N) (r : Fin 1024) (s : Fin 1408) :
    held m c t.val t.isLt (ix2 r s) = ∑ n ∈ Finset.range (1024 * (t.val % 16 + 1)), share m c (rowOf t r) (colOf t s) n := by
  obtain ⟨n, hn⟩ := t
  induction n with
  | zero =>
    rw [held_first m c ⟨0, hn⟩ rfl, first_at, tile_at]; simp [Finset.sum_range]
  | succ n ih =>
    have ih := ih (by omega)
    rw [show 1024 * ((⟨n + 1, hn⟩ : Fin cfg0.N).val % 16 + 1) = 1024 * ((n + 1) % 16) + 1024 by simp only; ring, Finset.sum_range_add, Finset.sum_range (n := 1024)]
    by_cases h0 : (n + 1) % 16 = 0
    · rw [held_first m c ⟨n + 1, hn⟩ h0, first_at, tile_at]
      simp [h0]
    · rw [held_next m c ⟨n + 1, hn⟩ h0, next_at, tile_at]
      refine congrArg (· + _) ?_
      refine ih.trans ?_
      have e1 : rowOf ⟨n, by omega⟩ r = rowOf ⟨n + 1, hn⟩ r := Fin.ext (by simp only [rowOf])
      have e2 : colOf ⟨n, by omega⟩ s = colOf ⟨n + 1, hn⟩ s := Fin.ext (by simp only [colOf]; omega)
      rw [e1, e2]
      simp only
      rw [show n % 16 + 1 = (n + 1) % 16 by omega]

theorem held_last (t : Fin cfg0.N) (ht : t.val % 16 = 15) (r : Fin 1024) (s : Fin 1408) :
    held m c t.val t.isLt (ix2 r s) = total m c (ix2 (rowOf t r) (colOf t s)) := by
  rw [held_at, ht, total, Finset.sum_range]
  refine Finset.sum_congr rfl fun u _ => ?_
  rw [share, dif_pos u.isLt]; rfl

theorem final : (dats m 0 c).arrAt 2 cfg0.N = total m c := by
  refine (dats m 0 c).arrAt_eq_of_covers 2 _ (by decide +kernel) fun t hf y => ?_
  blk_simp
  rw [after0_2]
  have ht : t.val % 16 = 15 := (flush0_2 t).1 hf
  obtain ⟨r, s, rfl⟩ : ∃ (r : Fin 1024) (s : Fin 1408), y = ix2 r s := ⟨y 0, y 1, by funext k; fin_cases k <;> rfl⟩
  refine (congrFun (written m c t ht) _).trans ((held_last m c t ht r s).trans ?_)
  have e : ((win0_2.blk t).view.emb (ix2 r s) : S1024x5632.Idx) = ix2 (rowOf t r) (colOf t s) := by blk_ext [index_2, rowOf, colOf]
  exact (congrArg (total m c) e).symm

/-! ## The operands are the arguments -/

abbrev x0 : FVec Ideal S16384x1024 .f32 := m ((c.tc : Thread nD τ).loc main_arg0)
abbrev x1 : FVec Ideal S16384x5632 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x1024 .f32) (y : FVec Ideal S16384x5632 .f32) : FVec Ideal S1024x5632 .f32 :=
  transpose S1024x5632 [1, 0] (Host.dotGeneral Cert.Reference4Ideal.dot_S16384x5632_S16384x1024_S5632x1024_0_0_1_1_n_n none y x) Cert.Reference4Ideal.Gen.transposes_S5632x1024_S1024x5632_1_0

/-- at an element. -/
theorem refV_at (x : FVec Ideal S16384x1024 .f32) (y : FVec Ideal S16384x5632 .f32) (r : Fin 1024) (s : Fin 5632) :
    refV x y (ix2 r s) = ∑ u : Fin 16384, y (ix2 u s) * x (ix2 u r) := by
  pointwise [refV]

theorem ref_total : refV (x0 m c) (x1 m c) = total m c := by
  funext y
  obtain ⟨r, s, rfl⟩ : ∃ (r : Fin 1024) (s : Fin 5632), y = ix2 r s := ⟨y 0, y 1, by funext k; fin_cases k <;> rfl⟩
  refine (refV_at _ _ r s).trans (Finset.sum_congr rfl fun u _ => ?_)
  rw [opA_eq, opB_eq, mul_comm]; rfl

/-! ## The claims -/

theorem frame_printed : Cert.quiescent_Kernel4 := fun m ρ _ => Cert.Kernel4.Gen.frame (F := Bits) m ρ
theorem frame_ideal : Cert.quiescent_Kernel4Ideal := fun m ρ _ => Cert.Kernel4Ideal.Gen.frame (F := Ideal) m ρ
theorem frame_reference : Cert.quiescent_Reference4Ideal := fun m ρ _ =>
  (θ_run Cert.Reference4Ideal.defs _ _).mono (fun r h => ⟨fun c => (h c).2, Idealize.ShloMosaic.sem_eq_zero_of_no_sems rfl r.2⟩)
    (Cert.Reference4Ideal.Value.run (F := Ideal) m ρ)

theorem algebraic : Cert.algebraic_Kernel4Ideal_Reference4Ideal := by
  intro m ρ m' ρ' _ hm
  refine ⟨fun c => total m c, (θ_run defs _ _).mono (fun r h c => ?_) (Cert.Kernel4Ideal.Value.run_blocks (F := Ideal) m ρ),
    (θ_run Cert.Reference4Ideal.defs _ _).mono (fun r h c => ?_) (Cert.Reference4Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel4Ideal.GradGateUp

end
-- ==== Proof.FfnInput.lean ====
/-
  The gradient of the feed-forward's input: the product's tiles make up the whole product.

  Point `t` adds the share of 1408 terms to the tile it holds, and the last point of a tile writes it.
  The tiles cover the result, so the array is the sum over all 5632 terms, which is what the reference computes.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel5Ideal.FfnInput

open Cert.Kernel5Ideal Cert.Kernel5Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S2048x1408 .bf16) (b : Vec Ideal S1024x1408 .bf16) (r : Fin 2048) (s : Fin 1024) :
    k0_pay1 a b (ix2 r s) = ∑ k : Fin 1408, a (ix2 r k) * b (ix2 s k) := by
  pointwise [k0_pay1]
theorem first_at (a : Vec Ideal S2048x1408 .bf16) (b : Vec Ideal S1024x1408 .bf16) (r : Fin 2048) (s : Fin 1024) :
    k0_pay2 a b (ix2 r s) = k0_pay1 a b (ix2 r s) := by
  pointwise [k0_pay2]
theorem next_at (a : Vec Ideal S2048x1408 .bf16) (b : Vec Ideal S1024x1408 .bf16) (x : Vec Ideal S2048x1024 .f32) (r : Fin 2048) (s : Fin 1024) :
    k0_pay3 a b x (ix2 r s) = x (ix2 r s) + k0_pay1 a b (ix2 r s) := by
  pointwise [k0_pay3]

variable (m : (ℓ : Loc nD τ sig) → Buf (Elt Ideal) ℓ) (c : Dev nD)

/-- What the scratch holds after point `n`. -/
abbrev held (n : ℕ) (hn : n < cfg0.N) : Vec Ideal S2048x1024 .f32 := (outsAt0 m c n hn).2

theorem held_first (t : Fin cfg0.N) (h0 : t.val % 4 = 0) : held m c t.val t.isLt = k0_pay2 (iblk m c 0 t) (iblk m c 1 t) := by
  unfold held
  rw [outsAt0_A m c t h0 (by omega) (by omega)]
  frame_out
theorem held_next (t : Fin cfg0.N) (h0 : ¬t.val % 4 = 0) :
    held m c t.val t.isLt = k0_pay3 (iblk m c 0 t) (iblk m c 1 t) (held m c (t.val - 1) (Nat.lt_of_le_of_lt (Nat.sub_le _ _) t.isLt)) := by
  unfold held
  by_cases h2 : t.val % 4 = 3
  · rw [outsAt0_C m c t h0 (by omega) h2]
    frame_out
    exact congrArg _ ((Memref.isWhole_whole _).read_unread _)
  · rw [outsAt0_B m c t h0 (by omega) h2]
    frame_out
    exact congrArg _ ((Memref.isWhole_whole _).read_unread _)
theorem written (t : Fin cfg0.N) (h2 : t.val % 4 = 3) : (outsAt0 m c t.val t.isLt).1 = held m c t.val t.isLt := by
  unfold held
  rw [outsAt0_C m c t (by omega) (by omega) h2]
  frame_out

/-! ## The operands and their blocks -/

abbrev opA : Vec Ideal S16384x5632 .bf16 := V m c main_v0
abbrev opB : Vec Ideal S1024x5632 .bf16 := V m c main_v1

/-- The result's row a tile's row `r` is, and its column. -/
def rowOf (t : Fin cfg0.N) (r : Fin 2048) : Fin 16384 := ⟨2048 * (t.val / 4) + r.val, by have := t.isLt; have : cfg0.N = 32 := N_0; omega⟩
def colOf (t : Fin cfg0.N) (s : Fin 1024) : Fin 1024 := ⟨s.val, by have := t.isLt; have : cfg0.N = 32 := N_0; omega⟩
theorem index_0 : ∀ t : Fin cfg0.N, win0_0.index t = ![t.val / 4, t.val % 4] := (by decide +kernel : ∀ t : Fin grid0.N, win0_0.index t = ![t.val / 4, t.val % 4])
theorem index_1 : ∀ t : Fin cfg0.N, win0_1.index t = ![0, t.val % 4] := (by decide +kernel : ∀ t : Fin grid0.N, win0_1.index t = ![0, t.val % 4])
theorem index_2 : ∀ t : Fin cfg0.N, win0_2.index t = ![t.val / 4, 0] := (by decide +kernel : ∀ t : Fin grid0.N, win0_2.index t = ![t.val / 4, 0])

theorem iblk0_at (t : Fin cfg0.N) (r : Fin 2048) (k : Fin 1408) :
    iblk m c 0 t (ix2 r k) = opA m c (ix2 (rowOf t r) ⟨1408 * (t.val % 4) + k.val, by omega⟩) := by
  blk_simp [iblk, index_0]; blk_ext [index_0, rowOf]
theorem iblk1_at (t : Fin cfg0.N) (s : Fin 1024) (k : Fin 1408) :
    iblk m c 1 t (ix2 s k) = opB m c (ix2 (colOf t s) ⟨1408 * (t.val % 4) + k.val, by omega⟩) := by
  blk_simp [iblk, index_1]; blk_ext [index_1, colOf]

/-! ## The sum -/

/-- The whole product. -/
def total (y : S16384x1024.Idx) : EReal := ∑ u : Fin 5632, opA m c (ix2 (y 0) u) * opB m c (ix2 (y 1) u)

/-- Term `n` of an element of the product (zero past the terms). -/
def share (r : Fin 16384) (s : Fin 1024) (n : ℕ) : EReal :=
  if hn : n < 5632 then opA m c (ix2 r ⟨n, hn⟩) * opB m c (ix2 s ⟨n, hn⟩) else 0

theorem tile_at (t : Fin cfg0.N) (r : Fin 2048) (s : Fin 1024) :
    k0_pay1 (iblk m c 0 t) (iblk m c 1 t) (ix2 r s) = ∑ k : Fin 1408, share m c (rowOf t r) (colOf t s) (1408 * (t.val % 4) + k.val) := by
  refine (mul_at _ _ r s).trans (Finset.sum_congr rfl fun k _ => ?_)
  rw [iblk0_at, iblk1_at, share, dif_pos (by omega : 1408 * (t.val % 4) + k.val < 5632)]

theorem held_at (t : Fin cfg0.N) (r : Fin 2048) (s : Fin 1024) :
    held m c t.val t.isLt (ix2 r s) = ∑ n ∈ Finset.range (1408 * (t.val % 4 + 1)), share m c (rowOf t r) (colOf t s) n := by
  obtain ⟨n, hn⟩ := t
  induction n with
  | zero =>
    rw [held_first m c ⟨0, hn⟩ rfl, first_at, tile_at]; simp [Finset.sum_range]
  | succ n ih =>
    have ih := ih (by omega)
    rw [show 1408 * ((⟨n + 1, hn⟩ : Fin cfg0.N).val % 4 + 1) = 1408 * ((n + 1) % 4) + 1408 by simp only; ring, Finset.sum_range_add, Finset.sum_range (n := 1408)]
    by_cases h0 : (n + 1) % 4 = 0
    · rw [held_first m c ⟨n + 1, hn⟩ h0, first_at, tile_at]
      simp [h0]
    · rw [held_next m c ⟨n + 1, hn⟩ h0, next_at, tile_at]
      refine congrArg (· + _) ?_
      refine ih.trans ?_
      have e1 : rowOf ⟨n, by omega⟩ r = rowOf ⟨n + 1, hn⟩ r := Fin.ext (by simp only [rowOf]; omega)
      have e2 : colOf ⟨n, by omega⟩ s = colOf ⟨n + 1, hn⟩ s := Fin.ext (by simp only [colOf])
      rw [e1, e2]
      simp only
      rw [show n % 4 + 1 = (n + 1) % 4 by omega]

theorem held_last (t : Fin cfg0.N) (ht : t.val % 4 = 3) (r : Fin 2048) (s : Fin 1024) :
    held m c t.val t.isLt (ix2 r s) = total m c (ix2 (rowOf t r) (colOf t s)) := by
  rw [held_at, ht, total, Finset.sum_range]
  refine Finset.sum_congr rfl fun u _ => ?_
  rw [share, dif_pos u.isLt]; rfl

theorem final : (dats m 0 c).arrAt 2 cfg0.N = total m c := by
  refine (dats m 0 c).arrAt_eq_of_covers 2 _ (by decide +kernel) fun t hf y => ?_
  blk_simp
  rw [after0_2]
  have ht : t.val % 4 = 3 := (flush0_2 t).1 hf
  obtain ⟨r, s, rfl⟩ : ∃ (r : Fin 2048) (s : Fin 1024), y = ix2 r s := ⟨y 0, y 1, by funext k; fin_cases k <;> rfl⟩
  refine (congrFun (written m c t ht) _).trans ((held_last m c t ht r s).trans ?_)
  have e : ((win0_2.blk t).view.emb (ix2 r s) : S16384x1024.Idx) = ix2 (rowOf t r) (colOf t s) := by blk_ext [index_2, rowOf, colOf]
  exact (congrArg (total m c) e).symm

/-! ## The operands are the arguments -/

abbrev x0 : FVec Ideal S16384x5632 .f32 := m ((c.tc : Thread nD τ).loc main_arg0)
abbrev x1 : FVec Ideal S1024x5632 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x5632 .f32) (y : FVec Ideal S1024x5632 .f32) : FVec Ideal S16384x1024 .f32 :=
  Host.dotGeneral Cert.Reference5Ideal.dot_S16384x5632_S1024x5632_S16384x1024_1_1_0_0_n_n none x y

/-- at an element. -/
theorem refV_at (x : FVec Ideal S16384x5632 .f32) (y : FVec Ideal S1024x5632 .f32) (r : Fin 16384) (s : Fin 1024) :
    refV x y (ix2 r s) = ∑ u : Fin 5632, x (ix2 r u) * y (ix2 s u) := by
  pointwise [refV]

theorem ref_total : refV (x0 m c) (x1 m c) = total m c := by
  funext y
  obtain ⟨r, s, rfl⟩ : ∃ (r : Fin 16384) (s : Fin 1024), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel5 := fun m ρ _ => Cert.Kernel5.Gen.frame (F := Bits) m ρ
theorem frame_ideal : Cert.quiescent_Kernel5Ideal := fun m ρ _ => Cert.Kernel5Ideal.Gen.frame (F := Ideal) m ρ
theorem frame_reference : Cert.quiescent_Reference5Ideal := fun m ρ _ =>
  (θ_run Cert.Reference5Ideal.defs _ _).mono (fun r h => ⟨fun c => (h c).2, Idealize.ShloMosaic.sem_eq_zero_of_no_sems rfl r.2⟩)
    (Cert.Reference5Ideal.Value.run (F := Ideal) m ρ)

theorem algebraic : Cert.algebraic_Kernel5Ideal_Reference5Ideal := by
  intro m ρ m' ρ' _ hm
  refine ⟨fun c => total m c, (θ_run defs _ _).mono (fun r h c => ?_) (Cert.Kernel5Ideal.Value.run_blocks (F := Ideal) m ρ),
    (θ_run Cert.Reference5Ideal.defs _ _).mono (fun r h c => ?_) (Cert.Reference5Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel5Ideal.FfnInput

end
-- ==== Proof.GradProj.lean ====
/-
  The gradient of the layer's input projections, laid side by side: the product's tiles make up the whole product.

  Point `t` adds the share of 1024 terms to the tile it holds, and the last point of a tile writes it.
  The tiles cover the result, so the array is the sum over all 16384 terms, which is what the reference computes.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel6Ideal.GradProj

open Cert.Kernel6Ideal Cert.Kernel6Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x512 .bf16) (b : Vec Ideal S1024x3200 .bf16) (r : Fin 512) (s : Fin 3200) :
    k0_pay1 a b (ix2 r s) = ∑ k : Fin 1024, a (ix2 k r) * b (ix2 k s) := by
  pointwise [k0_pay1]
theorem first_at (a : Vec Ideal S1024x512 .bf16) (b : Vec Ideal S1024x3200 .bf16) (r : Fin 512) (s : Fin 3200) :
    k0_pay2 a b (ix2 r s) = k0_pay1 a b (ix2 r s) := by
  pointwise [k0_pay2]
theorem next_at (a : Vec Ideal S1024x512 .bf16) (b : Vec Ideal S1024x3200 .bf16) (x : Vec Ideal S512x3200 .f32) (r : Fin 512) (s : Fin 3200) :
    k0_pay3 a b x (ix2 r s) = x (ix2 r s) + k0_pay1 a b (ix2 r s) := by
  pointwise [k0_pay3]

variable (m : (ℓ : Loc nD τ sig) → Buf (Elt Ideal) ℓ) (c : Dev nD)

/-- What the scratch holds after point `n`. -/
abbrev held (n : ℕ) (hn : n < cfg0.N) : Vec Ideal S512x3200 .f32 := (outsAt0 m c n hn).2

theorem held_first (t : Fin cfg0.N) (h0 : t.val % 16 = 0) : held m c t.val t.isLt = k0_pay2 (iblk m c 0 t) (iblk m c 1 t) := by
  unfold held
  rw [outsAt0_A m c t h0 (by omega) (by omega)]
  frame_out
theorem held_next (t : Fin cfg0.N) (h0 : ¬t.val % 16 = 0) :
    held m c t.val t.isLt = k0_pay3 (iblk m c 0 t) (iblk m c 1 t) (held m c (t.val - 1) (Nat.lt_of_le_of_lt (Nat.sub_le _ _) t.isLt)) := by
  unfold held
  by_cases h2 : t.val % 16 = 15
  · rw [outsAt0_C m c t h0 (by omega) h2]
    frame_out
    exact congrArg _ ((Memref.isWhole_whole _).read_unread _)
  · rw [outsAt0_B m c t h0 (by omega) h2]
    frame_out
    exact congrArg _ ((Memref.isWhole_whole _).read_unread _)
theorem written (t : Fin cfg0.N) (h2 : t.val % 16 = 15) : (outsAt0 m c t.val t.isLt).1 = held m c t.val t.isLt := by
  unfold held
  rw [outsAt0_C m c t (by omega) (by omega) h2]
  frame_out

/-! ## The operands and their blocks -/

abbrev opA : Vec Ideal S16384x1024 .bf16 := V m c main_v0
abbrev opB : Vec Ideal S16384x3200 .bf16 := V m c main_v1

/-- The result's row a tile's row `r` is, and its column. -/
def rowOf (t : Fin cfg0.N) (r : Fin 512) : Fin 1024 := ⟨512 * (t.val / 16) + r.val, by have := t.isLt; have : cfg0.N = 32 := N_0; omega⟩
def colOf (t : Fin cfg0.N) (s : Fin 3200) : Fin 3200 := ⟨s.val, by have := t.isLt; have : cfg0.N = 32 := N_0; omega⟩
theorem index_0 : ∀ t : Fin cfg0.N, win0_0.index t = ![t.val % 16, t.val / 16] := (by decide +kernel : ∀ t : Fin grid0.N, win0_0.index t = ![t.val % 16, t.val / 16])
theorem index_1 : ∀ t : Fin cfg0.N, win0_1.index t = ![t.val % 16, 0] := (by decide +kernel : ∀ t : Fin grid0.N, win0_1.index t = ![t.val % 16, 0])
theorem index_2 : ∀ t : Fin cfg0.N, win0_2.index t = ![t.val / 16, 0] := (by decide +kernel : ∀ t : Fin grid0.N, win0_2.index t = ![t.val / 16, 0])

theorem iblk0_at (t : Fin cfg0.N) (r : Fin 512) (k : Fin 1024) :
    iblk m c 0 t (ix2 k r) = opA m c (ix2 ⟨1024 * (t.val % 16) + k.val, by omega⟩ (rowOf t r)) := by
  blk_simp [iblk, index_0]; blk_ext [index_0, rowOf]
theorem iblk1_at (t : Fin cfg0.N) (s : Fin 3200) (k : Fin 1024) :
    iblk m c 1 t (ix2 k s) = opB m c (ix2 ⟨1024 * (t.val % 16) + k.val, by omega⟩ (colOf t s)) := by
  blk_simp [iblk, index_1]; blk_ext [index_1, colOf]

/-! ## The sum -/

/-- The whole product. -/
def total (y : S1024x3200.Idx) : EReal := ∑ u : Fin 16384, opA m c (ix2 u (y 0)) * opB m c (ix2 u (y 1))

/-- Term `n` of an element of the product (zero past the terms). -/
def share (r : Fin 1024) (s : Fin 3200) (n : ℕ) : EReal :=
  if hn : n < 16384 then opA m c (ix2 ⟨n, hn⟩ r) * opB m c (ix2 ⟨n, hn⟩ s) else 0

theorem tile_at (t : Fin cfg0.N) (r : Fin 512) (s : Fin 3200) :
    k0_pay1 (iblk m c 0 t) (iblk m c 1 t) (ix2 r s) = ∑ k : Fin 1024, share m c (rowOf t r) (colOf t s) (1024 * (t.val % 16) + k.val) := by
  refine (mul_at _ _ r s).trans (Finset.sum_congr rfl fun k _ => ?_)
  rw [iblk0_at, iblk1_at, share, dif_pos (by omega : 1024 * (t.val % 16) + k.val < 16384)]

theorem held_at (t : Fin cfg0.N) (r : Fin 512) (s : Fin 3200) :
    held m c t.val t.isLt (ix2 r s) = ∑ n ∈ Finset.range (1024 * (t.val % 16 + 1)), share m c (rowOf t r) (colOf t s) n := by
  obtain ⟨n, hn⟩ := t
  induction n with
  | zero =>
    rw [held_first m c ⟨0, hn⟩ rfl, first_at, tile_at]; simp [Finset.sum_range]
  | succ n ih =>
    have ih := ih (by omega)
    rw [show 1024 * ((⟨n + 1, hn⟩ : Fin cfg0.N).val % 16 + 1) = 1024 * ((n + 1) % 16) + 1024 by simp only; ring, Finset.sum_range_add, Finset.sum_range (n := 1024)]
    by_cases h0 : (n + 1) % 16 = 0
    · rw [held_first m c ⟨n + 1, hn⟩ h0, first_at, tile_at]
      simp [h0]
    · rw [held_next m c ⟨n + 1, hn⟩ h0, next_at, tile_at]
      refine congrArg (· + _) ?_
      refine ih.trans ?_
      have e1 : rowOf ⟨n, by omega⟩ r = rowOf ⟨n + 1, hn⟩ r := Fin.ext (by simp only [rowOf]; omega)
      have e2 : colOf ⟨n, by omega⟩ s = colOf ⟨n + 1, hn⟩ s := Fin.ext (by simp only [colOf])
      rw [e1, e2]
      simp only
      rw [show n % 16 + 1 = (n + 1) % 16 by omega]

theorem held_last (t : Fin cfg0.N) (ht : t.val % 16 = 15) (r : Fin 512) (s : Fin 3200) :
    held m c t.val t.isLt (ix2 r s) = total m c (ix2 (rowOf t r) (colOf t s)) := by
  rw [held_at, ht, total, Finset.sum_range]
  refine Finset.sum_congr rfl fun u _ => ?_
  rw [share, dif_pos u.isLt]; rfl

theorem final : (dats m 0 c).arrAt 2 cfg0.N = total m c := by
  refine (dats m 0 c).arrAt_eq_of_covers 2 _ (by decide +kernel) fun t hf y => ?_
  blk_simp
  rw [after0_2]
  have ht : t.val % 16 = 15 := (flush0_2 t).1 hf
  obtain ⟨r, s, rfl⟩ : ∃ (r : Fin 512) (s : Fin 3200), y = ix2 r s := ⟨y 0, y 1, by funext k; fin_cases k <;> rfl⟩
  refine (congrFun (written m c t ht) _).trans ((held_last m c t ht r s).trans ?_)
  have e : ((win0_2.blk t).view.emb (ix2 r s) : S1024x3200.Idx) = ix2 (rowOf t r) (colOf t s) := by blk_ext [index_2, rowOf, colOf]
  exact (congrArg (total m c) e).symm

/-! ## The operands are the arguments -/

abbrev x0 : FVec Ideal S16384x1024 .f32 := m ((c.tc : Thread nD τ).loc main_arg0)
abbrev x1 : FVec Ideal S16384x3200 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x1024 .f32) (y : FVec Ideal S16384x3200 .f32) : FVec Ideal S1024x3200 .f32 :=
  transpose S1024x3200 [1, 0] (Host.dotGeneral Cert.Reference6Ideal.dot_S16384x3200_S16384x1024_S3200x1024_0_0_1_1_n_n none y x) Cert.Reference6Ideal.Gen.transposes_S3200x1024_S1024x3200_1_0

/-- at an element. -/
theorem refV_at (x : FVec Ideal S16384x1024 .f32) (y : FVec Ideal S16384x3200 .f32) (r : Fin 1024) (s : Fin 3200) :
    refV x y (ix2 r s) = ∑ u : Fin 16384, y (ix2 u s) * x (ix2 u r) := by
  pointwise [refV]

theorem ref_total : refV (x0 m c) (x1 m c) = total m c := by
  funext y
  obtain ⟨r, s, rfl⟩ : ∃ (r : Fin 1024) (s : Fin 3200), y = ix2 r s := ⟨y 0, y 1, by funext k; fin_cases k <;> rfl⟩
  refine (refV_at _ _ r s).trans (Finset.sum_congr rfl fun u _ => ?_)
  rw [opA_eq, opB_eq, mul_comm]; rfl

/-! ## The claims -/

theorem frame_printed : Cert.quiescent_Kernel6 := fun m ρ _ => Cert.Kernel6.Gen.frame (F := Bits) m ρ
theorem frame_ideal : Cert.quiescent_Kernel6Ideal := fun m ρ _ => Cert.Kernel6Ideal.Gen.frame (F := Ideal) m ρ
theorem frame_reference : Cert.quiescent_Reference6Ideal := fun m ρ _ =>
  (θ_run Cert.Reference6Ideal.defs _ _).mono (fun r h => ⟨fun c => (h c).2, Idealize.ShloMosaic.sem_eq_zero_of_no_sems rfl r.2⟩)
    (Cert.Reference6Ideal.Value.run (F := Ideal) m ρ)

theorem algebraic : Cert.algebraic_Kernel6Ideal_Reference6Ideal := by
  intro m ρ m' ρ' _ hm
  refine ⟨fun c => total m c, (θ_run defs _ _).mono (fun r h c => ?_) (Cert.Kernel6Ideal.Value.run_blocks (F := Ideal) m ρ),
    (θ_run Cert.Reference6Ideal.defs _ _).mono (fun r h c => ?_) (Cert.Reference6Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel6Ideal.GradProj

end
-- ==== Proof.ProjInput.lean ====
/-
  The gradient of the input projections' input: the product's tiles make up the whole product.

  Every point computes one tile of the product whole and writes it.
  The tiles cover the result, so the array is the sum over all 3200 terms, which is what the reference computes.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel7Ideal.ProjInput

open Cert.Kernel7Ideal Cert.Kernel7Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x3200 .bf16) (b : Vec Ideal S1024x3200 .bf16) (r : Fin 1024) (s : Fin 1024) :
    k0_pay1 a b (ix2 r s) = ∑ k : Fin 3200, a (ix2 r k) * b (ix2 s k) := by
  pointwise [k0_pay1]

variable (m : (ℓ : Loc nD τ sig) → Buf (Elt Ideal) ℓ) (c : Dev nD)

/-! ## The operands and their blocks -/

abbrev opA : Vec Ideal S16384x3200 .bf16 := V m c main_v0
abbrev opB : Vec Ideal S1024x3200 .bf16 := V m c main_v1

/-- The result's row a tile's row `r` is, and its column. -/
def rowOf (t : Fin cfg0.N) (r : Fin 1024) : Fin 16384 := ⟨1024 * (t.val) + r.val, by have := t.isLt; have : cfg0.N = 16 := N_0; omega⟩
def colOf (t : Fin cfg0.N) (s : Fin 1024) : Fin 1024 := ⟨s.val, by have := t.isLt; have : cfg0.N = 16 := N_0; omega⟩
theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem iblk0_at (t : Fin cfg0.N) (r : Fin 1024) (k : Fin 3200) :
    iblk m c 0 t (ix2 r k) = opA m c (ix2 (rowOf t r) k) := by
  blk_simp [iblk, index_0]; blk_ext [index_0, rowOf]
theorem iblk1_at (t : Fin cfg0.N) (s : Fin 1024) (k : Fin 3200) :
    iblk m c 1 t (ix2 s k) = opB m c (ix2 (colOf t s) k) := by
  blk_simp [iblk, index_1]; blk_ext [index_1, colOf]

/-! ## The sum -/

/-- The whole product. -/
def total (y : S16384x1024.Idx) : EReal := ∑ u : Fin 3200, opA m c (ix2 (y 0) u) * opB m c (ix2 (y 1) u)

theorem tile_at (t : Fin cfg0.N) (r : Fin 1024) (s : Fin 1024) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, by funext k; fin_cases k <;> rfl⟩
  refine (congrFun (out_at m c t) _).trans ((tile_at m c t r s).trans ?_)
  have e : ((win0_2.blk t).view.emb (ix2 r s) : S16384x1024.Idx) = ix2 (rowOf t r) (colOf t s) := by blk_ext [index_2, rowOf, colOf]
  exact (congrArg (total m c) e).symm

/-! ## The operands are the arguments -/

abbrev x0 : FVec Ideal S16384x3200 .f32 := m ((c.tc : Thread nD τ).loc main_arg0)
abbrev x1 : FVec Ideal S1024x3200 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x3200 .f32) (y : FVec Ideal S1024x3200 .f32) : FVec Ideal S16384x1024 .f32 :=
  Host.dotGeneral Cert.Reference7Ideal.dot_S16384x3200_S1024x3200_S16384x1024_1_1_0_0_n_n none x y

/-- at an element. -/
theorem refV_at (x : FVec Ideal S16384x3200 .f32) (y : FVec Ideal S1024x3200 .f32) (r : Fin 16384) (s : Fin 1024) :
    refV x y (ix2 r s) = ∑ u : Fin 3200, x (ix2 r u) * y (ix2 s u) := by
  pointwise [refV]

theorem ref_total : refV (x0 m c) (x1 m c) = total m c := by
  funext y
  obtain ⟨r, s, rfl⟩ : ∃ (r : Fin 16384) (s : Fin 1024), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel7 := fun m ρ _ => Cert.Kernel7.Gen.frame (F := Bits) m ρ
theorem frame_ideal : Cert.quiescent_Kernel7Ideal := fun m ρ _ => Cert.Kernel7Ideal.Gen.frame (F := Ideal) m ρ
theorem frame_reference : Cert.quiescent_Reference7Ideal := fun m ρ _ =>
  (θ_run Cert.Reference7Ideal.defs _ _).mono (fun r h => ⟨fun c => (h c).2, Idealize.ShloMosaic.sem_eq_zero_of_no_sems rfl r.2⟩)
    (Cert.Reference7Ideal.Value.run (F := Ideal) m ρ)

theorem algebraic : Cert.algebraic_Kernel7Ideal_Reference7Ideal := by
  intro m ρ m' ρ' _ hm
  refine ⟨fun c => total m c, (θ_run defs _ _).mono (fun r h c => ?_) (Cert.Kernel7Ideal.Value.run_blocks (F := Ideal) m ρ),
    (θ_run Cert.Reference7Ideal.defs _ _).mono (fun r h c => ?_) (Cert.Reference7Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel7Ideal.ProjInput

end
-- ==== Proof.GradOut.lean ====
/-
  The gradient of the output projection: the product's tiles make up the whole product.

  Point `t` adds the share of 1024 terms to the tile it holds, and the last point of a tile writes it.
  The tiles cover the result, so the array is the sum over all 16384 terms, which is what the reference computes.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel8Ideal.GradOut

open Cert.Kernel8Ideal Cert.Kernel8Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x1024 .bf16) (b : Vec Ideal S1024x1024 .bf16) (r : Fin 1024) (s : Fin 1024) :
    k0_pay1 a b (ix2 r s) = ∑ k : Fin 1024, a (ix2 k r) * b (ix2 k s) := by
  pointwise [k0_pay1]
theorem first_at (a : Vec Ideal S1024x1024 .bf16) (b : Vec Ideal S1024x1024 .bf16) (r : Fin 1024) (s : Fin 1024) :
    k0_pay2 a b (ix2 r s) = k0_pay1 a b (ix2 r s) := by
  pointwise [k0_pay2]
theorem next_at (a : Vec Ideal S1024x1024 .bf16) (b : Vec Ideal S1024x1024 .bf16) (x : Vec Ideal S1024x1024 .f32) (r : Fin 1024) (s : Fin 1024) :
    k0_pay3 a b x (ix2 r s) = x (ix2 r s) + k0_pay1 a b (ix2 r s) := by
  pointwise [k0_pay3]

variable (m : (ℓ : Loc nD τ sig) → Buf (Elt Ideal) ℓ) (c : Dev nD)

/-- What the scratch holds after point `n`. -/
abbrev held (n : ℕ) (hn : n < cfg0.N) : Vec Ideal S1024x1024 .f32 := (outsAt0 m c n hn).2

theorem held_first (t : Fin cfg0.N) (h0 : t.val % 16 = 0) : held m c t.val t.isLt = k0_pay2 (iblk m c 0 t) (iblk m c 1 t) := by
  unfold held
  rw [outsAt0_A m c t h0 (by omega) (by omega)]
  frame_out
theorem held_next (t : Fin cfg0.N) (h0 : ¬t.val % 16 = 0) :
    held m c t.val t.isLt = k0_pay3 (iblk m c 0 t) (iblk m c 1 t) (held m c (t.val - 1) (Nat.lt_of_le_of_lt (Nat.sub_le _ _) t.isLt)) := by
  unfold held
  by_cases h2 : t.val % 16 = 15
  · rw [outsAt0_C m c t h0 (by omega) h2]
    frame_out
    exact congrArg _ ((Memref.isWhole_whole _).read_unread _)
  · rw [outsAt0_B m c t h0 (by omega) h2]
    frame_out
    exact congrArg _ ((Memref.isWhole_whole _).read_unread _)
theorem written (t : Fin cfg0.N) (h2 : t.val % 16 = 15) : (outsAt0 m c t.val t.isLt).1 = held m c t.val t.isLt := by
  unfold held
  rw [outsAt0_C m c t (by omega) (by omega) h2]
  frame_out

/-! ## The operands and their blocks -/

abbrev opA : Vec Ideal S16384x2048 .bf16 := V m c main_v0
abbrev opB : Vec Ideal S16384x1024 .bf16 := V m c main_v1

/-- The result's row a tile's row `r` is, and its column. -/
def rowOf (t : Fin cfg0.N) (r : Fin 1024) : Fin 2048 := ⟨1024 * (t.val / 16) + r.val, by have := t.isLt; have : cfg0.N = 32 := N_0; omega⟩
def colOf (t : Fin cfg0.N) (s : Fin 1024) : Fin 1024 := ⟨s.val, by have := t.isLt; have : cfg0.N = 32 := N_0; omega⟩
theorem index_0 : ∀ t : Fin cfg0.N, win0_0.index t = ![t.val % 16, t.val / 16] := (by decide +kernel : ∀ t : Fin grid0.N, win0_0.index t = ![t.val % 16, t.val / 16])
theorem index_1 : ∀ t : Fin cfg0.N, win0_1.index t = ![t.val % 16, 0] := (by decide +kernel : ∀ t : Fin grid0.N, win0_1.index t = ![t.val % 16, 0])
theorem index_2 : ∀ t : Fin cfg0.N, win0_2.index t = ![t.val / 16, 0] := (by decide +kernel : ∀ t : Fin grid0.N, win0_2.index t = ![t.val / 16, 0])

theorem iblk0_at (t : Fin cfg0.N) (r : Fin 1024) (k : Fin 1024) :
    iblk m c 0 t (ix2 k r) = opA m c (ix2 ⟨1024 * (t.val % 16) + k.val, by omega⟩ (rowOf t r)) := by
  blk_simp [iblk, index_0]; blk_ext [index_0, rowOf]
theorem iblk1_at (t : Fin cfg0.N) (s : Fin 1024) (k : Fin 1024) :
    iblk m c 1 t (ix2 k s) = opB m c (ix2 ⟨1024 * (t.val % 16) + k.val, by omega⟩ (colOf t s)) := by
  blk_simp [iblk, index_1]; blk_ext [index_1, colOf]

/-! ## The sum -/

/-- The whole product. -/
def total (y : S2048x1024.Idx) : EReal := ∑ u : Fin 16384, opA m c (ix2 u (y 0)) * opB m c (ix2 u (y 1))

/-- Term `n` of an element of the product (zero past the terms). -/
def share (r : Fin 2048) (s : Fin 1024) (n : ℕ) : EReal :=
  if hn : n < 16384 then opA m c (ix2 ⟨n, hn⟩ r) * opB m c (ix2 ⟨n, hn⟩ s) else 0

theorem tile_at (t : Fin cfg0.N) (r : Fin 1024) (s : Fin 1024) :
    k0_pay1 (iblk m c 0 t) (iblk m c 1 t) (ix2 r s) = ∑ k : Fin 1024, share m c (rowOf t r) (colOf t s) (1024 * (t.val % 16) + k.val) := by
  refine (mul_at _ _ r s).trans (Finset.sum_congr rfl fun k _ => ?_)
  rw [iblk0_at, iblk1_at, share, dif_pos (by omega : 1024 * (t.val % 16) + k.val < 16384)]

theorem held_at (t : Fin cfg0.N) (r : Fin 1024) (s : Fin 1024) :
    held m c t.val t.isLt (ix2 r s) = ∑ n ∈ Finset.range (1024 * (t.val % 16 + 1)), share m c (rowOf t r) (colOf t s) n := by
  obtain ⟨n, hn⟩ := t
  induction n with
  | zero =>
    rw [held_first m c ⟨0, hn⟩ rfl, first_at, tile_at]; simp [Finset.sum_range]
  | succ n ih =>
    have ih := ih (by omega)
    rw [show 1024 * ((⟨n + 1, hn⟩ : Fin cfg0.N).val % 16 + 1) = 1024 * ((n + 1) % 16) + 1024 by simp only; ring, Finset.sum_range_add, Finset.sum_range (n := 1024)]
    by_cases h0 : (n + 1) % 16 = 0
    · rw [held_first m c ⟨n + 1, hn⟩ h0, first_at, tile_at]
      simp [h0]
    · rw [held_next m c ⟨n + 1, hn⟩ h0, next_at, tile_at]
      refine congrArg (· + _) ?_
      refine ih.trans ?_
      have e1 : rowOf ⟨n, by omega⟩ r = rowOf ⟨n + 1, hn⟩ r := Fin.ext (by simp only [rowOf]; omega)
      have e2 : colOf ⟨n, by omega⟩ s = colOf ⟨n + 1, hn⟩ s := Fin.ext (by simp only [colOf])
      rw [e1, e2]
      simp only
      rw [show n % 16 + 1 = (n + 1) % 16 by omega]

theorem held_last (t : Fin cfg0.N) (ht : t.val % 16 = 15) (r : Fin 1024) (s : Fin 1024) :
    held m c t.val t.isLt (ix2 r s) = total m c (ix2 (rowOf t r) (colOf t s)) := by
  rw [held_at, ht, total, Finset.sum_range]
  refine Finset.sum_congr rfl fun u _ => ?_
  rw [share, dif_pos u.isLt]; rfl

theorem final : (dats m 0 c).arrAt 2 cfg0.N = total m c := by
  refine (dats m 0 c).arrAt_eq_of_covers 2 _ (by decide +kernel) fun t hf y => ?_
  blk_simp
  rw [after0_2]
  have ht : t.val % 16 = 15 := (flush0_2 t).1 hf
  obtain ⟨r, s, rfl⟩ : ∃ (r : Fin 1024) (s : Fin 1024), y = ix2 r s := ⟨y 0, y 1, by funext k; fin_cases k <;> rfl⟩
  refine (congrFun (written m c t ht) _).trans ((held_last m c t ht r s).trans ?_)
  have e : ((win0_2.blk t).view.emb (ix2 r s) : S2048x1024.Idx) = ix2 (rowOf t r) (colOf t s) := by blk_ext [index_2, rowOf, colOf]
  exact (congrArg (total m c) e).symm

/-! ## The operands are the arguments -/

abbrev x0 : FVec Ideal S16384x2048 .f32 := m ((c.tc : Thread nD τ).loc main_arg0)
abbrev x1 : FVec Ideal S16384x1024 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x2048 .f32) (y : FVec Ideal S16384x1024 .f32) : FVec Ideal S2048x1024 .f32 :=
  transpose S2048x1024 [1, 0] (Host.dotGeneral Cert.Reference8Ideal.dot_S16384x1024_S16384x2048_S1024x2048_0_0_1_1_n_n none y x) Cert.Reference8Ideal.Gen.transposes_S1024x2048_S2048x1024_1_0

/-- at an element. -/
theorem refV_at (x : FVec Ideal S16384x2048 .f32) (y : FVec Ideal S16384x1024 .f32) (r : Fin 2048) (s : Fin 1024) :
    refV x y (ix2 r s) = ∑ u : Fin 16384, y (ix2 u s) * x (ix2 u r) := by
  pointwise [refV]

theorem ref_total : refV (x0 m c) (x1 m c) = total m c := by
  funext y
  obtain ⟨r, s, rfl⟩ : ∃ (r : Fin 2048) (s : Fin 1024), y = ix2 r s := ⟨y 0, y 1, by funext k; fin_cases k <;> rfl⟩
  refine (refV_at _ _ r s).trans (Finset.sum_congr rfl fun u _ => ?_)
  rw [opA_eq, opB_eq, mul_comm]; rfl

/-! ## The claims -/

theorem frame_printed : Cert.quiescent_Kernel8 := fun m ρ _ => Cert.Kernel8.Gen.frame (F := Bits) m ρ
theorem frame_ideal : Cert.quiescent_Kernel8Ideal := fun m ρ _ => Cert.Kernel8Ideal.Gen.frame (F := Ideal) m ρ
theorem frame_reference : Cert.quiescent_Reference8Ideal := fun m ρ _ =>
  (θ_run Cert.Reference8Ideal.defs _ _).mono (fun r h => ⟨fun c => (h c).2, Idealize.ShloMosaic.sem_eq_zero_of_no_sems rfl r.2⟩)
    (Cert.Reference8Ideal.Value.run (F := Ideal) m ρ)

theorem algebraic : Cert.algebraic_Kernel8Ideal_Reference8Ideal := by
  intro m ρ m' ρ' _ hm
  refine ⟨fun c => total m c, (θ_run defs _ _).mono (fun r h c => ?_) (Cert.Kernel8Ideal.Value.run_blocks (F := Ideal) m ρ),
    (θ_run Cert.Reference8Ideal.defs _ _).mono (fun r h c => ?_) (Cert.Reference8Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel8Ideal.GradOut

end
-- ==== Proof.OutInput.lean ====
/-
  The gradient of the output projection's input: the product's tiles make up the whole product.

  Every point computes one tile of the product whole and writes it.
  The tiles cover the result, so the array is the sum over all 1024 terms, which is what the reference computes.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel9Ideal.OutInput

open Cert.Kernel9Ideal Cert.Kernel9Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x1024 .bf16) (b : Vec Ideal S1024x1024 .bf16) (r : Fin 1024) (s : Fin 1024) :
    k0_pay1 a b (ix2 r s) = ∑ k : Fin 1024, a (ix2 r k) * b (ix2 s k) := by
  pointwise [k0_pay1]

variable (m : (ℓ : Loc nD τ sig) → Buf (Elt Ideal) ℓ) (c : Dev nD)

/-! ## The operands and their blocks -/

abbrev opA : Vec Ideal S16384x1024 .bf16 := V m c main_v0
abbrev opB : Vec Ideal S1024x1024 .bf16 := V m c main_v1

/-- The result's row a tile's row `r` is, and its column. -/
def rowOf (t : Fin cfg0.N) (r : Fin 1024) : Fin 16384 := ⟨1024 * (t.val) + r.val, by have := t.isLt; have : cfg0.N = 16 := N_0; omega⟩
def colOf (t : Fin cfg0.N) (s : Fin 1024) : Fin 1024 := ⟨s.val, by have := t.isLt; have : cfg0.N = 16 := N_0; omega⟩
theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem iblk0_at (t : Fin cfg0.N) (r : Fin 1024) (k : Fin 1024) :
    iblk m c 0 t (ix2 r k) = opA m c (ix2 (rowOf t r) k) := by
  blk_simp [iblk, index_0]; blk_ext [index_0, rowOf]
theorem iblk1_at (t : Fin cfg0.N) (s : Fin 1024) (k : Fin 1024) :
    iblk m c 1 t (ix2 s k) = opB m c (ix2 (colOf t s) k) := by
  blk_simp [iblk, index_1]; blk_ext [index_1, colOf]

/-! ## The sum -/

/-- The whole product. -/
def total (y : S16384x1024.Idx) : EReal := ∑ u : Fin 1024, opA m c (ix2 (y 0) u) * opB m c (ix2 (y 1) u)

theorem tile_at (t : Fin cfg0.N) (r : Fin 1024) (s : Fin 1024) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, by funext k; fin_cases k <;> rfl⟩
  refine (congrFun (out_at m c t) _).trans ((tile_at m c t r s).trans ?_)
  have e : ((win0_2.blk t).view.emb (ix2 r s) : S16384x1024.Idx) = ix2 (rowOf t r) (colOf t s) := by blk_ext [index_2, rowOf, colOf]
  exact (congrArg (total m c) e).symm

/-! ## The operands are the arguments -/

abbrev x0 : FVec Ideal S16384x1024 .f32 := m ((c.tc : Thread nD τ).loc main_arg0)
abbrev x1 : FVec Ideal S1024x1024 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x1024 .f32) (y : FVec Ideal S1024x1024 .f32) : FVec Ideal S16384x1024 .bf16 :=
  truncf .bf16 (Host.dotGeneral Cert.Reference9Ideal.dot_S16384x1024_S1024x1024_S16384x1024_1_1_0_0_n_n none x y) (by decide)

/-- at an element. -/
theorem refV_at (x : FVec Ideal S16384x1024 .f32) (y : FVec Ideal S1024x1024 .f32) (r : Fin 16384) (s : Fin 1024) :
    refV x y (ix2 r s) = ∑ u : Fin 1024, x (ix2 r u) * y (ix2 s u) := by
  pointwise [refV]

theorem ref_total : refV (x0 m c) (x1 m c) = total m c := by
  funext y
  obtain ⟨r, s, rfl⟩ : ∃ (r : Fin 16384) (s : Fin 1024), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel9 := fun m ρ _ => Cert.Kernel9.Gen.frame (F := Bits) m ρ
theorem frame_ideal : Cert.quiescent_Kernel9Ideal := fun m ρ _ => Cert.Kernel9Ideal.Gen.frame (F := Ideal) m ρ
theorem frame_reference : Cert.quiescent_Reference9Ideal := fun m ρ _ =>
  (θ_run Cert.Reference9Ideal.defs _ _).mono (fun r h => ⟨fun c => (h c).2, Idealize.ShloMosaic.sem_eq_zero_of_no_sems rfl r.2⟩)
    (Cert.Reference9Ideal.Value.run (F := Ideal) m ρ)

theorem algebraic : Cert.algebraic_Kernel9Ideal_Reference9Ideal := by
  intro m ρ m' ρ' _ hm
  refine ⟨fun c => total m c, (θ_run defs _ _).mono (fun r h c => ?_) (Cert.Kernel9Ideal.Value.run_blocks (F := Ideal) m ρ),
    (θ_run Cert.Reference9Ideal.defs _ _).mono (fun r h c => ?_) (Cert.Reference9Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel9Ideal.OutInput

end
-- ==== Proof.GradMemOut.lean ====
/-
  The gradient of the memory attention's output projection: the product's tiles make up the whole product.

  Point `t` adds the share of 1024 terms to the tile it holds, and the last point of a tile writes it.
  The tiles cover the result, so the array is the sum over all 16384 terms, which is what the reference computes.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel10Ideal.GradMemOut

open Cert.Kernel10Ideal Cert.Kernel10Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x256 .bf16) (b : Vec Ideal S1024x1024 .bf16) (r : Fin 256) (s : Fin 1024) :
    k0_pay1 a b (ix2 r s) = ∑ k : Fin 1024, a (ix2 k r) * b (ix2 k s) := by
  pointwise [k0_pay1]
theorem first_at (a : Vec Ideal S1024x256 .bf16) (b : Vec Ideal S1024x1024 .bf16) (r : Fin 256) (s : Fin 1024) :
    k0_pay2 a b (ix2 r s) = k0_pay1 a b (ix2 r s) := by
  pointwise [k0_pay2]
theorem next_at (a : Vec Ideal S1024x256 .bf16) (b : Vec Ideal S1024x1024 .bf16) (x : Vec Ideal S256x1024 .f32) (r : Fin 256) (s : Fin 1024) :
    k0_pay3 a b x (ix2 r s) = x (ix2 r s) + k0_pay1 a b (ix2 r s) := by
  pointwise [k0_pay3]

variable (m : (ℓ : Loc nD τ sig) → Buf (Elt Ideal) ℓ) (c : Dev nD)

/-- What the scratch holds after point `n`. -/
abbrev held (n : ℕ) (hn : n < cfg0.N) : Vec Ideal S256x1024 .f32 := (outsAt0 m c n hn).2

theorem held_first (t : Fin cfg0.N) (h0 : t.val % 16 = 0) : held m c t.val t.isLt = k0_pay2 (iblk m c 0 t) (iblk m c 1 t) := by
  unfold held
  have hlt := t.isLt
  have hN : cfg0.N = 16 := N_0
  rw [outsAt0_A m c t h0 (by omega) (by omega)]
  frame_out
theorem held_next (t : Fin cfg0.N) (h0 : ¬t.val % 16 = 0) :
    held m c t.val t.isLt = k0_pay3 (iblk m c 0 t) (iblk m c 1 t) (held m c (t.val - 1) (Nat.lt_of_le_of_lt (Nat.sub_le _ _) t.isLt)) := by
  unfold held
  by_cases h2 : t.val % 16 = 15
  · rw [outsAt0_C m c t h0 (by omega) h2]
    frame_out
    exact congrArg _ ((Memref.isWhole_whole _).read_unread _)
  · rw [outsAt0_B m c t h0 (by omega) h2]
    frame_out
    exact congrArg _ ((Memref.isWhole_whole _).read_unread _)
theorem written (t : Fin cfg0.N) (h2 : t.val % 16 = 15) : (outsAt0 m c t.val t.isLt).1 = held m c t.val t.isLt := by
  unfold held
  rw [outsAt0_C m c t (by omega) (by omega) h2]
  frame_out

/-! ## The operands and their blocks -/

abbrev opA : Vec Ideal S16384x256 .bf16 := V m c main_v0
abbrev opB : Vec Ideal S16384x1024 .bf16 := V m c main_v1

/-- The result's row a tile's row `r` is, and its column. -/
def rowOf (t : Fin cfg0.N) (r : Fin 256) : Fin 256 := ⟨r.val, by have := t.isLt; have : cfg0.N = 16 := N_0; omega⟩
def colOf (t : Fin cfg0.N) (s : Fin 1024) : Fin 1024 := ⟨s.val, by have := t.isLt; have : cfg0.N = 16 := N_0; omega⟩
theorem index_0 : ∀ t : Fin cfg0.N, win0_0.index t = ![t.val % 16, 0] := (by decide +kernel : ∀ t : Fin grid0.N, win0_0.index t = ![t.val % 16, 0])
theorem index_1 : ∀ t : Fin cfg0.N, win0_1.index t = ![t.val % 16, 0] := (by decide +kernel : ∀ t : Fin grid0.N, win0_1.index t = ![t.val % 16, 0])
theorem index_2 : ∀ t : Fin cfg0.N, win0_2.index t = ![0, 0] := (by decide +kernel : ∀ t : Fin grid0.N, win0_2.index t = ![0, 0])

theorem iblk0_at (t : Fin cfg0.N) (r : Fin 256) (k : Fin 1024) :
    iblk m c 0 t (ix2 k r) = opA m c (ix2 ⟨1024 * (t.val % 16) + k.val, by omega⟩ (rowOf t r)) := by
  blk_simp [iblk, index_0]; blk_ext [index_0, rowOf]
theorem iblk1_at (t : Fin cfg0.N) (s : Fin 1024) (k : Fin 1024) :
    iblk m c 1 t (ix2 k s) = opB m c (ix2 ⟨1024 * (t.val % 16) + k.val, by omega⟩ (colOf t s)) := by
  blk_simp [iblk, index_1]; blk_ext [index_1, colOf]

/-! ## The sum -/

/-- The whole product. -/
def total (y : S256x1024.Idx) : EReal := ∑ u : Fin 16384, opA m c (ix2 u (y 0)) * opB m c (ix2 u (y 1))

/-- Term `n` of an element of the product (zero past the terms). -/
def share (r : Fin 256) (s : Fin 1024) (n : ℕ) : EReal :=
  if hn : n < 16384 then opA m c (ix2 ⟨n, hn⟩ r) * opB m c (ix2 ⟨n, hn⟩ s) else 0

theorem tile_at (t : Fin cfg0.N) (r : Fin 256) (s : Fin 1024) :
    k0_pay1 (iblk m c 0 t) (iblk m c 1 t) (ix2 r s) = ∑ k : Fin 1024, share m c (rowOf t r) (colOf t s) (1024 * (t.val % 16) + k.val) := by
  refine (mul_at _ _ r s).trans (Finset.sum_congr rfl fun k _ => ?_)
  rw [iblk0_at, iblk1_at, share, dif_pos (by omega : 1024 * (t.val % 16) + k.val < 16384)]

theorem held_at (t : Fin cfg0.N) (r : Fin 256) (s : Fin 1024) :
    held m c t.val t.isLt (ix2 r s) = ∑ n ∈ Finset.range (1024 * (t.val % 16 + 1)), share m c (rowOf t r) (colOf t s) n := by
  obtain ⟨n, hn⟩ := t
  induction n with
  | zero =>
    rw [held_first m c ⟨0, hn⟩ rfl, first_at, tile_at]; simp [Finset.sum_range]
  | succ n ih =>
    have ih := ih (by omega)
    rw [show 1024 * ((⟨n + 1, hn⟩ : Fin cfg0.N).val % 16 + 1) = 1024 * ((n + 1) % 16) + 1024 by simp only; ring, Finset.sum_range_add, Finset.sum_range (n := 1024)]
    by_cases h0 : (n + 1) % 16 = 0
    · rw [held_first m c ⟨n + 1, hn⟩ h0, first_at, tile_at]
      simp [h0]
    · rw [held_next m c ⟨n + 1, hn⟩ h0, next_at, tile_at]
      refine congrArg (· + _) ?_
      refine ih.trans ?_
      have e1 : rowOf ⟨n, by omega⟩ r = rowOf ⟨n + 1, hn⟩ r := Fin.ext (by simp only [rowOf])
      have e2 : colOf ⟨n, by omega⟩ s = colOf ⟨n + 1, hn⟩ s := Fin.ext (by simp only [colOf])
      rw [e1, e2]
      simp only
      rw [show n % 16 + 1 = (n + 1) % 16 by omega]

theorem held_last (t : Fin cfg0.N) (ht : t.val % 16 = 15) (r : Fin 256) (s : Fin 1024) :
    held m c t.val t.isLt (ix2 r s) = total m c (ix2 (rowOf t r) (colOf t s)) := by
  rw [held_at, ht, total, Finset.sum_range]
  refine Finset.sum_congr rfl fun u _ => ?_
  rw [share, dif_pos u.isLt]; rfl

theorem final : (dats m 0 c).arrAt 2 cfg0.N = total m c := by
  refine (dats m 0 c).arrAt_eq_of_covers 2 _ (by decide +kernel) fun t hf y => ?_
  blk_simp
  rw [after0_2]
  have ht : t.val % 16 = 15 := (flush0_2 t).1 hf
  obtain ⟨r, s, rfl⟩ : ∃ (r : Fin 256) (s : Fin 1024), y = ix2 r s := ⟨y 0, y 1, by funext k; fin_cases k <;> rfl⟩
  refine (congrFun (written m c t ht) _).trans ((held_last m c t ht r s).trans ?_)
  have e : ((win0_2.blk t).view.emb (ix2 r s) : S256x1024.Idx) = ix2 (rowOf t r) (colOf t s) := by blk_ext [index_2, rowOf, colOf]
  exact (congrArg (total m c) e).symm

/-! ## The operands are the arguments -/

abbrev x0 : FVec Ideal S16384x256 .f32 := m ((c.tc : Thread nD τ).loc main_arg0)
abbrev x1 : FVec Ideal S16384x1024 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x256 .f32) (y : FVec Ideal S16384x1024 .f32) : FVec Ideal S256x1024 .f32 :=
  transpose S256x1024 [1, 0] (Host.dotGeneral Cert.Reference10Ideal.dot_S16384x1024_S16384x256_S1024x256_0_0_1_1_n_n none y x) Cert.Reference10Ideal.Gen.transposes_S1024x256_S256x1024_1_0

/-- at an element. -/
theorem refV_at (x : FVec Ideal S16384x256 .f32) (y : FVec Ideal S16384x1024 .f32) (r : Fin 256) (s : Fin 1024) :
    refV x y (ix2 r s) = ∑ u : Fin 16384, y (ix2 u s) * x (ix2 u r) := by
  pointwise [refV]

theorem ref_total : refV (x0 m c) (x1 m c) = total m c := by
  funext y
  obtain ⟨r, s, rfl⟩ : ∃ (r : Fin 256) (s : Fin 1024), y = ix2 r s := ⟨y 0, y 1, by funext k; fin_cases k <;> rfl⟩
  refine (refV_at _ _ r s).trans (Finset.sum_congr rfl fun u _ => ?_)
  rw [opA_eq, opB_eq, mul_comm]; rfl

/-! ## The claims -/

theorem frame_printed : Cert.quiescent_Kernel10 := fun m ρ _ => Cert.Kernel10.Gen.frame (F := Bits) m ρ
theorem frame_ideal : Cert.quiescent_Kernel10Ideal := fun m ρ _ => Cert.Kernel10Ideal.Gen.frame (F := Ideal) m ρ
theorem frame_reference : Cert.quiescent_Reference10Ideal := fun m ρ _ =>
  (θ_run Cert.Reference10Ideal.defs _ _).mono (fun r h => ⟨fun c => (h c).2, Idealize.ShloMosaic.sem_eq_zero_of_no_sems rfl r.2⟩)
    (Cert.Reference10Ideal.Value.run (F := Ideal) m ρ)

theorem algebraic : Cert.algebraic_Kernel10Ideal_Reference10Ideal := by
  intro m ρ m' ρ' _ hm
  refine ⟨fun c => total m c, (θ_run defs _ _).mono (fun r h c => ?_) (Cert.Kernel10Ideal.Value.run_blocks (F := Ideal) m ρ),
    (θ_run Cert.Reference10Ideal.defs _ _).mono (fun r h c => ?_) (Cert.Reference10Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel10Ideal.GradMemOut

end
-- ==== Proof.MemOutInput.lean ====
/-
  The gradient of the memory attention's output: the product's tiles make up the whole product.

  Every point computes one tile of the product whole and writes it.
  The tiles cover the result, so the array is the sum over all 1024 terms, which is what the reference computes.
-/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel11Ideal.MemOutInput

open Cert.Kernel11Ideal Cert.Kernel11Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x1024 .bf16) (b : Vec Ideal S256x1024 .bf16) (r : Fin 1024) (s : Fin 256) :
    k0_pay1 a b (ix2 r s) = ∑ k : Fin 1024, a (ix2 r k) * b (ix2 s k) := by
  pointwise [k0_pay1]

variable (m : (ℓ : Loc nD τ sig) → Buf (Elt Ideal) ℓ) (c : Dev nD)

/-! ## The operands and their blocks -/

abbrev opA : Vec Ideal S16384x1024 .bf16 := V m c main_v0
abbrev opB : Vec Ideal S256x1024 .bf16 := V m c main_v1

/-- The result's row a tile's row `r` is, and its column. -/
def rowOf (t : Fin cfg0.N) (r : Fin 1024) : Fin 16384 := ⟨1024 * (t.val) + r.val, by have := t.isLt; have : cfg0.N = 16 := N_0; omega⟩
def colOf (t : Fin cfg0.N) (s : Fin 256) : Fin 256 := ⟨s.val, by have := t.isLt; have : cfg0.N = 16 := N_0; omega⟩
theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem iblk0_at (t : Fin cfg0.N) (r : Fin 1024) (k : Fin 1024) :
    iblk m c 0 t (ix2 r k) = opA m c (ix2 (rowOf t r) k) := by
  blk_simp [iblk, index_0]; blk_ext [index_0, rowOf]
theorem iblk1_at (t : Fin cfg0.N) (s : Fin 256) (k : Fin 1024) :
    iblk m c 1 t (ix2 s k) = opB m c (ix2 (colOf t s) k) := by
  blk_simp [iblk, index_1]; blk_ext [index_1, colOf]

/-! ## The sum -/

/-- The whole product. -/
def total (y : S16384x256.Idx) : EReal := ∑ u : Fin 1024, opA m c (ix2 (y 0) u) * opB m c (ix2 (y 1) u)

theorem tile_at (t : Fin cfg0.N) (r : Fin 1024) (s : Fin 256) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 1024) (s : Fin 256), y = ix2 r s := ⟨y 0, y 1, by funext k; fin_cases k <;> rfl⟩
  refine (congrFun (out_at m c t) _).trans ((tile_at m c t r s).trans ?_)
  have e : ((win0_2.blk t).view.emb (ix2 r s) : S16384x256.Idx) = ix2 (rowOf t r) (colOf t s) := by blk_ext [index_2, rowOf, colOf]
  exact (congrArg (total m c) e).symm

/-! ## The operands are the arguments -/

abbrev x0 : FVec Ideal S16384x1024 .f32 := m ((c.tc : Thread nD τ).loc main_arg0)
abbrev x1 : FVec Ideal S256x1024 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x1024 .f32) (y : FVec Ideal S256x1024 .f32) : FVec Ideal S16384x256 .bf16 :=
  truncf .bf16 (Host.dotGeneral Cert.Reference11Ideal.dot_S16384x1024_S256x1024_S16384x256_1_1_0_0_n_n none x y) (by decide)

/-- at an element. -/
theorem refV_at (x : FVec Ideal S16384x1024 .f32) (y : FVec Ideal S256x1024 .f32) (r : Fin 16384) (s : Fin 256) :
    refV x y (ix2 r s) = ∑ u : Fin 1024, x (ix2 r u) * y (ix2 s u) := by
  pointwise [refV]

theorem ref_total : refV (x0 m c) (x1 m c) = total m c := by
  funext y
  obtain ⟨r, s, rfl⟩ : ∃ (r : Fin 16384) (s : Fin 256), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel11 := fun m ρ _ => Cert.Kernel11.Gen.frame (F := Bits) m ρ
theorem frame_ideal : Cert.quiescent_Kernel11Ideal := fun m ρ _ => Cert.Kernel11Ideal.Gen.frame (F := Ideal) m ρ
theorem frame_reference : Cert.quiescent_Reference11Ideal := fun m ρ _ =>
  (θ_run Cert.Reference11Ideal.defs _ _).mono (fun r h => ⟨fun c => (h c).2, Idealize.ShloMosaic.sem_eq_zero_of_no_sems rfl r.2⟩)
    (Cert.Reference11Ideal.Value.run (F := Ideal) m ρ)

theorem algebraic : Cert.algebraic_Kernel11Ideal_Reference11Ideal := by
  intro m ρ m' ρ' _ hm
  refine ⟨fun c => total m c, (θ_run defs _ _).mono (fun r h c => ?_) (Cert.Kernel11Ideal.Value.run_blocks (F := Ideal) m ρ),
    (θ_run Cert.Reference11Ideal.defs _ _).mono (fun r h c => ?_) (Cert.Reference11Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel11Ideal.MemOutInput

end
-- ==== Proof.GradMemQuery.lean ====
/-
  The gradient of the memory attention's query projection: the product's tiles make up the whole product.

  Point `t` adds the share of 1024 terms to the tile it holds, and the last point of a tile writes it.
  The tiles cover the result, so the array is the sum over all 16384 terms, which is what the reference computes.
-/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel12Ideal.GradMemQuery

open Cert.Kernel12Ideal Cert.Kernel12Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x1024 .bf16) (b : Vec Ideal S1024x256 .bf16) (r : Fin 1024) (s : Fin 256) :
    k0_pay1 a b (ix2 r s) = ∑ k : Fin 1024, a (ix2 k r) * b (ix2 k s) := by
  pointwise [k0_pay1]
theorem first_at (a : Vec Ideal S1024x1024 .bf16) (b : Vec Ideal S1024x256 .bf16) (r : Fin 1024) (s : Fin 256) :
    k0_pay2 a b (ix2 r s) = k0_pay1 a b (ix2 r s) := by
  pointwise [k0_pay2]
theorem next_at (a : Vec Ideal S1024x1024 .bf16) (b : Vec Ideal S1024x256 .bf16) (x : Vec Ideal S1024x256 .f32) (r : Fin 1024) (s : Fin 256) :
    k0_pay3 a b x (ix2 r s) = x (ix2 r s) + k0_pay1 a b (ix2 r s) := by
  pointwise [k0_pay3]

variable (m : (ℓ : Loc nD τ sig) → Buf (Elt Ideal) ℓ) (c : Dev nD)

/-- What the scratch holds after point `n`. -/
abbrev held (n : ℕ) (hn : n < cfg0.N) : Vec Ideal S1024x256 .f32 := (outsAt0 m c n hn).2

theorem held_first (t : Fin cfg0.N) (h0 : t.val % 16 = 0) : held m c t.val t.isLt = k0_pay2 (iblk m c 0 t) (iblk m c 1 t) := by
  unfold held
  have hlt := t.isLt
  have hN : cfg0.N = 16 := N_0
  rw [outsAt0_A m c t h0 (by omega) (by omega)]
  frame_out
theorem held_next (t : Fin cfg0.N) (h0 : ¬t.val % 16 = 0) :
    held m c t.val t.isLt = k0_pay3 (iblk m c 0 t) (iblk m c 1 t) (held m c (t.val - 1) (Nat.lt_of_le_of_lt (Nat.sub_le _ _) t.isLt)) := by
  unfold held
  by_cases h2 : t.val % 16 = 15
  · rw [outsAt0_C m c t h0 (by omega) h2]
    frame_out
    exact congrArg _ ((Memref.isWhole_whole _).read_unread _)
  · rw [outsAt0_B m c t h0 (by omega) h2]
    frame_out
    exact congrArg _ ((Memref.isWhole_whole _).read_unread _)
theorem written (t : Fin cfg0.N) (h2 : t.val % 16 = 15) : (outsAt0 m c t.val t.isLt).1 = held m c t.val t.isLt := by
  unfold held
  rw [outsAt0_C m c t (by omega) (by omega) h2]
  frame_out

/-! ## The operands and their blocks -/

abbrev opA : Vec Ideal S16384x1024 .bf16 := V m c main_v0
abbrev opB : Vec Ideal S16384x256 .bf16 := V m c main_v1

/-- The result's row a tile's row `r` is, and its column. -/
def rowOf (t : Fin cfg0.N) (r : Fin 1024) : Fin 1024 := ⟨r.val, by have := t.isLt; have : cfg0.N = 16 := N_0; omega⟩
def colOf (t : Fin cfg0.N) (s : Fin 256) : Fin 256 := ⟨s.val, by have := t.isLt; have : cfg0.N = 16 := N_0; omega⟩
theorem index_0 : ∀ t : Fin cfg0.N, win0_0.index t = ![t.val % 16, 0] := (by decide +kernel : ∀ t : Fin grid0.N, win0_0.index t = ![t.val % 16, 0])
theorem index_1 : ∀ t : Fin cfg0.N, win0_1.index t = ![t.val % 16, 0] := (by decide +kernel : ∀ t : Fin grid0.N, win0_1.index t = ![t.val % 16, 0])
theorem index_2 : ∀ t : Fin cfg0.N, win0_2.index t = ![0, 0] := (by decide +kernel : ∀ t : Fin grid0.N, win0_2.index t = ![0, 0])

theorem iblk0_at (t : Fin cfg0.N) (r : Fin 1024) (k : Fin 1024) :
    iblk m c 0 t (ix2 k r) = opA m c (ix2 ⟨1024 * (t.val % 16) + k.val, by omega⟩ (rowOf t r)) := by
  blk_simp [iblk, index_0]; blk_ext [index_0, rowOf]
theorem iblk1_at (t : Fin cfg0.N) (s : Fin 256) (k : Fin 1024) :
    iblk m c 1 t (ix2 k s) = opB m c (ix2 ⟨1024 * (t.val % 16) + k.val, by omega⟩ (colOf t s)) := by
  blk_simp [iblk, index_1]; blk_ext [index_1, colOf]

/-! ## The sum -/

/-- The whole product. -/
def total (y : S1024x256.Idx) : EReal := ∑ u : Fin 16384, opA m c (ix2 u (y 0)) * opB m c (ix2 u (y 1))

/-- Term `n` of an element of the product (zero past the terms). -/
def share (r : Fin 1024) (s : Fin 256) (n : ℕ) : EReal :=
  if hn : n < 16384 then opA m c (ix2 ⟨n, hn⟩ r) * opB m c (ix2 ⟨n, hn⟩ s) else 0

theorem tile_at (t : Fin cfg0.N) (r : Fin 1024) (s : Fin 256) :
    k0_pay1 (iblk m c 0 t) (iblk m c 1 t) (ix2 r s) = ∑ k : Fin 1024, share m c (rowOf t r) (colOf t s) (1024 * (t.val % 16) + k.val) := by
  refine (mul_at _ _ r s).trans (Finset.sum_congr rfl fun k _ => ?_)
  rw [iblk0_at, iblk1_at, share, dif_pos (by omega : 1024 * (t.val % 16) + k.val < 16384)]

theorem held_at (t : Fin cfg0.N) (r : Fin 1024) (s : Fin 256) :
    held m c t.val t.isLt (ix2 r s) = ∑ n ∈ Finset.range (1024 * (t.val % 16 + 1)), share m c (rowOf t r) (colOf t s) n := by
  obtain ⟨n, hn⟩ := t
  induction n with
  | zero =>
    rw [held_first m c ⟨0, hn⟩ rfl, first_at, tile_at]; simp [Finset.sum_range]
  | succ n ih =>
    have ih := ih (by omega)
    rw [show 1024 * ((⟨n + 1, hn⟩ : Fin cfg0.N).val % 16 + 1) = 1024 * ((n + 1) % 16) + 1024 by simp only; ring, Finset.sum_range_add, Finset.sum_range (n := 1024)]
    by_cases h0 : (n + 1) % 16 = 0
    · rw [held_first m c ⟨n + 1, hn⟩ h0, first_at, tile_at]
      simp [h0]
    · rw [held_next m c ⟨n + 1, hn⟩ h0, next_at, tile_at]
      refine congrArg (· + _) ?_
      refine ih.trans ?_
      have e1 : rowOf ⟨n, by omega⟩ r = rowOf ⟨n + 1, hn⟩ r := Fin.ext (by simp only [rowOf])
      have e2 : colOf ⟨n, by omega⟩ s = colOf ⟨n + 1, hn⟩ s := Fin.ext (by simp only [colOf])
      rw [e1, e2]
      simp only
      rw [show n % 16 + 1 = (n + 1) % 16 by omega]

theorem held_last (t : Fin cfg0.N) (ht : t.val % 16 = 15) (r : Fin 1024) (s : Fin 256) :
    held m c t.val t.isLt (ix2 r s) = total m c (ix2 (rowOf t r) (colOf t s)) := by
  rw [held_at, ht, total, Finset.sum_range]
  refine Finset.sum_congr rfl fun u _ => ?_
  rw [share, dif_pos u.isLt]; rfl

theorem final : (dats m 0 c).arrAt 2 cfg0.N = total m c := by
  refine (dats m 0 c).arrAt_eq_of_covers 2 _ (by decide +kernel) fun t hf y => ?_
  blk_simp
  rw [after0_2]
  have ht : t.val % 16 = 15 := (flush0_2 t).1 hf
  obtain ⟨r, s, rfl⟩ : ∃ (r : Fin 1024) (s : Fin 256), y = ix2 r s := ⟨y 0, y 1, by funext k; fin_cases k <;> rfl⟩
  refine (congrFun (written m c t ht) _).trans ((held_last m c t ht r s).trans ?_)
  have e : ((win0_2.blk t).view.emb (ix2 r s) : S1024x256.Idx) = ix2 (rowOf t r) (colOf t s) := by blk_ext [index_2, rowOf, colOf]
  exact (congrArg (total m c) e).symm

/-! ## The operands are the arguments -/

abbrev x0 : FVec Ideal S16384x1024 .f32 := m ((c.tc : Thread nD τ).loc main_arg0)
abbrev x1 : FVec Ideal S16384x256 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x1024 .f32) (y : FVec Ideal S16384x256 .f32) : FVec Ideal S1024x256 .f32 :=
  transpose S1024x256 [1, 0] (Host.dotGeneral Cert.Reference12Ideal.dot_S16384x256_S16384x1024_S256x1024_0_0_1_1_n_n none y x) Cert.Reference12Ideal.Gen.transposes_S256x1024_S1024x256_1_0

/-- at an element. -/
theorem refV_at (x : FVec Ideal S16384x1024 .f32) (y : FVec Ideal S16384x256 .f32) (r : Fin 1024) (s : Fin 256) :
    refV x y (ix2 r s) = ∑ u : Fin 16384, y (ix2 u s) * x (ix2 u r) := by
  pointwise [refV]

theorem ref_total : refV (x0 m c) (x1 m c) = total m c := by
  funext y
  obtain ⟨r, s, rfl⟩ : ∃ (r : Fin 1024) (s : Fin 256), y = ix2 r s := ⟨y 0, y 1, by funext k; fin_cases k <;> rfl⟩
  refine (refV_at _ _ r s).trans (Finset.sum_congr rfl fun u _ => ?_)
  rw [opA_eq, opB_eq, mul_comm]; rfl

/-! ## The claims -/

theorem frame_printed : Cert.quiescent_Kernel12 := fun m ρ _ => Cert.Kernel12.Gen.frame (F := Bits) m ρ
theorem frame_ideal : Cert.quiescent_Kernel12Ideal := fun m ρ _ => Cert.Kernel12Ideal.Gen.frame (F := Ideal) m ρ
theorem frame_reference : Cert.quiescent_Reference12Ideal := fun m ρ _ =>
  (θ_run Cert.Reference12Ideal.defs _ _).mono (fun r h => ⟨fun c => (h c).2, Idealize.ShloMosaic.sem_eq_zero_of_no_sems rfl r.2⟩)
    (Cert.Reference12Ideal.Value.run (F := Ideal) m ρ)

theorem algebraic : Cert.algebraic_Kernel12Ideal_Reference12Ideal := by
  intro m ρ m' ρ' _ hm
  refine ⟨fun c => total m c, (θ_run defs _ _).mono (fun r h c => ?_) (Cert.Kernel12Ideal.Value.run_blocks (F := Ideal) m ρ),
    (θ_run Cert.Reference12Ideal.defs _ _).mono (fun r h c => ?_) (Cert.Reference12Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel12Ideal.GradMemQuery

end
-- ==== Proof.MemQueryInput.lean ====
/-
  The gradient of the memory attention's input: the product's tiles make up the whole product.

  Every point computes one tile of the product whole and writes it.
  The tiles cover the result, so the array is the sum over all 256 terms, which is what the reference computes.
-/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel13Ideal.MemQueryInput

open Cert.Kernel13Ideal Cert.Kernel13Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x256 .bf16) (b : Vec Ideal S1024x256 .bf16) (r : Fin 1024) (s : Fin 1024) :
    k0_pay1 a b (ix2 r s) = ∑ k : Fin 256, a (ix2 r k) * b (ix2 s k) := by
  pointwise [k0_pay1]

variable (m : (ℓ : Loc nD τ sig) → Buf (Elt Ideal) ℓ) (c : Dev nD)

/-! ## The operands and their blocks -/

abbrev opA : Vec Ideal S16384x256 .bf16 := V m c main_v0
abbrev opB : Vec Ideal S1024x256 .bf16 := V m c main_v1

/-- The result's row a tile's row `r` is, and its column. -/
def rowOf (t : Fin cfg0.N) (r : Fin 1024) : Fin 16384 := ⟨1024 * (t.val) + r.val, by have := t.isLt; have : cfg0.N = 16 := N_0; omega⟩
def colOf (t : Fin cfg0.N) (s : Fin 1024) : Fin 1024 := ⟨s.val, by have := t.isLt; have : cfg0.N = 16 := N_0; omega⟩
theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem iblk0_at (t : Fin cfg0.N) (r : Fin 1024) (k : Fin 256) :
    iblk m c 0 t (ix2 r k) = opA m c (ix2 (rowOf t r) k) := by
  blk_simp [iblk, index_0]; blk_ext [index_0, rowOf]
theorem iblk1_at (t : Fin cfg0.N) (s : Fin 1024) (k : Fin 256) :
    iblk m c 1 t (ix2 s k) = opB m c (ix2 (colOf t s) k) := by
  blk_simp [iblk, index_1]; blk_ext [index_1, colOf]

/-! ## The sum -/

/-- The whole product. -/
def total (y : S16384x1024.Idx) : EReal := ∑ u : Fin 256, opA m c (ix2 (y 0) u) * opB m c (ix2 (y 1) u)

theorem tile_at (t : Fin cfg0.N) (r : Fin 1024) (s : Fin 1024) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, by funext k; fin_cases k <;> rfl⟩
  refine (congrFun (out_at m c t) _).trans ((tile_at m c t r s).trans ?_)
  have e : ((win0_2.blk t).view.emb (ix2 r s) : S16384x1024.Idx) = ix2 (rowOf t r) (colOf t s) := by blk_ext [index_2, rowOf, colOf]
  exact (congrArg (total m c) e).symm

/-! ## The operands are the arguments -/

abbrev x0 : FVec Ideal S16384x256 .f32 := m ((c.tc : Thread nD τ).loc main_arg0)
abbrev x1 : FVec Ideal S1024x256 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x256 .f32) (y : FVec Ideal S1024x256 .f32) : FVec Ideal S16384x1024 .f32 :=
  Host.dotGeneral Cert.Reference13Ideal.dot_S16384x256_S1024x256_S16384x1024_1_1_0_0_n_n none x y

/-- at an element. -/
theorem refV_at (x : FVec Ideal S16384x256 .f32) (y : FVec Ideal S1024x256 .f32) (r : Fin 16384) (s : Fin 1024) :
    refV x y (ix2 r s) = ∑ u : Fin 256, x (ix2 r u) * y (ix2 s u) := by
  pointwise [refV]

theorem ref_total : refV (x0 m c) (x1 m c) = total m c := by
  funext y
  obtain ⟨r, s, rfl⟩ : ∃ (r : Fin 16384) (s : Fin 1024), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel13 := fun m ρ _ => Cert.Kernel13.Gen.frame (F := Bits) m ρ
theorem frame_ideal : Cert.quiescent_Kernel13Ideal := fun m ρ _ => Cert.Kernel13Ideal.Gen.frame (F := Ideal) m ρ
theorem frame_reference : Cert.quiescent_Reference13Ideal := fun m ρ _ =>
  (θ_run Cert.Reference13Ideal.defs _ _).mono (fun r h => ⟨fun c => (h c).2, Idealize.ShloMosaic.sem_eq_zero_of_no_sems rfl r.2⟩)
    (Cert.Reference13Ideal.Value.run (F := Ideal) m ρ)

theorem algebraic : Cert.algebraic_Kernel13Ideal_Reference13Ideal := by
  intro m ρ m' ρ' _ hm
  refine ⟨fun c => total m c, (θ_run defs _ _).mono (fun r h c => ?_) (Cert.Kernel13Ideal.Value.run_blocks (F := Ideal) m ρ),
    (θ_run Cert.Reference13Ideal.defs _ _).mono (fun r h c => ?_) (Cert.Reference13Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel13Ideal.MemQueryInput

end
-- ==== Proof.GradMemKeyValue.lean ====
/-
  The gradient of the memory's key and value projections, laid side by side: the product's tiles make up the whole product.

  Every point computes one tile of the product whole and writes it.
  The tiles cover the result, so the array is the sum over all 256 terms, which is what the reference computes.
-/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel14Ideal.GradMemKeyValue

open Cert.Kernel14Ideal Cert.Kernel14Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S256x1024 .bf16) (b : Vec Ideal S256x512 .bf16) (r : Fin 1024) (s : Fin 512) :
    k0_pay1 a b (ix2 r s) = ∑ k : Fin 256, a (ix2 k r) * b (ix2 k s) := by
  pointwise [k0_pay1]

variable (m : (ℓ : Loc nD τ sig) → Buf (Elt Ideal) ℓ) (c : Dev nD)

/-! ## The operands and their blocks -/

abbrev opA : Vec Ideal S256x1024 .bf16 := V m c main_v0
abbrev opB : Vec Ideal S256x512 .bf16 := V m c main_v1

/-- The result's row a tile's row `r` is, and its column. -/
def rowOf (t : Fin cfg0.N) (r : Fin 1024) : Fin 1024 := ⟨r.val, by have := t.isLt; have : cfg0.N = 1 := N_0; omega⟩
def colOf (t : Fin cfg0.N) (s : Fin 512) : Fin 512 := ⟨s.val, by have := t.isLt; have : cfg0.N = 1 := N_0; omega⟩
theorem index_0 : ∀ t : Fin cfg0.N, win0_0.index t = ![0, 0] := (by decide +kernel : ∀ t : Fin grid0.N, win0_0.index t = ![0, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])

theorem iblk0_at (t : Fin cfg0.N) (r : Fin 1024) (k : Fin 256) :
    iblk m c 0 t (ix2 k r) = opA m c (ix2 k (rowOf t r)) := by
  blk_simp [iblk, index_0]; blk_ext [index_0, rowOf]
theorem iblk1_at (t : Fin cfg0.N) (s : Fin 512) (k : Fin 256) :
    iblk m c 1 t (ix2 k s) = opB m c (ix2 k (colOf t s)) := by
  blk_simp [iblk, index_1]; blk_ext [index_1, colOf]

/-! ## The sum -/

/-- The whole product. -/
def total (y : S1024x512.Idx) : EReal := ∑ u : Fin 256, opA m c (ix2 u (y 0)) * opB m c (ix2 u (y 1))

theorem tile_at (t : Fin cfg0.N) (r : Fin 1024) (s : Fin 512) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 1024) (s : Fin 512), y = ix2 r s := ⟨y 0, y 1, by funext k; fin_cases k <;> rfl⟩
  refine (congrFun (out_at m c t) _).trans ((tile_at m c t r s).trans ?_)
  have e : ((win0_2.blk t).view.emb (ix2 r s) : S1024x512.Idx) = ix2 (rowOf t r) (colOf t s) := by blk_ext [index_2, rowOf, colOf]
  exact (congrArg (total m c) e).symm

/-! ## The operands are the arguments -/

abbrev x0 : FVec Ideal S256x1024 .f32 := m ((c.tc : Thread nD τ).loc main_arg0)
abbrev x1 : FVec Ideal S256x512 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S256x1024 .f32) (y : FVec Ideal S256x512 .f32) : FVec Ideal S1024x512 .f32 :=
  transpose S1024x512 [1, 0] (Host.dotGeneral Cert.Reference14Ideal.dot_S256x512_S256x1024_S512x1024_0_0_1_1_n_n none y x) Cert.Reference14Ideal.Gen.transposes_S512x1024_S1024x512_1_0

/-- at an element. -/
theorem refV_at (x : FVec Ideal S256x1024 .f32) (y : FVec Ideal S256x512 .f32) (r : Fin 1024) (s : Fin 512) :
    refV x y (ix2 r s) = ∑ u : Fin 256, y (ix2 u s) * x (ix2 u r) := by
  pointwise [refV]

theorem ref_total : refV (x0 m c) (x1 m c) = total m c := by
  funext y
  obtain ⟨r, s, rfl⟩ : ∃ (r : Fin 1024) (s : Fin 512), y = ix2 r s := ⟨y 0, y 1, by funext k; fin_cases k <;> rfl⟩
  refine (refV_at _ _ r s).trans (Finset.sum_congr rfl fun u _ => ?_)
  rw [opA_eq, opB_eq, mul_comm]; rfl

/-! ## The claims -/

theorem frame_printed : Cert.quiescent_Kernel14 := fun m ρ _ => Cert.Kernel14.Gen.frame (F := Bits) m ρ
theorem frame_ideal : Cert.quiescent_Kernel14Ideal := fun m ρ _ => Cert.Kernel14Ideal.Gen.frame (F := Ideal) m ρ
theorem frame_reference : Cert.quiescent_Reference14Ideal := fun m ρ _ =>
  (θ_run Cert.Reference14Ideal.defs _ _).mono (fun r h => ⟨fun c => (h c).2, Idealize.ShloMosaic.sem_eq_zero_of_no_sems rfl r.2⟩)
    (Cert.Reference14Ideal.Value.run (F := Ideal) m ρ)

theorem algebraic : Cert.algebraic_Kernel14Ideal_Reference14Ideal := by
  intro m ρ m' ρ' _ hm
  refine ⟨fun c => total m c, (θ_run defs _ _).mono (fun r h c => ?_) (Cert.Kernel14Ideal.Value.run_blocks (F := Ideal) m ρ),
    (θ_run Cert.Reference14Ideal.defs _ _).mono (fun r h c => ?_) (Cert.Reference14Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel14Ideal.GradMemKeyValue

end
-- ==== Proof.MemKeyValueInput.lean ====
/-
  The gradient of the normed memory: the product's tiles make up the whole product.

  Every point computes one tile of the product whole and writes it.
  The tiles cover the result, so the array is the sum over all 512 terms, which is what the reference computes.
-/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel15Ideal.MemKeyValueInput

open Cert.Kernel15Ideal Cert.Kernel15Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S256x512 .bf16) (b : Vec Ideal S1024x512 .bf16) (r : Fin 256) (s : Fin 1024) :
    k0_pay1 a b (ix2 r s) = ∑ k : Fin 512, a (ix2 r k) * b (ix2 s k) := by
  pointwise [k0_pay1]

variable (m : (ℓ : Loc nD τ sig) → Buf (Elt Ideal) ℓ) (c : Dev nD)

/-! ## The operands and their blocks -/

abbrev opA : Vec Ideal S256x512 .bf16 := V m c main_v0
abbrev opB : Vec Ideal S1024x512 .bf16 := V m c main_v1

/-- The result's row a tile's row `r` is, and its column. -/
def rowOf (t : Fin cfg0.N) (r : Fin 256) : Fin 256 := ⟨r.val, by have := t.isLt; have : cfg0.N = 1 := N_0; omega⟩
def colOf (t : Fin cfg0.N) (s : Fin 1024) : Fin 1024 := ⟨s.val, by have := t.isLt; have : cfg0.N = 1 := N_0; omega⟩
theorem index_0 : ∀ t : Fin cfg0.N, win0_0.index t = ![0, 0] := (by decide +kernel : ∀ t : Fin grid0.N, win0_0.index t = ![0, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])

theorem iblk0_at (t : Fin cfg0.N) (r : Fin 256) (k : Fin 512) :
    iblk m c 0 t (ix2 r k) = opA m c (ix2 (rowOf t r) k) := by
  blk_simp [iblk, index_0]; blk_ext [index_0, rowOf]
theorem iblk1_at (t : Fin cfg0.N) (s : Fin 1024) (k : Fin 512) :
    iblk m c 1 t (ix2 s k) = opB m c (ix2 (colOf t s) k) := by
  blk_simp [iblk, index_1]; blk_ext [index_1, colOf]

/-! ## The sum -/

/-- The whole product. -/
def total (y : S256x1024.Idx) : EReal := ∑ u : Fin 512, opA m c (ix2 (y 0) u) * opB m c (ix2 (y 1) u)

theorem tile_at (t : Fin cfg0.N) (r : Fin 256) (s : Fin 1024) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 256) (s : Fin 1024), y = ix2 r s := ⟨y 0, y 1, by funext k; fin_cases k <;> rfl⟩
  refine (congrFun (out_at m c t) _).trans ((tile_at m c t r s).trans ?_)
  have e : ((win0_2.blk t).view.emb (ix2 r s) : S256x1024.Idx) = ix2 (rowOf t r) (colOf t s) := by blk_ext [index_2, rowOf, colOf]
  exact (congrArg (total m c) e).symm

/-! ## The operands are the arguments -/

abbrev x0 : FVec Ideal S256x512 .f32 := m ((c.tc : Thread nD τ).loc main_arg0)
abbrev x1 : FVec Ideal S1024x512 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S256x512 .f32) (y : FVec Ideal S1024x512 .f32) : FVec Ideal S256x1024 .f32 :=
  Host.dotGeneral Cert.Reference15Ideal.dot_S256x512_S1024x512_S256x1024_1_1_0_0_n_n none x y

/-- at an element. -/
theorem refV_at (x : FVec Ideal S256x512 .f32) (y : FVec Ideal S1024x512 .f32) (r : Fin 256) (s : Fin 1024) :
    refV x y (ix2 r s) = ∑ u : Fin 512, x (ix2 r u) * y (ix2 s u) := by
  pointwise [refV]

theorem ref_total : refV (x0 m c) (x1 m c) = total m c := by
  funext y
  obtain ⟨r, s, rfl⟩ : ∃ (r : Fin 256) (s : Fin 1024), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel15 := fun m ρ _ => Cert.Kernel15.Gen.frame (F := Bits) m ρ
theorem frame_ideal : Cert.quiescent_Kernel15Ideal := fun m ρ _ => Cert.Kernel15Ideal.Gen.frame (F := Ideal) m ρ
theorem frame_reference : Cert.quiescent_Reference15Ideal := fun m ρ _ =>
  (θ_run Cert.Reference15Ideal.defs _ _).mono (fun r h => ⟨fun c => (h c).2, Idealize.ShloMosaic.sem_eq_zero_of_no_sems rfl r.2⟩)
    (Cert.Reference15Ideal.Value.run (F := Ideal) m ρ)

theorem algebraic : Cert.algebraic_Kernel15Ideal_Reference15Ideal := by
  intro m ρ m' ρ' _ hm
  refine ⟨fun c => total m c, (θ_run defs _ _).mono (fun r h c => ?_) (Cert.Kernel15Ideal.Value.run_blocks (F := Ideal) m ρ),
    (θ_run Cert.Reference15Ideal.defs _ _).mono (fun r h c => ?_) (Cert.Reference15Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel15Ideal.MemKeyValueInput

end
-- ==== Proof.Proj.lean ====
/-
  The layer's input projections: the product's tiles make up the whole product.

  Every point computes one tile of the product whole and writes it.
  The tiles cover the result, so the array is the sum over all 1024 terms, which is what the reference computes.
-/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel16Ideal.Proj

open Cert.Kernel16Ideal Cert.Kernel16Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S2048x1024 .bf16) (b : Vec Ideal S1024x1024 .bf16) (r : Fin 2048) (s : Fin 1024) :
    k0_pay1 a b (ix2 r s) = ∑ k : Fin 1024, a (ix2 r k) * b (ix2 k s) := by
  pointwise [k0_pay1]

variable (m : (ℓ : Loc nD τ sig) → Buf (Elt Ideal) ℓ) (c : Dev nD)

/-! ## The operands and their blocks -/

abbrev opA : Vec Ideal S16384x1024 .bf16 := V m c main_v0
abbrev opB : Vec Ideal S1024x3072 .bf16 := V m c main_v1

/-- The result's row a tile's row `r` is, and its column. -/
def rowOf (t : Fin cfg0.N) (r : Fin 2048) : Fin 16384 := ⟨2048 * (t.val / 3) + r.val, by have := t.isLt; have : cfg0.N = 24 := N_0; omega⟩
def colOf (t : Fin cfg0.N) (s : Fin 1024) : Fin 3072 := ⟨1024 * (t.val % 3) + s.val, by have := t.isLt; have : cfg0.N = 24 := N_0; omega⟩
theorem index_0 : ∀ t : Fin cfg0.N, win0_0.index t = ![t.val / 3, 0] := (by decide +kernel : ∀ t : Fin grid0.N, win0_0.index t = ![t.val / 3, 0])
theorem index_1 : ∀ t : Fin cfg0.N, win0_1.index t = ![0, t.val % 3] := (by decide +kernel : ∀ t : Fin grid0.N, win0_1.index t = ![0, t.val % 3])
theorem index_2 : ∀ t : Fin cfg0.N, win0_2.index t = ![t.val / 3, t.val % 3] := (by decide +kernel : ∀ t : Fin grid0.N, win0_2.index t = ![t.val / 3, t.val % 3])

theorem iblk0_at (t : Fin cfg0.N) (r : Fin 2048) (k : Fin 1024) :
    iblk m c 0 t (ix2 r k) = opA m c (ix2 (rowOf t r) k) := by
  blk_simp [iblk, index_0]; blk_ext [index_0, rowOf]
theorem iblk1_at (t : Fin cfg0.N) (s : Fin 1024) (k : Fin 1024) :
    iblk m c 1 t (ix2 k s) = opB m c (ix2 k (colOf t s)) := by
  blk_simp [iblk, index_1]; blk_ext [index_1, colOf]

/-! ## The sum -/

/-- The whole product. -/
def total (y : S16384x3072.Idx) : EReal := ∑ u : Fin 1024, opA m c (ix2 (y 0) u) * opB m c (ix2 u (y 1))

theorem tile_at (t : Fin cfg0.N) (r : Fin 2048) (s : Fin 1024) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 2048) (s : Fin 1024), y = ix2 r s := ⟨y 0, y 1, by funext k; fin_cases k <;> rfl⟩
  refine (congrFun (out_at m c t) _).trans ((tile_at m c t r s).trans ?_)
  have e : ((win0_2.blk t).view.emb (ix2 r s) : S16384x3072.Idx) = ix2 (rowOf t r) (colOf t s) := by blk_ext [index_2, rowOf, colOf]
  exact (congrArg (total m c) e).symm

/-! ## The operands are the arguments -/

abbrev x0 : FVec Ideal S16384x1024 .f32 := m ((c.tc : Thread nD τ).loc main_arg0)
abbrev x1 : FVec Ideal S1024x3072 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x1024 .f32) (y : FVec Ideal S1024x3072 .f32) : FVec Ideal S16384x3072 .bf16 :=
  truncf .bf16 (Host.dotGeneral Cert.Reference16Ideal.dot_S16384x1024_S1024x3072_S16384x3072_1_0_0_1_n_n none x y) (by decide)

/-- at an element. -/
theorem refV_at (x : FVec Ideal S16384x1024 .f32) (y : FVec Ideal S1024x3072 .f32) (r : Fin 16384) (s : Fin 3072) :
    refV x y (ix2 r s) = ∑ u : Fin 1024, x (ix2 r u) * y (ix2 u s) := by
  pointwise [refV]

theorem ref_total : refV (x0 m c) (x1 m c) = total m c := by
  funext y
  obtain ⟨r, s, rfl⟩ : ∃ (r : Fin 16384) (s : Fin 3072), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel16 := fun m ρ _ => Cert.Kernel16.Gen.frame (F := Bits) m ρ
theorem frame_ideal : Cert.quiescent_Kernel16Ideal := fun m ρ _ => Cert.Kernel16Ideal.Gen.frame (F := Ideal) m ρ
theorem frame_reference : Cert.quiescent_Reference16Ideal := fun m ρ _ =>
  (θ_run Cert.Reference16Ideal.defs _ _).mono (fun r h => ⟨fun c => (h c).2, Idealize.ShloMosaic.sem_eq_zero_of_no_sems rfl r.2⟩)
    (Cert.Reference16Ideal.Value.run (F := Ideal) m ρ)

theorem algebraic : Cert.algebraic_Kernel16Ideal_Reference16Ideal := by
  intro m ρ m' ρ' _ hm
  refine ⟨fun c => total m c, (θ_run defs _ _).mono (fun r h c => ?_) (Cert.Kernel16Ideal.Value.run_blocks (F := Ideal) m ρ),
    (θ_run Cert.Reference16Ideal.defs _ _).mono (fun r h c => ?_) (Cert.Reference16Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel16Ideal.Proj

end
-- ==== Proof.Gate.lean ====
/-
  The projection onto the forget gate's logits: the product's tiles make up the whole product.

  Every point computes one tile of the product whole and writes it.
  The tiles cover the result, so the array is the sum over all 1024 terms, which is what the reference computes.
-/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel17Ideal.Gate

open Cert.Kernel17Ideal Cert.Kernel17Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x1024 .bf16) (b : Vec Ideal S1024x128 .bf16) (r : Fin 1024) (s : Fin 128) :
    k0_pay1 a b (ix2 r s) = ∑ k : Fin 1024, a (ix2 r k) * b (ix2 k s) := by
  pointwise [k0_pay1]

variable (m : (ℓ : Loc nD τ sig) → Buf (Elt Ideal) ℓ) (c : Dev nD)

/-! ## The operands and their blocks -/

abbrev opA : Vec Ideal S16384x1024 .bf16 := V m c main_v0
abbrev opB : Vec Ideal S1024x128 .bf16 := V m c main_v1

/-- The result's row a tile's row `r` is, and its column. -/
def rowOf (t : Fin cfg0.N) (r : Fin 1024) : Fin 16384 := ⟨1024 * (t.val) + r.val, by have := t.isLt; have : cfg0.N = 16 := N_0; omega⟩
def colOf (t : Fin cfg0.N) (s : Fin 128) : Fin 128 := ⟨s.val, by have := t.isLt; have : cfg0.N = 16 := N_0; omega⟩
theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem iblk0_at (t : Fin cfg0.N) (r : Fin 1024) (k : Fin 1024) :
    iblk m c 0 t (ix2 r k) = opA m c (ix2 (rowOf t r) k) := by
  blk_simp [iblk, index_0]; blk_ext [index_0, rowOf]
theorem iblk1_at (t : Fin cfg0.N) (s : Fin 128) (k : Fin 1024) :
    iblk m c 1 t (ix2 k s) = opB m c (ix2 k (colOf t s)) := by
  blk_simp [iblk, index_1]; blk_ext [index_1, colOf]

/-! ## The sum -/

/-- The whole product. -/
def total (y : S16384x128.Idx) : EReal := ∑ u : Fin 1024, opA m c (ix2 (y 0) u) * opB m c (ix2 u (y 1))

theorem tile_at (t : Fin cfg0.N) (r : Fin 1024) (s : Fin 128) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 1024) (s : Fin 128), y = ix2 r s := ⟨y 0, y 1, by funext k; fin_cases k <;> rfl⟩
  refine (congrFun (out_at m c t) _).trans ((tile_at m c t r s).trans ?_)
  have e : ((win0_2.blk t).view.emb (ix2 r s) : S16384x128.Idx) = ix2 (rowOf t r) (colOf t s) := by blk_ext [index_2, rowOf, colOf]
  exact (congrArg (total m c) e).symm

/-! ## The operands are the arguments -/

abbrev x0 : FVec Ideal S16384x1024 .f32 := m ((c.tc : Thread nD τ).loc main_arg0)
abbrev x1 : FVec Ideal S1024x128 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x1024 .f32) (y : FVec Ideal S1024x128 .f32) : FVec Ideal S16384x128 .f32 :=
  Host.dotGeneral Cert.Reference17Ideal.dot_S16384x1024_S1024x128_S16384x128_1_0_0_1_n_n none x y

/-- at an element. -/
theorem refV_at (x : FVec Ideal S16384x1024 .f32) (y : FVec Ideal S1024x128 .f32) (r : Fin 16384) (s : Fin 128) :
    refV x y (ix2 r s) = ∑ u : Fin 1024, x (ix2 r u) * y (ix2 u s) := by
  pointwise [refV]

theorem ref_total : refV (x0 m c) (x1 m c) = total m c := by
  funext y
  obtain ⟨r, s, rfl⟩ : ∃ (r : Fin 16384) (s : Fin 128), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel17 := fun m ρ _ => Cert.Kernel17.Gen.frame (F := Bits) m ρ
theorem frame_ideal : Cert.quiescent_Kernel17Ideal := fun m ρ _ => Cert.Kernel17Ideal.Gen.frame (F := Ideal) m ρ
theorem frame_reference : Cert.quiescent_Reference17Ideal := fun m ρ _ =>
  (θ_run Cert.Reference17Ideal.defs _ _).mono (fun r h => ⟨fun c => (h c).2, Idealize.ShloMosaic.sem_eq_zero_of_no_sems rfl r.2⟩)
    (Cert.Reference17Ideal.Value.run (F := Ideal) m ρ)

theorem algebraic : Cert.algebraic_Kernel17Ideal_Reference17Ideal := by
  intro m ρ m' ρ' _ hm
  refine ⟨fun c => total m c, (θ_run defs _ _).mono (fun r h c => ?_) (Cert.Kernel17Ideal.Value.run_blocks (F := Ideal) m ρ),
    (θ_run Cert.Reference17Ideal.defs _ _).mono (fun r h c => ?_) (Cert.Reference17Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel17Ideal.Gate

end
-- ==== Proof.Out.lean ====
/-
  The output projection: the product's tiles make up the whole product.

  Every point computes one tile of the product whole and writes it.
  The tiles cover the result, so the array is the sum over all 2048 terms, which is what the reference computes.
-/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel18Ideal.Out

open Cert.Kernel18Ideal Cert.Kernel18Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S2048x2048 .bf16) (b : Vec Ideal S2048x1024 .bf16) (r : Fin 2048) (s : Fin 1024) :
    k0_pay1 a b (ix2 r s) = ∑ k : Fin 2048, a (ix2 r k) * b (ix2 k s) := by
  pointwise [k0_pay1]

variable (m : (ℓ : Loc nD τ sig) → Buf (Elt Ideal) ℓ) (c : Dev nD)

/-! ## The operands and their blocks -/

abbrev opA : Vec Ideal S16384x2048 .bf16 := V m c main_v0
abbrev opB : Vec Ideal S2048x1024 .bf16 := V m c main_v1

/-- The result's row a tile's row `r` is, and its column. -/
def rowOf (t : Fin cfg0.N) (r : Fin 2048) : Fin 16384 := ⟨2048 * (t.val) + r.val, by have := t.isLt; have : cfg0.N = 8 := N_0; omega⟩
def colOf (t : Fin cfg0.N) (s : Fin 1024) : Fin 1024 := ⟨s.val, by have := t.isLt; have : cfg0.N = 8 := N_0; omega⟩
theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem iblk0_at (t : Fin cfg0.N) (r : Fin 2048) (k : Fin 2048) :
    iblk m c 0 t (ix2 r k) = opA m c (ix2 (rowOf t r) k) := by
  blk_simp [iblk, index_0]; blk_ext [index_0, rowOf]
theorem iblk1_at (t : Fin cfg0.N) (s : Fin 1024) (k : Fin 2048) :
    iblk m c 1 t (ix2 k s) = opB m c (ix2 k (colOf t s)) := by
  blk_simp [iblk, index_1]; blk_ext [index_1, colOf]

/-! ## The sum -/

/-- The whole product. -/
def total (y : S16384x1024.Idx) : EReal := ∑ u : Fin 2048, opA m c (ix2 (y 0) u) * opB m c (ix2 u (y 1))

theorem tile_at (t : Fin cfg0.N) (r : Fin 2048) (s : Fin 1024) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 2048) (s : Fin 1024), y = ix2 r s := ⟨y 0, y 1, by funext k; fin_cases k <;> rfl⟩
  refine (congrFun (out_at m c t) _).trans ((tile_at m c t r s).trans ?_)
  have e : ((win0_2.blk t).view.emb (ix2 r s) : S16384x1024.Idx) = ix2 (rowOf t r) (colOf t s) := by blk_ext [index_2, rowOf, colOf]
  exact (congrArg (total m c) e).symm

/-! ## The operands are the arguments -/

abbrev x0 : FVec Ideal S16384x2048 .f32 := m ((c.tc : Thread nD τ).loc main_arg0)
abbrev x1 : FVec Ideal S2048x1024 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x2048 .f32) (y : FVec Ideal S2048x1024 .f32) : FVec Ideal S16384x1024 .f32 :=
  Host.dotGeneral Cert.Reference18Ideal.dot_S16384x2048_S2048x1024_S16384x1024_1_0_0_1_n_n none x y

/-- at an element. -/
theorem refV_at (x : FVec Ideal S16384x2048 .f32) (y : FVec Ideal S2048x1024 .f32) (r : Fin 16384) (s : Fin 1024) :
    refV x y (ix2 r s) = ∑ u : Fin 2048, x (ix2 r u) * y (ix2 u s) := by
  pointwise [refV]

theorem ref_total : refV (x0 m c) (x1 m c) = total m c := by
  funext y
  obtain ⟨r, s, rfl⟩ : ∃ (r : Fin 16384) (s : Fin 1024), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel18 := fun m ρ _ => Cert.Kernel18.Gen.frame (F := Bits) m ρ
theorem frame_ideal : Cert.quiescent_Kernel18Ideal := fun m ρ _ => Cert.Kernel18Ideal.Gen.frame (F := Ideal) m ρ
theorem frame_reference : Cert.quiescent_Reference18Ideal := fun m ρ _ =>
  (θ_run Cert.Reference18Ideal.defs _ _).mono (fun r h => ⟨fun c => (h c).2, Idealize.ShloMosaic.sem_eq_zero_of_no_sems rfl r.2⟩)
    (Cert.Reference18Ideal.Value.run (F := Ideal) m ρ)

theorem algebraic : Cert.algebraic_Kernel18Ideal_Reference18Ideal := by
  intro m ρ m' ρ' _ hm
  refine ⟨fun c => total m c, (θ_run defs _ _).mono (fun r h c => ?_) (Cert.Kernel18Ideal.Value.run_blocks (F := Ideal) m ρ),
    (θ_run Cert.Reference18Ideal.defs _ _).mono (fun r h c => ?_) (Cert.Reference18Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel18Ideal.Out

end
-- ==== Proof.MemQuery.lean ====
/-
  The memory attention's queries: the product's tiles make up the whole product.

  Every point computes one tile of the product whole and writes it.
  The tiles cover the result, so the array is the sum over all 1024 terms, which is what the reference computes.
-/
module

public import proofs.«01_k».proof.Defs
public import proofs.«01_k».proof.Proof.Gen.Kernel19.Frame
public import proofs.«01_k».proof.Proof.Gen.Kernel19Ideal.Value
public import proofs.«01_k».proof.Proof.Gen.Reference19Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel19Ideal.MemQuery

open Cert.Kernel19Ideal Cert.Kernel19Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x1024 .bf16) (b : Vec Ideal S1024x256 .bf16) (r : Fin 1024) (s : Fin 256) :
    k0_pay1 a b (ix2 r s) = ∑ k : Fin 1024, a (ix2 r k) * b (ix2 k s) := by
  pointwise [k0_pay1]

variable (m : (ℓ : Loc nD τ sig) → Buf (Elt Ideal) ℓ) (c : Dev nD)

/-! ## The operands and their blocks -/

abbrev opA : Vec Ideal S16384x1024 .bf16 := V m c main_v0
abbrev opB : Vec Ideal S1024x256 .bf16 := V m c main_v1

/-- The result's row a tile's row `r` is, and its column. -/
def rowOf (t : Fin cfg0.N) (r : Fin 1024) : Fin 16384 := ⟨1024 * (t.val) + r.val, by have := t.isLt; have : cfg0.N = 16 := N_0; omega⟩
def colOf (t : Fin cfg0.N) (s : Fin 256) : Fin 256 := ⟨s.val, by have := t.isLt; have : cfg0.N = 16 := N_0; omega⟩
theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem iblk0_at (t : Fin cfg0.N) (r : Fin 1024) (k : Fin 1024) :
    iblk m c 0 t (ix2 r k) = opA m c (ix2 (rowOf t r) k) := by
  blk_simp [iblk, index_0]; blk_ext [index_0, rowOf]
theorem iblk1_at (t : Fin cfg0.N) (s : Fin 256) (k : Fin 1024) :
    iblk m c 1 t (ix2 k s) = opB m c (ix2 k (colOf t s)) := by
  blk_simp [iblk, index_1]; blk_ext [index_1, colOf]

/-! ## The sum -/

/-- The whole product. -/
def total (y : S16384x256.Idx) : EReal := ∑ u : Fin 1024, opA m c (ix2 (y 0) u) * opB m c (ix2 u (y 1))

theorem tile_at (t : Fin cfg0.N) (r : Fin 1024) (s : Fin 256) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 1024) (s : Fin 256), y = ix2 r s := ⟨y 0, y 1, by funext k; fin_cases k <;> rfl⟩
  refine (congrFun (out_at m c t) _).trans ((tile_at m c t r s).trans ?_)
  have e : ((win0_2.blk t).view.emb (ix2 r s) : S16384x256.Idx) = ix2 (rowOf t r) (colOf t s) := by blk_ext [index_2, rowOf, colOf]
  exact (congrArg (total m c) e).symm

/-! ## The operands are the arguments -/

abbrev x0 : FVec Ideal S16384x1024 .f32 := m ((c.tc : Thread nD τ).loc main_arg0)
abbrev x1 : FVec Ideal S1024x256 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x1024 .f32) (y : FVec Ideal S1024x256 .f32) : FVec Ideal S16384x256 .bf16 :=
  truncf .bf16 (Host.dotGeneral Cert.Reference19Ideal.dot_S16384x1024_S1024x256_S16384x256_1_0_0_1_n_n none x y) (by decide)

/-- at an element. -/
theorem refV_at (x : FVec Ideal S16384x1024 .f32) (y : FVec Ideal S1024x256 .f32) (r : Fin 16384) (s : Fin 256) :
    refV x y (ix2 r s) = ∑ u : Fin 1024, x (ix2 r u) * y (ix2 u s) := by
  pointwise [refV]

theorem ref_total : refV (x0 m c) (x1 m c) = total m c := by
  funext y
  obtain ⟨r, s, rfl⟩ : ∃ (r : Fin 16384) (s : Fin 256), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel19 := fun m ρ _ => Cert.Kernel19.Gen.frame (F := Bits) m ρ
theorem frame_ideal : Cert.quiescent_Kernel19Ideal := fun m ρ _ => Cert.Kernel19Ideal.Gen.frame (F := Ideal) m ρ
theorem frame_reference : Cert.quiescent_Reference19Ideal := fun m ρ _ =>
  (θ_run Cert.Reference19Ideal.defs _ _).mono (fun r h => ⟨fun c => (h c).2, Idealize.ShloMosaic.sem_eq_zero_of_no_sems rfl r.2⟩)
    (Cert.Reference19Ideal.Value.run (F := Ideal) m ρ)

theorem algebraic : Cert.algebraic_Kernel19Ideal_Reference19Ideal := by
  intro m ρ m' ρ' _ hm
  refine ⟨fun c => total m c, (θ_run defs _ _).mono (fun r h c => ?_) (Cert.Kernel19Ideal.Value.run_blocks (F := Ideal) m ρ),
    (θ_run Cert.Reference19Ideal.defs _ _).mono (fun r h c => ?_) (Cert.Reference19Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel19Ideal.MemQuery

end
-- ==== Proof.MemKeyValue.lean ====
/-
  The memory attention's keys and values: the product's tiles make up the whole product.

  Every point computes one tile of the product whole and writes it.
  The tiles cover the result, so the array is the sum over all 1024 terms, which is what the reference computes.
-/
module

public import proofs.«01_k».proof.Defs
public import proofs.«01_k».proof.Proof.Gen.Kernel20.Frame
public import proofs.«01_k».proof.Proof.Gen.Kernel20Ideal.Value
public import proofs.«01_k».proof.Proof.Gen.Reference20Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel20Ideal.MemKeyValue

open Cert.Kernel20Ideal Cert.Kernel20Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S256x1024 .bf16) (b : Vec Ideal S1024x512 .bf16) (r : Fin 256) (s : Fin 512) :
    k0_pay1 a b (ix2 r s) = ∑ k : Fin 1024, a (ix2 r k) * b (ix2 k s) := by
  pointwise [k0_pay1]

variable (m : (ℓ : Loc nD τ sig) → Buf (Elt Ideal) ℓ) (c : Dev nD)

/-! ## The operands and their blocks -/

abbrev opA : Vec Ideal S256x1024 .bf16 := V m c main_v0
abbrev opB : Vec Ideal S1024x512 .bf16 := V m c main_v1

/-- The result's row a tile's row `r` is, and its column. -/
def rowOf (t : Fin cfg0.N) (r : Fin 256) : Fin 256 := ⟨r.val, by have := t.isLt; have : cfg0.N = 1 := N_0; omega⟩
def colOf (t : Fin cfg0.N) (s : Fin 512) : Fin 512 := ⟨s.val, by have := t.isLt; have : cfg0.N = 1 := N_0; omega⟩
theorem index_0 : ∀ t : Fin cfg0.N, win0_0.index t = ![0, 0] := (by decide +kernel : ∀ t : Fin grid0.N, win0_0.index t = ![0, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])

theorem iblk0_at (t : Fin cfg0.N) (r : Fin 256) (k : Fin 1024) :
    iblk m c 0 t (ix2 r k) = opA m c (ix2 (rowOf t r) k) := by
  blk_simp [iblk, index_0]; blk_ext [index_0, rowOf]
theorem iblk1_at (t : Fin cfg0.N) (s : Fin 512) (k : Fin 1024) :
    iblk m c 1 t (ix2 k s) = opB m c (ix2 k (colOf t s)) := by
  blk_simp [iblk, index_1]; blk_ext [index_1, colOf]

/-! ## The sum -/

/-- The whole product. -/
def total (y : S256x512.Idx) : EReal := ∑ u : Fin 1024, opA m c (ix2 (y 0) u) * opB m c (ix2 u (y 1))

theorem tile_at (t : Fin cfg0.N) (r : Fin 256) (s : Fin 512) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 256) (s : Fin 512), y = ix2 r s := ⟨y 0, y 1, by funext k; fin_cases k <;> rfl⟩
  refine (congrFun (out_at m c t) _).trans ((tile_at m c t r s).trans ?_)
  have e : ((win0_2.blk t).view.emb (ix2 r s) : S256x512.Idx) = ix2 (rowOf t r) (colOf t s) := by blk_ext [index_2, rowOf, colOf]
  exact (congrArg (total m c) e).symm

/-! ## The operands are the arguments -/

abbrev x0 : FVec Ideal S256x1024 .f32 := m ((c.tc : Thread nD τ).loc main_arg0)
abbrev x1 : FVec Ideal S1024x512 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S256x1024 .f32) (y : FVec Ideal S1024x512 .f32) : FVec Ideal S256x512 .bf16 :=
  truncf .bf16 (Host.dotGeneral Cert.Reference20Ideal.dot_S256x1024_S1024x512_S256x512_1_0_0_1_n_n none x y) (by decide)

/-- at an element. -/
theorem refV_at (x : FVec Ideal S256x1024 .f32) (y : FVec Ideal S1024x512 .f32) (r : Fin 256) (s : Fin 512) :
    refV x y (ix2 r s) = ∑ u : Fin 1024, x (ix2 r u) * y (ix2 u s) := by
  pointwise [refV]

theorem ref_total : refV (x0 m c) (x1 m c) = total m c := by
  funext y
  obtain ⟨r, s, rfl⟩ : ∃ (r : Fin 256) (s : Fin 512), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel20 := fun m ρ _ => Cert.Kernel20.Gen.frame (F := Bits) m ρ
theorem frame_ideal : Cert.quiescent_Kernel20Ideal := fun m ρ _ => Cert.Kernel20Ideal.Gen.frame (F := Ideal) m ρ
theorem frame_reference : Cert.quiescent_Reference20Ideal := fun m ρ _ =>
  (θ_run Cert.Reference20Ideal.defs _ _).mono (fun r h => ⟨fun c => (h c).2, Idealize.ShloMosaic.sem_eq_zero_of_no_sems rfl r.2⟩)
    (Cert.Reference20Ideal.Value.run (F := Ideal) m ρ)

theorem algebraic : Cert.algebraic_Kernel20Ideal_Reference20Ideal := by
  intro m ρ m' ρ' _ hm
  refine ⟨fun c => total m c, (θ_run defs _ _).mono (fun r h c => ?_) (Cert.Kernel20Ideal.Value.run_blocks (F := Ideal) m ρ),
    (θ_run Cert.Reference20Ideal.defs _ _).mono (fun r h c => ?_) (Cert.Reference20Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel20Ideal.MemKeyValue

end
-- ==== Proof.MemOut.lean ====
/-
  The memory attention's output projection: the product's tiles make up the whole product.

  Every point computes one tile of the product whole and writes it.
  The tiles cover the result, so the array is the sum over all 256 terms, which is what the reference computes.
-/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel21Ideal.MemOut

open Cert.Kernel21Ideal Cert.Kernel21Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x256 .bf16) (b : Vec Ideal S256x1024 .bf16) (r : Fin 1024) (s : Fin 1024) :
    k0_pay1 a b (ix2 r s) = ∑ k : Fin 256, a (ix2 r k) * b (ix2 k s) := by
  pointwise [k0_pay1]

variable (m : (ℓ : Loc nD τ sig) → Buf (Elt Ideal) ℓ) (c : Dev nD)

/-! ## The operands and their blocks -/

abbrev opA : Vec Ideal S16384x256 .bf16 := V m c main_v0
abbrev opB : Vec Ideal S256x1024 .bf16 := V m c main_v1

/-- The result's row a tile's row `r` is, and its column. -/
def rowOf (t : Fin cfg0.N) (r : Fin 1024) : Fin 16384 := ⟨1024 * (t.val) + r.val, by have := t.isLt; have : cfg0.N = 16 := N_0; omega⟩
def colOf (t : Fin cfg0.N) (s : Fin 1024) : Fin 1024 := ⟨s.val, by have := t.isLt; have : cfg0.N = 16 := N_0; omega⟩
theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem iblk0_at (t : Fin cfg0.N) (r : Fin 1024) (k : Fin 256) :
    iblk m c 0 t (ix2 r k) = opA m c (ix2 (rowOf t r) k) := by
  blk_simp [iblk, index_0]; blk_ext [index_0, rowOf]
theorem iblk1_at (t : Fin cfg0.N) (s : Fin 1024) (k : Fin 256) :
    iblk m c 1 t (ix2 k s) = opB m c (ix2 k (colOf t s)) := by
  blk_simp [iblk, index_1]; blk_ext [index_1, colOf]

/-! ## The sum -/

/-- The whole product. -/
def total (y : S16384x1024.Idx) : EReal := ∑ u : Fin 256, opA m c (ix2 (y 0) u) * opB m c (ix2 u (y 1))

theorem tile_at (t : Fin cfg0.N) (r : Fin 1024) (s : Fin 1024) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, by funext k; fin_cases k <;> rfl⟩
  refine (congrFun (out_at m c t) _).trans ((tile_at m c t r s).trans ?_)
  have e : ((win0_2.blk t).view.emb (ix2 r s) : S16384x1024.Idx) = ix2 (rowOf t r) (colOf t s) := by blk_ext [index_2, rowOf, colOf]
  exact (congrArg (total m c) e).symm

/-! ## The operands are the arguments -/

abbrev x0 : FVec Ideal S16384x256 .f32 := m ((c.tc : Thread nD τ).loc main_arg0)
abbrev x1 : FVec Ideal S256x1024 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x256 .f32) (y : FVec Ideal S256x1024 .f32) : FVec Ideal S16384x1024 .f32 :=
  Host.dotGeneral Cert.Reference21Ideal.dot_S16384x256_S256x1024_S16384x1024_1_0_0_1_n_n none x y

/-- at an element. -/
theorem refV_at (x : FVec Ideal S16384x256 .f32) (y : FVec Ideal S256x1024 .f32) (r : Fin 16384) (s : Fin 1024) :
    refV x y (ix2 r s) = ∑ u : Fin 256, x (ix2 r u) * y (ix2 u s) := by
  pointwise [refV]

theorem ref_total : refV (x0 m c) (x1 m c) = total m c := by
  funext y
  obtain ⟨r, s, rfl⟩ : ∃ (r : Fin 16384) (s : Fin 1024), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel21 := fun m ρ _ => Cert.Kernel21.Gen.frame (F := Bits) m ρ
theorem frame_ideal : Cert.quiescent_Kernel21Ideal := fun m ρ _ => Cert.Kernel21Ideal.Gen.frame (F := Ideal) m ρ
theorem frame_reference : Cert.quiescent_Reference21Ideal := fun m ρ _ =>
  (θ_run Cert.Reference21Ideal.defs _ _).mono (fun r h => ⟨fun c => (h c).2, Idealize.ShloMosaic.sem_eq_zero_of_no_sems rfl r.2⟩)
    (Cert.Reference21Ideal.Value.run (F := Ideal) m ρ)

theorem algebraic : Cert.algebraic_Kernel21Ideal_Reference21Ideal := by
  intro m ρ m' ρ' _ hm
  refine ⟨fun c => total m c, (θ_run defs _ _).mono (fun r h c => ?_) (Cert.Kernel21Ideal.Value.run_blocks (F := Ideal) m ρ),
    (θ_run Cert.Reference21Ideal.defs _ _).mono (fun r h c => ?_) (Cert.Reference21Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel21Ideal.MemOut

end
-- ==== Proof.Down.lean ====
/-
  The feed-forward's second product: the product's tiles make up the whole product.

  Every point computes one tile of the product whole and writes it.
  The tiles cover the result, so the array is the sum over all 2816 terms, which is what the reference computes.
-/
module

public import proofs.«01_k».proof.Defs
public import proofs.«01_k».proof.Proof.Gen.Kernel22.Frame
public import proofs.«01_k».proof.Proof.Gen.Kernel22Ideal.Value
public import proofs.«01_k».proof.Proof.Gen.Reference22Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel22Ideal.Down

open Cert.Kernel22Ideal Cert.Kernel22Ideal.Gen
open Idealize.ShloMosaic Idealize.ShloMosaic.TcCoe Idealize.ShloMosaic.Tactic
open Idealize.SL.Sem
open Idealize.ShloMosaic.Pipeline (Dat BodyObligation)

/-! ## One point -/

theorem mul_at (a : Vec Ideal S1024x2816 .bf16) (b : Vec Ideal S2816x1024 .bf16) (r : Fin 1024) (s : Fin 1024) :
    k0_pay1 a b (ix2 r s) = ∑ k : Fin 2816, a (ix2 r k) * b (ix2 k s) := by
  pointwise [k0_pay1]

variable (m : (ℓ : Loc nD τ sig) → Buf (Elt Ideal) ℓ) (c : Dev nD)

/-! ## The operands and their blocks -/

abbrev opA : Vec Ideal S16384x2816 .bf16 := V m c main_v0
abbrev opB : Vec Ideal S2816x1024 .bf16 := V m c main_v1

/-- The result's row a tile's row `r` is, and its column. -/
def rowOf (t : Fin cfg0.N) (r : Fin 1024) : Fin 16384 := ⟨1024 * (t.val) + r.val, by have := t.isLt; have : cfg0.N = 16 := N_0; omega⟩
def colOf (t : Fin cfg0.N) (s : Fin 1024) : Fin 1024 := ⟨s.val, by have := t.isLt; have : cfg0.N = 16 := N_0; omega⟩
theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem iblk0_at (t : Fin cfg0.N) (r : Fin 1024) (k : Fin 2816) :
    iblk m c 0 t (ix2 r k) = opA m c (ix2 (rowOf t r) k) := by
  blk_simp [iblk, index_0]; blk_ext [index_0, rowOf]
theorem iblk1_at (t : Fin cfg0.N) (s : Fin 1024) (k : Fin 2816) :
    iblk m c 1 t (ix2 k s) = opB m c (ix2 k (colOf t s)) := by
  blk_simp [iblk, index_1]; blk_ext [index_1, colOf]

/-! ## The sum -/

/-- The whole product. -/
def total (y : S16384x1024.Idx) : EReal := ∑ u : Fin 2816, opA m c (ix2 (y 0) u) * opB m c (ix2 u (y 1))

theorem tile_at (t : Fin cfg0.N) (r : Fin 1024) (s : Fin 1024) :
    k0_pay1 (iblk m c 0 t) (iblk m c 1 t) (ix2 r s) = total m c (ix2 (rowOf t r) (colOf t s)) := by
  refine (mul_at _ _ r s).trans (Finset.sum_congr rfl fun k _ => ?_)
  rw [iblk0_at, iblk1_at]; rfl

theorem out_at (t : Fin cfg0.N) : out0_2 (iblk m c 0 t) (iblk m c 1 t) = k0_pay1 (iblk m c 0 t) (iblk m c 1 t) := by
  frame_out

theorem final : (dats m 0 c).arrAt 2 cfg0.N = total m c := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, by funext k; fin_cases k <;> rfl⟩
  refine (congrFun (out_at m c t) _).trans ((tile_at m c t r s).trans ?_)
  have e : ((win0_2.blk t).view.emb (ix2 r s) : S16384x1024.Idx) = ix2 (rowOf t r) (colOf t s) := by blk_ext [index_2, rowOf, colOf]
  exact (congrArg (total m c) e).symm

/-! ## The operands are the arguments -/

abbrev x0 : FVec Ideal S16384x2816 .f32 := m ((c.tc : Thread nD τ).loc main_arg0)
abbrev x1 : FVec Ideal S2816x1024 .f32 := m ((c.tc : Thread nD τ).loc main_arg1)

theorem opA_eq : opA m c = x0 m c := by
  show StableHlo.after hostOps0 _ _ = _
  simp only [hostOps0]
  after_results_simp <;> rfl
theorem opB_eq : opB m c = x1 m c := by
  show StableHlo.after hostOps0 _ _ = _
  simp only [hostOps0]
  after_results_simp <;> rfl

/-! ## The reference's product -/

/-- The reference's result of two arrays, -/
abbrev refV (x : FVec Ideal S16384x2816 .f32) (y : FVec Ideal S2816x1024 .f32) : FVec Ideal S16384x1024 .f32 :=
  Host.dotGeneral Cert.Reference22Ideal.dot_S16384x2816_S2816x1024_S16384x1024_1_0_0_1_n_n none x y

/-- at an element. -/
theorem refV_at (x : FVec Ideal S16384x2816 .f32) (y : FVec Ideal S2816x1024 .f32) (r : Fin 16384) (s : Fin 1024) :
    refV x y (ix2 r s) = ∑ u : Fin 2816, x (ix2 r u) * y (ix2 u s) := by
  pointwise [refV]

theorem ref_total : refV (x0 m c) (x1 m c) = total m c := by
  funext y
  obtain ⟨r, s, rfl⟩ : ∃ (r : Fin 16384) (s : Fin 1024), y = ix2 r s := ⟨y 0, y 1, by funext k; fin_cases k <;> rfl⟩
  refine (refV_at _ _ r s).trans (Finset.sum_congr rfl fun u _ => ?_)
  rw [opA_eq, opB_eq]; rfl

/-! ## The claims -/

theorem frame_printed : Cert.quiescent_Kernel22 := fun m ρ _ => Cert.Kernel22.Gen.frame (F := Bits) m ρ
theorem frame_ideal : Cert.quiescent_Kernel22Ideal := fun m ρ _ => Cert.Kernel22Ideal.Gen.frame (F := Ideal) m ρ
theorem frame_reference : Cert.quiescent_Reference22Ideal := fun m ρ _ =>
  (θ_run Cert.Reference22Ideal.defs _ _).mono (fun r h => ⟨fun c => (h c).2, Idealize.ShloMosaic.sem_eq_zero_of_no_sems rfl r.2⟩)
    (Cert.Reference22Ideal.Value.run (F := Ideal) m ρ)

theorem algebraic : Cert.algebraic_Kernel22Ideal_Reference22Ideal := by
  intro m ρ m' ρ' _ hm
  refine ⟨fun c => total m c, (θ_run defs _ _).mono (fun r h c => ?_) (Cert.Kernel22Ideal.Value.run_blocks (F := Ideal) m ρ),
    (θ_run Cert.Reference22Ideal.defs _ _).mono (fun r h c => ?_) (Cert.Reference22Ideal.Value.run (F := Ideal) m' ρ')⟩
  · exact ⟨(h c).1.trans (final m c), (h c).2⟩
  · obtain ⟨h0, hargs⟩ := h c
    obtain ⟨e0, e1⟩ := hm c
    refine ⟨h0.trans ?_, hargs⟩
    rw [e0, e1]
    exact ref_total m c

end Cert.Kernel22Ideal.Down

end
-- ==== Proof.Halves.lean ====
/-
  Two arrays side by side, 256 columns of the first and 256 of the second in turn, and the way back.
-/
module

public import Idealize.ShloMosaic.Lib.StableHlo
public import Idealize.ShloMosaic.PureOps
public import Idealize.ShloMosaic.Lib.Pointwise
public import Idealize.ShloMosaic.Lib.Pipeline.Value

@[expose] public section

set_option maxRecDepth 16384

noncomputable section

namespace Cert.Halves

open Idealize.ShloMosaic Idealize.ShloMosaic.Tactic

variable {R : ℕ} {α : Type}

/-! ## The columns -/

/-- Column `l` of the `j`-th 256 columns. -/
def colOf (j : Fin 11) (l : Fin 256) : Fin 2816 := ⟨256 * j.val + l.val, by omega⟩
/-- Where it lies when it is the first array's, -/
def leftOf (j : Fin 11) (l : Fin 256) : Fin 5632 := ⟨512 * j.val + l.val, by omega⟩
/-- and when it is the second's. -/
def rightOf (j : Fin 11) (l : Fin 256) : Fin 5632 := ⟨512 * j.val + (256 + l.val), by omega⟩

theorem col_split (s : Fin 2816) : ∃ (j : Fin 11) (l : Fin 256), s = colOf j l :=
  ⟨⟨s.val / 256, by omega⟩, ⟨s.val % 256, by omega⟩, Fin.ext (by show s.val = 256 * (s.val / 256) + s.val % 256; omega)⟩

/-- A column of 512 is in the first 256 or in the last. -/
theorem half_split (s : Fin 512) : (∃ l : Fin 256, s = ⟨l.val, by omega⟩) ∨ (∃ l : Fin 256, s = ⟨256 + l.val, by omega⟩) := by
  by_cases h : s.val < 256
  · exact Or.inl ⟨⟨s.val, h⟩, Fin.ext rfl⟩
  · exact Or.inr ⟨⟨s.val - 256, by omega⟩, Fin.ext (by show s.val = 256 + (s.val - 256); omega)⟩

/-! ## Side by side -/

section
variable (h3 : (⟨2, ![R, 2816]⟩ : Shape).ShapeCasts ⟨3, ![R, 11, 256]⟩)
  (hb : (⟨3, ![R, 11, 256]⟩ : Shape).BroadcastsInDim ⟨4, ![R, 11, 1, 256]⟩ ![0, 1, 3])
  (hc : Shape.Concatenates [(⟨4, ![R, 11, 1, 256]⟩ : Shape), ⟨4, ![R, 11, 1, 256]⟩] ⟨4, ![R, 11, 2, 256]⟩ 2)
  (h2 : (⟨4, ![R, 11, 2, 256]⟩ : Shape).ShapeCasts ⟨2, ![R, 5632]⟩)

/-- One array in pieces of 256 columns, with an axis of one piece. -/
def pieces (a : (⟨2, ![R, 2816]⟩ : Shape).Idx → α) : (⟨4, ![R, 11, 1, 256]⟩ : Shape).Idx → α :=
  broadcastInDim ⟨4, ![R, 11, 1, 256]⟩ ![0, 1, 3] hb (shapeCast ⟨3, ![R, 11, 256]⟩ a h3)

/-- Two arrays side by side. -/
def sideV (a b : (⟨2, ![R, 2816]⟩ : Shape).Idx → α) : (⟨2, ![R, 5632]⟩ : Shape).Idx → α :=
  shapeCast ⟨2, ![R, 5632]⟩ (concatenate ⟨4, ![R, 11, 2, 256]⟩ 2 [⟨⟨4, ![R, 11, 1, 256]⟩, pieces h3 hb a⟩, ⟨⟨4, ![R, 11, 1, 256]⟩, pieces h3 hb b⟩] hc) h2

theorem pieces_at (a : (⟨2, ![R, 2816]⟩ : Shape).Idx → α) (r : Fin R) (j : Fin 11) (l : Fin 256) :
    pieces h3 hb a (ix4 r j 0 l) = a (ix2 r (colOf j l)) := by
  unfold pieces
  refine (broadcastInDim_apply _ _ _ _ (ix3 r j l) ?_).trans (shapeCast_apply _ _ _ (ix2 r (colOf j l)) ?_)
  · intro k
    fin_cases k
    · show r.val = if R = 1 then 0 else r.val
      split
      · omega
      · rfl
    · rfl
    · rfl
  · rw [Shape.rowMajor_val_two, Shape.rowMajor_val_three]
    show r.val * 2816 + (256 * j.val + l.val) = (r.val * 11 + j.val) * 256 + l.val
    omega

theorem side_left (a b : (⟨2, ![R, 2816]⟩ : Shape).Idx → α) (r : Fin R) (j : Fin 11) (l : Fin 256) :
    sideV h3 hb hc h2 a b (ix2 r (leftOf j l)) = a (ix2 r (colOf j l)) := by
  unfold sideV
  refine (shapeCast_apply _ _ _ (ix4 r j (0 : Fin 2) l) ?_).trans
    ((concatenate_pair_apply_left (t := ⟨4, ![R, 11, 2, 256]⟩) 2 (pieces h3 hb a) (pieces h3 hb b) hc (ix4 r j (0 : Fin 2) l) rfl (ix4 r j (0 : Fin 1) l) ?_).trans (pieces_at h3 hb a r j l))
  · rw [Shape.rowMajor_val_two, Shape.rowMajor_val_four]
    show ((r.val * 11 + j.val) * 2 + 0) * 256 + l.val = r.val * 5632 + (512 * j.val + l.val)
    omega
  · intro k; fin_cases k <;> rfl

theorem side_right (a b : (⟨2, ![R, 2816]⟩ : Shape).Idx → α) (r : Fin R) (j : Fin 11) (l : Fin 256) :
    sideV h3 hb hc h2 a b (ix2 r (rightOf j l)) = b (ix2 r (colOf j l)) := by
  unfold sideV
  refine (shapeCast_apply _ _ _ (ix4 r j (1 : Fin 2) l) ?_).trans
    ((concatenate_pair_apply_right (t := ⟨4, ![R, 11, 2, 256]⟩) 2 (pieces h3 hb a) (pieces h3 hb b) hc (ix4 r j (1 : Fin 2) l) rfl rfl (ix4 r j (0 : Fin 1) l) ?_ ?_).trans (pieces_at h3 hb b r j l))
  · rw [Shape.rowMajor_val_two, Shape.rowMajor_val_four]
    show ((r.val * 11 + j.val) * 2 + 1) * 256 + l.val = r.val * 5632 + (512 * j.val + (256 + l.val))
    omega
  · intro k hk
    fin_cases k
    · rfl
    · rfl
    · exact absurd rfl hk
    · rfl
  · rfl
end

/-! ## Apart -/

section
variable (h4 : (⟨2, ![R, 5632]⟩ : Shape).ShapeCasts ⟨4, ![R, 11, 2, 256]⟩)
  (hs0 : (⟨4, ![R, 11, 2, 256]⟩ : Shape).Slices ![0, 0, 0, 0] ⟨4, ![R, 11, 1, 256]⟩)
  (hs1 : (⟨4, ![R, 11, 2, 256]⟩ : Shape).Slices ![0, 0, 1, 0] ⟨4, ![R, 11, 1, 256]⟩)
  (h3 : (⟨4, ![R, 11, 1, 256]⟩ : Shape).ShapeCasts ⟨3, ![R, 11, 256]⟩)
  (h2 : (⟨3, ![R, 11, 256]⟩ : Shape).ShapeCasts ⟨2, ![R, 2816]⟩)

/-- The first of two arrays lying side by side, -/
def leftV (x : (⟨2, ![R, 5632]⟩ : Shape).Idx → α) : (⟨2, ![R, 2816]⟩ : Shape).Idx → α :=
  shapeCast ⟨2, ![R, 2816]⟩ (shapeCast ⟨3, ![R, 11, 256]⟩ (extractStridedSlice ⟨4, ![R, 11, 1, 256]⟩ ![0, 0, 0, 0] (shapeCast ⟨4, ![R, 11, 2, 256]⟩ x h4) hs0) h3) h2
/-- and the second. -/
def rightV (x : (⟨2, ![R, 5632]⟩ : Shape).Idx → α) : (⟨2, ![R, 2816]⟩ : Shape).Idx → α :=
  shapeCast ⟨2, ![R, 2816]⟩ (shapeCast ⟨3, ![R, 11, 256]⟩ (extractStridedSlice ⟨4, ![R, 11, 1, 256]⟩ ![0, 0, 1, 0] (shapeCast ⟨4, ![R, 11, 2, 256]⟩ x h4) hs1) h3) h2

theorem join_at (x : (⟨4, ![R, 11, 1, 256]⟩ : Shape).Idx → α) (r : Fin R) (j : Fin 11) (l : Fin 256) :
    shapeCast ⟨2, ![R, 2816]⟩ (shapeCast ⟨3, ![R, 11, 256]⟩ x h3) h2 (ix2 r (colOf j l)) = x (ix4 r j 0 l) := by
  refine (shapeCast_apply _ _ _ (ix3 r j l) ?_).trans (shapeCast_apply _ _ _ (ix4 r j (0 : Fin 1) l) ?_)
  · rw [Shape.rowMajor_val_two, Shape.rowMajor_val_three]
    show (r.val * 11 + j.val) * 256 + l.val = r.val * 2816 + (256 * j.val + l.val)
    omega
  · rw [Shape.rowMajor_val_three, Shape.rowMajor_val_four]
    show ((r.val * 11 + j.val) * 1 + 0) * 256 + l.val = (r.val * 11 + j.val) * 256 + l.val
    omega

theorem left_at (x : (⟨2, ![R, 5632]⟩ : Shape).Idx → α) (r : Fin R) (j : Fin 11) (l : Fin 256) :
    leftV h4 hs0 h3 h2 x (ix2 r (colOf j l)) = x (ix2 r (leftOf j l)) := by
  unfold leftV
  refine (join_at h3 h2 _ r j l).trans ((extractStridedSlice_apply _ _ _ _ (ix4 r j (0 : Fin 2) l) ?_).trans
    (shapeCast_apply _ _ _ (ix2 r (leftOf j l)) ?_))
  · intro k; fin_cases k <;> exact (Nat.zero_add _).symm
  · rw [Shape.rowMajor_val_two, Shape.rowMajor_val_four]
    show r.val * 5632 + (512 * j.val + l.val) = ((r.val * 11 + j.val) * 2 + 0) * 256 + l.val
    omega

theorem right_at (x : (⟨2, ![R, 5632]⟩ : Shape).Idx → α) (r : Fin R) (j : Fin 11) (l : Fin 256) :
    rightV h4 hs1 h3 h2 x (ix2 r (colOf j l)) = x (ix2 r (rightOf j l)) := by
  unfold rightV
  refine (join_at h3 h2 _ r j l).trans ((extractStridedSlice_apply _ _ _ _ (ix4 r j (1 : Fin 2) l) ?_).trans
    (shapeCast_apply _ _ _ (ix2 r (rightOf j l)) ?_))
  · intro k
    fin_cases k
    · exact (Nat.zero_add _).symm
    · exact (Nat.zero_add _).symm
    · rfl
    · exact (Nat.zero_add _).symm
  · rw [Shape.rowMajor_val_two, Shape.rowMajor_val_four]
    show r.val * 5632 + (512 * j.val + (256 + l.val)) = ((r.val * 11 + j.val) * 2 + 1) * 256 + l.val
    omega
end

end Cert.Halves

end
-- ==== Proof.DAct.lean ====
/-
  The feed-forward layer's gradient at its gate: both gradients in one pass, lying side by side.

  A point multiplies 4096 rows of the gradient by 256 rows of the weight, which is the gradient at the gated product.
  It reads the gate and the other factor side by side and writes their two gradients side by side.
  The second gradient is the reference's up to the order of one product.
  The first one multiplies a sum, where the reference adds two products: the two are equal because the gradient at the gated product and the other factor are real numbers.
-/
module

public import proofs.«01_k».proof.Defs
public import proofs.«01_k».proof.Proof.Halves
public import proofs.«01_k».proof.Proof.Real
public import proofs.«01_k».proof.Proof.Finite
public import proofs.«01_k».proof.Proof.Gen.Kernel23.Frame
public import proofs.«01_k».proof.Proof.Gen.Kernel23Ideal.Frame
public import proofs.«01_k».proof.Proof.Gen.Reference23Ideal.Run
public import Idealize.ShloMosaic.Lib.Pointwise
public import Idealize.ShloMosaic.Lib.ReduceAll
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.StableHlo.ReadAt
public import Idealize.ShloMosaic.Lib.StableHlo.RunClose

@[expose] public section

set_option maxRecDepth 16384

noncomputable section

/-! ## Where the precondition holds, every argument but the gate is a real number -/

namespace Cert.Pre_finite23.DAct

open Cert.Pre_finite23
open Idealize.ShloMosaic Idealize.ShloMosaic.Tactic

instance facts : Cert.Pre_finite23.Facts where
  bcast_S_S16384x2816 := by decide
  reducesTo_S16384x2816_S_d0_1 := by decide
  h_S_ := by decide
  bcast_S_S2816x1024 := by decide
  reducesTo_S2816x1024_S_d0_1 := by decide
  bcast_S_S16384x1024 := by decide
  reducesTo_S16384x1024_S_d0_1 := by decide

instance one_index : Subsingleton S_.Idx := ⟨fun a b => funext fun k => absurd k.isLt (Nat.not_lt_zero _)⟩

/-- The bit of `|x| < ∞`, element by element. -/
def below {s : Shape} (hb : S_.BroadcastsInDim s (![] : Fin 0 → Fin s.rank)) (x : FVec Ideal s .f32) : IVec s 1 :=
  cmpf .olt (Host.absf x) (broadcastInDim s ![] hb (constant S_ .f32 0x7F800000#32))

theorem below_u (x : FVec Ideal S16384x2816 .f32) (r : Fin 16384) (s : Fin 2816) (h : below Facts.bcast_S_S16384x2816 x (ix2 r s) = 1#1) :
    x (ix2 r s) = (((x (ix2 r s) : EReal).toReal : ℝ) : EReal) := by
  revert h
  pointwise [below]
  exact Cert.Pre_finite.Fox.real_of _
theorem below_w (x : FVec Ideal S2816x1024 .f32) (r : Fin 2816) (s : Fin 1024) (h : below Facts.bcast_S_S2816x1024 x (ix2 r s) = 1#1) :
    x (ix2 r s) = (((x (ix2 r s) : EReal).toReal : ℝ) : EReal) := by
  revert h
  pointwise [below]
  exact Cert.Pre_finite.Fox.real_of _
theorem below_y (x : FVec Ideal S16384x1024 .f32) (r : Fin 16384) (s : Fin 1024) (h : below Facts.bcast_S_S16384x1024 x (ix2 r s) = 1#1) :
    x (ix2 r s) = (((x (ix2 r s) : EReal).toReal : ℝ) : EReal) := by
  revert h
  pointwise [below]
  exact Cert.Pre_finite.Fox.real_of _

theorem fn_bit (g u : FVec Ideal S16384x2816 .f32) (w : FVec Ideal S2816x1024 .f32) (dy : FVec Ideal S16384x1024 .f32) (H : fn (F := Ideal) g u w dy = fun _ => 1#1) :
    (∀ i, below Facts.bcast_S_S16384x2816 u i = 1#1)
    ∧ (∀ i, below Facts.bcast_S_S2816x1024 w i = 1#1) ∧ (∀ i, below Facts.bcast_S_S16384x1024 dy i = 1#1) := by
  have e := congrFun H (Shape.Idx.first Facts.h_S_)
  obtain ⟨e, e3⟩ := Cert.Pre_finite.Fox.bit_and _ _ e
  obtain ⟨e1, e2⟩ := Cert.Pre_finite.Fox.bit_and _ _ e
  exact ⟨fun i => Host.reduce_andi_all _ _ _ _ _ e1 i, fun i => Host.reduce_andi_all _ _ _ _ _ e2 i, fun i => Host.reduce_andi_all _ _ _ _ _ e3 i⟩

end Cert.Pre_finite23.DAct

namespace Cert.Kernel23Ideal.DAct

open Cert.Kernel23Ideal Cert.Kernel23Ideal.Gen
open Cert.Halves (colOf leftOf rightOf sideV leftV rightV)
open Idealize.ShloMosaic Idealize.ShloMosaic.TcCoe Idealize.ShloMosaic.Tactic
open Idealize.SL.Sem
open Idealize.ShloMosaic.Pipeline (Dat BodyObligation)

/-! ## The numbers -/

/-- The logistic function. -/
def sig1 (g : EReal) : EReal := Ideal.div 1 (1 + Ideal.exp (-g))

/-- The gradient at the gate as the kernel computes it, from the gradient `d` at the gated product, -/
def gradG (d g u : EReal) : EReal := d * u * (sig1 g + g * sig1 g * (1 - sig1 g))
/-- as the reference does, -/
def refG (d g u : EReal) : EReal := d * u * sig1 g + g * (d * u) * (sig1 g * (1 - sig1 g))
/-- and the gradient at the other factor. -/
def gradU (d g : EReal) : EReal := d * (g * sig1 g)

theorem sig1_real (g : ℝ) : sig1 g = ((1 / (1 + Real.exp (-g)) : ℝ) : EReal) := by
  have h : (1 + Real.exp (-g)) ≠ 0 := by positivity
  unfold sig1
  rw [← EReal.coe_neg, Ideal.exp_coe, ← EReal.coe_one, ← EReal.coe_add, Cert.Grad.div_real h]

theorem sig1_top : sig1 ⊤ = 1 := by
  unfold sig1
  rw [EReal.neg_top, Ideal.exp_bot, add_zero, ← EReal.coe_one, Cert.Grad.div_real one_ne_zero, div_one]
theorem sig1_bot : sig1 ⊥ = 0 := by
  unfold sig1
  rw [EReal.neg_bot, Ideal.exp_top, ← EReal.coe_one, EReal.coe_add_top, Ideal.div, if_neg EReal.top_ne_zero, EReal.inv_top, mul_zero]

/-- The two agree where `d` and `u` are real numbers, whatever the gate. -/
theorem gradG_real (d u : ℝ) (g : EReal) : gradG d g u = refG d g u := by
  unfold gradG refG
  induction g using EReal.rec with
  | bot => rw [sig1_bot]; simp
  | top =>
    have e : (1 : EReal) - 1 = 0 := by rw [← EReal.coe_one]; exact Cert.Grad.coe_sub_self 1
    rw [sig1_top, e]; simp
  | coe g =>
    rw [sig1_real, ← EReal.coe_one]
    simp only [← EReal.coe_mul, ← EReal.coe_add, ← EReal.coe_sub]
    exact congrArg _ (by ring)

/-! ## One point -/

theorem mul_at (a : Vec Ideal S4096x1024 .bf16) (b : Vec Ideal S256x1024 .bf16) (r : Fin 4096) (l : Fin 256) :
    k0_pay1 a b (ix2 r l) = ∑ k : Fin 1024, a (ix2 r k) * b (ix2 l k) := by
  pointwise [k0_pay1]

theorem pay2_at (x : Vec Ideal S4096x512 .bf16) (r : Fin 4096) (s : Fin 512) : k0_pay2 x (ix2 r s) = x (ix2 r s) := by
  pointwise [k0_pay2]
theorem pay3_at (x : Vec Ideal S4096x512 .bf16) (r : Fin 4096) (l : Fin 256) : k0_pay3 x (ix2 r l) = x (ix2 r ⟨l.val, by omega⟩) := by
  refine Eq.trans ?_ (pay2_at x r _)
  pointwise [k0_pay3]
theorem pay4_at (x : Vec Ideal S4096x512 .bf16) (r : Fin 4096) (l : Fin 256) : k0_pay4 x (ix2 r l) = sig1 (x (ix2 r ⟨l.val, by omega⟩)) := by
  rw [← pay3_at x r l]
  unfold sig1
  pointwise [k0_pay4]
  rw [zero_sub]
theorem pay5_at (x : Vec Ideal S4096x512 .bf16) (r : Fin 4096) (l : Fin 256) :
    k0_pay5 x (ix2 r l) = x (ix2 r ⟨l.val, by omega⟩) * sig1 (x (ix2 r ⟨l.val, by omega⟩)) := by
  rw [← pay4_at x r l, ← pay3_at x r l]
  pointwise [k0_pay5]
theorem pay6_at (a : Vec Ideal S4096x1024 .bf16) (b : Vec Ideal S256x1024 .bf16) (x : Vec Ideal S4096x512 .bf16) (r : Fin 4096) (l : Fin 256) :
    k0_pay6 a b x (ix2 r l) = gradG (∑ k : Fin 1024, a (ix2 r k) * b (ix2 l k)) (x (ix2 r ⟨l.val, by omega⟩)) (x (ix2 r ⟨256 + l.val, by omega⟩)) := by
  unfold gradG
  rw [← pay5_at x r l, ← pay4_at x r l, ← mul_at, ← pay2_at x r ⟨256 + l.val, by omega⟩]
  pointwise [k0_pay6]
theorem pay7_at (a : Vec Ideal S4096x1024 .bf16) (b : Vec Ideal S256x1024 .bf16) (x : Vec Ideal S4096x512 .bf16) (r : Fin 4096) (l : Fin 256) :
    k0_pay7 a b x (ix2 r l) = gradU (∑ k : Fin 1024, a (ix2 r k) * b (ix2 l k)) (x (ix2 r ⟨l.val, by omega⟩)) := by
  unfold gradU
  rw [← pay5_at x r l, ← mul_at]
  pointwise [k0_pay7]

/-- The block a point writes: the first gradient on the left, -/
theorem out_left (a : Vec Ideal S4096x1024 .bf16) (b : Vec Ideal S256x1024 .bf16) (x : Vec Ideal S4096x512 .bf16) (r : Fin 4096) (l : Fin 256) :
    out0_3 a b x (ix2 r ⟨l.val, by omega⟩) = k0_pay6 a b x (ix2 r l) := by
  unfold out0_3
  refine View.canon_eq_of_allAt _ _ _ (cover0_3 _ _ _) (View.allAt_cons_unit _ _ _ _ _ ?_ (View.allAt_cons_unit _ _ _ _ _ ?_ (View.allAt_nil _ _)))
  · intro i hi
    have h1 : l.val = 256 + (i 1).val := hi 1
    have := l.isLt
    omega
  · intro i hi
    have h0 : r.val = 0 + (i 0).val := hi 0
    have h1 : l.val = 0 + (i 1).val := hi 1
    have e : i = ix2 r l := by funext k; fin_cases k <;> exact Fin.ext (by first | (show (i 0).val = r.val; omega) | (show (i 1).val = l.val; omega))
    rw [e]
    simp (disch := decide) only [View.ld_unit_lit', View.readAt_eq_ld]
/-- the second on the right. -/
theorem out_right (a : Vec Ideal S4096x1024 .bf16) (b : Vec Ideal S256x1024 .bf16) (x : Vec Ideal S4096x512 .bf16) (r : Fin 4096) (l : Fin 256) :
    out0_3 a b x (ix2 r ⟨256 + l.val, by omega⟩) = k0_pay7 a b x (ix2 r l) := by
  unfold out0_3
  refine View.canon_eq_of_allAt _ _ _ (cover0_3 _ _ _) (View.allAt_cons_unit _ _ _ _ _ ?_ (View.allAt_cons_unit _ _ _ _ _ ?_ (View.allAt_nil _ _)))
  · intro i hi
    have h0 : r.val = 0 + (i 0).val := hi 0
    have h1 : 256 + l.val = 256 + (i 1).val := hi 1
    have e : i = ix2 r l := by funext k; fin_cases k <;> exact Fin.ext (by first | (show (i 0).val = r.val; omega) | (show (i 1).val = l.val; omega))
    rw [e]
    simp (disch := decide) only [View.ld_unit_lit', View.readAt_eq_ld]
  · intro i hi
    have h1 : 256 + l.val = 0 + (i 1).val := hi 1
    have h2 : (i 1).val < 256 := (i 1).isLt
    omega

variable (m : (ℓ : Loc nD τ sig) → Buf (Elt Ideal) ℓ) (c : Dev nD)

/-! ## The operands and their blocks -/

abbrev opY : Vec Ideal S16384x1024 .bf16 := V m c main_v8
abbrev opW : Vec Ideal S2816x1024 .bf16 := V m c main_v9
abbrev opX : Vec Ideal S16384x5632 .bf16 := V m c main_v7

abbrev xg : FVec Ideal S16384x2816 .f32 := m ((c.tc : Thread nD τ).loc main_arg0)
abbrev xu : FVec Ideal S16384x2816 .f32 := m ((c.tc : Thread nD τ).loc main_arg1)
abbrev xw : FVec Ideal S2816x1024 .f32 := m ((c.tc : Thread nD τ).loc main_arg2)
abbrev xy : FVec Ideal S16384x1024 .f32 := m ((c.tc : Thread nD τ).loc main_arg3)

theorem opY_eq : opY m c = xy m c := by
  show StableHlo.after hostOps0 _ _ = _
  simp only [hostOps0]
  after_results_simp <;> rfl
theorem opW_eq : opW m c = xw m c := by
  show StableHlo.after hostOps0 _ _ = _
  simp only [hostOps0]
  after_results_simp <;> rfl

/-- Two arrays side by side, 256 columns of each in turn. -/
def side (a b : S16384x2816.Idx → EReal) : S16384x5632.Idx → EReal :=
  sideV shapeCasts_S16384x2816_S16384x11x256 bcast_S16384x11x256_S16384x11x1x256_0_1_3
    concatenates_S16384x11x1x256_S16384x11x1x256_S16384x11x2x256_d2 shapeCasts_S16384x11x2x256_S16384x5632 a b

theorem side_left (a b : S16384x2816.Idx → EReal) (r : Fin 16384) (j : Fin 11) (l : Fin 256) : side a b (ix2 r (leftOf j l)) = a (ix2 r (colOf j l)) :=
  Cert.Halves.side_left _ _ _ _ _ _ r j l
theorem side_right (a b : S16384x2816.Idx → EReal) (r : Fin 16384) (j : Fin 11) (l : Fin 256) : side a b (ix2 r (rightOf j l)) = b (ix2 r (colOf j l)) :=
  Cert.Halves.side_right _ _ _ _ _ _ r j l

theorem opX_eq : opX m c = side (xg m c) (xu m c) := by
  show StableHlo.after hostOps0 _ _ = _
  simp only [hostOps0]
  after_results_simp <;> rfl

/-- The result's row a tile's row `r` is, the columns' number, and a column of the two arrays side by side. -/
def rowOf (t : Fin cfg0.N) (r : Fin 4096) : Fin 16384 := ⟨4096 * (t.val / 11) + r.val, by have := t.isLt; have : cfg0.N = 44 := N_0; omega⟩
def numOf (t : Fin cfg0.N) : Fin 11 := ⟨t.val % 11, by omega⟩
def wideOf (t : Fin cfg0.N) (s : Fin 512) : Fin 5632 := ⟨512 * (t.val % 11) + s.val, by omega⟩
theorem index_0 : ∀ t : Fin cfg0.N, win0_0.index t = ![t.val / 11, 0] := (by decide +kernel : ∀ t : Fin grid0.N, win0_0.index t = ![t.val / 11, 0])
theorem index_1 : ∀ t : Fin cfg0.N, win0_1.index t = ![t.val % 11, 0] := (by decide +kernel : ∀ t : Fin grid0.N, win0_1.index t = ![t.val % 11, 0])
theorem index_2 : ∀ t : Fin cfg0.N, win0_2.index t = ![t.val / 11, t.val % 11] := (by decide +kernel : ∀ t : Fin grid0.N, win0_2.index t = ![t.val / 11, t.val % 11])
theorem index_3 : ∀ t : Fin cfg0.N, win0_3.index t = ![t.val / 11, t.val % 11] := (by decide +kernel : ∀ t : Fin grid0.N, win0_3.index t = ![t.val / 11, t.val % 11])

/-- The blocks of the operands at a point. -/
abbrev blkY (t : Fin cfg0.N) : Vec Ideal S4096x1024 .bf16 := iblk m c 0 t
abbrev blkW (t : Fin cfg0.N) : Vec Ideal S256x1024 .bf16 := iblk m c 1 t
abbrev blkX (t : Fin cfg0.N) : Vec Ideal S4096x512 .bf16 := iblk m c 2 t

theorem blkY_at (t : Fin cfg0.N) (r : Fin 4096) (k : Fin 1024) : blkY m c t (ix2 r k) = opY m c (ix2 (rowOf t r) k) := by
  show iblk m c 0 t (ix2 r k) = _
  blk_simp [iblk, index_0]; blk_ext [index_0, rowOf]
theorem blkW_at (t : Fin cfg0.N) (l : Fin 256) (k : Fin 1024) : blkW m c t (ix2 l k) = opW m c (ix2 (colOf (numOf t) l) k) := by
  show iblk m c 1 t (ix2 l k) = _
  blk_simp [iblk, index_1]; blk_ext [index_1, colOf, numOf]
theorem blkX_at (t : Fin cfg0.N) (r : Fin 4096) (s : Fin 512) : blkX m c t (ix2 r s) = opX m c (ix2 (rowOf t r) (wideOf t s)) := by
  show iblk m c 2 t (ix2 r s) = _
  blk_simp [iblk, index_2]; blk_ext [index_2, rowOf, wideOf]

theorem blkX_left (t : Fin cfg0.N) (r : Fin 4096) (l : Fin 256) : blkX m c t (ix2 r ⟨l.val, by omega⟩) = xg m c (ix2 (rowOf t r) (colOf (numOf t) l)) := by
  rw [blkX_at, opX_eq]; exact side_left _ _ (rowOf t r) (numOf t) l
theorem blkX_right (t : Fin cfg0.N) (r : Fin 4096) (l : Fin 256) : blkX m c t (ix2 r ⟨256 + l.val, by omega⟩) = xu m c (ix2 (rowOf t r) (colOf (numOf t) l)) := by
  rw [blkX_at, opX_eq]; exact side_right _ _ (rowOf t r) (numOf t) l

/-! ## The gradients -/

/-- The gradient at the gated product, -/
def dAct (y : S16384x2816.Idx) : EReal := ∑ u : Fin 1024, xy m c (ix2 (y 0) u) * xw m c (ix2 (y 1) u)
/-- at the gate, -/
def dG (y : S16384x2816.Idx) : EReal := gradG (dAct m c y) (xg m c y) (xu m c y)
/-- and at the other factor. -/
def dU (y : S16384x2816.Idx) : EReal := gradU (dAct m c y) (xg m c y)

theorem block_at (t : Fin cfg0.N) (r : Fin 4096) (l : Fin 256) :
    (∑ k : Fin 1024, blkY m c t (ix2 r k) * blkW m c t (ix2 l k)) = dAct m c (ix2 (rowOf t r) (colOf (numOf t) l)) := by
  refine Finset.sum_congr rfl fun k _ => ?_
  rw [blkY_at, blkW_at, opY_eq, opW_eq]; rfl

theorem tile_left (t : Fin cfg0.N) (r : Fin 4096) (l : Fin 256) :
    out0_3 (blkY m c t) (blkW m c t) (blkX m c t) (ix2 r ⟨l.val, by omega⟩) = side (dG m c) (dU m c) (ix2 (rowOf t r) (wideOf t ⟨l.val, by omega⟩)) := by
  refine (out_left _ _ _ r l).trans ((pay6_at _ _ _ r l).trans ?_)
  rw [block_at, blkX_left, blkX_right]
  exact (side_left (dG m c) (dU m c) (rowOf t r) (numOf t) l).symm
theorem tile_right (t : Fin cfg0.N) (r : Fin 4096) (l : Fin 256) :
    out0_3 (blkY m c t) (blkW m c t) (blkX m c t) (ix2 r ⟨256 + l.val, by omega⟩) = side (dG m c) (dU m c) (ix2 (rowOf t r) (wideOf t ⟨256 + l.val, by omega⟩)) := by
  refine (out_right _ _ _ r l).trans ((pay7_at _ _ _ r l).trans ?_)
  rw [block_at, blkX_left]
  exact (side_right (dG m c) (dU m c) (rowOf t r) (numOf t) l).symm

theorem tile_at (t : Fin cfg0.N) (r : Fin 4096) (s : Fin 512) :
    out0_3 (blkY m c t) (blkW m c t) (blkX m c t) (ix2 r s) = side (dG m c) (dU m c) (ix2 (rowOf t r) (wideOf t s)) := by
  obtain ⟨l, rfl⟩ | ⟨l, rfl⟩ := Cert.Halves.half_split s
  · exact tile_left m c t r l
  · exact tile_right m c t r l

theorem final_3 : (dats m 0 c).arrAt 3 cfg0.N = side (dG m c) (dU m c) := by
  refine (dats m 0 c).arrAt_eq_of_covers 3 _ (by decide +kernel) fun t hf y => ?_
  blk_simp
  rw [after0_3]
  obtain ⟨r, s, rfl⟩ : ∃ (r : Fin 4096) (s : Fin 512), y = ix2 r s := ⟨y 0, y 1, by funext k; fin_cases k <;> rfl⟩
  refine (tile_at m c t r s).trans ?_
  have e : ((win0_3.blk t).view.emb (ix2 r s) : S16384x5632.Idx) = ix2 (rowOf t r) (wideOf t s) := by blk_ext [index_3, rowOf, wideOf]
  exact (congrArg (side (dG m c) (dU m c)) e).symm

/-! ## After the kernel: the two gradients apart -/

/-- The buffers when the kernel returns. -/
def left : Valuation τ sig (Elt Ideal) := Pipeline.withArrays (cfgs 0).spec c (V0 m c) fun w => (dats m 0 c).arrAt w (cfgs 0).N

theorem arrays_inj : Function.Injective (Pipeline.arrRef (cfgs 0).spec) := by
  show Function.Injective (Pipeline.arrRef spec0)
  decide

theorem left_side : left m c (Proc.devRef .tc main_v10) = side (dG m c) (dU m c) :=
  (Pipeline.withArrays_arr (cfgs 0).spec arrays_inj c (V0 m c) _ (3 : Fin cfg0.W)).trans (final_3 m c)

/-- The first of two arrays lying side by side, -/
def firstV (x : Vec Ideal S16384x5632 .bf16) : Vec Ideal S16384x2816 .bf16 :=
  leftV shapeCasts_S16384x5632_S16384x11x2x256 slices_S16384x11x2x256_S16384x11x1x256_0_0_0_0 shapeCasts_S16384x11x1x256_S16384x11x256 shapeCasts_S16384x11x256_S16384x2816 x
/-- and the second. -/
def secondV (x : Vec Ideal S16384x5632 .bf16) : Vec Ideal S16384x2816 .bf16 :=
  rightV shapeCasts_S16384x5632_S16384x11x2x256 slices_S16384x11x2x256_S16384x11x1x256_0_0_1_0 shapeCasts_S16384x11x1x256_S16384x11x256 shapeCasts_S16384x11x256_S16384x2816 x

theorem tail_first : Pipeline.afterTail₀ cfgs (dats m) 0 (V0 m) [hostOps1] c main_v14 = firstV (side (dG m c) (dU m c)) := by
  rw [← left_side]
  show StableHlo.after (List.flatten [hostOps1]) (left m c) (Proc.devRef .tc main_v14) = _
  simp only [hostOps1, List.flatten_cons, List.flatten_nil, List.append_nil, List.cons_append, List.nil_append]
  after_results_simp <;> rfl
theorem tail_second : Pipeline.afterTail₀ cfgs (dats m) 0 (V0 m) [hostOps1] c main_v17 = secondV (side (dG m c) (dU m c)) := by
  rw [← left_side]
  show StableHlo.after (List.flatten [hostOps1]) (left m c) (Proc.devRef .tc main_v17) = _
  simp only [hostOps1, List.flatten_cons, List.flatten_nil, List.append_nil, List.cons_append, List.nil_append]
  after_results_simp <;> rfl

theorem ext2 {α : Type} (x y : S16384x2816.Idx → α) (h : ∀ r j l, x (ix2 r (colOf j l)) = y (ix2 r (colOf j l))) : x = y := by
  funext i
  obtain ⟨j, l, e⟩ := Cert.Halves.col_split (i 1)
  have ei : i = ix2 (i 0) (colOf j l) := by rw [← e]; funext k; fin_cases k <;> rfl
  rw [ei]; exact h _ _ _

theorem first_eq (a b : S16384x2816.Idx → EReal) : firstV (side a b) = a :=
  ext2 _ _ fun r j l => (Cert.Halves.left_at _ _ _ _ _ r j l).trans (side_left a b r j l)
theorem second_eq (a b : S16384x2816.Idx → EReal) : secondV (side a b) = b :=
  ext2 _ _ fun r j l => (Cert.Halves.right_at _ _ _ _ _ r j l).trans (side_right a b r j l)

/-- The kernel's run: its two results and the arguments. -/
theorem run_value (ρ : Dev nD → PrngReg) : θ_run defs (onTc (τ := τ) (main (F := Ideal))) ⟨m, fun _ => 0, ρ⟩ (fun r => ∀ c : Dev nD,
      r.2.mem ((c.tc : Thread nD τ).loc main_v14) = dG m c
      ∧ r.2.mem ((c.tc : Thread nD τ).loc main_v17) = dU m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v14 (Pipeline.mem_restRefs_of main_v14 (by decide) (by decide))).trans ((tail_first m c).trans (first_eq _ _)),
      ((h c).2 main_v17 (Pipeline.mem_restRefs_of main_v17 (by decide) (by decide))).trans ((tail_second m c).trans (second_eq _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

/-! ## The reference -/

/-- One in every element. -/
abbrev ones : FVec Ideal S16384x2816 .f32 :=
  broadcastInDim S16384x2816 ![] Cert.Reference23Ideal.Gen.bcast_S_S16384x2816 (constant Cert.Reference23Ideal.S_ .f32 0x3F800000#32)
/-- The reference's gradient at the gated product, -/
abbrev refD (y : FVec Ideal S16384x1024 .f32) (w : FVec Ideal S2816x1024 .f32) : FVec Ideal S16384x2816 .f32 :=
  Host.dotGeneral Cert.Reference23Ideal.dot_S16384x1024_S2816x1024_S16384x2816_1_1_0_0_n_n none y w
/-- its logistic function, -/
def refS (g : FVec Ideal S16384x2816 .f32) : FVec Ideal S16384x2816 .f32 := Host.divf ones (addf ones (Host.exp (Host.negf g)))
/-- its gradient at the gate -/
def refDG (d g u : FVec Ideal S16384x2816 .f32) : FVec Ideal S16384x2816 .f32 :=
  addf (mulf (mulf d u) (refS g)) (mulf (mulf g (mulf d u)) (mulf (refS g) (subf ones (refS g))))
/-- and at the other factor, -/
def refDU (d g : FVec Ideal S16384x2816 .f32) : FVec Ideal S16384x2816 .f32 := mulf (mulf g (refS g)) d

/-- at an element. -/
theorem refD_at (y : FVec Ideal S16384x1024 .f32) (w : FVec Ideal S2816x1024 .f32) (r : Fin 16384) (s : Fin 2816) :
    refD y w (ix2 r s) = ∑ u : Fin 1024, y (ix2 r u) * w (ix2 s u) := by
  pointwise [refD]
theorem refS_at (g : FVec Ideal S16384x2816 .f32) (r : Fin 16384) (s : Fin 2816) : refS g (ix2 r s) = sig1 (g (ix2 r s)) := by
  unfold sig1
  pointwise [refS, ones]
theorem refDG_at (d g u : FVec Ideal S16384x2816 .f32) (r : Fin 16384) (s : Fin 2816) :
    refDG d g u (ix2 r s) = refG (d (ix2 r s)) (g (ix2 r s)) (u (ix2 r s)) := by
  unfold refG
  rw [← refS_at]
  pointwise [refDG, ones]
theorem refDU_at (d g : FVec Ideal S16384x2816 .f32) (r : Fin 16384) (s : Fin 2816) :
    refDU d g (ix2 r s) = gradU (d (ix2 r s)) (g (ix2 r s)) := by
  unfold gradU
  rw [← refS_at, mul_comm]
  pointwise [refDU]

theorem refD_eq : refD (xy m c) (xw m c) = dAct m c := ext2 _ _ fun r j l => refD_at _ _ r _
theorem refDU_eq : refDU (dAct m c) (xg m c) = dU m c := ext2 _ _ fun r j l => refDU_at _ _ r _

section
variable {m c}
/-- Every argument but the gate is a real number in every element. -/
structure Reals : Prop where
  u : ∀ r s, xu m c (ix2 r s) = (((xu m c (ix2 r s) : EReal).toReal : ℝ) : EReal)
  w : ∀ r s, xw m c (ix2 r s) = (((xw m c (ix2 r s) : EReal).toReal : ℝ) : EReal)
  y : ∀ r s, xy m c (ix2 r s) = (((xy m c (ix2 r s) : EReal).toReal : ℝ) : EReal)

theorem reals_of (H : Cert.Pre_finite23.fn (F := Ideal) (xg m c) (xu m c) (xw m c) (xy m c) = fun _ => 1#1) : Reals (m := m) (c := c) := by
  obtain ⟨h1, h2, h3⟩ := Cert.Pre_finite23.DAct.fn_bit _ _ _ _ H
  exact ⟨fun r s => Cert.Pre_finite23.DAct.below_u _ r s (h1 _),
    fun r s => Cert.Pre_finite23.DAct.below_w _ r s (h2 _), fun r s => Cert.Pre_finite23.DAct.below_y _ r s (h3 _)⟩

/-- The gradient at the gated product is a real number. -/
theorem Reals.d (H : Reals (m := m) (c := c)) (r : Fin 16384) (s : Fin 2816) : ∃ d : ℝ, dAct m c (ix2 r s) = (d : EReal) := by
  refine ⟨∑ u : Fin 1024, (xy m c (ix2 r u) : EReal).toReal * (xw m c (ix2 s u) : EReal).toReal, ?_⟩
  rw [Cert.Grad.coe_sum]
  refine Finset.sum_congr rfl fun u _ => ?_
  rw [EReal.coe_mul, ← H.y, ← H.w]; rfl

theorem refDG_eq (H : Reals (m := m) (c := c)) : refDG (dAct m c) (xg m c) (xu m c) = dG m c := by
  refine ext2 _ _ fun r j l => (refDG_at _ _ _ r _).trans ?_
  obtain ⟨d, hd⟩ := H.d r (colOf j l)
  show _ = gradG (dAct m c (ix2 r (colOf j l))) (xg m c (ix2 r (colOf j l))) (xu m c (ix2 r (colOf j l)))
  rw [hd, H.u]
  exact (gradG_real _ _ _).symm
end

/-! ## The claims -/

theorem frame_printed : Cert.quiescent_Kernel23 := fun m ρ _ => Cert.Kernel23.Gen.frame (F := Bits) m ρ
theorem frame_ideal : Cert.quiescent_Kernel23Ideal := fun m ρ _ => Cert.Kernel23Ideal.Gen.frame (F := Ideal) m ρ
theorem frame_ideal_finite : Cert.quiescent_Kernel23Ideal_pre_finite23 := fun m ρ _ => Cert.Kernel23Ideal.Gen.frame (F := Ideal) m ρ
theorem frame_reference : Cert.quiescent_Reference23Ideal := fun m ρ _ =>
  (θ_run Cert.Reference23Ideal.defs _ _).mono (fun r h => ⟨fun c => (h c).2.2, Idealize.ShloMosaic.sem_eq_zero_of_no_sems rfl r.2⟩)
    (Cert.Reference23Ideal.Value.run (F := Ideal) m ρ)
theorem frame_reference_finite : Cert.quiescent_Reference23Ideal_pre_finite23 := fun m ρ _ => frame_reference m ρ trivial

theorem algebraic : Cert.algebraic_Kernel23Ideal_Reference23Ideal_pre_finite23 := by
  intro m ρ m' ρ' hp hm
  refine ⟨fun c => dG m c, fun c => dU m c, run_value m ρ,
    (θ_run Cert.Reference23Ideal.defs _ _).mono (fun r h c => ?_) (Cert.Reference23Ideal.Value.run (F := Ideal) m' ρ')⟩
  obtain ⟨h0, h1, hargs⟩ := h c
  obtain ⟨e0, e1, e2, e3⟩ := hm c
  refine ⟨h0.trans ?_, h1.trans ?_, hargs⟩
  · rw [e0, e1, e2, e3]
    show refDG (refD (xy m c) (xw m c)) (xg m c) (xu m c) = _
    rw [refD_eq]
    exact refDG_eq (reals_of (hp c))
  · rw [e0, e2, e3]
    show refDU (refD (xy m c) (xw m c)) (xg m c) = _
    rw [refD_eq]
    exact refDU_eq m c

end Cert.Kernel23Ideal.DAct

end
-- ==== Proof.GateUp.lean ====
/-
  The feed-forward layer's first call: both products and the gated product, in one pass over the weights lying side by side.

  A point multiplies 4096 rows of the input by 256 columns of the gate's weight and the same 256 columns of the other weight.
  It writes both products side by side and the gated product of the two halves.
  The host takes the two products apart again, so each is the whole product of the input and its own weight.
-/
module

public import proofs.«01_k».proof.Defs
public import proofs.«01_k».proof.Proof.Halves
public import proofs.«01_k».proof.Proof.Gen.Kernel24.Frame
public import proofs.«01_k».proof.Proof.Gen.Kernel24Ideal.Frame
public import proofs.«01_k».proof.Proof.Gen.Reference24Ideal.Run
public import Idealize.ShloMosaic.Lib.Pointwise
public import Idealize.ShloMosaic.Lib.Pipeline.ValueKit.Geometry
public import Idealize.ShloMosaic.Lib.Pipeline.ValueKit.Acc
public import Idealize.ShloMosaic.Lib.StableHlo.ReadAt
public import Idealize.ShloMosaic.Lib.StableHlo.RunClose

@[expose] public section

set_option maxRecDepth 16384

noncomputable section

namespace Cert.Kernel24Ideal.GateUp

open Cert.Kernel24Ideal Cert.Kernel24Ideal.Gen
open Cert.Halves (colOf leftOf rightOf sideV leftV rightV)
open Idealize.ShloMosaic Idealize.ShloMosaic.TcCoe Idealize.ShloMosaic.Tactic
open Idealize.SL.Sem
open Idealize.ShloMosaic.Pipeline (Dat BodyObligation)

/-! ## One point -/

/-- The gated product of two numbers. -/
def gated (g u : EReal) : EReal := g * Ideal.div 1 (1 + Ideal.exp (-g)) * u

theorem mul_at (a : Vec Ideal S4096x1024 .bf16) (b : Vec Ideal S1024x512 .bf16) (r : Fin 4096) (s : Fin 512) :
    k0_pay1 a b (ix2 r s) = ∑ k : Fin 1024, a (ix2 r k) * b (ix2 k s) := by
  pointwise [k0_pay1]

theorem mul2_at (a : Vec Ideal S4096x1024 .bf16) (b : Vec Ideal S1024x512 .bf16) (r : Fin 4096) (s : Fin 512) :
    k0_pay2 a b (ix2 r s) = ∑ k : Fin 1024, a (ix2 r k) * b (ix2 k s) := by
  refine Eq.trans ?_ (mul_at a b r s)
  pointwise [k0_pay2]

theorem act_at (a : Vec Ideal S4096x1024 .bf16) (b : Vec Ideal S1024x512 .bf16) (r : Fin 4096) (l : Fin 256) :
    k0_pay3 a b (ix2 r l) = gated (∑ k : Fin 1024, a (ix2 r k) * b (ix2 k ⟨l.val, by omega⟩)) (∑ k : Fin 1024, a (ix2 r k) * b (ix2 k ⟨256 + l.val, by omega⟩)) := by
  rw [← mul_at, ← mul_at]
  unfold gated
  pointwise [k0_pay3]
  rw [zero_sub]

variable (m : (ℓ : Loc nD τ sig) → Buf (Elt Ideal) ℓ) (c : Dev nD)

/-! ## The operands and their blocks -/

abbrev opA : Vec Ideal S16384x1024 .bf16 := V m c main_v0
abbrev opB : Vec Ideal S1024x5632 .bf16 := V m c main_v8

abbrev x0 : FVec Ideal S16384x1024 .f32 := m ((c.tc : Thread nD τ).loc main_arg0)
abbrev x1 : FVec Ideal S1024x2816 .f32 := m ((c.tc : Thread nD τ).loc main_arg1)
abbrev x2 : FVec Ideal S1024x2816 .f32 := m ((c.tc : Thread nD τ).loc main_arg2)

theorem opA_eq : opA m c = x0 m c := by
  show StableHlo.after hostOps0 _ _ = _
  simp only [hostOps0]
  after_results_simp <;> rfl

theorem opB_eq : opB m c = sideV shapeCasts_S1024x2816_S1024x11x256 bcast_S1024x11x256_S1024x11x1x256_0_1_3
    concatenates_S1024x11x1x256_S1024x11x1x256_S1024x11x2x256_d2 shapeCasts_S1024x11x2x256_S1024x5632 (x1 m c) (x2 m c) := by
  show StableHlo.after hostOps0 _ _ = _
  simp only [hostOps0]
  after_results_simp <;> rfl

theorem opB_left (u : Fin 1024) (j : Fin 11) (l : Fin 256) : opB m c (ix2 u (leftOf j l)) = x1 m c (ix2 u (colOf j l)) := by
  rw [opB_eq]; exact Cert.Halves.side_left _ _ _ _ _ _ u j l
theorem opB_right (u : Fin 1024) (j : Fin 11) (l : Fin 256) : opB m c (ix2 u (rightOf j l)) = x2 m c (ix2 u (colOf j l)) := by
  rw [opB_eq]; exact Cert.Halves.side_right _ _ _ _ _ _ u j l

/-- The result's row a tile's row `r` is, the columns' number, and a column of the two arrays side by side. -/
def rowOf (t : Fin cfg0.N) (r : Fin 4096) : Fin 16384 := ⟨4096 * (t.val / 11) + r.val, by have := t.isLt; have : cfg0.N = 44 := N_0; omega⟩
def numOf (t : Fin cfg0.N) : Fin 11 := ⟨t.val % 11, by omega⟩
def wideOf (t : Fin cfg0.N) (s : Fin 512) : Fin 5632 := ⟨512 * (t.val % 11) + s.val, by omega⟩
theorem index_0 : ∀ t : Fin cfg0.N, win0_0.index t = ![t.val / 11, 0] := (by decide +kernel : ∀ t : Fin grid0.N, win0_0.index t = ![t.val / 11, 0])
theorem index_1 : ∀ t : Fin cfg0.N, win0_1.index t = ![0, t.val % 11] := (by decide +kernel : ∀ t : Fin grid0.N, win0_1.index t = ![0, t.val % 11])
theorem index_2 : ∀ t : Fin cfg0.N, win0_2.index t = ![t.val / 11, t.val % 11] := (by decide +kernel : ∀ t : Fin grid0.N, win0_2.index t = ![t.val / 11, t.val % 11])
theorem index_3 : ∀ t : Fin cfg0.N, win0_3.index t = ![t.val / 11, t.val % 11] := (by decide +kernel : ∀ t : Fin grid0.N, win0_3.index t = ![t.val / 11, t.val % 11])

theorem iblk0_at (t : Fin cfg0.N) (r : Fin 4096) (k : Fin 1024) :
    iblk m c 0 t (ix2 r k) = opA m c (ix2 (rowOf t r) k) := by
  blk_simp [iblk, index_0]; blk_ext [index_0, rowOf]
theorem iblk1_at (t : Fin cfg0.N) (s : Fin 512) (k : Fin 1024) :
    iblk m c 1 t (ix2 k s) = opB m c (ix2 k (wideOf t s)) := by
  blk_simp [iblk, index_1]; blk_ext [index_1, wideOf]

/-! ## The sums -/

/-- Both products, side by side. -/
def wide (y : S16384x5632.Idx) : EReal := ∑ u : Fin 1024, opA m c (ix2 (y 0) u) * opB m c (ix2 u (y 1))
/-- The product with the gate's weight, -/
def prodG (y : S16384x2816.Idx) : EReal := ∑ u : Fin 1024, x0 m c (ix2 (y 0) u) * x1 m c (ix2 u (y 1))
/-- with the other weight, -/
def prodU (y : S16384x2816.Idx) : EReal := ∑ u : Fin 1024, x0 m c (ix2 (y 0) u) * x2 m c (ix2 u (y 1))
/-- and the gated product. -/
def act (y : S16384x2816.Idx) : EReal := gated (prodG m c y) (prodU m c y)

theorem wide_left (r : Fin 16384) (j : Fin 11) (l : Fin 256) : wide m c (ix2 r (leftOf j l)) = prodG m c (ix2 r (colOf j l)) := by
  refine Finset.sum_congr rfl fun u _ => ?_
  show opA m c (ix2 r u) * opB m c (ix2 u (leftOf j l)) = _
  rw [opB_left, opA_eq]; rfl
theorem wide_right (r : Fin 16384) (j : Fin 11) (l : Fin 256) : wide m c (ix2 r (rightOf j l)) = prodU m c (ix2 r (colOf j l)) := by
  refine Finset.sum_congr rfl fun u _ => ?_
  show opA m c (ix2 r u) * opB m c (ix2 u (rightOf j l)) = _
  rw [opB_right, opA_eq]; rfl

/-- The blocks of the operands at a point. -/
abbrev blkA (t : Fin cfg0.N) : Vec Ideal S4096x1024 .bf16 := iblk m c 0 t
abbrev blkB (t : Fin cfg0.N) : Vec Ideal S1024x512 .bf16 := iblk m c 1 t

theorem block_at (t : Fin cfg0.N) (r : Fin 4096) (s : Fin 512) :
    (∑ k : Fin 1024, blkA m c t (ix2 r k) * blkB m c t (ix2 k s)) = wide m c (ix2 (rowOf t r) (wideOf t s)) := by
  refine Finset.sum_congr rfl fun k _ => ?_
  rw [show blkA m c t (ix2 r k) = _ from iblk0_at m c t r k, show blkB m c t (ix2 k s) = _ from iblk1_at m c t s k]; rfl

theorem tile_at (t : Fin cfg0.N) (r : Fin 4096) (s : Fin 512) :
    k0_pay2 (blkA m c t) (blkB m c t) (ix2 r s) = wide m c (ix2 (rowOf t r) (wideOf t s)) :=
  (mul2_at _ _ r s).trans (block_at m c t r s)

theorem act_tile_at (t : Fin cfg0.N) (r : Fin 4096) (l : Fin 256) :
    k0_pay3 (blkA m c t) (blkB m c t) (ix2 r l) = act m c (ix2 (rowOf t r) (colOf (numOf t) l)) := by
  refine (act_at _ _ r l).trans ?_
  rw [block_at, block_at]
  have eg : wide m c (ix2 (rowOf t r) (wideOf t ⟨l.val, by omega⟩)) = prodG m c (ix2 (rowOf t r) (colOf (numOf t) l)) := wide_left m c (rowOf t r) (numOf t) l
  have eu : wide m c (ix2 (rowOf t r) (wideOf t ⟨256 + l.val, by omega⟩)) = prodU m c (ix2 (rowOf t r) (colOf (numOf t) l)) := wide_right m c (rowOf t r) (numOf t) l
  rw [eg, eu]; rfl

theorem out2_at (t : Fin cfg0.N) : out0_2 (iblk m c 0 t) (iblk m c 1 t) = k0_pay2 (iblk m c 0 t) (iblk m c 1 t) := by
  frame_out
theorem out3_at (t : Fin cfg0.N) : out0_3 (iblk m c 0 t) (iblk m c 1 t) = k0_pay3 (iblk m c 0 t) (iblk m c 1 t) := by
  frame_out

theorem final_2 : (dats m 0 c).arrAt 2 cfg0.N = wide m c := by
  refine (dats m 0 c).arrAt_eq_of_covers 2 _ (by decide +kernel) fun t hf y => ?_
  blk_simp
  rw [after0_2]
  obtain ⟨r, s, rfl⟩ : ∃ (r : Fin 4096) (s : Fin 512), y = ix2 r s := ⟨y 0, y 1, by funext k; fin_cases k <;> rfl⟩
  refine (congrFun (out2_at m c t) _).trans ((tile_at m c t r s).trans ?_)
  have e : ((win0_2.blk t).view.emb (ix2 r s) : S16384x5632.Idx) = ix2 (rowOf t r) (wideOf t s) := by blk_ext [index_2, rowOf, wideOf]
  exact (congrArg (wide m c) e).symm

theorem final_3 : (dats m 0 c).arrAt 3 cfg0.N = act m c := by
  refine (dats m 0 c).arrAt_eq_of_covers 3 _ (by decide +kernel) fun t hf y => ?_
  blk_simp
  rw [after0_3]
  obtain ⟨r, s, rfl⟩ : ∃ (r : Fin 4096) (s : Fin 256), y = ix2 r s := ⟨y 0, y 1, by funext k; fin_cases k <;> rfl⟩
  refine (congrFun (out3_at m c t) _).trans ((act_tile_at m c t r s).trans ?_)
  have e : ((win0_3.blk t).view.emb (ix2 r s) : S16384x2816.Idx) = ix2 (rowOf t r) (colOf (numOf t) s) := by blk_ext [index_3, rowOf, colOf, numOf]
  exact (congrArg (act m c) e).symm

/-! ## After the kernel: the two products apart -/

/-- The buffers when the kernel returns. -/
def left : Valuation τ sig (Elt Ideal) := Pipeline.withArrays (cfgs 0).spec c (V0 m c) fun w => (dats m 0 c).arrAt w (cfgs 0).N

theorem arrays_inj : Function.Injective (Pipeline.arrRef (cfgs 0).spec) := by
  show Function.Injective (Pipeline.arrRef spec0)
  decide

theorem left_wide : left m c (Proc.devRef .tc main_v9_0) = wide m c :=
  (Pipeline.withArrays_arr (cfgs 0).spec arrays_inj c (V0 m c) _ (2 : Fin cfg0.W)).trans (final_2 m c)

/-- The first of the two products, -/
def firstV (x : Vec Ideal S16384x5632 .bf16) : Vec Ideal S16384x2816 .bf16 :=
  leftV shapeCasts_S16384x5632_S16384x11x2x256 slices_S16384x11x2x256_S16384x11x1x256_0_0_0_0 shapeCasts_S16384x11x1x256_S16384x11x256 shapeCasts_S16384x11x256_S16384x2816 x
/-- and the second. -/
def secondV (x : Vec Ideal S16384x5632 .bf16) : Vec Ideal S16384x2816 .bf16 :=
  rightV shapeCasts_S16384x5632_S16384x11x2x256 slices_S16384x11x2x256_S16384x11x1x256_0_0_1_0 shapeCasts_S16384x11x1x256_S16384x11x256 shapeCasts_S16384x11x256_S16384x2816 x

theorem tail_first : Pipeline.afterTail₀ cfgs (dats m) 0 (V0 m) [hostOps1] c main_v13 = firstV (wide m c) := by
  rw [← left_wide]
  show StableHlo.after (List.flatten [hostOps1]) (left m c) (Proc.devRef .tc main_v13) = _
  simp only [hostOps1, List.flatten_cons, List.flatten_nil, List.append_nil, List.cons_append, List.nil_append]
  after_results_simp <;> rfl
theorem tail_second : Pipeline.afterTail₀ cfgs (dats m) 0 (V0 m) [hostOps1] c main_v16 = secondV (wide m c) := by
  rw [← left_wide]
  show StableHlo.after (List.flatten [hostOps1]) (left m c) (Proc.devRef .tc main_v16) = _
  simp only [hostOps1, List.flatten_cons, List.flatten_nil, List.append_nil, List.cons_append, List.nil_append]
  after_results_simp <;> rfl

theorem ext2 {α : Type} (x y : S16384x2816.Idx → α) (h : ∀ r j l, x (ix2 r (colOf j l)) = y (ix2 r (colOf j l))) : x = y := by
  funext i
  obtain ⟨j, l, e⟩ := Cert.Halves.col_split (i 1)
  have ei : i = ix2 (i 0) (colOf j l) := by rw [← e]; funext k; fin_cases k <;> rfl
  rw [ei]; exact h _ _ _

theorem first_eq : firstV (wide m c) = prodG m c :=
  ext2 _ _ fun r j l => (Cert.Halves.left_at _ _ _ _ _ r j l).trans (wide_left m c r j l)
theorem second_eq : secondV (wide m c) = prodU m c :=
  ext2 _ _ fun r j l => (Cert.Halves.right_at _ _ _ _ _ r j l).trans (wide_right m c r j l)

/-- The kernel's run: its three results and the arguments. -/
theorem run_value (ρ : Dev nD → PrngReg) : θ_run defs (onTc (τ := τ) (main (F := Ideal))) ⟨m, fun _ => 0, ρ⟩ (fun r => ∀ c : Dev nD,
      r.2.mem ((c.tc : Thread nD τ).loc main_v13) = prodG m c
      ∧ r.2.mem ((c.tc : Thread nD τ).loc main_v16) = prodU m c
      ∧ r.2.mem ((c.tc : Thread nD τ).loc main_v9_1) = act m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h c).2 main_v13 (Pipeline.mem_restRefs_of main_v13 (by decide) (by decide))).trans ((tail_first m c).trans (first_eq m c)),
      ((h c).2 main_v16 (Pipeline.mem_restRefs_of main_v16 (by decide) (by decide))).trans ((tail_second m c).trans (second_eq m c)),
      ((h c).1 3).trans (final_3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

/-! ## The reference -/

/-- The reference's product, -/
abbrev refP (x : FVec Ideal S16384x1024 .f32) (y : FVec Ideal S1024x2816 .f32) : FVec Ideal S16384x2816 .f32 :=
  Host.dotGeneral Cert.Reference24Ideal.dot_S16384x1024_S1024x2816_S16384x2816_1_0_0_1_n_n none x y
/-- its gated product of two arrays, -/
def refGated (g u : FVec Ideal S16384x2816 .f32) : FVec Ideal S16384x2816 .f32 :=
  mulf (mulf g (Host.divf (broadcastInDim S16384x2816 ![] Cert.Reference24Ideal.Gen.bcast_S_S16384x2816 (constant Cert.Reference24Ideal.S_ .f32 0x3F800000#32))
    (addf (broadcastInDim S16384x2816 ![] Cert.Reference24Ideal.Gen.bcast_S_S16384x2816 (constant Cert.Reference24Ideal.S_ .f32 0x3F800000#32)) (Host.exp (Host.negf g))))) u

/-- at an element. -/
theorem refP_at (x : FVec Ideal S16384x1024 .f32) (y : FVec Ideal S1024x2816 .f32) (r : Fin 16384) (s : Fin 2816) :
    refP x y (ix2 r s) = ∑ u : Fin 1024, x (ix2 r u) * y (ix2 u s) := by
  pointwise [refP]
theorem refGated_at (g u : FVec Ideal S16384x2816 .f32) (r : Fin 16384) (s : Fin 2816) :
    refGated g u (ix2 r s) = gated (g (ix2 r s)) (u (ix2 r s)) := by
  unfold gated
  pointwise [refGated]

theorem refP_G : refP (x0 m c) (x1 m c) = prodG m c := ext2 _ _ fun r j l => refP_at _ _ r _
theorem refP_U : refP (x0 m c) (x2 m c) = prodU m c := ext2 _ _ fun r j l => refP_at _ _ r _
theorem refGated_eq : refGated (prodG m c) (prodU m c) = act m c := ext2 _ _ fun r j l => refGated_at _ _ r _

/-! ## The claims -/

theorem frame_printed : Cert.quiescent_Kernel24 := fun m ρ _ => Cert.Kernel24.Gen.frame (F := Bits) m ρ
theorem frame_ideal : Cert.quiescent_Kernel24Ideal := fun m ρ _ => Cert.Kernel24Ideal.Gen.frame (F := Ideal) m ρ
theorem frame_reference : Cert.quiescent_Reference24Ideal := fun m ρ _ =>
  (θ_run Cert.Reference24Ideal.defs _ _).mono (fun r h => ⟨fun c => (h c).2.2.2, Idealize.ShloMosaic.sem_eq_zero_of_no_sems rfl r.2⟩)
    (Cert.Reference24Ideal.Value.run (F := Ideal) m ρ)

theorem algebraic : Cert.algebraic_Kernel24Ideal_Reference24Ideal := by
  intro m ρ m' ρ' _ hm
  refine ⟨fun c => prodG m c, fun c => prodU m c, fun c => act m c, run_value m ρ,
    (θ_run Cert.Reference24Ideal.defs _ _).mono (fun r h c => ?_) (Cert.Reference24Ideal.Value.run (F := Ideal) m' ρ')⟩
  obtain ⟨h0, h1, h2, hargs⟩ := h c
  obtain ⟨e0, e1, e2⟩ := hm c
  refine ⟨h0.trans ?_, h1.trans ?_, h2.trans ?_, hargs⟩
  · rw [e0, e1]
    exact refP_G m c
  · rw [e0, e2]
    exact refP_U m c
  · rw [e0, e1, e2]
    show refGated (refP (x0 m c) (x1 m c)) (refP (x0 m c) (x2 m c)) = _
    rw [refP_G, refP_U]
    exact refGated_eq m c

end Cert.Kernel24Ideal.GateUp

end
-- ==== Proof.Fwd.Host.lean ====
/-
  The forward kernel's three operands as functions of the arguments, and each read at one element over the real numbers.

  The queries' columns carry eights where the keys' rows carry the gate's three parts, so that one product gives the
  scores and subtracts the gate; the values' columns carry sixteen rows of ones, so that the same product that weights
  the values sums the weights.
-/
module

public import proofs.«01_k».proof.Proof.Gen.Kernel25Ideal.Frame
public import proofs.«01_k».proof.Proof.Real

@[expose] public section

set_option maxRecDepth 16384

noncomputable section

namespace Cert.Kernel25Ideal.Fwd

open Cert.Kernel25Ideal Cert.Kernel25Ideal.Gen
open Idealize.ShloMosaic Idealize.ShloMosaic.TcCoe Idealize.ShloMosaic.Tactic

abbrev A3 := FVec Ideal S8x16384x64 .f32
abbrev A2 := FVec Ideal S8x16384 .f32

/-- A number's leading part, what that leaves, and what both leave. -/
def hiV (x : A2) : A2 := extf .f32 (truncf .bf16 x bitsLt_bf16_f32) bitsLt_bf16_f32
def midV (x : A2) : A2 := extf .f32 (truncf .bf16 (subf x (hiV x)) bitsLt_bf16_f32) bitsLt_bf16_f32
def loV (x : A2) : A2 := extf .f32 (truncf .bf16 (subf (subf x (hiV x)) (midV x)) bitsLt_bf16_f32) bitsLt_bf16_f32

def laneV (x : FVec Ideal S8x16384 .bf16) : FVec Ideal S8x16384x1 .bf16 := broadcastInDim S8x16384x1 ![0, 1] bcast_S8x16384_S8x16384x1_0_1 x
def rowV (x : FVec Ideal S8x16384 .bf16) : FVec Ideal S8x1x16384 .bf16 := broadcastInDim S8x1x16384 ![0, 2] bcast_S8x16384_S8x1x16384_0_2 x
def oneV : FVec Ideal S8x16384 .bf16 := broadcastInDim S8x16384 ![] bcast_S_S8x16384 (constant S_ .bf16 0x3F80#16)
def eightV : FVec Ideal S8x16384 .bf16 := broadcastInDim S8x16384 ![] bcast_S_S8x16384 (constant S_ .bf16 0x4100#16)
def zeroV : FVec Ideal S_ .bf16 := sitofp .bf16 (constantI S_ 32 0#32)
def lowV (x : A2) : FVec Ideal S8x16384 .bf16 := truncf .bf16 x bitsLt_bf16_f32

/-- The queries' columns, -/
def qaV (q : A3) : FVec Ideal S8x128x16384 .bf16 :=
  concatenate S8x128x16384 1 [⟨S8x64x16384, transpose S8x64x16384 [0, 2, 1] (truncf .bf16 q bitsLt_bf16_f32) transposes_S8x16384x64_S8x64x16384_0_2_1⟩,
    ⟨S8x64x16384, pad S8x64x16384 ![0, 0, 0] ![0, 61, 0] ![0, 0, 0]
      (concatenate S8x3x16384 1 [⟨S8x1x16384, rowV eightV⟩, ⟨S8x1x16384, rowV eightV⟩, ⟨S8x1x16384, rowV eightV⟩] concatenates_S8x1x16384_S8x1x16384_S8x1x16384_S8x3x16384_d1)
      zeroV pads_S8x3x16384_S8x64x16384_000_0610_000 h_S_⟩] concatenates_S8x64x16384_S8x64x16384_S8x128x16384_d1
/-- the keys' rows, -/
def kaV (k : A3) (cc : A2) : FVec Ideal S8x16384x128 .bf16 :=
  concatenate S8x16384x128 2 [⟨S8x16384x64, truncf .bf16 k bitsLt_bf16_f32⟩,
    ⟨S8x16384x64, pad S8x16384x64 ![0, 0, 0] ![0, 0, 58] ![0, 0, 0]
      (concatenate S8x16384x6 2 [⟨S8x16384x1, laneV (lowV (hiV (Host.negf cc)))⟩, ⟨S8x16384x1, laneV (lowV (midV (Host.negf cc)))⟩,
        ⟨S8x16384x1, laneV (lowV (loV (Host.negf cc)))⟩, ⟨S8x16384x1, laneV oneV⟩, ⟨S8x16384x1, laneV oneV⟩, ⟨S8x16384x1, laneV oneV⟩]
        concatenates_S8x16384x1_S8x16384x1_S8x16384x1_S8x16384x1_S8x16384x1_S8x16384x1_S8x16384x6_d2)
      zeroV pads_S8x16384x6_S8x16384x64_000_000_0580 h_S_⟩] concatenates_S8x16384x64_S8x16384x64_S8x16384x128_d2
/-- and the values' columns with the ones. -/
def vtV (v : A3) : FVec Ideal S8x80x16384 .bf16 :=
  concatenate S8x80x16384 1 [⟨S8x64x16384, transpose S8x64x16384 [0, 2, 1] (truncf .bf16 v bitsLt_bf16_f32) transposes_S8x16384x64_S8x64x16384_0_2_1⟩,
    ⟨S8x16x16384, broadcastInDim S8x16x16384 ![] bcast_S_S8x16x16384 (constant S_ .bf16 0x3F80#16)⟩] concatenates_S8x64x16384_S8x16x16384_S8x80x16384_d1

/-! ## The buffers hold them -/

variable (m : (ℓ : Loc nD τ sig) → Buf (Elt Ideal) ℓ) (c : Dev nD)

abbrev a0 : A3 := m ((c.tc : Thread nD τ).loc main_arg0)
abbrev a1 : A3 := m ((c.tc : Thread nD τ).loc main_arg1)
abbrev a2 : A3 := m ((c.tc : Thread nD τ).loc main_arg2)
abbrev a3 : A2 := m ((c.tc : Thread nD τ).loc main_arg3)

theorem V_qa : V m c main_v32 = qaV (a0 m c) := by
  show StableHlo.after (List.flatten _) _ _ = _
  simp only [hostOps0, hostOps0_1, hostOps0_2, hostOps0_3, hostOps0_4,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl
theorem V_ka : V m c main_v24 = kaV (a1 m c) (a3 m c) := by
  show StableHlo.after (List.flatten _) _ _ = _
  simp only [hostOps0, hostOps0_1, hostOps0_2, hostOps0_3, hostOps0_4,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl
theorem V_vt : V m c main_v36 = vtV (a2 m c) := by
  show StableHlo.after (List.flatten _) _ _ = _
  simp only [hostOps0, hostOps0_1, hostOps0_2, hostOps0_3, hostOps0_4,
    List.flatten_cons, List.flatten_nil, List.append_nil, List.cons_append, List.nil_append,
    StableHlo.TRef.nullary, StableHlo.TRef.ternary, StableHlo.TRef.unary, StableHlo.TRef.binary, StableHlo.TRef.toBuf, StableHlo.TRef.ofBuf, cast_eq]
  after_results_simp <;> rfl

/-! ## Read at one element -/

theorem word_zero : FloatOps.sitofp (F := Ideal) FTy.bf16 0#32 = ((0 : ℝ) : EReal) := by
  show ((_ : ℝ) : EReal) = _
  norm_num
theorem ofBits_eight : Ideal.ofBits .bf16 0x4100#16 = ((8 : ℝ) : EReal) := by
  simp [Ideal.ofBits, Ideal.ieee, -EReal.coe_mul]; norm_num

variable (q k v : A3) (cc : A2) (qr kr vr : Grad.R3) (g : Grad.R2)

theorem kaV_at (hk : ∀ h t d, k (ix3 h t d) = ((kr h t d : ℝ) : EReal)) (hc : ∀ h t, cc (ix2 h t) = ((g h t : ℝ) : EReal))
    (h : Fin 8) (s : Fin 16384) (d : Fin 128) :
    kaV k cc (ix3 h s d) = ((if hd : d.val < 64 then kr h s ⟨d.val, hd⟩ else if d.val = 64 then -(g h s) else if d.val < 67 then 0 else if d.val < 70 then 1 else 0 : ℝ) : EReal) := by
  pointwise [kaV, laneV, lowV, hiV, midV, loV, oneV, zeroV]
  simp only [hk, hc, word_zero, ← EReal.coe_neg, ← EReal.coe_sub, ← EReal.coe_one, sub_self]
  split_ifs <;> first | rfl | (exfalso; omega)

theorem qaV_at (hq : ∀ h t d, q (ix3 h t d) = ((qr h t d : ℝ) : EReal)) (h : Fin 8) (d : Fin 128) (t : Fin 16384) :
    qaV q (ix3 h d t) = ((if hd : d.val < 64 then qr h t ⟨d.val, hd⟩ else if d.val < 67 then 8 else 0 : ℝ) : EReal) := by
  pointwise [qaV, eightV, rowV, zeroV]
  simp only [hq, word_zero, ofBits_eight]
  split_ifs <;> first | rfl | (exfalso; omega)

/-- A row's weights: the values, then ones. -/
def weight (v : Fin 8 → Fin 16384 → Fin 64 → ℝ) (h : Fin 8) (r : Fin 80) (s : Fin 16384) : ℝ := if hr : r.val < 64 then v h s ⟨r.val, hr⟩ else 1

theorem vtV_at (hv : ∀ h t d, v (ix3 h t d) = ((vr h t d : ℝ) : EReal)) (h : Fin 8) (r : Fin 80) (s : Fin 16384) :
    vtV v (ix3 h r s) = ((weight vr h r s : ℝ) : EReal) := by
  unfold weight
  pointwise [vtV]
  simp only [hv, ← EReal.coe_one]
  split_ifs <;> first | rfl | (exfalso; omega)

/-- One product of a key's row with a scaled query's column is the score. -/
theorem dot_score (h : Fin 8) (t s : Fin 16384) :
    (∑ d : Fin 128, (if hd : d.val < 64 then kr h s ⟨d.val, hd⟩ else if d.val = 64 then -(g h s) else if d.val < 67 then 0 else if d.val < 70 then 1 else 0 : ℝ)
      * ((if hd : d.val < 64 then qr h t ⟨d.val, hd⟩ else if d.val < 67 then 8 else 0 : ℝ) * (1 / 8))) = Grad.score qr kr g h t s := by
  refine (Fin.sum_univ_add (a := 64) (b := 64) _).trans ?_
  have e1 : ∀ e : Fin 64, ((if hd : 64 + e.val < 64 then kr h s ⟨64 + e.val, hd⟩ else if 64 + e.val = 64 then -(g h s) else if 64 + e.val < 67 then 0 else if 64 + e.val < 70 then 1 else 0 : ℝ)
      * ((if hd : 64 + e.val < 64 then qr h t ⟨64 + e.val, hd⟩ else if 64 + e.val < 67 then 8 else 0 : ℝ) * (1 / 8))) = if e = 0 then -(g h s) else 0 := by
    intro e
    simp only [Fin.ext_iff]
    have h0 : ((0 : Fin 64) : ℕ) = 0 := rfl
    rw [h0]
    split_ifs <;> first | (exfalso; omega) | ring
  have e2 : ∀ d : Fin 64, ((if hd : d.val < 64 then kr h s ⟨d.val, hd⟩ else if d.val = 64 then -(g h s) else if d.val < 67 then 0 else if d.val < 70 then 1 else 0 : ℝ)
      * ((if hd : d.val < 64 then qr h t ⟨d.val, hd⟩ else if d.val < 67 then 8 else 0 : ℝ) * (1 / 8))) = qr h t d * kr h s d * (1 / 8) := by
    intro d
    rw [dif_pos d.isLt, dif_pos d.isLt]
    ring
  refine (congrArg₂ (· + ·) (Finset.sum_congr rfl fun d _ => e2 d) (Finset.sum_congr rfl fun e _ => e1 e)).trans ?_
  rw [Finset.sum_ite_eq', if_pos (Finset.mem_univ _), ← Finset.sum_mul, Grad.score, sub_eq_add_neg]

end Cert.Kernel25Ideal.Fwd

end
-- ==== Proof.Fwd.Words.lean ====
/-
  Where the key tiles of the forward kernel lie, and which branch it takes: the words it computes, as numbers.
-/
module

public import proofs.«01_k».proof.Proof.Gen.Kernel25Ideal.Skeleton

@[expose] public section

set_option maxRecDepth 8192

noncomputable section

namespace Cert.Kernel25Ideal.Fwd

open Cert.Kernel25Ideal Cert.Kernel25Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Where the tiles lie -/

theorem trips_eq : ∀ i : grid0.Coords, (k0_t1_loop i).trips = (i 1).val / 2 / 2 := by decide +kernel
theorem off1_eq : ∀ i : grid0.Coords, k0_off1 i = ![0, 1024 * ((i 1).val / 2), 0] := by decide +kernel
theorem off2_eq : ∀ (i : grid0.Coords) (k : Fin (k0_t1_loop i).trips), k0_off2 i k = ![0, 1024 * (2 * k.val), 0] := by decide +kernel
theorem off3_eq : ∀ (i : grid0.Coords) (k : Fin (k0_t1_loop i).trips), k0_off3 i k = ![0, 0, 1024 * (if k.val = 0 then (i 1).val / 2 else 2 * k.val - 1)] := by decide +kernel
theorem off4_eq : ∀ (i : grid0.Coords) (k : Fin (k0_t1_loop i).trips), k0_off4 i k = ![0, 1024 * (2 * k.val + 1), 0] := by decide +kernel
theorem off5_eq : ∀ (i : grid0.Coords) (k : Fin (k0_t1_loop i).trips), k0_off5 i k = ![0, 0, 1024 * (2 * k.val)] := by decide +kernel
theorem cond1_iff : ∀ i : grid0.Coords, k0_cond1 i = 1#1 ↔ (i 1).val / 2 % 2 = 1 := by decide +kernel
theorem cond2_iff : ∀ i : grid0.Coords, k0_cond2 i = 1#1 ↔ (i 1).val / 2 % 2 = 0 := by decide +kernel
theorem off10_eq : ∀ i : grid0.Coords, k0_cond1 i = 1#1 → k0_off10 i = ![0, 1024 * ((i 1).val / 2 - 1), 0] := by decide +kernel
theorem off11_eq : ∀ i : grid0.Coords, k0_cond1 i = 1#1 → k0_off11 i = ![0, 0, 1024 * (if (i 1).val / 2 / 2 = 0 then (i 1).val / 2 else 2 * ((i 1).val / 2 / 2) - 1)] := by decide +kernel
theorem off12_eq : ∀ i : grid0.Coords, k0_cond1 i = 1#1 → k0_off12 i = ![0, 0, 1024 * ((i 1).val / 2 - 1)] := by decide +kernel
theorem off13_eq : ∀ i : grid0.Coords, k0_cond2 i = 1#1 → k0_off13 i = ![0, 0, 1024 * (if (i 1).val / 2 / 2 = 0 then (i 1).val / 2 else 2 * ((i 1).val / 2 / 2) - 1)] := by decide +kernel

end Cert.Kernel25Ideal.Fwd

end
-- ==== Proof.Fwd.Loop.lean ====
/-
  One trip of the forward kernel's loop over pairs of key tiles, run once, as functions of what the windows and the
  scratch buffers read.

  Two buffers hold scores: while one tile's scores are taken in, the next tile's are already being computed into the other
  buffer. `St` is what the four buffers that live from trip to trip read, `trip` what a trip makes of it.
-/
module

public import proofs.«01_k».proof.Proof.Fwd.Words
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.Pipeline.Value

@[expose] public section

set_option maxRecDepth 8192

noncomputable section

namespace Cert.Kernel25Ideal.Fwd

open Cert.Kernel25Ideal Cert.Kernel25Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## A whole buffer written and read -/

theorem z2 : (![0, 0] : Fin 2 → Nat) = fun _ => 0 := funext fun a => by fin_cases a <;> rfl
theorem z3 : (![0, 0, 0] : Fin 3 → Nat) = fun _ => 0 := funext fun a => by fin_cases a <;> rfl

/-- A write over the whole of a view, read back. -/
theorem read_whole {κ : Kind} {sp : Space} {S : Shape} {e : EltTy} (v : View sig κ sp S e) (f : v.ty.Contents (Elt F)) {off : Fin S.rank → ℕ} (h0 : off = fun _ => 0)
    (inb : ∀ a, off a + S.size a ≤ S.size a) (w : (Rect.unit off S.size inb).shape.Idx → Elt F e) (L : List (View.Piece (Elt F) S e)) :
    v.read (Elt F) (v.writes (Elt F) f (⟨Rect.unit off S.size inb, w⟩ :: L)) = w := by
  subst h0
  funext y
  refine (View.read_writes_cons_unit v f inb w L y rfl).trans ?_
  rw [dif_pos fun a => ⟨Nat.zero_le _, by rw [Nat.zero_add]; exact (y a).isLt⟩]
  congr 1

/-- A load of the whole of a buffer last written over the whole. -/
theorem ld_put {κ : Kind} {sp : Space} {S : Shape} {e : EltTy} {off : Fin S.rank → ℕ} (h0 : off = fun _ => 0) (v : View sig κ sp S e) (f : v.ty.Contents (Elt F))
    (inb : ∀ a, off a + S.size a ≤ S.size a) (w : (Rect.unit off S.size inb).shape.Idx → Elt F e) (L : List (View.Piece (Elt F) S e)) (inb' : ∀ a, off a + S.size a ≤ S.size a) :
    View.ld (v.read (Elt F) (v.writes (Elt F) f (⟨Rect.unit off S.size inb, w⟩ :: L))) (Rect.unit off S.size inb') = w := by
  rw [read_whole v f h0]
  subst h0
  exact View.ld_unit_zero rfl _ _

/-- A load of the whole of a buffer. -/
theorem ld_old {κ : Kind} {sp : Space} {S : Shape} {e : EltTy} {off : Fin S.rank → ℕ} (h0 : off = fun _ => 0) (v : View sig κ sp S e) (f : v.ty.Contents (Elt F))
    {w : Vec F S e} (inb' : ∀ a, off a + S.size a ≤ S.size a) (h : v.read (Elt F) f = w) :
    View.ld (v.read (Elt F) f) (Rect.unit off S.size inb') = w := by
  rw [h]; exact View.ld_unit_zero h0 _ _

/-! ## One trip -/

/-- What the scratch buffers read: the running maximum and sums, and the held tile of scores with its maxima. -/
structure St (F : FTy → Type) where
  m : Vec F S1x512 .f32
  acc : Vec F S80x512 .f32
  sa : Vec F S1024x512 .f32
  ta : Vec F S1x512 .f32

/-- A tile of 1024 keys, and the columns of a tile of values. -/
abbrev kT (off : Fin 3 → ℕ) (inb : ∀ a, off a + S1x1024x128.size a ≤ S1x16384x128.size a) (X : Vec F S1x16384x128 .bf16) : Vec F S1x1024x128 .bf16 :=
  View.ld X (Rect.unit (s := S1x16384x128) off S1x1024x128.size inb)
abbrev vT (off : Fin 3 → ℕ) (inb : ∀ a, off a + S1x80x1024.size a ≤ S1x80x16384.size a) (X : Vec F S1x80x16384 .bf16) : Vec F S1x80x1024 .bf16 :=
  View.ld X (Rect.unit (s := S1x80x16384) off S1x80x1024.size inb)

/-- The scores and the maxima do not depend on which of the two buffers they go to. -/
theorem pay11_eq (v3 : FVec F S128x512 .bf16) (kt : Vec F S1x1024x128 .bf16) : k0_pay11 v3 kt = k0_pay3 v3 kt := by unfold k0_pay11 k0_pay3; exact rfl
theorem pay12_eq (v3 : FVec F S128x512 .bf16) (kt : Vec F S1x1024x128 .bf16) : k0_pay12 v3 kt = k0_pay4 v3 kt := by
  unfold k0_pay12 k0_pay4; exact congrArg (fun z => shapeCast S1024x512 z shapeCasts_S1024x512_S1024x512) (pay11_eq v3 kt)
theorem pay13_eq (v3 : FVec F S128x512 .bf16) (kt : Vec F S1x1024x128 .bf16) : k0_pay13 v3 kt = k0_pay5 v3 kt := by
  unfold k0_pay13 k0_pay5; rw [pay11_eq v3 kt]

/-- What a trip makes of the buffers: the held tile is taken in, then the tile `2 k`, whose scores were computed meanwhile;
    the tile `2 k + 1` is held next. -/
def trip (i : grid0.Coords) (v3 : FVec F S128x512 .bf16) (X3 : Vec F S1x16384x128 .bf16) (X4 : Vec F S1x80x16384 .bf16) (k : Fin (k0_t1_loop i).trips) (A : St F) : St F :=
  ⟨k0_pay46 (k0_pay46 A.m A.ta) (k0_pay5 v3 (kT (k0_off2 i k) (k0_off2_inb i k) X3)),
    k0_pay45 (k0_pay46 A.m A.ta) (k0_pay5 v3 (kT (k0_off2 i k) (k0_off2_inb i k) X3)) (k0_pay4 v3 (kT (k0_off2 i k) (k0_off2_inb i k) X3))
      (k0_pay45 A.m A.ta A.sa A.acc (vT (k0_off3 i k) (k0_off3_inb i k) X4)) (vT (k0_off5 i k) (k0_off5_inb i k) X4),
    k0_pay4 v3 (kT (k0_off4 i k) (k0_off4_inb i k) X3), k0_pay5 v3 (kT (k0_off4 i k) (k0_off4_inb i k) X3)⟩

/-- The buffers before trip `k`. -/
def state (i : grid0.Coords) (v3 : FVec F S128x512 .bf16) (X3 : Vec F S1x16384x128 .bf16) (X4 : Vec F S1x80x16384 .bf16) (A : St F) : ℕ → St F
  | 0 => A
  | k + 1 => if h : k < (k0_t1_loop i).trips then trip i v3 X3 X4 ⟨k, h⟩ (state i v3 X3 X4 A k) else state i v3 X3 X4 A k

theorem state_succ (i : grid0.Coords) (v3 : FVec F S128x512 .bf16) (X3 : Vec F S1x16384x128 .bf16) (X4 : Vec F S1x80x16384 .bf16) (A : St F) (k : Fin (k0_t1_loop i).trips) :
    state i v3 X3 X4 A (k.val + 1) = trip i v3 X3 X4 k (state i v3 X3 X4 A k.val) := by
  rw [state, dif_pos k.isLt]

/-- The new maximum and the new sums are functions of what was read. -/
theorem takeM {a b m t : Vec F S1x512 .f32} (ha : a = m) (hb : b = t) : k0_pay46 a b = k0_pay46 m t := by rw [ha, hb]
theorem takeAcc {a b m t : Vec F S1x512 .f32} {s' s : Vec F S1024x512 .f32} {c' c : Vec F S80x512 .f32} {v' v : Vec F S1x80x1024 .bf16}
    (ha : a = m) (hb : b = t) (hs : s' = s) (hc : c' = c) (hv : v' = v) : k0_pay45 a b s' c' v' = k0_pay45 m t s c v := by rw [ha, hb, hs, hc, hv]

section Loop

variable (c : Dev nD) (i : grid0.Coords) (arg2 : Memref sig .tc .vmem S1x128x512 .bf16) (harg2 : arg2.IsWhole) (arg3 : Memref sig .tc .vmem S1x16384x128 .bf16) (harg3 : arg3.IsWhole) (arg4 : Memref sig .tc .vmem S1x80x16384 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S80x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1x512 .f32) (harg11 : arg11.IsWhole) (arg12 : Memref sig .tc .vmem S1x512 .f32) (harg12 : arg12.IsWhole)
  (v3 : FVec F S128x512 .bf16) (v28 : BitVec 32) (v69 : BitVec 32) (c0 : BitVec 32) (v74 : BitVec 32)

/-- The buffers a trip touches, each held whole, the scratch buffers reading `A`. -/
abbrev Held (X3 : BufTy.Contents (Elt F) arg3.view.ty) (X4 : BufTy.Contents (Elt F) arg4.view.ty) (A : St F) : sProp 𝕄 :=
  iprop((arg3.view.loc (c : Thread nD τ) ↦[arg3.view.set]{fullShare} X3)
    ∗ (arg4.view.loc (c : Thread nD τ) ↦[arg4.view.set]{fullShare} X4)
    ∗ (∃ f, (arg7.view.loc (c : Thread nD τ) ↦[arg7.view.set]{fullShare} f) ∗ ⌜arg7.view.read (Elt F) f = A.m⌝)
    ∗ (∃ f, (arg8.view.loc (c : Thread nD τ) ↦[arg8.view.set]{fullShare} f) ∗ ⌜arg8.view.read (Elt F) f = A.acc⌝)
    ∗ (∃ f, (arg9.view.loc (c : Thread nD τ) ↦[arg9.view.set]{fullShare} f) ∗ ⌜arg9.view.read (Elt F) f = A.sa⌝)
    ∗ (∃ f, (arg11.view.loc (c : Thread nD τ) ↦[arg11.view.set]{fullShare} f) ∗ ⌜arg11.view.read (Elt F) f = A.ta⌝)
    ∗ (∃ f, (arg10.view.loc (c : Thread nD τ) ↦[arg10.view.set]{fullShare} f))
    ∗ (∃ f, (arg12.view.loc (c : Thread nD τ) ↦[arg12.view.set]{fullShare} f)))

set_option maxHeartbeats 1000000 in
/-- One trip, run. -/
theorem trip_run (𝒱 : Variants) (bd : Option 𝒱.V) (E : Set ℕ)
    (X3 : BufTy.Contents (Elt F) arg3.view.ty) (X4 : BufTy.Contents (Elt F) arg4.view.ty) (k : Fin (k0_t1_loop i).trips) (A : St F) :
    Held (F := F) c arg3 arg4 arg7 arg8 arg9 arg10 arg11 arg12 X3 X4 A
    ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg12 harg12 v3 v28 v69 c0 v74 k PUnit.unit)
        (fun _ => Held (F := F) c arg3 arg4 arg7 arg8 arg9 arg10 arg11 arg12 X3 X4 (trip i v3 (arg3.view.read (Elt F) X3) (arg4.view.read (Elt F) X4) k A)) := by
  rw [trip]
  unfold k0_t1_body
  iintro ⟨H3, H4, ⟨%f7, H7, %h7⟩, ⟨%f8, H8, %h8⟩, ⟨%f9, H9, %h9⟩, ⟨%f11, H11, %h11⟩, ⟨%f10, H10⟩, ⟨%f12, H12⟩⟩
  sl_exec
  sl_step
  isplitl [H3]; · iexact H3
  isplitl [H4]; · iexact H4
  isplitl [H7]
  · iexists _; isplitl [H7]; · iexact H7
    ipureintro
    dsimp only
    exact ((read_whole (S := S1x512) _ _ z2 _ _ _).trans (takeM ((ld_put (S := S1x512) z2 _ _ _ _ _ _).trans (takeM (ld_old (S := S1x512) z2 _ _ _ h7) (ld_old (S := S1x512) z2 _ _ _ h11))) ((ld_put (S := S1x512) z2 _ _ _ _ _ _).trans rfl)))
  isplitl [H8]
  · iexists _; isplitl [H8]; · iexact H8
    ipureintro
    dsimp only
    exact ((read_whole (S := S80x512) _ _ z2 _ _ _).trans (takeAcc ((ld_put (S := S1x512) z2 _ _ _ _ _ _).trans (takeM (ld_old (S := S1x512) z2 _ _ _ h7) (ld_old (S := S1x512) z2 _ _ _ h11))) ((ld_put (S := S1x512) z2 _ _ _ _ _ _).trans rfl) ((ld_put (S := S1024x512) z2 _ _ _ _ _ _).trans rfl) ((ld_put (S := S80x512) z2 _ _ _ _ _ _).trans (takeAcc (ld_old (S := S1x512) z2 _ _ _ h7) (ld_old (S := S1x512) z2 _ _ _ h11) (ld_old (S := S1024x512) z2 _ _ _ h9) (ld_old (S := S80x512) z2 _ _ _ h8) rfl)) rfl))
  isplitl [H9]
  · iexists _; isplitl [H9]; · iexact H9
    ipureintro
    dsimp only
    exact ((read_whole (S := S1024x512) _ _ z2 _ _ _).trans (pay12_eq _ _))
  isplitl [H11]
  · iexists _; isplitl [H11]; · iexact H11
    ipureintro
    dsimp only
    exact ((read_whole (S := S1x512) _ _ z2 _ _ _).trans (pay13_eq _ _))
  isplitl [H10]; · iexists _; iexact H10
  iexists _; iexact H12

end Loop

end Cert.Kernel25Ideal.Fwd

end
-- ==== Proof.Fwd.Body.lean ====
/-
  The forward kernel's body at one grid point, run once, as a statement about what its three operand windows read.

  The body computes its own key tile's scores (with the causal mask), goes through the earlier tiles in pairs (`Loop`),
  takes in the one or two tiles left over, and divides by the accumulator's row of sums. The two results are functions
  (`outO`, `outL`) of the operands.
-/
module

public import proofs.«01_k».proof.Proof.Fwd.Loop

@[expose] public section

set_option maxRecDepth 8192

noncomputable section

namespace Cert.Kernel25Ideal.Fwd

open Cert.Kernel25Ideal Cert.Kernel25Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Which half of its key tile a query block is, times 512, as the kernel computes it. -/
abbrev diagW (i : grid0.Coords) : BitVec 32 :=
  Scalar.select
    (Scalar.andi
      (Scalar.cmpi .ne (Scalar.subi (Scalar.extui (Scalar.cmpi .sgt (BitVec.ofNat 32 (i 1).val) 0#32)) (Scalar.extui (Scalar.cmpi .slt (BitVec.ofNat 32 (i 1).val) 0#32)))
        (Scalar.subi (Scalar.extui (Scalar.cmpi .sgt 2#32 0#32)) (Scalar.extui (Scalar.cmpi .slt 2#32 0#32))))
      (Scalar.cmpi .ne (Scalar.remsi (BitVec.ofNat 32 (i 1).val) 2#32) 0#32))
    (Scalar.subi (Scalar.divsi (BitVec.ofNat 32 (i 1).val) 2#32) 1#32) (Scalar.divsi (BitVec.ofNat 32 (i 1).val) 2#32)
abbrev halfW (i : grid0.Coords) : BitVec 32 := Scalar.muli (Scalar.subi (BitVec.ofNat 32 (i 1).val) (Scalar.muli (diagW i) 2#32)) 512#32

/-- The scaled queries' columns, from the window. -/
abbrev qCols (X2 : Vec F S1x128x512 .bf16) : FVec F S128x512 .bf16 :=
  k0_pay32 (View.ld X2 (Rect.unit (s := S1x128x512) ![0, 0, 0] S1x128x512.size inb_S1x128x512_S1x128x512_0_0_0))

/-- The buffers before the loop: no sums yet, the masked scores of the block's own key tile held. -/
def start (i : grid0.Coords) (X2 : Vec F S1x128x512 .bf16) (X3 : Vec F S1x16384x128 .bf16) : St F :=
  ⟨k0_pay33, k0_pay34, k0_pay36 (qCols X2) (halfW i) (kT (k0_off1 i) (k0_off1_inb i) X3), k0_pay37 (qCols X2) (halfW i) (kT (k0_off1 i) (k0_off1_inb i) X3)⟩

theorem start_ta (i : grid0.Coords) (X2 : Vec F S1x128x512 .bf16) (X3 : Vec F S1x16384x128 .bf16) :
    (start i X2 X3).ta = k0_pay37 (qCols X2) (halfW i) (kT (k0_off1 i) (k0_off1_inb i) X3) := by unfold start; dsimp only

/-- The running maximum after the tiles left over, -/
def endM (i : grid0.Coords) (v3 : FVec F S128x512 .bf16) (X3 : Vec F S1x16384x128 .bf16) (A : St F) : Vec F S1x512 .f32 :=
  if h1 : k0_cond1 i = 1#1 then k0_pay46 (k0_pay46 A.m A.ta) (k0_pay5 v3 (kT (k0_off10 i) (k0_off10_inb i h1) X3)) else k0_pay46 A.m A.ta
/-- and the sums: an odd number of earlier tiles leaves one beside the held one. -/
def endAcc (i : grid0.Coords) (v3 : FVec F S128x512 .bf16) (X3 : Vec F S1x16384x128 .bf16) (X4 : Vec F S1x80x16384 .bf16) (A : St F) : Vec F S80x512 .f32 :=
  if h1 : k0_cond1 i = 1#1 then
    k0_pay45 (k0_pay46 A.m A.ta) (k0_pay5 v3 (kT (k0_off10 i) (k0_off10_inb i h1) X3)) (k0_pay4 v3 (kT (k0_off10 i) (k0_off10_inb i h1) X3))
      (k0_pay45 A.m A.ta A.sa A.acc (vT (k0_off11 i) (k0_off11_inb i h1) X4)) (vT (k0_off12 i) (k0_off12_inb i h1) X4)
  else if h2 : k0_cond2 i = 1#1 then k0_pay45 A.m A.ta A.sa A.acc (vT (k0_off13 i) (k0_off13_inb i h2) X4) else A.acc

/-- The buffers after the loop. -/
def after (i : grid0.Coords) (X2 : Vec F S1x128x512 .bf16) (X3 : Vec F S1x16384x128 .bf16) (X4 : Vec F S1x80x16384 .bf16) : St F :=
  state i (qCols X2) X3 X4 (start i X2 X3) (k0_t1_loop i).trips

/-- The row of sums of exponentials. -/
abbrev sumsRow (a : Vec F S80x512 .f32) : Vec F S1x512 .f32 := View.ld a (Rect.unit (s := S80x512) ![64, 0] S1x512.size inb_S80x512_S1x512_64_0)

/-- The attention's output block, -/
def outO (i : grid0.Coords) (X2 : Vec F S1x128x512 .bf16) (X3 : Vec F S1x16384x128 .bf16) (X4 : Vec F S1x80x16384 .bf16) : Vec F S1x64x512 .f32 :=
  k0_pay1 (sumsRow (endAcc i (qCols X2) X3 X4 (after i X2 X3 X4)))
    (View.ld (endAcc i (qCols X2) X3 X4 (after i X2 X3 X4)) (Rect.unit (s := S80x512) ![0, 0] S64x512.size inb_S80x512_S64x512_0_0))
/-- and its rows' log-sums. -/
def outL (i : grid0.Coords) (X2 : Vec F S1x128x512 .bf16) (X3 : Vec F S1x16384x128 .bf16) (X4 : Vec F S1x80x16384 .bf16) : Vec F S1x1x512 .f32 :=
  k0_pay2 (sumsRow (endAcc i (qCols X2) X3 X4 (after i X2 X3 X4))) (endM i (qCols X2) X3 (after i X2 X3 X4))

/-- Each of these is printed more than once. -/
theorem pay27_eq (v3 : FVec F S128x512 .bf16) (kt : Vec F S1x1024x128 .bf16) : k0_pay27 v3 kt = k0_pay3 v3 kt := by unfold k0_pay27 k0_pay3; exact rfl
theorem pay28_eq (v3 : FVec F S128x512 .bf16) (kt : Vec F S1x1024x128 .bf16) : k0_pay28 v3 kt = k0_pay4 v3 kt := by unfold k0_pay28 k0_pay4; rw [pay27_eq]
theorem pay29_eq (v3 : FVec F S128x512 .bf16) (kt : Vec F S1x1024x128 .bf16) : k0_pay29 v3 kt = k0_pay5 v3 kt := by unfold k0_pay29 k0_pay5; rw [pay27_eq]

theorem pay36_congr {v v' : FVec F S128x512 .bf16} {w w' : BitVec 32} {x x' : Vec F S1x1024x128 .bf16} (hv : v = v') (hw : w = w') (hx : x = x') :
    k0_pay36 v w x = k0_pay36 v' w' x' := by rw [hv, hw, hx]
theorem pay37_congr {v v' : FVec F S128x512 .bf16} {w w' : BitVec 32} {x x' : Vec F S1x1024x128 .bf16} (hv : v = v') (hw : w = w') (hx : x = x') :
    k0_pay37 v w x = k0_pay37 v' w' x' := by rw [hv, hw, hx]

theorem pay1_congr {a a' : Vec F S1x512 .f32} {b b' : Vec F S64x512 .f32} (ha : a = a') (hb : b = b') : k0_pay1 a b = k0_pay1 a' b' := by rw [ha, hb]
theorem pay2_congr {a a' b b' : Vec F S1x512 .f32} (ha : a = a') (hb : b = b') : k0_pay2 a b = k0_pay2 a' b' := by rw [ha, hb]

section Run

variable (c : Dev nD) (i : grid0.Coords) (arg2 : Memref sig .tc .vmem S1x128x512 .bf16) (harg2 : arg2.IsWhole) (arg3 : Memref sig .tc .vmem S1x16384x128 .bf16) (harg3 : arg3.IsWhole) (arg4 : Memref sig .tc .vmem S1x80x16384 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x512 .f32) (harg7 : arg7.IsWhole) (arg8 : Memref sig .tc .vmem S80x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1x512 .f32) (harg11 : arg11.IsWhole) (arg12 : Memref sig .tc .vmem S1x512 .f32) (harg12 : arg12.IsWhole)

set_option maxHeartbeats 2000000 in
/-- THE BODY: the operands stay, the two output windows read the functions above of what was read before. -/
theorem body_run (𝒱 : Variants) (bd : Option 𝒱.V) (E : Set ℕ)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (A : St F)
    (hA : A = start i (arg2.view.read (Elt F) X2) (arg3.view.read (Elt F) X3))
    (hT : state i (qCols (arg2.view.read (Elt F) X2)) (arg3.view.read (Elt F) X3) (arg4.view.read (Elt F) X4) A (k0_t1_loop i).trips
      = after i (arg2.view.read (Elt F) X2) (arg3.view.read (Elt F) X3) (arg4.view.read (Elt F) X4)) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)) : sProp 𝕄)
    ⊢ wp frame (wpE (defs₀ (F := F)) 𝒱 (c : Thread nD τ) bd) E (cc0_fox_fwd (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
          ∗ (∃ f, (arg5.view.loc (c : Thread nD τ) ↦[arg5.view.set]{fullShare} f) ∗ ⌜arg5.view.read (Elt F) f = outO i (arg2.view.read (Elt F) X2) (arg3.view.read (Elt F) X3) (arg4.view.read (Elt F) X4)⌝)
          ∗ (∃ f, (arg6.view.loc (c : Thread nD τ) ↦[arg6.view.set]{fullShare} f) ∗ ⌜arg6.view.read (Elt F) f = outL i (arg2.view.read (Elt F) X2) (arg3.view.read (Elt F) X3) (arg4.view.read (Elt F) X4)⌝)
          ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))) := by
  iintro ⟨H2, H3, H4, H5, H6, H7, H8, H9, H10, H11, H12⟩
  have htr : (k0_t2_loop i).trips = 0 := Nat.le_zero.1 (k0_t2_abs i).2.1
  by_cases h1 : k0_cond1 i = 1#1
  · have h2 : ¬ k0_cond2 i = 1#1 := fun h => by have := (cond1_iff i).1 h1; have := (cond2_iff i).1 h; omega
    have em := endM.eq_1 i (qCols (arg2.view.read (Elt F) X2)) (arg3.view.read (Elt F) X3) (after i (arg2.view.read (Elt F) X2) (arg3.view.read (Elt F) X3) (arg4.view.read (Elt F) X4))
    have eacc := endAcc.eq_1 i (qCols (arg2.view.read (Elt F) X2)) (arg3.view.read (Elt F) X3) (arg4.view.read (Elt F) X4) (after i (arg2.view.read (Elt F) X2) (arg3.view.read (Elt F) X3) (arg4.view.read (Elt F) X4))
    rw [dif_pos h1] at em
    rw [dif_pos h1] at eacc
    sl_exec (disch := first | sl_exact h1 | sl_exact h2)
    sl_for (fun k _ => Held (F := F) c arg3 arg4 arg7 arg8 arg9 arg10 arg11 arg12 X3 X4 (state i (qCols (arg2.view.read (Elt F) X2)) (arg3.view.read (Elt F) X3) (arg4.view.read (Elt F) X4) A k)) $$ [H3 H4 H7 H8 H9 H10 H11 H12]
    case region =>
      intro k acc
      rw [state_succ]
      exact trip_run c i arg2 harg2 arg3 harg3 arg4 harg4 arg5 harg5 arg6 harg6 arg7 harg7 arg8 harg8 arg9 harg9 arg10 harg10 arg11 harg11 arg12 harg12 (qCols (arg2.view.read (Elt F) X2)) (diagW i) 0#32 0#32 0#32 𝒱 bd E X3 X4 k _
    · rw [state, hA]
      isplitl [H3]; · iexact H3
      isplitl [H4]; · iexact H4
      isplitl [H7]
      · iexists _; isplitl [H7]; · iexact H7
        ipureintro
        exact ((read_whole (S := S1x512) _ _ z2 _ _ _).trans rfl)
      isplitl [H8]
      · iexists _; isplitl [H8]; · iexact H8
        ipureintro
        exact ((read_whole (S := S80x512) _ _ z2 _ _ _).trans rfl)
      isplitl [H9]
      · iexists _; isplitl [H9]; · iexact H9
        ipureintro
        exact ((read_whole (S := S1024x512) _ _ z2 _ _ _).trans (pay36_congr rfl rfl rfl))
      isplitl [H11]
      · iexists _; isplitl [H11]; · iexact H11
        ipureintro
        exact (read_whole (S := S1x512) _ _ z2 _ _ _).trans ((pay37_congr rfl rfl rfl).trans (start_ta i _ _).symm)
      isplitl [H10]; · iexists _; iexact H10
      iexists _; iexact H12
    rw [hT]
    iintro %acc ⟨H3, H4, ⟨%f7, H7, %h7⟩, ⟨%f8, H8, %h8⟩, ⟨%f9, H9, %h9⟩, ⟨%f11, H11, %h11⟩, ⟨%f10, H10⟩, ⟨%f12, H12⟩⟩
    sl_exec (disch := first | sl_exact h1 | sl_exact h2)
    sl_step
    isplitl [H2]; · iexact H2
    isplitl [H3]; · iexact H3
    isplitl [H4]; · iexact H4
    isplitl [H5]
    · iexists _; isplitl [H5]; · iexact H5
      ipureintro
      rw [outO, eacc]
      exact (read_whole (S := S1x64x512) _ _ z3 _ _ _).trans (pay1_congr (congrArg (fun z => View.ld z _) ((read_whole (S := S80x512) _ _ z2 _ _ _).trans (takeAcc ((ld_put (S := S1x512) z2 _ _ _ _ _ _).trans (takeM (ld_old (S := S1x512) z2 _ _ _ h7) (ld_old (S := S1x512) z2 _ _ _ h11))) ((ld_put (S := S1x512) z2 _ _ _ _ _ _).trans (pay29_eq _ _)) ((ld_put (S := S1024x512) z2 _ _ _ _ _ _).trans (pay28_eq _ _)) ((ld_put (S := S80x512) z2 _ _ _ _ _ _).trans (takeAcc (ld_old (S := S1x512) z2 _ _ _ h7) (ld_old (S := S1x512) z2 _ _ _ h11) (ld_old (S := S1024x512) z2 _ _ _ h9) (ld_old (S := S80x512) z2 _ _ _ h8) rfl)) rfl))) (congrArg (fun z => View.ld z _) ((read_whole (S := S80x512) _ _ z2 _ _ _).trans (takeAcc ((ld_put (S := S1x512) z2 _ _ _ _ _ _).trans (takeM (ld_old (S := S1x512) z2 _ _ _ h7) (ld_old (S := S1x512) z2 _ _ _ h11))) ((ld_put (S := S1x512) z2 _ _ _ _ _ _).trans (pay29_eq _ _)) ((ld_put (S := S1024x512) z2 _ _ _ _ _ _).trans (pay28_eq _ _)) ((ld_put (S := S80x512) z2 _ _ _ _ _ _).trans (takeAcc (ld_old (S := S1x512) z2 _ _ _ h7) (ld_old (S := S1x512) z2 _ _ _ h11) (ld_old (S := S1024x512) z2 _ _ _ h9) (ld_old (S := S80x512) z2 _ _ _ h8) rfl)) rfl))))
    isplitl [H6]
    · iexists _; isplitl [H6]; · iexact H6
      ipureintro
      rw [outL, eacc, em]
      exact (read_whole (S := S1x1x512) _ _ z3 _ _ _).trans (pay2_congr (congrArg (fun z => View.ld z _) ((read_whole (S := S80x512) _ _ z2 _ _ _).trans (takeAcc ((ld_put (S := S1x512) z2 _ _ _ _ _ _).trans (takeM (ld_old (S := S1x512) z2 _ _ _ h7) (ld_old (S := S1x512) z2 _ _ _ h11))) ((ld_put (S := S1x512) z2 _ _ _ _ _ _).trans (pay29_eq _ _)) ((ld_put (S := S1024x512) z2 _ _ _ _ _ _).trans (pay28_eq _ _)) ((ld_put (S := S80x512) z2 _ _ _ _ _ _).trans (takeAcc (ld_old (S := S1x512) z2 _ _ _ h7) (ld_old (S := S1x512) z2 _ _ _ h11) (ld_old (S := S1024x512) z2 _ _ _ h9) (ld_old (S := S80x512) z2 _ _ _ h8) rfl)) rfl))) ((ld_put (S := S1x512) z2 _ _ _ _ _ _).trans (takeM ((ld_put (S := S1x512) z2 _ _ _ _ _ _).trans (takeM (ld_old (S := S1x512) z2 _ _ _ h7) (ld_old (S := S1x512) z2 _ _ _ h11))) ((ld_put (S := S1x512) z2 _ _ _ _ _ _).trans (pay29_eq _ _)))))
    isplitl [H7]; · iexists _; iexact H7
    isplitl [H8]; · iexists _; iexact H8
    isplitl [H9]; · iexists _; iexact H9
    isplitl [H10]; · iexists _; iexact H10
    isplitl [H11]; · iexists _; iexact H11
    iexists _; iexact H12
  · have h2 : k0_cond2 i = 1#1 := (cond2_iff i).2 (by have := mt (cond1_iff i).2 h1; omega)
    have em := endM.eq_1 i (qCols (arg2.view.read (Elt F) X2)) (arg3.view.read (Elt F) X3) (after i (arg2.view.read (Elt F) X2) (arg3.view.read (Elt F) X3) (arg4.view.read (Elt F) X4))
    have eacc := endAcc.eq_1 i (qCols (arg2.view.read (Elt F) X2)) (arg3.view.read (Elt F) X3) (arg4.view.read (Elt F) X4) (after i (arg2.view.read (Elt F) X2) (arg3.view.read (Elt F) X3) (arg4.view.read (Elt F) X4))
    rw [dif_neg h1] at em
    rw [dif_neg h1, dif_pos h2] at eacc
    sl_exec (disch := first | sl_exact h1 | sl_exact h2)
    sl_for (fun k _ => Held (F := F) c arg3 arg4 arg7 arg8 arg9 arg10 arg11 arg12 X3 X4 (state i (qCols (arg2.view.read (Elt F) X2)) (arg3.view.read (Elt F) X3) (arg4.view.read (Elt F) X4) A k)) $$ [H3 H4 H7 H8 H9 H10 H11 H12]
    case region =>
      intro k acc
      rw [state_succ]
      exact trip_run c i arg2 harg2 arg3 harg3 arg4 harg4 arg5 harg5 arg6 harg6 arg7 harg7 arg8 harg8 arg9 harg9 arg10 harg10 arg11 harg11 arg12 harg12 (qCols (arg2.view.read (Elt F) X2)) (diagW i) 0#32 0#32 0#32 𝒱 bd E X3 X4 k _
    · rw [state, hA]
      isplitl [H3]; · iexact H3
      isplitl [H4]; · iexact H4
      isplitl [H7]
      · iexists _; isplitl [H7]; · iexact H7
        ipureintro
        exact ((read_whole (S := S1x512) _ _ z2 _ _ _).trans rfl)
      isplitl [H8]
      · iexists _; isplitl [H8]; · iexact H8
        ipureintro
        exact ((read_whole (S := S80x512) _ _ z2 _ _ _).trans rfl)
      isplitl [H9]
      · iexists _; isplitl [H9]; · iexact H9
        ipureintro
        exact ((read_whole (S := S1024x512) _ _ z2 _ _ _).trans (pay36_congr rfl rfl rfl))
      isplitl [H11]
      · iexists _; isplitl [H11]; · iexact H11
        ipureintro
        exact (read_whole (S := S1x512) _ _ z2 _ _ _).trans ((pay37_congr rfl rfl rfl).trans (start_ta i _ _).symm)
      isplitl [H10]; · iexists _; iexact H10
      iexists _; iexact H12
    rw [hT]
    iintro %acc ⟨H3, H4, ⟨%f7, H7, %h7⟩, ⟨%f8, H8, %h8⟩, ⟨%f9, H9, %h9⟩, ⟨%f11, H11, %h11⟩, ⟨%f10, H10⟩, ⟨%f12, H12⟩⟩
    sl_exec (disch := first | sl_exact h1 | sl_exact h2)
    sl_step
    isplitl [H2]; · iexact H2
    isplitl [H3]; · iexact H3
    isplitl [H4]; · iexact H4
    isplitl [H5]
    · iexists _; isplitl [H5]; · iexact H5
      ipureintro
      rw [outO, eacc]
      exact (read_whole (S := S1x64x512) _ _ z3 _ _ _).trans (pay1_congr (congrArg (fun z => View.ld z _) ((read_whole (S := S80x512) _ _ z2 _ _ _).trans (takeAcc (ld_old (S := S1x512) z2 _ _ _ h7) (ld_old (S := S1x512) z2 _ _ _ h11) (ld_old (S := S1024x512) z2 _ _ _ h9) (ld_old (S := S80x512) z2 _ _ _ h8) rfl))) (congrArg (fun z => View.ld z _) ((read_whole (S := S80x512) _ _ z2 _ _ _).trans (takeAcc (ld_old (S := S1x512) z2 _ _ _ h7) (ld_old (S := S1x512) z2 _ _ _ h11) (ld_old (S := S1024x512) z2 _ _ _ h9) (ld_old (S := S80x512) z2 _ _ _ h8) rfl))))
    isplitl [H6]
    · iexists _; isplitl [H6]; · iexact H6
      ipureintro
      rw [outL, eacc, em]
      exact (read_whole (S := S1x1x512) _ _ z3 _ _ _).trans (pay2_congr (congrArg (fun z => View.ld z _) ((read_whole (S := S80x512) _ _ z2 _ _ _).trans (takeAcc (ld_old (S := S1x512) z2 _ _ _ h7) (ld_old (S := S1x512) z2 _ _ _ h11) (ld_old (S := S1024x512) z2 _ _ _ h9) (ld_old (S := S80x512) z2 _ _ _ h8) rfl))) ((ld_put (S := S1x512) z2 _ _ _ _ _ _).trans (takeM (ld_old (S := S1x512) z2 _ _ _ h7) (ld_old (S := S1x512) z2 _ _ _ h11))))
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Run

end Cert.Kernel25Ideal.Fwd

end
-- ==== Proof.Fwd.Tile.lean ====
/-
  The forward kernel's tile operations, read at one element over the extended reals.
-/
module

public import proofs.«01_k».proof.Proof.Fwd.Body
public import proofs.«01_k».proof.Proof.Real
public import Idealize.ShloMosaic.Lib.Pointwise

@[expose] public section

set_option maxRecDepth 16384

noncomputable section

namespace Cert.Kernel25Ideal.Fwd

open Cert.Kernel25Ideal Cert.Kernel25Ideal.Gen
open Idealize.ShloMosaic Idealize.ShloMosaic.TcCoe Idealize.ShloMosaic.Tactic

/-- The scale `1 / √64` as the body's constant denotes it. -/
theorem ofBits_scale : Ideal.ofBits .bf16 0x3E00#16 = (((1 : ℝ) / 8 : ℝ) : EReal) := by
  simp [Ideal.ofBits, Ideal.ieee, -EReal.coe_mul]; norm_num

theorem pay32_at (a : Vec Ideal S1x128x512 .bf16) (d : Fin 128) (u : Fin 512) : k0_pay32 a (ix2 d u) = a (ix3 0 d u) * (((1 : ℝ) / 8 : ℝ) : EReal) := by
  rw [← ofBits_scale]
  pointwise [k0_pay32]

theorem pay3_at (q : FVec Ideal S128x512 .bf16) (k : Vec Ideal S1x1024x128 .bf16) (r : Fin 1024) (u : Fin 512) :
    k0_pay3 q k (ix2 r u) = ∑ d : Fin 128, k (ix3 0 r d) * q (ix2 d u) := by
  pointwise [k0_pay3]

theorem pay4_at (q : FVec Ideal S128x512 .bf16) (k : Vec Ideal S1x1024x128 .bf16) (r : Fin 1024) (u : Fin 512) :
    k0_pay4 q k (ix2 r u) = k0_pay3 q k (ix2 r u) := by
  pointwise [k0_pay4]
theorem pay5_at (q : FVec Ideal S128x512 .bf16) (k : Vec Ideal S1x1024x128 .bf16) (u : Fin 512) :
    k0_pay5 q k (ix2 0 u) = Finset.univ.fold max (⊥ : EReal) (fun r : Fin 1024 => k0_pay3 q k (ix2 r u)) := by
  rw [← Grad.ofBits_bot]
  pointwise [k0_pay5]

theorem pay46_at (m t : Vec Ideal S1x512 .f32) (u : Fin 512) : k0_pay46 m t (ix2 0 u) = max (m (ix2 0 u)) (t (ix2 0 u)) := by
  pointwise [k0_pay46, k0_pay44]

theorem pay45_at (m t : Vec Ideal S1x512 .f32) (s : Vec Ideal S1024x512 .f32) (a : Vec Ideal S80x512 .f32) (v : Vec Ideal S1x80x1024 .bf16) (r : Fin 80) (u : Fin 512) :
    k0_pay45 m t s a v (ix2 r u) = Ideal.exp (m (ix2 0 u) - max (m (ix2 0 u)) (t (ix2 0 u))) * a (ix2 r u)
      + ∑ x : Fin 1024, v (ix3 0 r x) * Ideal.exp (s (ix2 x u) - max (m (ix2 0 u)) (t (ix2 0 u))) := by
  pointwise [k0_pay45, k0_pay44]

theorem off_word : ∀ n : Fin 32, Scalar.muli (Scalar.subi (BitVec.ofNat 32 n.val) (Scalar.muli (Scalar.select
    (Scalar.andi
      (Scalar.cmpi .ne (Scalar.subi (Scalar.extui (Scalar.cmpi .sgt (BitVec.ofNat 32 n.val) 0#32)) (Scalar.extui (Scalar.cmpi .slt (BitVec.ofNat 32 n.val) 0#32)))
        (Scalar.subi (Scalar.extui (Scalar.cmpi .sgt 2#32 0#32)) (Scalar.extui (Scalar.cmpi .slt 2#32 0#32))))
      (Scalar.cmpi .ne (Scalar.remsi (BitVec.ofNat 32 n.val) 2#32) 0#32))
    (Scalar.subi (Scalar.divsi (BitVec.ofNat 32 n.val) 2#32) 1#32) (Scalar.divsi (BitVec.ofNat 32 n.val) 2#32)) 2#32)) 512#32
    = BitVec.ofNat 32 (512 * (n.val % 2)) := by decide

theorem halfW_eq (i : grid0.Coords) : halfW i = BitVec.ofNat 32 (512 * ((i 1).val % 2)) := off_word ⟨(i 1).val, (i 1).isLt⟩

theorem mask_named : (Named.named κ "mask" 0xF149F2CA#32 : Ideal .f32) = (⊥ : EReal) := rfl

theorem word_add (a b : ℕ) : IntOp.addi (BitVec.ofNat 32 a) (BitVec.ofNat 32 b) = BitVec.ofNat 32 (a + b) := by
  unfold IntOp.addi
  exact (BitVec.ofNat_add a b).symm

/-- The block's own key tile: a key after the query is left out. -/
theorem pay35_at (i : grid0.Coords) (q : FVec Ideal S128x512 .bf16) (k : Vec Ideal S1x1024x128 .bf16) (r : Fin 1024) (u : Fin 512) :
    k0_pay35 q (halfW i) k (ix2 r u) = if r.val ≤ u.val + 512 * ((i 1).val % 2) then k0_pay3 q k (ix2 r u) else ⊥ := by
  rw [pay3_at, halfW_eq]
  pointwise [k0_pay35]
  rw [mask_named, word_add, Grad.le_word r.val (u.val + 512 * ((i 1).val % 2)) (by omega) (by omega)]
  rw [show (Scalar.select : BitVec 1 → EReal → EReal → EReal) = fun b x y => if b = 1#1 then x else y from rfl]
  by_cases hle : r.val ≤ u.val + 512 * ((i 1).val % 2) <;> simp [hle]
theorem pay36_at (w : BitVec 32) (q : FVec Ideal S128x512 .bf16) (k : Vec Ideal S1x1024x128 .bf16) (r : Fin 1024) (u : Fin 512) :
    k0_pay36 q w k (ix2 r u) = k0_pay35 q w k (ix2 r u) := by
  pointwise [k0_pay36]
theorem pay37_at (w : BitVec 32) (q : FVec Ideal S128x512 .bf16) (k : Vec Ideal S1x1024x128 .bf16) (u : Fin 512) :
    k0_pay37 q w k (ix2 0 u) = Finset.univ.fold max (⊥ : EReal) (fun r : Fin 1024 => k0_pay35 q w k (ix2 r u)) := by
  rw [← Grad.ofBits_bot]
  pointwise [k0_pay37]

theorem pay33_at (u : Fin 512) : k0_pay33 (F := Ideal) (ix2 0 u) = (⊥ : EReal) := by
  rw [← mask_named]
  pointwise [k0_pay33]
theorem pay34_at (r : Fin 80) (u : Fin 512) : k0_pay34 (F := Ideal) (ix2 r u) = (0 : EReal) := by
  pointwise [k0_pay34]

theorem pay1_at (l : Vec Ideal S1x512 .f32) (a : Vec Ideal S64x512 .f32) (d : Fin 64) (u : Fin 512) :
    k0_pay1 l a (ix3 0 d u) = Ideal.div (a (ix2 d u)) (l (ix2 0 u)) := by
  pointwise [k0_pay1]
theorem pay2_at (l m : Vec Ideal S1x512 .f32) (u : Fin 512) :
    k0_pay2 l m (ix3 0 0 u) = m (ix2 0 u) + Ideal.log (l (ix2 0 u)) := by
  pointwise [k0_pay2]

end Cert.Kernel25Ideal.Fwd

end
-- ==== Proof.Online.lean ====
/-
  A softmax row taken in tile by tile, over the extended reals.

  A row goes through its keys in tiles of 1024: first the tile `n` that holds the row's own key, then the tiles before
  it. It keeps the maximum `M` so far and the sums of `exp (f s - M) * w s` so far; a new tile raises the maximum and
  scales the sums. Before the first tile the maximum is minus infinity and the sums are zero.
-/
module

public import proofs.«01_k».proof.Proof.Real

@[expose] public section

noncomputable section

namespace Cert.Grad

open Idealize.ShloMosaic

/-- The row's sum over the keys of tile `n` and of the tiles below `J`, those after `t` left out. -/
def part (f : Fin 16384 → ℝ) (t n J : ℕ) (M : ℝ) (w : Fin 16384 → ℝ) : ℝ :=
  ∑ s : Fin 16384, if (s.val / 1024 = n ∨ s.val / 1024 < J) ∧ s.val ≤ t then Real.exp (f s - M) * w s else 0

/-- One tile's part of the row's sum. -/
def tileSum (f : Fin 16384 → ℝ) (t j : ℕ) (hj : j < 16) (M : ℝ) (w : Fin 16384 → ℝ) : ℝ :=
  ∑ r : Fin 1024, if 1024 * j + r.val ≤ t then Real.exp (f ⟨1024 * j + r.val, by omega⟩ - M) * w ⟨1024 * j + r.val, by omega⟩ else 0

theorem tile_sum (F : Fin 16384 → ℝ) (j : ℕ) (hj : j < 16) :
    (∑ s : Fin 16384, if s.val / 1024 = j then F s else 0) = ∑ r : Fin 1024, F ⟨1024 * j + r.val, by omega⟩ := by
  rw [← Finset.sum_filter]
  symm
  refine Finset.sum_bij (fun r _ => (⟨1024 * j + r.val, by omega⟩ : Fin 16384)) ?_ ?_ ?_ ?_
  · intro r _
    refine Finset.mem_filter.2 ⟨Finset.mem_univ _, ?_⟩
    show (1024 * j + r.val) / 1024 = j
    omega
  · intro a _ b _ e
    have e' : 1024 * j + a.val = 1024 * j + b.val := congrArg Fin.val e
    exact Fin.ext (by omega)
  · intro s hs
    have h := (Finset.mem_filter.1 hs).2
    exact ⟨⟨s.val - 1024 * j, by omega⟩, Finset.mem_univ _, Fin.ext (show 1024 * j + (s.val - 1024 * j) = s.val by omega)⟩
  · intro r _; rfl

theorem part_first (f : Fin 16384 → ℝ) (t n : ℕ) (hn : n < 16) (M : ℝ) (w : Fin 16384 → ℝ) : part f t n 0 M w = tileSum f t n hn M w := by
  rw [tileSum, ← tile_sum (fun s => if s.val ≤ t then Real.exp (f s - M) * w s else 0) n hn, part]
  refine Finset.sum_congr rfl fun s _ => ?_
  by_cases h : s.val / 1024 = n
  · rw [if_pos h]; simp [h]
  · rw [if_neg h, if_neg (by omega)]

theorem part_next (f : Fin 16384 → ℝ) (t n J : ℕ) (hJ : J < n) (hn : n < 16) (M M' : ℝ) (w : Fin 16384 → ℝ) :
    part f t n (J + 1) M' w = Real.exp (M - M') * part f t n J M w + tileSum f t J (by omega) M' w := by
  rw [tileSum, ← tile_sum (fun s => if s.val ≤ t then Real.exp (f s - M') * w s else 0) J (by omega), part, part, Finset.mul_sum,
    ← Finset.sum_add_distrib]
  refine Finset.sum_congr rfl fun s _ => ?_
  by_cases h : s.val / 1024 = J
  · rw [if_pos h, if_neg (show ¬ ((s.val / 1024 = n ∨ s.val / 1024 < J) ∧ s.val ≤ t) by omega), mul_zero, zero_add]
    by_cases ht : s.val ≤ t
    · rw [if_pos ht, if_pos ⟨Or.inr (by omega), ht⟩]
    · rw [if_neg ht, if_neg fun e => ht e.2]
  · rw [if_neg h, add_zero]
    by_cases hp : (s.val / 1024 = n ∨ s.val / 1024 < J) ∧ s.val ≤ t
    · rw [if_pos hp, if_pos ⟨hp.1.imp id fun e => by omega, hp.2⟩, ← mul_assoc, ← Real.exp_add]
      congr 2; ring
    · rw [if_neg hp, mul_zero, if_neg fun e => hp ⟨e.1.imp id fun e => by omega, e.2⟩]

/-- All the tiles up to the row's own hold every key up to it. -/
theorem part_all (f : Fin 16384 → ℝ) (t n : ℕ) (ht : t / 1024 = n) (M : ℝ) (w : Fin 16384 → ℝ) :
    part f t n n M w = ∑ s : Fin 16384, if s.val ≤ t then Real.exp (f s - M) * w s else 0 := by
  rw [part]
  refine Finset.sum_congr rfl fun s _ => ?_
  by_cases h : s.val ≤ t
  · rw [if_pos h, if_pos ⟨by have := Nat.div_le_div_right (c := 1024) h; omega, h⟩]
  · rw [if_neg h, if_neg fun e => h e.2]

/-- A tile's scores, those of keys after the row minus infinity, and their maximum. -/
structure Tile (f : Fin 16384 → ℝ) (t j : ℕ) (hj : j < 16) (S : Fin 1024 → EReal) (T : EReal) : Prop where
  s : ∀ r, S r = if 1024 * j + r.val ≤ t then ((f ⟨1024 * j + r.val, by omega⟩ : ℝ) : EReal) else ⊥
  m : T = Finset.univ.fold max (⊥ : EReal) S

/-- The weights' products with the exponentials, summed. -/
theorem Tile.dot {f : Fin 16384 → ℝ} {t j : ℕ} {hj : j < 16} {S : Fin 1024 → EReal} {T : EReal} (h : Tile f t j hj S T) (M : ℝ) (w : Fin 16384 → ℝ) :
    (∑ r : Fin 1024, ((w ⟨1024 * j + r.val, by omega⟩ : ℝ) : EReal) * Ideal.exp (S r - (M : EReal))) = ((tileSum f t j hj M w : ℝ) : EReal) := by
  rw [tileSum, coe_sum]
  refine Finset.sum_congr rfl fun r _ => ?_
  rw [h.s, exp_masked, ← EReal.coe_mul]
  refine congrArg Real.toEReal ?_
  split
  · exact mul_comm _ _
  · exact mul_zero _

theorem Tile.top {f : Fin 16384 → ℝ} {t j : ℕ} {hj : j < 16} {S : Fin 1024 → EReal} {T : EReal} (h : Tile f t j hj S T) (ht : 1024 * j ≤ t) :
    ∃ M : ℝ, T = (M : EReal) := by
  rw [h.m]
  exact max_real (fun r : Fin 1024 => 1024 * j + r.val ≤ t) (fun r => f ⟨1024 * j + r.val, by omega⟩) S h.s 0 (by simpa using ht)

/-- The row's own tile, taken in first. -/
theorem Tile.first {f : Fin 16384 → ℝ} {t n : ℕ} {hn : n < 16} {S : Fin 1024 → EReal} {T : EReal} (h : Tile f t n hn S T) (ht : 1024 * n ≤ t) :
    ∃ M : ℝ, max (⊥ : EReal) T = (M : EReal) ∧ ∀ w : Fin 16384 → ℝ,
      Ideal.exp ((⊥ : EReal) - max (⊥ : EReal) T) * 0 + (∑ r : Fin 1024, ((w ⟨1024 * n + r.val, by omega⟩ : ℝ) : EReal) * Ideal.exp (S r - max (⊥ : EReal) T))
        = ((part f t n 0 M w : ℝ) : EReal) := by
  obtain ⟨M, hM⟩ := h.top ht
  have e : max (⊥ : EReal) T = (M : EReal) := by rw [hM, max_eq_right bot_le]
  refine ⟨M, e, fun w => ?_⟩
  rw [e, mul_zero, zero_add, h.dot M w, part_first f t n hn]

/-- A tile before it, taken in after others. -/
theorem Tile.next {f : Fin 16384 → ℝ} {t n J : ℕ} {hj : J < 16} {S : Fin 1024 → EReal} {T : EReal} (h : Tile f t J hj S T) (hJ : J < n) (hn : n < 16) (ht : 1024 * n ≤ t) (M₀ : ℝ) :
    ∃ M : ℝ, max (M₀ : EReal) T = (M : EReal) ∧ ∀ w : Fin 16384 → ℝ,
      Ideal.exp ((M₀ : EReal) - max (M₀ : EReal) T) * ((part f t n J M₀ w : ℝ) : EReal)
          + (∑ r : Fin 1024, ((w ⟨1024 * J + r.val, by omega⟩ : ℝ) : EReal) * Ideal.exp (S r - max (M₀ : EReal) T))
        = ((part f t n (J + 1) M w : ℝ) : EReal) := by
  obtain ⟨M, hM⟩ := h.top (by omega)
  have e : max (M₀ : EReal) T = ((max M₀ M : ℝ) : EReal) := by rw [hM]; exact (EReal.coe_strictMono.monotone.map_max).symm
  refine ⟨max M₀ M, e, fun w => ?_⟩
  rw [e, h.dot (max M₀ M) w, ← EReal.coe_sub, Ideal.exp_coe, ← EReal.coe_mul, ← EReal.coe_add, part_next f t n J hJ hn M₀]

end Cert.Grad

end
-- ==== Proof.Fwd.Inv.lean ====
/-
  What the forward kernel's running maximum and sums are, column by column.

  Column `u` of grid point `i` is query `t = 512 i₁ + u`, whose own key tile is `n = i₁ / 2`. Suppose the operands give
  the scores `f` and the weights `w` (`Ops`). The own tile is taken in first, then the tiles `0, 1, …, n - 1`, one always
  held back while the next one's scores are computed (`Holds`); what has been taken in is a maximum `M` and the sums of
  `exp (f s - M) * w s` over the keys taken in (`Taken`). In the end that is every key up to `t` (`last`).
-/
module

public import proofs.«01_k».proof.Proof.Fwd.Tile
public import proofs.«01_k».proof.Proof.Online

@[expose] public section

set_option maxRecDepth 16384

noncomputable section

namespace Cert.Kernel25Ideal.Fwd

open Cert.Kernel25Ideal Cert.Kernel25Ideal.Gen
open Idealize.ShloMosaic Idealize.ShloMosaic.TcCoe Idealize.ShloMosaic.Tactic
open Cert.Grad (part Tile)

/-! ## Loads at an element -/

theorem kT_at {off : Fin 3 → ℕ} {inb : ∀ a, off a + S1x1024x128.size a ≤ S1x16384x128.size a} {j : ℕ} (h : off = ![0, 1024 * j, 0]) (hj : j < 16)
    (X : Vec Ideal S1x16384x128 .bf16) (r : Fin 1024) (d : Fin 128) :
    kT off inb X (ix3 0 r d) = X (ix3 0 ⟨1024 * j + r.val, by omega⟩ d) := by
  subst h
  refine congrArg X ?_
  funext a; apply Fin.ext; fin_cases a <;> simp [Rect.unit]
theorem vT_at {off : Fin 3 → ℕ} {inb : ∀ a, off a + S1x80x1024.size a ≤ S1x80x16384.size a} {j : ℕ} (h : off = ![0, 0, 1024 * j]) (hj : j < 16)
    (X : Vec Ideal S1x80x16384 .bf16) (r : Fin 80) (x : Fin 1024) :
    vT off inb X (ix3 0 r x) = X (ix3 0 r ⟨1024 * j + x.val, by omega⟩) := by
  subst h
  refine congrArg X ?_
  funext a; apply Fin.ext; fin_cases a <;> simp [Rect.unit]
theorem qCols_at (X : Vec Ideal S1x128x512 .bf16) (d : Fin 128) (u : Fin 512) : qCols X (ix2 d u) = X (ix3 0 d u) * (((1 : ℝ) / 8 : ℝ) : EReal) := by
  refine (pay32_at _ d u).trans (congrArg (· * _) (congrArg X ?_))
  funext a; apply Fin.ext; fin_cases a <;> simp [Rect.unit]
theorem sumsRow_at (a : Vec Ideal S80x512 .f32) (u : Fin 512) : sumsRow a (ix2 0 u) = a (ix2 64 u) := by
  refine congrArg a ?_
  funext k; apply Fin.ext; fin_cases k <;> simp [Rect.unit]

/-! ## One column -/

/-- The operands give the scores `f` and the weights `w` of column `u`. -/
structure Ops (q : FVec Ideal S128x512 .bf16) (X3 : Vec Ideal S1x16384x128 .bf16) (X4 : Vec Ideal S1x80x16384 .bf16) (u : Fin 512)
    (f : Fin 16384 → ℝ) (w : Fin 80 → Fin 16384 → ℝ) : Prop where
  f : ∀ s : Fin 16384, (∑ d : Fin 128, X3 (ix3 0 s d) * q (ix2 d u)) = ((f s : ℝ) : EReal)
  w : ∀ (r : Fin 80) (s : Fin 16384), X4 (ix3 0 r s) = ((w r s : ℝ) : EReal)

/-- The maximum and the sums over the tile `n` and the tiles below `J`. -/
def Taken (m : Vec Ideal S1x512 .f32) (a : Vec Ideal S80x512 .f32) (u : Fin 512) (f : Fin 16384 → ℝ) (w : Fin 80 → Fin 16384 → ℝ) (t n J : ℕ) : Prop :=
  ∃ M : ℝ, m (ix2 0 u) = (M : EReal) ∧ ∀ r : Fin 80, a (ix2 r u) = ((part f t n J M (w r) : ℝ) : EReal)

/-- A buffer of scores and one of maxima that hold tile `j`. -/
def HasTile (s : Vec Ideal S1024x512 .f32) (b : Vec Ideal S1x512 .f32) (u : Fin 512) (f : Fin 16384 → ℝ) (t j : ℕ) : Prop :=
  ∃ hj : j < 16, Tile f t j hj (fun r => s (ix2 r u)) (b (ix2 0 u))

section
variable {i : grid0.Coords} {q : FVec Ideal S128x512 .bf16} {X2 : Vec Ideal S1x128x512 .bf16} {X3 : Vec Ideal S1x16384x128 .bf16} {X4 : Vec Ideal S1x80x16384 .bf16} {u : Fin 512}
  {f : Fin 16384 → ℝ} {w : Fin 80 → Fin 16384 → ℝ}

theorem dot_at (H : Ops q X3 X4 u f w) {off : Fin 3 → ℕ} {inb : ∀ a, off a + S1x1024x128.size a ≤ S1x16384x128.size a} {j : ℕ} (h : off = ![0, 1024 * j, 0]) (hj : j < 16) (r : Fin 1024) :
    k0_pay3 q (kT off inb X3) (ix2 r u) = ((f ⟨1024 * j + r.val, by omega⟩ : ℝ) : EReal) := by
  rw [pay3_at, ← H.f]
  exact Finset.sum_congr rfl fun d _ => congrArg (· * _) (kT_at h hj X3 r d)

/-- A tile of earlier keys. -/
theorem below (H : Ops q X3 X4 u f w) {off : Fin 3 → ℕ} {inb : ∀ a, off a + S1x1024x128.size a ≤ S1x16384x128.size a} {j t : ℕ} (h : off = ![0, 1024 * j, 0]) (hj : j < 16)
    (ht : 1024 * (j + 1) ≤ t) : HasTile (k0_pay4 q (kT off inb X3)) (k0_pay5 q (kT off inb X3)) u f t j := by
  refine ⟨hj, ⟨fun r => ?_, ?_⟩⟩
  · show k0_pay4 q (kT off inb X3) (ix2 r u) = _
    rw [pay4_at, dot_at H h hj, if_pos (by omega)]
  · rw [pay5_at]
    exact congrArg (Finset.univ.fold max (⊥ : EReal)) (funext fun r => (pay4_at _ _ r u).symm)

/-- The block's own tile. -/
theorem own (H : Ops q X3 X4 u f w) {off : Fin 3 → ℕ} {inb : ∀ a, off a + S1x1024x128.size a ≤ S1x16384x128.size a} (h : off = ![0, 1024 * ((i 1).val / 2), 0]) :
    HasTile (k0_pay36 q (halfW i) (kT off inb X3)) (k0_pay37 q (halfW i) (kT off inb X3)) u f (512 * (i 1).val + u.val) ((i 1).val / 2) := by
  have hi : (i 1).val < 32 := (i 1).isLt
  have hj : (i 1).val / 2 < 16 := by omega
  refine ⟨hj, ⟨fun r => ?_, ?_⟩⟩
  · show k0_pay36 q (halfW i) (kT off inb X3) (ix2 r u) = _
    rw [pay36_at, pay35_at, dot_at H h hj]
    refine if_congr ?_ rfl rfl
    omega
  · rw [pay37_at]
    exact congrArg (Finset.univ.fold max (⊥ : EReal)) (funext fun r => (pay36_at _ _ _ r u).symm)

/-- The first tile taken in. -/
theorem take_first (H : Ops q X3 X4 u f w) {m b : Vec Ideal S1x512 .f32} {s : Vec Ideal S1024x512 .f32} {a : Vec Ideal S80x512 .f32} {t n : ℕ}
    {off : Fin 3 → ℕ} {inb : ∀ a, off a + S1x80x1024.size a ≤ S1x80x16384.size a} (h : off = ![0, 0, 1024 * n])
    (hm : m (ix2 0 u) = (⊥ : EReal)) (ha : ∀ r, a (ix2 r u) = (0 : EReal)) (hs : HasTile s b u f t n) (ht : 1024 * n ≤ t) :
    Taken (k0_pay46 m b) (k0_pay45 m b s a (vT off inb X4)) u f w t n 0 := by
  obtain ⟨hn, T⟩ := hs
  obtain ⟨M, hM, hw⟩ := T.first ht
  refine ⟨M, ?_, fun r => ?_⟩
  · rw [pay46_at, hm, hM]
  · rw [pay45_at, hm, ha, ← hw (w r)]
    refine congrArg (_ + ·) (Finset.sum_congr rfl fun x _ => congrArg (· * _) ?_)
    rw [vT_at h hn, H.w]

/-- A further tile taken in. -/
theorem take_next (H : Ops q X3 X4 u f w) {m b : Vec Ideal S1x512 .f32} {s : Vec Ideal S1024x512 .f32} {a : Vec Ideal S80x512 .f32} {t n J : ℕ}
    {off : Fin 3 → ℕ} {inb : ∀ a, off a + S1x80x1024.size a ≤ S1x80x16384.size a} (h : off = ![0, 0, 1024 * J])
    (hA : Taken m a u f w t n J) (hs : HasTile s b u f t J) (hJ : J < n) (hn : n < 16) (ht : 1024 * n ≤ t) :
    Taken (k0_pay46 m b) (k0_pay45 m b s a (vT off inb X4)) u f w t n (J + 1) := by
  obtain ⟨hj, T⟩ := hs
  obtain ⟨M₀, hm, ha⟩ := hA
  obtain ⟨M, hM, hw⟩ := T.next hJ hn ht M₀
  refine ⟨M, ?_, fun r => ?_⟩
  · rw [pay46_at, hm, hM]
  · rw [pay45_at, hm, ha, ← hw (w r)]
    refine congrArg (_ + ·) (Finset.sum_congr rfl fun x _ => congrArg (· * _) ?_)
    rw [vT_at h hj, H.w]

/-- The buffers before trip `k`: nothing taken in and the own tile held, or the tiles below `2 k - 1` taken in and that one held. -/
def Holds (A : St Ideal) (u : Fin 512) (f : Fin 16384 → ℝ) (w : Fin 80 → Fin 16384 → ℝ) (t n k : ℕ) : Prop :=
  (k = 0 ∧ A.m (ix2 0 u) = (⊥ : EReal) ∧ (∀ r, A.acc (ix2 r u) = (0 : EReal)) ∧ HasTile A.sa A.ta u f t n)
  ∨ (0 < k ∧ Taken A.m A.acc u f w t n (2 * k - 1) ∧ HasTile A.sa A.ta u f t (2 * k - 1))

/-- The held tile taken in. -/
theorem take_held (H : Ops q X3 X4 u f w) {A : St Ideal} {t n k : ℕ} (hA : Holds A u f w t n k) (hk : 2 * k ≤ n) (hn : n < 16) (ht : 1024 * n ≤ t)
    {off : Fin 3 → ℕ} {inb : ∀ a, off a + S1x80x1024.size a ≤ S1x80x16384.size a} (h : off = ![0, 0, 1024 * (if k = 0 then n else 2 * k - 1)]) :
    Taken (k0_pay46 A.m A.ta) (k0_pay45 A.m A.ta A.sa A.acc (vT off inb X4)) u f w t n (2 * k) := by
  rcases hA with ⟨h0, hm, ha, hs⟩ | ⟨h0, hA, hs⟩
  · subst h0
    exact take_first H (h.trans (by rw [if_pos rfl])) hm ha hs ht
  · have e := take_next H (inb := inb) (h.trans (by rw [if_neg (by omega)])) hA hs (by omega) hn ht
    rwa [show 2 * k - 1 + 1 = 2 * k by omega] at e

theorem held_start (H : Ops (qCols X2) X3 X4 u f w) : Holds (start i X2 X3) u f w (512 * (i 1).val + u.val) ((i 1).val / 2) 0 := by
  unfold start
  refine Or.inl ⟨rfl, ?_, fun r => ?_, ?_⟩ <;> dsimp only
  · exact pay33_at u
  · exact pay34_at r u
  · exact own H (off1_eq i)

theorem held_trip (H : Ops q X3 X4 u f w) (k : Fin (k0_t1_loop i).trips) {A : St Ideal} (hA : Holds A u f w (512 * (i 1).val + u.val) ((i 1).val / 2) k.val) :
    Holds (trip i q X3 X4 k A) u f w (512 * (i 1).val + u.val) ((i 1).val / 2) (k.val + 1) := by
  have hi : (i 1).val < 32 := (i 1).isLt
  have hk : k.val < (i 1).val / 2 / 2 := lt_of_lt_of_eq k.isLt (trips_eq i)
  unfold trip
  refine Or.inr ⟨by omega, ?_, ?_⟩ <;> dsimp only
  · have e := take_held H hA (by omega) (by omega) (by omega) (inb := k0_off3_inb i k) (off3_eq i k)
    have e' := take_next H (inb := k0_off5_inb i k) (off5_eq i k) e (below H (inb := k0_off2_inb i k) (off2_eq i k) (by omega) (by omega)) (by omega) (by omega) (by omega)
    rw [show 2 * (k.val + 1) - 1 = 2 * k.val + 1 by omega]
    exact e'
  · rw [show 2 * (k.val + 1) - 1 = 2 * k.val + 1 by omega]
    exact below H (inb := k0_off4_inb i k) (off4_eq i k) (by omega) (by omega)

theorem held_state (H : Ops q X3 X4 u f w) {A : St Ideal} (hA : Holds A u f w (512 * (i 1).val + u.val) ((i 1).val / 2) 0) :
    ∀ k, k ≤ (k0_t1_loop i).trips → Holds (state i q X3 X4 A k) u f w (512 * (i 1).val + u.val) ((i 1).val / 2) k
  | 0, _ => hA
  | k + 1, hk => by
    rw [state_succ i q X3 X4 A ⟨k, hk⟩]
    exact held_trip H ⟨k, hk⟩ (held_state H hA k (by omega))

/-- After the tiles left over, every key up to `t` has been taken in. -/
theorem last (H : Ops (qCols X2) X3 X4 u f w) :
    Taken (endM i (qCols X2) X3 (after i X2 X3 X4)) (endAcc i (qCols X2) X3 X4 (after i X2 X3 X4)) u f w (512 * (i 1).val + u.val) ((i 1).val / 2) ((i 1).val / 2) := by
  have hi : (i 1).val < 32 := (i 1).isLt
  have hA : Holds (after i X2 X3 X4) u f w (512 * (i 1).val + u.val) ((i 1).val / 2) ((i 1).val / 2 / 2) := by
    have := held_state H (held_start H) (k0_t1_loop i).trips le_rfl
    rw [trips_eq i] at this
    unfold after
    rw [trips_eq i]
    exact this
  by_cases h1 : k0_cond1 i = 1#1
  · have ho := (cond1_iff i).1 h1
    rw [endM, endAcc, dif_pos h1, dif_pos h1]
    have e := take_held H hA (by omega) (by omega) (by omega) (inb := k0_off11_inb i h1) (off11_eq i h1)
    rw [show 2 * ((i 1).val / 2 / 2) = (i 1).val / 2 - 1 by omega] at e
    have e' := take_next H (inb := k0_off12_inb i h1) (off12_eq i h1) e (below H (inb := k0_off10_inb i h1) (off10_eq i h1) (by omega) (by omega)) (by omega) (by omega) (by omega)
    rw [show (i 1).val / 2 - 1 + 1 = (i 1).val / 2 by omega] at e'
    exact e'
  · have he : (i 1).val / 2 % 2 = 0 := by have := mt (cond1_iff i).2 h1; omega
    have h2 := (cond2_iff i).2 he
    rw [endM, endAcc, dif_neg h1, dif_neg h1, dif_pos h2]
    have e := take_held H hA (by omega) (by omega) (by omega) (inb := k0_off13_inb i h2) (off13_eq i h2)
    rw [show 2 * ((i 1).val / 2 / 2) = (i 1).val / 2 by omega] at e
    exact e

/-- The maximum and the sums, over the keys up to `t`. -/
theorem last_sum (H : Ops (qCols X2) X3 X4 u f w) : ∃ M : ℝ, endM i (qCols X2) X3 (after i X2 X3 X4) (ix2 0 u) = (M : EReal)
    ∧ ∀ r : Fin 80, endAcc i (qCols X2) X3 X4 (after i X2 X3 X4) (ix2 r u)
      = ((∑ s : Fin 16384, if s.val ≤ 512 * (i 1).val + u.val then Real.exp (f s - M) * w r s else 0 : ℝ) : EReal) := by
  obtain ⟨M, hM, ha⟩ := last (i := i) H
  refine ⟨M, hM, fun r => (ha r).trans ?_⟩
  rw [Cert.Grad.part_all f _ _ (by omega)]

end

end Cert.Kernel25Ideal.Fwd

end
-- ==== Proof.Fwd.Run.lean ====
/-
  The run of the whole forward kernel: what the pipeline's staging buffers hold at every grid point, the body's obligation
  from `Body.body_run`, and the run of the host lines and the region together.
-/
module

public import proofs.«01_k».proof.Proof.Fwd.Body
public import proofs.«01_k».proof.Proof.Gen.Kernel25Ideal.Frame

@[expose] public section

set_option maxRecDepth 16384

noncomputable section

namespace Cert.Kernel25Ideal.Fwd

open Cert.Kernel25Ideal Cert.Kernel25Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output block of a point, -/
abbrev oAt (c : Dev nD) (t : Fin cfg0.N) : Vec F S1x64x512 .f32 := outO (grid0.coords t) (iblk m c 0 t) (iblk m c 1 t) (iblk m c 2 t)
/-- and its rows' log-sums. -/
abbrev lAt (c : Dev nD) (t : Fin cfg0.N) : Vec F S1x1x512 .f32 := outL (grid0.coords t) (iblk m c 0 t) (iblk m c 1 t) (iblk m c 2 t)

/-- The proof data of the one pipeline: the arrays as the region finds them; after a point the operands' buffers hold
    their blocks, the results' the functions above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => oAt m c t
    | ⟨4, _⟩ => lAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = oAt m c t := by dsimp only [dats]
theorem after_4 (c : Dev nD) (t : Fin cfg0.N) : (dats m 0 c).after 4 t = lAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem scratch_whole0 (c : Dev nD) (f : Buf (Elt F) (c.tc.loc cc0_scratch0)) :
    ((Memref.whole cc0_scratch0).view.loc (c : Thread nD τ) ↦[(Memref.whole cc0_scratch0).view.set]{fullShare} f : sProp 𝕄) = ((c.tc.loc cc0_scratch0) ↦{fullShare} f) :=
  congrArg (fun S => (((c.tc.loc cc0_scratch0) ↦[S]{fullShare} f) : sProp 𝕄)) (View.set_whole cc0_scratch0)
theorem scratch_whole1 (c : Dev nD) (f : Buf (Elt F) (c.tc.loc cc0_scratch1)) :
    ((Memref.whole cc0_scratch1).view.loc (c : Thread nD τ) ↦[(Memref.whole cc0_scratch1).view.set]{fullShare} f : sProp 𝕄) = ((c.tc.loc cc0_scratch1) ↦{fullShare} f) :=
  congrArg (fun S => (((c.tc.loc cc0_scratch1) ↦[S]{fullShare} f) : sProp 𝕄)) (View.set_whole cc0_scratch1)
theorem scratch_whole2 (c : Dev nD) (f : Buf (Elt F) (c.tc.loc cc0_scratch2)) :
    ((Memref.whole cc0_scratch2).view.loc (c : Thread nD τ) ↦[(Memref.whole cc0_scratch2).view.set]{fullShare} f : sProp 𝕄) = ((c.tc.loc cc0_scratch2) ↦{fullShare} f) :=
  congrArg (fun S => (((c.tc.loc cc0_scratch2) ↦[S]{fullShare} f) : sProp 𝕄)) (View.set_whole cc0_scratch2)
theorem scratch_whole3 (c : Dev nD) (f : Buf (Elt F) (c.tc.loc cc0_scratch3)) :
    ((Memref.whole cc0_scratch3).view.loc (c : Thread nD τ) ↦[(Memref.whole cc0_scratch3).view.set]{fullShare} f : sProp 𝕄) = ((c.tc.loc cc0_scratch3) ↦{fullShare} f) :=
  congrArg (fun S => (((c.tc.loc cc0_scratch3) ↦[S]{fullShare} f) : sProp 𝕄)) (View.set_whole cc0_scratch3)
theorem scratch_whole4 (c : Dev nD) (f : Buf (Elt F) (c.tc.loc cc0_scratch4)) :
    ((Memref.whole cc0_scratch4).view.loc (c : Thread nD τ) ↦[(Memref.whole cc0_scratch4).view.set]{fullShare} f : sProp 𝕄) = ((c.tc.loc cc0_scratch4) ↦{fullShare} f) :=
  congrArg (fun S => (((c.tc.loc cc0_scratch4) ↦[S]{fullShare} f) : sProp 𝕄)) (View.set_whole cc0_scratch4)
theorem scratch_whole5 (c : Dev nD) (f : Buf (Elt F) (c.tc.loc cc0_scratch5)) :
    ((Memref.whole cc0_scratch5).view.loc (c : Thread nD τ) ↦[(Memref.whole cc0_scratch5).view.set]{fullShare} f : sProp 𝕄) = ((c.tc.loc cc0_scratch5) ↦{fullShare} f) :=
  congrArg (fun S => (((c.tc.loc cc0_scratch5) ↦[S]{fullShare} f) : sProp 𝕄)) (View.set_whole cc0_scratch5)

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Pipeline.ΦA spec0 c from rfl, show (dats m 0 c).Φ t.castSucc = Pipeline.ΦA spec0 c from rfl,
    after_0, after_1, after_2, after_3, after_4]
  unfold Pipeline.ΦA
  rw [scopedRest0_eq]
  unfold Dat.owesAt Pipeline.owesWithin
  rw [show (dats m 0 c).owed t.castSucc = 0 from rfl, show (dats m 0 c).owed t.succ = 0 from rfl]
  unfold owns
  iintro ⟨⟨⟨⟨%s0, HS0⟩, ⟨%s1, HS1⟩, ⟨%s2, HS2⟩, ⟨%s3, HS3⟩, ⟨%s4, HS4⟩, ⟨%s5, HS5⟩⟩, Hg⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩⟩
  have e0' := e0.trans (before0_0_of m (dats m 0 c) (A_eq m c 0) (after_0 m c) t d0)
  have e1' := e1.trans (before0_1_of m (dats m 0 c) (A_eq m c 1) (after_1 m c) t d1)
  have e2' := e2.trans (before0_2_of m (dats m 0 c) (A_eq m c 2) (after_2 m c) t d2)
  have hO : oAt m c t = outO (grid0.coords t) ((st0_0 t).view.read (Elt F) f0) ((st0_1 t).view.read (Elt F) f1) ((st0_2 t).view.read (Elt F) f2) := by
    rw [e0', e1', e2']
  have hL : lAt m c t = outL (grid0.coords t) ((st0_0 t).view.read (Elt F) f0) ((st0_1 t).view.read (Elt F) f1) ((st0_2 t).view.read (Elt F) f2) := by
    rw [e0', e1', e2']
  iapply (wp_wand_r Idealize.ShloMosaic.frame (wpE (defs₀ (F := F)) Variants.none (c : Thread nD τ) none) Set.univ)
  isplitl [H0 H1 H2 H3 H4 HS0 HS1 HS2 HS3 HS4 HS5]
  · iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
      Variants.none none Set.univ f0 f1 f2 f3 f4 s0 s1 s2 s3 s4 s5 _ rfl rfl)
    isplitl [H0]; · iexact H0
    isplitl [H1]; · iexact H1
    isplitl [H2]; · iexact H2
    isplitl [H3]; · iexact H3
    isplitl [H4]; · iexact H4
    isplitl [HS0]; · iapply (Entails.of_eq (scratch_whole0 c s0).symm); iexact HS0
    isplitl [HS1]; · iapply (Entails.of_eq (scratch_whole1 c s1).symm); iexact HS1
    isplitl [HS2]; · iapply (Entails.of_eq (scratch_whole2 c s2).symm); iexact HS2
    isplitl [HS3]; · iapply (Entails.of_eq (scratch_whole3 c s3).symm); iexact HS3
    isplitl [HS4]; · iapply (Entails.of_eq (scratch_whole4 c s4).symm); iexact HS4
    iapply (Entails.of_eq (scratch_whole5 c s5).symm); iexact HS5
  · iintro %_ ⟨H0, H1, H2, ⟨%g3, H3, %h3⟩, ⟨%g4, H4, %h4⟩, ⟨%k0, HS0⟩, ⟨%k1, HS1⟩, ⟨%k2, HS2⟩, ⟨%k3, HS3⟩, ⟨%k4, HS4⟩, ⟨%k5, HS5⟩⟩
    isplitl [HS0 HS1 HS2 HS3 HS4 HS5 Hg]
    · isplitl [HS0 HS1 HS2 HS3 HS4 HS5]
      · isplitl [HS0]; · iexists k0; iapply (Entails.of_eq (scratch_whole0 c k0)); iexact HS0
        isplitl [HS1]; · iexists k1; iapply (Entails.of_eq (scratch_whole1 c k1)); iexact HS1
        isplitl [HS2]; · iexists k2; iapply (Entails.of_eq (scratch_whole2 c k2)); iexact HS2
        isplitl [HS3]; · iexists k3; iapply (Entails.of_eq (scratch_whole3 c k3)); iexact HS3
        isplitl [HS4]; · iexists k4; iapply (Entails.of_eq (scratch_whole4 c k4)); iexact HS4
        iexists k5; iapply (Entails.of_eq (scratch_whole5 c k5)); iexact HS5
      · iexact Hg
    isplitl [HW]
    · iexists W; isplitr; · ipureintro; exact fun _ _ => Or.inl trivial
      iexact HW
    isplitl [H0]
    · iexists f0; isplitr; swap; · iexact H0
      ipureintro; exact e0'
    isplitl [H1]
    · iexists f1; isplitr; swap; · iexact H1
      ipureintro; exact e1'
    isplitl [H2]
    · iexists f2; isplitr; swap; · iexact H2
      ipureintro; exact e2'
    isplitl [H3]
    · iexists g3; isplitr; swap; · iexact H3
      ipureintro; exact h3.trans hO.symm
    iexists g4; isplitr; swap; · iexact H4
    ipureintro; exact h4.trans hL.symm

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE RUN, at any float instance: every schedule ends, the windows' arrays hold what the pipeline wrote to them, and
    every other buffer what the host lines leave, and no semaphore is up. -/
theorem run_quiet : θ_run defs (onTc (τ := τ) (main (F := F))) (s₀ m ρ) (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl) (Q' := _) (hQ' := fun _ h => h)

theorem run_main : θ_run defs (onTc (τ := τ) (main (F := F))) (s₀ m ρ) (Pipeline.FramePost cfgs (dats m) 0 (V m)) :=
  (θ_run defs _ _).mono (fun _ h => h.1) (run_quiet m ρ)

/-- The arguments end as they began, and no semaphore is up. -/
theorem frame_sem : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_quiet m ρ)

end Cert.Kernel25Ideal.Fwd

end
-- ==== Proof.Fwd.Ref.lean ====
/-
  The forward pass's reference: its two results from named pieces, and their entries at real arguments.
-/
module

public import proofs.«01_k».proof.Proof.Real
public import proofs.«01_k».proof.Proof.Gen.Reference25Ideal.Run
public import Idealize.ShloMosaic.Lib.Pointwise

@[expose] public section

set_option maxRecDepth 16384

noncomputable section

namespace Cert.Reference25Ideal.Fwd

open Cert.Reference25Ideal Cert.Reference25Ideal.Gen
open Idealize.ShloMosaic Idealize.ShloMosaic.TcCoe Idealize.ShloMosaic.Tactic

abbrev A3 := FVec Ideal S8x16384x64 .f32
abbrev A2 := FVec Ideal S8x16384 .f32
abbrev AS := FVec Ideal S8x16384x16384 .f32
abbrev A1 := FVec Ideal S8x16384x1 .f32

def maskR : IVec S8x16384x16384 1 :=
  broadcastInDim S8x16384x16384 ![1, 2] bcast_S16384x16384_S8x16384x16384_1_2
    (cmpi .sle (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))
/-- A number per row at every entry of the row. -/
def spread (x : A1) : AS := broadcastInDim S8x16384x16384 ![0, 1, 2] bcast_S8x16384x1_S8x16384x16384_0_1_2 x
def keep (x : A2) : A1 := broadcastInDim S8x16384x1 ![0, 1] bcast_S8x16384_S8x16384x1_0_1 x
def rowSum (x : AS) : A2 := Host.reduceAdd x (constant S_ .f32 0x00000000#32) reducesTo_S8x16384x16384_S8x16384_d2 h_S_
/-- The masked scores, each row's maximum, the exponentials, their sums, the probabilities. -/
def scoreR (q k : A3) (cc : A2) : AS :=
  select maskR
    (subf (addf (mulf (Host.dotGeneral dot_S8x16384x64_S8x16384x64_S8x16384x16384_2_2_1_1_0_0 none q k)
        (broadcastInDim S8x16384x16384 ![] bcast_S_S8x16384x16384 (constant S_ .f32 0x3E000000#32)))
        (spread (keep cc)))
      (broadcastInDim S8x16384x16384 ![0, 1, 2] bcast_S8x1x16384_S8x16384x16384_0_1_2 (broadcastInDim S8x1x16384 ![0, 2] bcast_S8x16384_S8x1x16384_0_2 cc)))
    (broadcastInDim S8x16384x16384 ![] bcast_S_S8x16384x16384 (id (constant S_ .f32 0xFF800000#32)))
def foldR (x : AS) : A2 := Host.reduce FloatOps.maximumf x (constant S_ .f32 0xFF800000#32) reducesTo_S8x16384x16384_S8x16384_d2 h_S_
def maxR (q k : A3) (cc : A2) : A1 := keep (foldR (scoreR q k cc))
def expR (q k : A3) (cc : A2) : AS := Host.exp (subf (scoreR q k cc) (spread (maxR q k cc)))
def sumR (q k : A3) (cc : A2) : A1 := keep (rowSum (expR q k cc))
def probR (q k : A3) (cc : A2) : AS := Host.divf (expR q k cc) (spread (sumR q k cc))
/-- The output, and each row's log-sum of exponentials less its query's gate. -/
def outR (q k v : A3) (cc : A2) : FVec Ideal S8x64x16384 .f32 :=
  transpose S8x64x16384 [0, 2, 1] (Host.dotGeneral dot_S8x16384x16384_S8x16384x64_S8x16384x64_2_1_1_2_0_0 none (probR q k cc) v) transposes_S8x16384x64_S8x64x16384_0_2_1
def lseOf (x l : A1) (cc : A2) : FVec Ideal S8x1x16384 .f32 :=
  broadcastInDim S8x1x16384 ![0, 2] bcast_S8x16384_S8x1x16384_0_2 (subf (shapeCast S8x16384 (addf x (Host.log l)) shapeCasts_S8x16384x1_S8x16384) cc)
def lseR (q k : A3) (cc : A2) : FVec Ideal S8x1x16384 .f32 := lseOf (maxR q k cc) (sumR q k cc) cc

variable (m : (ℓ : Loc nD τ sig) → Buf (Elt Ideal) ℓ) (c : Dev nD)

abbrev b0 : A3 := m ((c.tc : Thread nD τ).loc main_arg0)
abbrev b1 : A3 := m ((c.tc : Thread nD τ).loc main_arg1)
abbrev b2 : A3 := m ((c.tc : Thread nD τ).loc main_arg2)
abbrev b3 : A2 := m ((c.tc : Thread nD τ).loc main_arg3)

theorem res_out : Value.res_main_v30 m c = outR (b0 m c) (b1 m c) (b2 m c) (b3 m c) := rfl
theorem res_lse : Value.res_main_v31 m c = lseR (b0 m c) (b1 m c) (b3 m c) := rfl

/-! ## Their entries -/

section
variable (q k v : A3) (cc : A2)

theorem spread_at (x : A1) (h : Fin 8) (t s : Fin 16384) : spread x (ix3 h t s) = x (ix3 h t 0) := by pointwise [spread]
theorem keep_at (x : A2) (h : Fin 8) (t : Fin 16384) (z : Fin 1) : keep x (ix3 h t z) = x (ix2 h t) := by pointwise [keep]
theorem rowSum_at (x : AS) (h : Fin 8) (t : Fin 16384) : rowSum x (ix2 h t) = ∑ s : Fin 16384, x (ix3 h t s) := by pointwise [rowSum]
theorem foldR_at (x : AS) (h : Fin 8) (t : Fin 16384) : foldR x (ix2 h t) = Finset.univ.fold max (Ideal.ofBits .f32 0xFF800000#32) fun s : Fin 16384 => x (ix3 h t s) := by
  pointwise [foldR]
theorem mask_at {α : Type} (a b : S8x16384x16384.Idx → α) (h : Fin 8) (t s : Fin 16384) : select maskR a b (ix3 h t s) = if s.val ≤ t.val then a (ix3 h t s) else b (ix3 h t s) := by
  pointwise [maskR]
  by_cases hs : s.val ≤ t.val
  · rw [if_pos hs, Grad.le_word _ _ (by omega) (by omega), decide_eq_true hs]; rfl
  · rw [if_neg hs, Grad.le_word _ _ (by omega) (by omega), decide_eq_false hs]; rfl
theorem outR_at (h : Fin 8) (d : Fin 64) (t : Fin 16384) : outR q k v cc (ix3 h d t) = ∑ s : Fin 16384, probR q k cc (ix3 h t s) * v (ix3 h s d) := by
  pointwise [outR]
theorem lseOf_at (x l : A1) (h : Fin 8) (t : Fin 16384) : lseOf x l cc (ix3 h 0 t) = x (ix3 h t 0) + Ideal.log (l (ix3 h t 0)) - cc (ix2 h t) := by
  pointwise [lseOf]
theorem lseR_at (h : Fin 8) (t : Fin 16384) : lseR q k cc (ix3 h 0 t) = maxR q k cc (ix3 h t 0) + Ideal.log (sumR q k cc (ix3 h t 0)) - cc (ix2 h t) := by
  rw [lseR, lseOf_at]
theorem divf_at (a b : AS) (i : S8x16384x16384.Idx) : Host.divf a b i = Ideal.div (a i) (b i) := rfl
end

/-! ## At real arguments -/

/-- The arguments are real numbers. -/
structure Reals (q k v : A3) (cc : A2) (qr kr vr : Grad.R3) (g : Grad.R2) : Prop where
  q : ∀ h t d, q (ix3 h t d) = ((qr h t d : ℝ) : EReal)
  k : ∀ h t d, k (ix3 h t d) = ((kr h t d : ℝ) : EReal)
  v : ∀ h t d, v (ix3 h t d) = ((vr h t d : ℝ) : EReal)
  g : ∀ h t, cc (ix2 h t) = ((g h t : ℝ) : EReal)

section
variable {q k v : A3} {cc : A2} {qr kr vr : Grad.R3} {g : Grad.R2} (H : Reals q k v cc qr kr vr g)
include H

/-- A score has its query's gate besides. -/
theorem Reals.score (h : Fin 8) (t s : Fin 16384) : scoreR q k cc (ix3 h t s) = if s.val ≤ t.val then ((Grad.score qr kr g h t s + g h t : ℝ) : EReal) else ⊥ := by
  rw [scoreR, mask_at]
  pointwise
  have hb : id (constant (F := Ideal) S_ FTy.f32 0xFF800000#32) ix0 = (⊥ : EReal) := Grad.ofBits_bot
  simp only [hb, spread_at, keep_at, H.q, H.k, H.g, Grad.ofBits_eighth, Grad.ofBits_bot, ← EReal.coe_mul, ← Grad.coe_sum, ← EReal.coe_add, ← EReal.coe_sub]
  rw [Grad.score, sub_add_eq_add_sub]

/-- A row's maximum `M` and its exponentials. -/
theorem Reals.exp (h : Fin 8) (t : Fin 16384) : ∃ M : ℝ, maxR q k cc (ix3 h t 0) = ((M + g h t : ℝ) : EReal)
    ∧ ∀ s, expR q k cc (ix3 h t s) = ((if s.val ≤ t.val then Real.exp (Grad.score qr kr g h t s - M) else 0 : ℝ) : EReal) := by
  obtain ⟨M, hM⟩ := Grad.max_real (fun s : Fin 16384 => s.val ≤ t.val) (fun s => Grad.score qr kr g h t s + g h t) (fun s => scoreR q k cc (ix3 h t s))
    (fun s => H.score h t s) t le_rfl
  have hm : maxR q k cc (ix3 h t 0) = (M : EReal) := by
    refine Eq.trans ?_ hM
    rw [maxR, keep_at, foldR_at, Grad.ofBits_bot]
  refine ⟨M - g h t, by rw [hm, sub_add_cancel], fun s => ?_⟩
  rw [expR]
  pointwise
  rw [spread_at, hm, H.score, Grad.exp_masked, show Grad.score qr kr g h t s + g h t - M = Grad.score qr kr g h t s - (M - g h t) by ring]

theorem Reals.sum (h : Fin 8) (t : Fin 16384) (M : ℝ)
    (hM : ∀ s, expR q k cc (ix3 h t s) = ((if s.val ≤ t.val then Real.exp (Grad.score qr kr g h t s - M) else 0 : ℝ) : EReal)) :
    sumR q k cc (ix3 h t 0) = ((Grad.total qr kr g h t * Real.exp (-M) : ℝ) : EReal) := by
  rw [sumR, keep_at, rowSum_at]
  simp only [hM, ← Grad.coe_sum, Grad.total_shift]

theorem Reals.prob (h : Fin 8) (t s : Fin 16384) : probR q k cc (ix3 h t s) = ((Grad.prob qr kr g h t s : ℝ) : EReal) := by
  obtain ⟨M, -, hM⟩ := H.exp h t
  rw [probR, divf_at, spread_at, hM, H.sum h t M hM, Grad.div_real (mul_pos (Grad.total_pos qr kr g h t) (Real.exp_pos _)).ne', Grad.prob_shift]

theorem Reals.out (h : Fin 8) (d : Fin 64) (t : Fin 16384) :
    outR q k v cc (ix3 h d t) = ((∑ s : Fin 16384, Grad.prob qr kr g h t s * vr h s d : ℝ) : EReal) := by
  rw [outR_at]
  simp only [H.prob, H.v, ← EReal.coe_mul, ← Grad.coe_sum]

theorem Reals.lse (h : Fin 8) (t : Fin 16384) : lseR q k cc (ix3 h 0 t) = ((Real.log (Grad.total qr kr g h t) : ℝ) : EReal) := by
  obtain ⟨M, hm, hM⟩ := H.exp h t
  rw [lseR_at, hm, H.sum h t M hM, H.g, Grad.log_real (mul_pos (Grad.total_pos qr kr g h t) (Real.exp_pos _)), ← EReal.coe_add, ← EReal.coe_sub,
    ← Grad.log_shift qr kr g M h t]
  refine congrArg Real.toEReal ?_
  ring
end

end Cert.Reference25Ideal.Fwd

end
-- ==== Proof.Fwd.Finite.lean ====
/-
  Where the forward pass's precondition holds, every argument is a real number.
-/
module

public import proofs.«01_k».proof.Pre_finite25
public import Idealize.ShloMosaic.Lib.Pointwise

@[expose] public section

set_option maxRecDepth 16384

noncomputable section

namespace Cert.Pre_finite25.Fwd

open Cert.Pre_finite25
open Idealize.ShloMosaic Idealize.ShloMosaic.Tactic

instance facts : Cert.Pre_finite25.Facts where
  bcast_S_S8x16384x64 := by decide
  bcast_S_S8x16384 := by decide
  bcast_S8x16384_S8x16384x1_0_1 := by decide
  bcast_S8x16384x1_S8x16384x64_0_1_2 := by decide

theorem bit_and (a b : BitVec 1) (h : IntOp.andi a b = 1#1) : a = 1#1 ∧ b = 1#1 := by
  revert h; revert a b; decide

theorem ofBits_inf : Ideal.ofBits .f32 0x7F800000#32 = (⊤ : EReal) := by
  simp [Ideal.ofBits, Ideal.ieee]

theorem real_of (x : Ideal .f32) (h : BitVec.ofBool (decide ((FloatOps.absf x : EReal) < Ideal.ofBits .f32 0x7F800000#32)) = 1#1) :
    x = (((x : EReal).toReal : ℝ) : EReal) := by
  rw [ofBits_inf] at h
  have hlt : max (x : EReal) (-x) < ⊤ := by
    by_contra hn
    have e : decide ((FloatOps.absf x : EReal) < ⊤) = false := decide_eq_false hn
    rw [e] at h
    exact absurd h (by decide)
  refine (EReal.coe_toReal ?_ ?_).symm
  · intro e; rw [e] at hlt; simp at hlt
  · intro e; rw [e] at hlt; simp at hlt

theorem finite_at (q k v : FVec Ideal S8x16384x64 .f32) (cc : FVec Ideal S8x16384 .f32) (H : fn (F := Ideal) q k v cc = fun _ => 1#1) (h : Fin 8) (t : Fin 16384) (d : Fin 64) :
    q (ix3 h t d) = (((q (ix3 h t d) : EReal).toReal : ℝ) : EReal) ∧ k (ix3 h t d) = (((k (ix3 h t d) : EReal).toReal : ℝ) : EReal)
    ∧ v (ix3 h t d) = (((v (ix3 h t d) : EReal).toReal : ℝ) : EReal)
    ∧ cc (ix2 h t) = (((cc (ix2 h t) : EReal).toReal : ℝ) : EReal) := by
  have e := congrFun H (ix3 h t d)
  revert e
  pointwise [fn]
  intro e

  obtain ⟨e, e3⟩ := bit_and _ _ e
  obtain ⟨e, e2⟩ := bit_and _ _ e
  obtain ⟨e0, e1⟩ := bit_and _ _ e
  exact ⟨real_of _ e0, real_of _ e1, real_of _ e2, real_of _ e3⟩

end Cert.Pre_finite25.Fwd

end
-- ==== Proof.Fwd.lean ====
/-
  The attention's forward pass: the kernel's two arrays at real arguments, and the claims.

  Grid point `t` computes head `t / 32`'s queries `512 (t % 32) + u`. Its blocks of the operands give the scores and the
  weights that `last_sum` asks for (`ops_at`), so its output column is the probabilities' sum over the values, and its
  log-sum the log of the row's sum of exponentials.
-/
module

public import proofs.«01_k».proof.Defs
public import proofs.«01_k».proof.Proof.Fwd.Host
public import proofs.«01_k».proof.Proof.Fwd.Inv
public import proofs.«01_k».proof.Proof.Fwd.Run
public import proofs.«01_k».proof.Proof.Fwd.Ref
public import proofs.«01_k».proof.Proof.Fwd.Finite
public import proofs.«01_k».proof.Proof.PrintedFwd.Run
public import Idealize.ShloMosaic.Lib.Pipeline.ValueKit.Geometry

@[expose] public section

set_option maxRecDepth 16384

noncomputable section

namespace Cert.Kernel25Ideal.Fwd

open Cert.Kernel25Ideal Cert.Kernel25Ideal.Gen
open Idealize.ShloMosaic Idealize.ShloMosaic.TcCoe Idealize.ShloMosaic.Tactic
open Idealize.ShloMosaic.Pipeline (Dat BodyObligation)
open Idealize.SL.Sem

variable (m : (ℓ : Loc nD τ sig) → Buf (Elt Ideal) ℓ) (c : Dev nD)

/-! ## The blocks -/

/-- The head of a grid point, -/
def headOf (t : Fin cfg0.N) : Fin 8 := ⟨t.val / 32, by have := t.isLt; have : cfg0.N = 256 := N_0; omega⟩
/-- and the query its column `u` is. -/
def queryOf (t : Fin cfg0.N) (u : Fin 512) : Fin 16384 := ⟨512 * (t.val % 32) + u.val, by omega⟩

theorem coords_query : ∀ t : Fin cfg0.N, ((grid0.coords t) 1).val = t.val % 32 := (by decide : ∀ t : Fin grid0.N, ((grid0.coords t) 1).val = t.val % 32)
theorem index_0 : ∀ t : Fin cfg0.N, win0_0.index t = ![t.val / 32, 0, t.val % 32] := (by decide +kernel : ∀ t : Fin grid0.N, win0_0.index t = ![t.val / 32, 0, t.val % 32])
theorem index_1 : ∀ t : Fin cfg0.N, win0_1.index t = ![t.val / 32, 0, 0] := (by decide +kernel : ∀ t : Fin grid0.N, win0_1.index t = ![t.val / 32, 0, 0])
theorem index_2 : ∀ t : Fin cfg0.N, win0_2.index t = ![t.val / 32, 0, 0] := (by decide +kernel : ∀ t : Fin grid0.N, win0_2.index t = ![t.val / 32, 0, 0])
theorem index_3 : ∀ t : Fin cfg0.N, win0_3.index t = ![t.val / 32, 0, t.val % 32] := (by decide +kernel : ∀ t : Fin grid0.N, win0_3.index t = ![t.val / 32, 0, t.val % 32])
theorem index_4 : ∀ t : Fin cfg0.N, win0_4.index t = ![t.val / 32, 0, t.val % 32] := (by decide +kernel : ∀ t : Fin grid0.N, win0_4.index t = ![t.val / 32, 0, t.val % 32])

abbrev opQA : Vec Ideal S8x128x16384 .bf16 := V m c main_v32
abbrev opKA : Vec Ideal S8x16384x128 .bf16 := V m c main_v24
abbrev opVT : Vec Ideal S8x80x16384 .bf16 := V m c main_v36

theorem iblk0_at (t : Fin cfg0.N) (d : Fin 128) (u : Fin 512) : iblk m c 0 t (ix3 0 d u) = opQA m c (ix3 (headOf t) d (queryOf t u)) := by
  blk_simp [iblk, index_0]; blk_ext [index_0, headOf, queryOf]
theorem iblk1_at (t : Fin cfg0.N) (s : Fin 16384) (d : Fin 128) : iblk m c 1 t (ix3 0 s d) = opKA m c (ix3 (headOf t) s d) := by
  blk_simp [iblk, index_1]; blk_ext [index_1, headOf]
theorem iblk2_at (t : Fin cfg0.N) (r : Fin 80) (s : Fin 16384) : iblk m c 2 t (ix3 0 r s) = opVT m c (ix3 (headOf t) r s) := by
  blk_simp [iblk, index_2]; blk_ext [index_2, headOf]

/-! ## At real arguments -/

/-- The arguments are real numbers. -/
structure Reals (q k v : A3) (cc : A2) (qr kr vr : Grad.R3) (g : Grad.R2) : Prop where
  q : ∀ h t d, q (ix3 h t d) = ((qr h t d : ℝ) : EReal)
  k : ∀ h t d, k (ix3 h t d) = ((kr h t d : ℝ) : EReal)
  v : ∀ h t d, v (ix3 h t d) = ((vr h t d : ℝ) : EReal)
  g : ∀ h t, cc (ix2 h t) = ((g h t : ℝ) : EReal)

section
variable {qr kr vr : Grad.R3} {g : Grad.R2} (H : Reals (a0 m c) (a1 m c) (a2 m c) (a3 m c) qr kr vr g)
include H

/-- A point's operands give its queries' scores, and the values with the ones. -/
theorem ops_at (t : Fin cfg0.N) (u : Fin 512) :
    Ops (qCols (iblk m c 0 t)) (iblk m c 1 t) (iblk m c 2 t) u (Grad.score qr kr g (headOf t) (queryOf t u)) (weight vr (headOf t)) := by
  refine ⟨fun s => ?_, fun r s => ?_⟩
  · rw [← dot_score qr kr g (headOf t) (queryOf t u) s, Grad.coe_sum]
    refine Finset.sum_congr rfl fun d _ => ?_
    rw [qCols_at, iblk0_at, iblk1_at, opQA, opKA, V_qa, V_ka, kaV_at _ _ _ _ H.k H.g, qaV_at _ _ H.q, ← EReal.coe_mul, ← EReal.coe_mul]
  · rw [iblk2_at, opVT, V_vt, vtV_at _ _ H.v]

/-- A column's maximum, its sum, and its sums over the values. -/
theorem sums_at (t : Fin cfg0.N) (u : Fin 512) : ∃ M : ℝ,
    endM (grid0.coords t) (qCols (iblk m c 0 t)) (iblk m c 1 t) (after (grid0.coords t) (iblk m c 0 t) (iblk m c 1 t) (iblk m c 2 t)) (ix2 0 u) = (M : EReal)
    ∧ endAcc (grid0.coords t) (qCols (iblk m c 0 t)) (iblk m c 1 t) (iblk m c 2 t) (after (grid0.coords t) (iblk m c 0 t) (iblk m c 1 t) (iblk m c 2 t)) (ix2 64 u)
      = ((Grad.total qr kr g (headOf t) (queryOf t u) * Real.exp (-M) : ℝ) : EReal)
    ∧ ∀ d : Fin 64, endAcc (grid0.coords t) (qCols (iblk m c 0 t)) (iblk m c 1 t) (iblk m c 2 t) (after (grid0.coords t) (iblk m c 0 t) (iblk m c 1 t) (iblk m c 2 t)) (ix2 ⟨d.val, by omega⟩ u)
      = ((∑ s : Fin 16384, (if s.val ≤ (queryOf t u).val then Real.exp (Grad.score qr kr g (headOf t) (queryOf t u) s - M) else 0) * vr (headOf t) s d : ℝ) : EReal) := by
  obtain ⟨M, hM, ha⟩ := last_sum (i := grid0.coords t) (ops_at m c H t u)
  have hq : 512 * ((grid0.coords t) 1).val + u.val = (queryOf t u).val := by rw [coords_query]; rfl
  refine ⟨M, hM, (ha 64).trans (congrArg Real.toEReal ?_), fun d => (ha ⟨d.val, by omega⟩).trans (congrArg Real.toEReal ?_)⟩
  · rw [← Grad.total_shift, hq]
    refine Finset.sum_congr rfl fun s _ => ?_
    rw [weight, dif_neg (by decide), mul_one]
  · rw [hq]
    refine Finset.sum_congr rfl fun s _ => ?_
    rw [weight, dif_pos d.isLt, ite_mul, zero_mul]

theorem oAt_at (t : Fin cfg0.N) (d : Fin 64) (u : Fin 512) :
    oAt m c t (ix3 0 d u) = ((∑ s : Fin 16384, Grad.prob qr kr g (headOf t) (queryOf t u) s * vr (headOf t) s d : ℝ) : EReal) := by
  obtain ⟨M, hM, hl, ha⟩ := sums_at m c H t u
  have hZ := (mul_pos (Grad.total_pos qr kr g (headOf t) (queryOf t u)) (Real.exp_pos (-M))).ne'
  rw [oAt, outO, pay1_at, sumsRow_at, hl]
  refine (congrArg (fun z => Ideal.div z _) (Eq.trans (congrArg _ ?_) (ha d))).trans ?_
  · funext a; apply Fin.ext; fin_cases a <;> simp [Rect.unit]
  · rw [Grad.div_real hZ, Finset.sum_div]
    refine congrArg Real.toEReal (Finset.sum_congr rfl fun s _ => ?_)
    rw [← Grad.prob_shift qr kr g M, div_mul_eq_mul_div]

theorem lAt_at (t : Fin cfg0.N) (u : Fin 512) :
    lAt m c t (ix3 0 0 u) = ((Real.log (Grad.total qr kr g (headOf t) (queryOf t u)) : ℝ) : EReal) := by
  obtain ⟨M, hM, hl, ha⟩ := sums_at m c H t u
  rw [lAt, outL, pay2_at, sumsRow_at, hl, hM, Grad.log_real (mul_pos (Grad.total_pos qr kr g (headOf t) (queryOf t u)) (Real.exp_pos _)), ← EReal.coe_add, Grad.log_shift]

/-! ## The arrays -/

omit H in
/-- The attention's output, -/
def outA (qr kr vr : Grad.R3) (g : Grad.R2) (y : S8x64x16384.Idx) : EReal := ((∑ s : Fin 16384, Grad.prob qr kr g (y 0) (y 2) s * vr (y 0) s (y 1) : ℝ) : EReal)
omit H in
/-- and its rows' log-sums. -/
def lseA (qr kr : Grad.R3) (g : Grad.R2) (y : S8x1x16384.Idx) : EReal := ((Real.log (Grad.total qr kr g (y 0) (y 2)) : ℝ) : EReal)

theorem final_3 : (dats m 0 c).arrAt 3 cfg0.N = outA qr kr vr g := by
  refine (dats m 0 c).arrAt_eq_of_covers 3 _ (by decide +kernel) fun t hf y => ?_
  blk_simp
  rw [after_3]
  obtain ⟨a, d, u, rfl⟩ : ∃ (a : Fin 1) (d : Fin 64) (u : Fin 512), y = ix3 a d u := ⟨y 0, y 1, y 2, by funext k; fin_cases k <;> rfl⟩
  obtain rfl : a = 0 := Subsingleton.elim _ _
  refine (oAt_at m c H t d u).trans ?_
  have e : ((win0_3.blk t).view.emb (ix3 0 d u) : S8x64x16384.Idx) = ix3 (headOf t) d (queryOf t u) := by blk_ext [index_3, headOf, queryOf]
  exact (congrArg (outA qr kr vr g) e).symm

theorem final_4 : (dats m 0 c).arrAt 4 cfg0.N = lseA qr kr g := by
  refine (dats m 0 c).arrAt_eq_of_covers 4 _ (by decide +kernel) fun t hf y => ?_
  blk_simp
  rw [after_4]
  obtain ⟨a, b, u, rfl⟩ : ∃ (a : Fin 1) (b : Fin 1) (u : Fin 512), y = ix3 a b u := ⟨y 0, y 1, y 2, by funext k; fin_cases k <;> rfl⟩
  obtain rfl : a = 0 := Subsingleton.elim _ _
  obtain rfl : b = 0 := Subsingleton.elim _ _
  refine (lAt_at m c H t u).trans ?_
  have e : ((win0_4.blk t).view.emb (ix3 0 0 u) : S8x1x16384.Idx) = ix3 (headOf t) 0 (queryOf t u) := by blk_ext [index_4, headOf, queryOf]
  exact (congrArg (lseA qr kr g) e).symm
end

/-! ## The claims -/

/-- The kernel's run: its two arrays and the arguments. -/
theorem run_value (ρ : Dev nD → PrngReg) : θ_run defs (onTc (τ := τ) (main (F := Ideal))) ⟨m, fun _ => 0, ρ⟩ (fun r => ∀ c : Dev nD,
      r.2.mem ((c.tc : Thread nD τ).loc main_v37_0) = (dats m 0 c).arrAt 3 cfg0.N
      ∧ r.2.mem ((c.tc : Thread nD τ).loc main_v37_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 3, (h c).1 4,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

theorem ext3 {n₀ n₁ n₂ : ℕ} {α : Type} (x y : (⟨3, ![n₀, n₁, n₂]⟩ : Shape).Idx → α) (h : ∀ a b c, x (ix3 a b c) = y (ix3 a b c)) : x = y := by
  funext i
  have e : i = ix3 (i 0) (i 1) (i 2) := by funext k; fin_cases k <;> rfl
  rw [e]; exact h _ _ _

theorem frame_printed : Cert.quiescent_Kernel25 := fun m ρ _ => Cert.Kernel25.Fwd.frame_sem (F := Bits) m ρ
theorem frame_ideal : Cert.quiescent_Kernel25Ideal := fun m ρ _ => frame_sem (F := Ideal) m ρ
theorem frame_ideal_finite : Cert.quiescent_Kernel25Ideal_pre_finite25 := fun m ρ _ => frame_ideal m ρ trivial
theorem frame_reference : Cert.quiescent_Reference25Ideal := fun m ρ _ =>
  (θ_run Cert.Reference25Ideal.defs _ _).mono (fun r h => ⟨fun c => (h c).2.2, Idealize.ShloMosaic.sem_eq_zero_of_no_sems rfl r.2⟩)
    (Cert.Reference25Ideal.Value.run (F := Ideal) m ρ)
theorem frame_reference_finite : Cert.quiescent_Reference25Ideal_pre_finite25 := fun m ρ _ => frame_reference m ρ trivial

theorem algebraic : Cert.algebraic_Kernel25Ideal_Reference25Ideal_pre_finite25 := by
  intro m ρ m' ρ' hp hm
  refine ⟨fun c => (dats m 0 c).arrAt 3 cfg0.N, fun c => (dats m 0 c).arrAt 4 cfg0.N, run_value m ρ, ?_⟩
  refine (θ_run Cert.Reference25Ideal.defs _ _).mono (fun r h c => ?_) (Cert.Reference25Ideal.Value.run (F := Ideal) m' ρ')
  obtain ⟨h0, h1, hargs⟩ := h c
  obtain ⟨e0, e1, e2, e3⟩ := hm c
  have hf := Cert.Pre_finite25.Fwd.finite_at (a0 m c) (a1 m c) (a2 m c) (a3 m c) (hp c)
  have Hk : Reals (a0 m c) (a1 m c) (a2 m c) (a3 m c) (fun h t d => (a0 m c (ix3 h t d) : EReal).toReal) (fun h t d => (a1 m c (ix3 h t d) : EReal).toReal)
      (fun h t d => (a2 m c (ix3 h t d) : EReal).toReal) (fun h t => (a3 m c (ix2 h t) : EReal).toReal) :=
    ⟨fun h t d => (hf h t d).1, fun h t d => (hf h t d).2.1, fun h t d => (hf h t d).2.2.1, fun h t => (hf h t 0).2.2.2⟩
  have Hr := (Cert.Reference25Ideal.Fwd.Reals.mk Hk.q Hk.k Hk.v Hk.g :
    Cert.Reference25Ideal.Fwd.Reals (a0 m c) (a1 m c) (a2 m c) (a3 m c) _ _ _ _)
  have b0 : Cert.Reference25Ideal.Fwd.b0 m' c = a0 m c := e0
  have b1 : Cert.Reference25Ideal.Fwd.b1 m' c = a1 m c := e1
  have b2 : Cert.Reference25Ideal.Fwd.b2 m' c = a2 m c := e2
  have b3 : Cert.Reference25Ideal.Fwd.b3 m' c = a3 m c := e3
  refine ⟨h0.trans ?_, h1.trans ?_, hargs⟩
  · rw [Cert.Reference25Ideal.Fwd.res_out, b0, b1, b2, b3]
    refine Eq.trans ?_ (final_3 m c Hk).symm
    exact ext3 _ _ fun h d t => Hr.out h d t
  · rw [Cert.Reference25Ideal.Fwd.res_lse, b0, b1, b3]
    refine Eq.trans ?_ (final_4 m c Hk).symm
    refine ext3 _ _ fun h z t => ?_
    obtain rfl : z = 0 := Subsingleton.elim _ _
    exact Hr.lse h t

end Cert.Kernel25Ideal.Fwd

end
-- ==== Proof.lean ====
/-
  The claim: every program's frame, the idealization's rewrite, and the equality of the results.
-/
module

public import proofs.«01_k».proof.Defs
public import proofs.«01_k».proof.Proof.Frames
public import proofs.«01_k».proof.Proof.Printed.Frames
public import proofs.«01_k».proof.Proof.Value
public import proofs.«01_k».proof.Proof.GradDown
public import proofs.«01_k».proof.Proof.GradGateUp
public import proofs.«01_k».proof.Proof.FfnInput
public import proofs.«01_k».proof.Proof.GradProj
public import proofs.«01_k».proof.Proof.ProjInput
public import proofs.«01_k».proof.Proof.GradOut
public import proofs.«01_k».proof.Proof.OutInput
public import proofs.«01_k».proof.Proof.GradMemOut
public import proofs.«01_k».proof.Proof.MemOutInput
public import proofs.«01_k».proof.Proof.GradMemQuery
public import proofs.«01_k».proof.Proof.MemQueryInput
public import proofs.«01_k».proof.Proof.GradMemKeyValue
public import proofs.«01_k».proof.Proof.MemKeyValueInput
public import proofs.«01_k».proof.Proof.Proj
public import proofs.«01_k».proof.Proof.Gate
public import proofs.«01_k».proof.Proof.Out
public import proofs.«01_k».proof.Proof.MemQuery
public import proofs.«01_k».proof.Proof.MemKeyValue
public import proofs.«01_k».proof.Proof.MemOut
public import proofs.«01_k».proof.Proof.Down
public import proofs.«01_k».proof.Proof.DAct
public import proofs.«01_k».proof.Proof.GateUp
public import proofs.«01_k».proof.Proof.Fwd
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The reference is host lines alone: its run leaves the arguments as they were and signals nothing. -/
theorem frame_reference : Cert.quiescent_ReferenceIdeal := fun m ρ _ =>
  (θ_run Cert.ReferenceIdeal.defs _ _).mono (fun r h => ⟨fun c => (h c).2.2.2.2.2, Idealize.ShloMosaic.sem_eq_zero_of_no_sems rfl r.2⟩)
    (Cert.ReferenceIdeal.Value.run (F := Ideal) m ρ)

theorem frame_reference_finite [Cert.Pre_finite.Facts] : Cert.quiescent_ReferenceIdeal_pre_finite := fun m ρ _ =>
  (θ_run Cert.ReferenceIdeal.defs _ _).mono (fun r h => ⟨fun c => (h c).2.2.2.2.2, Idealize.ShloMosaic.sem_eq_zero_of_no_sems rfl r.2⟩)
    (Cert.ReferenceIdeal.Value.run (F := Ideal) m ρ)

theorem claim : Cert.Claim := ⟨
  Cert.Kernel.Gen.facts, Cert.KernelIdeal.Gen.facts, Cert.ReferenceIdeal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Kernel5.Gen.facts,
  Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts, Cert.Reference11Ideal.Gen.facts,
  Cert.Kernel12.Gen.facts, Cert.Kernel12Ideal.Gen.facts, Cert.Reference12Ideal.Gen.facts, Cert.Kernel13.Gen.facts, Cert.Kernel13Ideal.Gen.facts,
  Cert.Reference13Ideal.Gen.facts, Cert.Kernel14.Gen.facts, Cert.Kernel14Ideal.Gen.facts, Cert.Reference14Ideal.Gen.facts, Cert.Kernel15.Gen.facts,
  Cert.Kernel15Ideal.Gen.facts, Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts, Cert.Kernel18Ideal.Gen.facts,
  Cert.Reference18Ideal.Gen.facts, Cert.Kernel19.Gen.facts, Cert.Kernel19Ideal.Gen.facts, Cert.Reference19Ideal.Gen.facts, Cert.Kernel20.Gen.facts,
  Cert.Kernel20Ideal.Gen.facts, Cert.Reference20Ideal.Gen.facts, Cert.Kernel21.Gen.facts, Cert.Kernel21Ideal.Gen.facts, Cert.Reference21Ideal.Gen.facts,
  Cert.Kernel22.Gen.facts, Cert.Kernel22Ideal.Gen.facts, Cert.Reference22Ideal.Gen.facts, Cert.Kernel23.Gen.facts, Cert.Kernel23Ideal.Gen.facts,
  Cert.Reference23Ideal.Gen.facts, Cert.Kernel24.Gen.facts, Cert.Kernel24Ideal.Gen.facts, Cert.Reference24Ideal.Gen.facts, Cert.Kernel25.Gen.facts,
  Cert.Kernel25Ideal.Gen.facts, Cert.Reference25Ideal.Gen.facts, Cert.Pre_finite.Fox.facts, Cert.Pre_finite23.DAct.facts, Cert.Pre_finite25.Fwd.facts,
  Cert.Kernel.Fox.frame_printed, Cert.KernelIdeal.Fox.frame_ideal, Cert.KernelIdeal.Fox.frame_ideal_finite, frame_reference, frame_reference_finite,
  Cert.Kernel3Ideal.GradDown.frame_printed, Cert.Kernel3Ideal.GradDown.frame_ideal, Cert.Kernel3Ideal.GradDown.frame_reference,
  Cert.Kernel4Ideal.GradGateUp.frame_printed, Cert.Kernel4Ideal.GradGateUp.frame_ideal, Cert.Kernel4Ideal.GradGateUp.frame_reference,
  Cert.Kernel5Ideal.FfnInput.frame_printed, Cert.Kernel5Ideal.FfnInput.frame_ideal, Cert.Kernel5Ideal.FfnInput.frame_reference,
  Cert.Kernel6Ideal.GradProj.frame_printed, Cert.Kernel6Ideal.GradProj.frame_ideal, Cert.Kernel6Ideal.GradProj.frame_reference,
  Cert.Kernel7Ideal.ProjInput.frame_printed, Cert.Kernel7Ideal.ProjInput.frame_ideal, Cert.Kernel7Ideal.ProjInput.frame_reference,
  Cert.Kernel8Ideal.GradOut.frame_printed, Cert.Kernel8Ideal.GradOut.frame_ideal, Cert.Kernel8Ideal.GradOut.frame_reference,
  Cert.Kernel9Ideal.OutInput.frame_printed, Cert.Kernel9Ideal.OutInput.frame_ideal, Cert.Kernel9Ideal.OutInput.frame_reference,
  Cert.Kernel10Ideal.GradMemOut.frame_printed, Cert.Kernel10Ideal.GradMemOut.frame_ideal, Cert.Kernel10Ideal.GradMemOut.frame_reference,
  Cert.Kernel11Ideal.MemOutInput.frame_printed, Cert.Kernel11Ideal.MemOutInput.frame_ideal, Cert.Kernel11Ideal.MemOutInput.frame_reference,
  Cert.Kernel12Ideal.GradMemQuery.frame_printed, Cert.Kernel12Ideal.GradMemQuery.frame_ideal, Cert.Kernel12Ideal.GradMemQuery.frame_reference,
  Cert.Kernel13Ideal.MemQueryInput.frame_printed, Cert.Kernel13Ideal.MemQueryInput.frame_ideal, Cert.Kernel13Ideal.MemQueryInput.frame_reference,
  Cert.Kernel14Ideal.GradMemKeyValue.frame_printed, Cert.Kernel14Ideal.GradMemKeyValue.frame_ideal, Cert.Kernel14Ideal.GradMemKeyValue.frame_reference,
  Cert.Kernel15Ideal.MemKeyValueInput.frame_printed, Cert.Kernel15Ideal.MemKeyValueInput.frame_ideal,
  Cert.Kernel15Ideal.MemKeyValueInput.frame_reference, Cert.Kernel16Ideal.Proj.frame_printed, Cert.Kernel16Ideal.Proj.frame_ideal,
  Cert.Kernel16Ideal.Proj.frame_reference, Cert.Kernel17Ideal.Gate.frame_printed, Cert.Kernel17Ideal.Gate.frame_ideal,
  Cert.Kernel17Ideal.Gate.frame_reference, Cert.Kernel18Ideal.Out.frame_printed, Cert.Kernel18Ideal.Out.frame_ideal,
  Cert.Kernel18Ideal.Out.frame_reference, Cert.Kernel19Ideal.MemQuery.frame_printed, Cert.Kernel19Ideal.MemQuery.frame_ideal,
  Cert.Kernel19Ideal.MemQuery.frame_reference, Cert.Kernel20Ideal.MemKeyValue.frame_printed, Cert.Kernel20Ideal.MemKeyValue.frame_ideal,
  Cert.Kernel20Ideal.MemKeyValue.frame_reference, Cert.Kernel21Ideal.MemOut.frame_printed, Cert.Kernel21Ideal.MemOut.frame_ideal,
  Cert.Kernel21Ideal.MemOut.frame_reference, Cert.Kernel22Ideal.Down.frame_printed, Cert.Kernel22Ideal.Down.frame_ideal,
  Cert.Kernel22Ideal.Down.frame_reference, Cert.Kernel23Ideal.DAct.frame_printed, Cert.Kernel23Ideal.DAct.frame_ideal,
  Cert.Kernel23Ideal.DAct.frame_ideal_finite, Cert.Kernel23Ideal.DAct.frame_reference, Cert.Kernel23Ideal.DAct.frame_reference_finite,
  Cert.Kernel24Ideal.GateUp.frame_printed, Cert.Kernel24Ideal.GateUp.frame_ideal, Cert.Kernel24Ideal.GateUp.frame_reference,
  Cert.Kernel25Ideal.Fwd.frame_printed, Cert.Kernel25Ideal.Fwd.frame_ideal, Cert.Kernel25Ideal.Fwd.frame_ideal_finite,
  Cert.Kernel25Ideal.Fwd.frame_reference, Cert.Kernel25Ideal.Fwd.frame_reference_finite,
  IdealRules.named_const.statement Cert.KernelIdeal.κ "mask" .f32 0xF149F2CA#32 ⊥ rfl, Cert.KernelIdeal.Fox.algebraic, trivial,
  Cert.Kernel3Ideal.GradDown.algebraic, trivial, Cert.Kernel4Ideal.GradGateUp.algebraic, trivial, Cert.Kernel5Ideal.FfnInput.algebraic, trivial,
  Cert.Kernel6Ideal.GradProj.algebraic, trivial, Cert.Kernel7Ideal.ProjInput.algebraic, trivial, Cert.Kernel8Ideal.GradOut.algebraic, trivial,
  Cert.Kernel9Ideal.OutInput.algebraic, trivial, Cert.Kernel10Ideal.GradMemOut.algebraic, trivial, Cert.Kernel11Ideal.MemOutInput.algebraic, trivial,
  Cert.Kernel12Ideal.GradMemQuery.algebraic, trivial, Cert.Kernel13Ideal.MemQueryInput.algebraic, trivial, Cert.Kernel14Ideal.GradMemKeyValue.algebraic,
  trivial, Cert.Kernel15Ideal.MemKeyValueInput.algebraic, trivial, Cert.Kernel16Ideal.Proj.algebraic, trivial, Cert.Kernel17Ideal.Gate.algebraic,
  trivial, Cert.Kernel18Ideal.Out.algebraic, trivial, Cert.Kernel19Ideal.MemQuery.algebraic, trivial, Cert.Kernel20Ideal.MemKeyValue.algebraic, trivial,
  Cert.Kernel21Ideal.MemOut.algebraic, trivial, Cert.Kernel22Ideal.Down.algebraic, trivial, Cert.Kernel23Ideal.DAct.algebraic, trivial,
  Cert.Kernel24Ideal.GateUp.algebraic, IdealRules.named_const.statement Cert.Kernel25Ideal.κ "mask" .f32 0xF149F2CA#32 ⊥ rfl,
  Cert.Kernel25Ideal.Fwd.algebraic⟩

end Cert.Proof

end
